-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Lowrank (m : (ℓ : Loc Cert.Lowrank.nD Cert.Lowrank.τ Cert.Lowrank.sig) → Buf (Elt Bits) ℓ) : Prop :=
  True

def Pre_LowrankIdeal (m : (ℓ : Loc Cert.LowrankIdeal.nD Cert.LowrankIdeal.τ Cert.LowrankIdeal.sig) → Buf (Elt Ideal) ℓ) : Prop :=
  True

def Pre_LowrankReferenceIdeal (m : (ℓ : Loc Cert.LowrankReferenceIdeal.nD Cert.LowrankReferenceIdeal.τ Cert.LowrankReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Lowrank [hLowrank : Cert.Lowrank.Facts] : Prop :=
  ∀ (m : (ℓ : Loc Cert.Lowrank.nD Cert.Lowrank.τ Cert.Lowrank.sig) → Buf (Elt Bits) ℓ) (g : Dev Cert.Lowrank.nD → PrngReg), Pre_Lowrank m →
    θ_run (Cert.Lowrank.defs (F := Bits)) (onTc (τ := Cert.Lowrank.τ) (Cert.Lowrank.main (F := Bits))) ⟨m, fun _ => 0, g⟩ (fun r => (∀ c : Dev Cert.Lowrank.nD,
      r.2.mem ((c.tc : Thread Cert.Lowrank.nD Cert.Lowrank.τ).loc Cert.Lowrank.main_arg0) = m ((c.tc : Thread Cert.Lowrank.nD Cert.Lowrank.τ).loc Cert.Lowrank.main_arg0)
      ∧ r.2.mem ((c.tc : Thread Cert.Lowrank.nD Cert.Lowrank.τ).loc Cert.Lowrank.main_arg1) = m ((c.tc : Thread Cert.Lowrank.nD Cert.Lowrank.τ).loc Cert.Lowrank.main_arg1)
      ∧ r.2.mem ((c.tc : Thread Cert.Lowrank.nD Cert.Lowrank.τ).loc Cert.Lowrank.main_arg2) = m ((c.tc : Thread Cert.Lowrank.nD Cert.Lowrank.τ).loc Cert.Lowrank.main_arg2)
      ∧ r.2.mem ((c.tc : Thread Cert.Lowrank.nD Cert.Lowrank.τ).loc Cert.Lowrank.main_arg3) = m ((c.tc : Thread Cert.Lowrank.nD Cert.Lowrank.τ).loc Cert.Lowrank.main_arg3)
      ∧ r.2.mem ((c.tc : Thread Cert.Lowrank.nD Cert.Lowrank.τ).loc Cert.Lowrank.main_arg4) = m ((c.tc : Thread Cert.Lowrank.nD Cert.Lowrank.τ).loc Cert.Lowrank.main_arg4)
      ∧ r.2.mem ((c.tc : Thread Cert.Lowrank.nD Cert.Lowrank.τ).loc Cert.Lowrank.main_arg5) = m ((c.tc : Thread Cert.Lowrank.nD Cert.Lowrank.τ).loc Cert.Lowrank.main_arg5)
      ∧ r.2.mem ((c.tc : Thread Cert.Lowrank.nD Cert.Lowrank.τ).loc Cert.Lowrank.main_arg6) = m ((c.tc : Thread Cert.Lowrank.nD Cert.Lowrank.τ).loc Cert.Lowrank.main_arg6)
      ∧ r.2.mem ((c.tc : Thread Cert.Lowrank.nD Cert.Lowrank.τ).loc Cert.Lowrank.main_arg7) = m ((c.tc : Thread Cert.Lowrank.nD Cert.Lowrank.τ).loc Cert.Lowrank.main_arg7)
      ∧ r.2.mem ((c.tc : Thread Cert.Lowrank.nD Cert.Lowrank.τ).loc Cert.Lowrank.main_arg8) = m ((c.tc : Thread Cert.Lowrank.nD Cert.Lowrank.τ).loc Cert.Lowrank.main_arg8)
      ∧ r.2.mem ((c.tc : Thread Cert.Lowrank.nD Cert.Lowrank.τ).loc Cert.Lowrank.main_arg9) = m ((c.tc : Thread Cert.Lowrank.nD Cert.Lowrank.τ).loc Cert.Lowrank.main_arg9)
      ∧ r.2.mem ((c.tc : Thread Cert.Lowrank.nD Cert.Lowrank.τ).loc Cert.Lowrank.main_arg10) = m ((c.tc : Thread Cert.Lowrank.nD Cert.Lowrank.τ).loc Cert.Lowrank.main_arg10)
      ∧ r.2.mem ((c.tc : Thread Cert.Lowrank.nD Cert.Lowrank.τ).loc Cert.Lowrank.main_arg11) = m ((c.tc : Thread Cert.Lowrank.nD Cert.Lowrank.τ).loc Cert.Lowrank.main_arg11)
      ∧ r.2.mem ((c.tc : Thread Cert.Lowrank.nD Cert.Lowrank.τ).loc Cert.Lowrank.main_arg12) = m ((c.tc : Thread Cert.Lowrank.nD Cert.Lowrank.τ).loc Cert.Lowrank.main_arg12))
      ∧ r.2.sem = fun _ => 0)

def quiescent_LowrankIdeal [hLowrankIdeal : Cert.LowrankIdeal.Facts] : Prop :=
  ∀ (m : (ℓ : Loc Cert.LowrankIdeal.nD Cert.LowrankIdeal.τ Cert.LowrankIdeal.sig) → Buf (Elt Ideal) ℓ) (g : Dev Cert.LowrankIdeal.nD → PrngReg), Pre_LowrankIdeal m →
    θ_run (Cert.LowrankIdeal.defs (F := Ideal)) (onTc (τ := Cert.LowrankIdeal.τ) (Cert.LowrankIdeal.main (F := Ideal))) ⟨m, fun _ => 0, g⟩ (fun r => (∀ c : Dev Cert.LowrankIdeal.nD,
      r.2.mem ((c.tc : Thread Cert.LowrankIdeal.nD Cert.LowrankIdeal.τ).loc Cert.LowrankIdeal.main_arg0) = m ((c.tc : Thread Cert.LowrankIdeal.nD Cert.LowrankIdeal.τ).loc Cert.LowrankIdeal.main_arg0)
      ∧ r.2.mem ((c.tc : Thread Cert.LowrankIdeal.nD Cert.LowrankIdeal.τ).loc Cert.LowrankIdeal.main_arg1) = m ((c.tc : Thread Cert.LowrankIdeal.nD Cert.LowrankIdeal.τ).loc Cert.LowrankIdeal.main_arg1)
      ∧ r.2.mem ((c.tc : Thread Cert.LowrankIdeal.nD Cert.LowrankIdeal.τ).loc Cert.LowrankIdeal.main_arg2) = m ((c.tc : Thread Cert.LowrankIdeal.nD Cert.LowrankIdeal.τ).loc Cert.LowrankIdeal.main_arg2)
      ∧ r.2.mem ((c.tc : Thread Cert.LowrankIdeal.nD Cert.LowrankIdeal.τ).loc Cert.LowrankIdeal.main_arg3) = m ((c.tc : Thread Cert.LowrankIdeal.nD Cert.LowrankIdeal.τ).loc Cert.LowrankIdeal.main_arg3)
      ∧ r.2.mem ((c.tc : Thread Cert.LowrankIdeal.nD Cert.LowrankIdeal.τ).loc Cert.LowrankIdeal.main_arg4) = m ((c.tc : Thread Cert.LowrankIdeal.nD Cert.LowrankIdeal.τ).loc Cert.LowrankIdeal.main_arg4)
      ∧ r.2.mem ((c.tc : Thread Cert.LowrankIdeal.nD Cert.LowrankIdeal.τ).loc Cert.LowrankIdeal.main_arg5) = m ((c.tc : Thread Cert.LowrankIdeal.nD Cert.LowrankIdeal.τ).loc Cert.LowrankIdeal.main_arg5)
      ∧ r.2.mem ((c.tc : Thread Cert.LowrankIdeal.nD Cert.LowrankIdeal.τ).loc Cert.LowrankIdeal.main_arg6) = m ((c.tc : Thread Cert.LowrankIdeal.nD Cert.LowrankIdeal.τ).loc Cert.LowrankIdeal.main_arg6)
      ∧ r.2.mem ((c.tc : Thread Cert.LowrankIdeal.nD Cert.LowrankIdeal.τ).loc Cert.LowrankIdeal.main_arg7) = m ((c.tc : Thread Cert.LowrankIdeal.nD Cert.LowrankIdeal.τ).loc Cert.LowrankIdeal.main_arg7)
      ∧ r.2.mem ((c.tc : Thread Cert.LowrankIdeal.nD Cert.LowrankIdeal.τ).loc Cert.LowrankIdeal.main_arg8) = m ((c.tc : Thread Cert.LowrankIdeal.nD Cert.LowrankIdeal.τ).loc Cert.LowrankIdeal.main_arg8)
      ∧ r.2.mem ((c.tc : Thread Cert.LowrankIdeal.nD Cert.LowrankIdeal.τ).loc Cert.LowrankIdeal.main_arg9) = m ((c.tc : Thread Cert.LowrankIdeal.nD Cert.LowrankIdeal.τ).loc Cert.LowrankIdeal.main_arg9)
      ∧ r.2.mem ((c.tc : Thread Cert.LowrankIdeal.nD Cert.LowrankIdeal.τ).loc Cert.LowrankIdeal.main_arg10) = m ((c.tc : Thread Cert.LowrankIdeal.nD Cert.LowrankIdeal.τ).loc Cert.LowrankIdeal.main_arg10)
      ∧ r.2.mem ((c.tc : Thread Cert.LowrankIdeal.nD Cert.LowrankIdeal.τ).loc Cert.LowrankIdeal.main_arg11) = m ((c.tc : Thread Cert.LowrankIdeal.nD Cert.LowrankIdeal.τ).loc Cert.LowrankIdeal.main_arg11)
      ∧ r.2.mem ((c.tc : Thread Cert.LowrankIdeal.nD Cert.LowrankIdeal.τ).loc Cert.LowrankIdeal.main_arg12) = m ((c.tc : Thread Cert.LowrankIdeal.nD Cert.LowrankIdeal.τ).loc Cert.LowrankIdeal.main_arg12))
      ∧ r.2.sem = fun _ => 0)

def quiescent_LowrankReferenceIdeal [hLowrankReferenceIdeal : Cert.LowrankReferenceIdeal.Facts] : Prop :=
  ∀ (m : (ℓ : Loc Cert.LowrankReferenceIdeal.nD Cert.LowrankReferenceIdeal.τ Cert.LowrankReferenceIdeal.sig) → Buf (Elt Ideal) ℓ) (g : Dev Cert.LowrankReferenceIdeal.nD → PrngReg), Pre_LowrankReferenceIdeal m →
    θ_run (Cert.LowrankReferenceIdeal.defs (F := Ideal)) (onTc (τ := Cert.LowrankReferenceIdeal.τ) (Cert.LowrankReferenceIdeal.main (F := Ideal))) ⟨m, fun _ => 0, g⟩ (fun r => (∀ c : Dev Cert.LowrankReferenceIdeal.nD,
      r.2.mem ((c.tc : Thread Cert.LowrankReferenceIdeal.nD Cert.LowrankReferenceIdeal.τ).loc Cert.LowrankReferenceIdeal.main_arg0) = m ((c.tc : Thread Cert.LowrankReferenceIdeal.nD Cert.LowrankReferenceIdeal.τ).loc Cert.LowrankReferenceIdeal.main_arg0)
      ∧ r.2.mem ((c.tc : Thread Cert.LowrankReferenceIdeal.nD Cert.LowrankReferenceIdeal.τ).loc Cert.LowrankReferenceIdeal.main_arg1) = m ((c.tc : Thread Cert.LowrankReferenceIdeal.nD Cert.LowrankReferenceIdeal.τ).loc Cert.LowrankReferenceIdeal.main_arg1)
      ∧ r.2.mem ((c.tc : Thread Cert.LowrankReferenceIdeal.nD Cert.LowrankReferenceIdeal.τ).loc Cert.LowrankReferenceIdeal.main_arg2) = m ((c.tc : Thread Cert.LowrankReferenceIdeal.nD Cert.LowrankReferenceIdeal.τ).loc Cert.LowrankReferenceIdeal.main_arg2)
      ∧ r.2.mem ((c.tc : Thread Cert.LowrankReferenceIdeal.nD Cert.LowrankReferenceIdeal.τ).loc Cert.LowrankReferenceIdeal.main_arg3) = m ((c.tc : Thread Cert.LowrankReferenceIdeal.nD Cert.LowrankReferenceIdeal.τ).loc Cert.LowrankReferenceIdeal.main_arg3)
      ∧ r.2.mem ((c.tc : Thread Cert.LowrankReferenceIdeal.nD Cert.LowrankReferenceIdeal.τ).loc Cert.LowrankReferenceIdeal.main_arg4) = m ((c.tc : Thread Cert.LowrankReferenceIdeal.nD Cert.LowrankReferenceIdeal.τ).loc Cert.LowrankReferenceIdeal.main_arg4)
      ∧ r.2.mem ((c.tc : Thread Cert.LowrankReferenceIdeal.nD Cert.LowrankReferenceIdeal.τ).loc Cert.LowrankReferenceIdeal.main_arg5) = m ((c.tc : Thread Cert.LowrankReferenceIdeal.nD Cert.LowrankReferenceIdeal.τ).loc Cert.LowrankReferenceIdeal.main_arg5)
      ∧ r.2.mem ((c.tc : Thread Cert.LowrankReferenceIdeal.nD Cert.LowrankReferenceIdeal.τ).loc Cert.LowrankReferenceIdeal.main_arg6) = m ((c.tc : Thread Cert.LowrankReferenceIdeal.nD Cert.LowrankReferenceIdeal.τ).loc Cert.LowrankReferenceIdeal.main_arg6)
      ∧ r.2.mem ((c.tc : Thread Cert.LowrankReferenceIdeal.nD Cert.LowrankReferenceIdeal.τ).loc Cert.LowrankReferenceIdeal.main_arg7) = m ((c.tc : Thread Cert.LowrankReferenceIdeal.nD Cert.LowrankReferenceIdeal.τ).loc Cert.LowrankReferenceIdeal.main_arg7)
      ∧ r.2.mem ((c.tc : Thread Cert.LowrankReferenceIdeal.nD Cert.LowrankReferenceIdeal.τ).loc Cert.LowrankReferenceIdeal.main_arg8) = m ((c.tc : Thread Cert.LowrankReferenceIdeal.nD Cert.LowrankReferenceIdeal.τ).loc Cert.LowrankReferenceIdeal.main_arg8)
      ∧ r.2.mem ((c.tc : Thread Cert.LowrankReferenceIdeal.nD Cert.LowrankReferenceIdeal.τ).loc Cert.LowrankReferenceIdeal.main_arg9) = m ((c.tc : Thread Cert.LowrankReferenceIdeal.nD Cert.LowrankReferenceIdeal.τ).loc Cert.LowrankReferenceIdeal.main_arg9)
      ∧ r.2.mem ((c.tc : Thread Cert.LowrankReferenceIdeal.nD Cert.LowrankReferenceIdeal.τ).loc Cert.LowrankReferenceIdeal.main_arg10) = m ((c.tc : Thread Cert.LowrankReferenceIdeal.nD Cert.LowrankReferenceIdeal.τ).loc Cert.LowrankReferenceIdeal.main_arg10)
      ∧ r.2.mem ((c.tc : Thread Cert.LowrankReferenceIdeal.nD Cert.LowrankReferenceIdeal.τ).loc Cert.LowrankReferenceIdeal.main_arg11) = m ((c.tc : Thread Cert.LowrankReferenceIdeal.nD Cert.LowrankReferenceIdeal.τ).loc Cert.LowrankReferenceIdeal.main_arg11)
      ∧ r.2.mem ((c.tc : Thread Cert.LowrankReferenceIdeal.nD Cert.LowrankReferenceIdeal.τ).loc Cert.LowrankReferenceIdeal.main_arg12) = m ((c.tc : Thread Cert.LowrankReferenceIdeal.nD Cert.LowrankReferenceIdeal.τ).loc Cert.LowrankReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Lowrank_LowrankIdeal : Prop :=
  True

def algebraic_LowrankIdeal_LowrankReferenceIdeal [hLowrankIdeal : Cert.LowrankIdeal.Facts] [hLowrankReferenceIdeal : Cert.LowrankReferenceIdeal.Facts] : Prop :=
  ∀ (m : (ℓ : Loc Cert.LowrankIdeal.nD Cert.LowrankIdeal.τ Cert.LowrankIdeal.sig) → Buf (Elt Ideal) ℓ) (g : Dev Cert.LowrankIdeal.nD → PrngReg)
    (m' : (ℓ : Loc Cert.LowrankReferenceIdeal.nD Cert.LowrankReferenceIdeal.τ Cert.LowrankReferenceIdeal.sig) → Buf (Elt Ideal) ℓ) (g' : Dev Cert.LowrankReferenceIdeal.nD → PrngReg), Pre_LowrankIdeal m →
    (∀ c : Dev Cert.LowrankIdeal.nD,
      m' ((c.tc : Thread Cert.LowrankReferenceIdeal.nD Cert.LowrankReferenceIdeal.τ).loc Cert.LowrankReferenceIdeal.main_arg0) = m ((c.tc : Thread Cert.LowrankIdeal.nD Cert.LowrankIdeal.τ).loc Cert.LowrankIdeal.main_arg0)
      ∧ m' ((c.tc : Thread Cert.LowrankReferenceIdeal.nD Cert.LowrankReferenceIdeal.τ).loc Cert.LowrankReferenceIdeal.main_arg1) = m ((c.tc : Thread Cert.LowrankIdeal.nD Cert.LowrankIdeal.τ).loc Cert.LowrankIdeal.main_arg1)
      ∧ m' ((c.tc : Thread Cert.LowrankReferenceIdeal.nD Cert.LowrankReferenceIdeal.τ).loc Cert.LowrankReferenceIdeal.main_arg2) = m ((c.tc : Thread Cert.LowrankIdeal.nD Cert.LowrankIdeal.τ).loc Cert.LowrankIdeal.main_arg2)
      ∧ m' ((c.tc : Thread Cert.LowrankReferenceIdeal.nD Cert.LowrankReferenceIdeal.τ).loc Cert.LowrankReferenceIdeal.main_arg3) = m ((c.tc : Thread Cert.LowrankIdeal.nD Cert.LowrankIdeal.τ).loc Cert.LowrankIdeal.main_arg3)
      ∧ m' ((c.tc : Thread Cert.LowrankReferenceIdeal.nD Cert.LowrankReferenceIdeal.τ).loc Cert.LowrankReferenceIdeal.main_arg4) = m ((c.tc : Thread Cert.LowrankIdeal.nD Cert.LowrankIdeal.τ).loc Cert.LowrankIdeal.main_arg4)
      ∧ m' ((c.tc : Thread Cert.LowrankReferenceIdeal.nD Cert.LowrankReferenceIdeal.τ).loc Cert.LowrankReferenceIdeal.main_arg5) = m ((c.tc : Thread Cert.LowrankIdeal.nD Cert.LowrankIdeal.τ).loc Cert.LowrankIdeal.main_arg5)
      ∧ m' ((c.tc : Thread Cert.LowrankReferenceIdeal.nD Cert.LowrankReferenceIdeal.τ).loc Cert.LowrankReferenceIdeal.main_arg6) = m ((c.tc : Thread Cert.LowrankIdeal.nD Cert.LowrankIdeal.τ).loc Cert.LowrankIdeal.main_arg6)
      ∧ m' ((c.tc : Thread Cert.LowrankReferenceIdeal.nD Cert.LowrankReferenceIdeal.τ).loc Cert.LowrankReferenceIdeal.main_arg7) = m ((c.tc : Thread Cert.LowrankIdeal.nD Cert.LowrankIdeal.τ).loc Cert.LowrankIdeal.main_arg7)
      ∧ m' ((c.tc : Thread Cert.LowrankReferenceIdeal.nD Cert.LowrankReferenceIdeal.τ).loc Cert.LowrankReferenceIdeal.main_arg8) = m ((c.tc : Thread Cert.LowrankIdeal.nD Cert.LowrankIdeal.τ).loc Cert.LowrankIdeal.main_arg8)
      ∧ m' ((c.tc : Thread Cert.LowrankReferenceIdeal.nD Cert.LowrankReferenceIdeal.τ).loc Cert.LowrankReferenceIdeal.main_arg9) = m ((c.tc : Thread Cert.LowrankIdeal.nD Cert.LowrankIdeal.τ).loc Cert.LowrankIdeal.main_arg9)
      ∧ m' ((c.tc : Thread Cert.LowrankReferenceIdeal.nD Cert.LowrankReferenceIdeal.τ).loc Cert.LowrankReferenceIdeal.main_arg10) = m ((c.tc : Thread Cert.LowrankIdeal.nD Cert.LowrankIdeal.τ).loc Cert.LowrankIdeal.main_arg10)
      ∧ m' ((c.tc : Thread Cert.LowrankReferenceIdeal.nD Cert.LowrankReferenceIdeal.τ).loc Cert.LowrankReferenceIdeal.main_arg11) = m ((c.tc : Thread Cert.LowrankIdeal.nD Cert.LowrankIdeal.τ).loc Cert.LowrankIdeal.main_arg11)
      ∧ m' ((c.tc : Thread Cert.LowrankReferenceIdeal.nD Cert.LowrankReferenceIdeal.τ).loc Cert.LowrankReferenceIdeal.main_arg12) = m ((c.tc : Thread Cert.LowrankIdeal.nD Cert.LowrankIdeal.τ).loc Cert.LowrankIdeal.main_arg12)) →
    ∃ (v0 : (c : Dev Cert.LowrankIdeal.nD) → Buf (Elt Ideal) ((c.tc : Thread Cert.LowrankIdeal.nD Cert.LowrankIdeal.τ).loc Cert.LowrankIdeal.main_v0_0)) (v1 : (c : Dev Cert.LowrankIdeal.nD) → Buf (Elt Ideal) ((c.tc : Thread Cert.LowrankIdeal.nD Cert.LowrankIdeal.τ).loc Cert.LowrankIdeal.main_v0_1)) (v2 : (c : Dev Cert.LowrankIdeal.nD) → Buf (Elt Ideal) ((c.tc : Thread Cert.LowrankIdeal.nD Cert.LowrankIdeal.τ).loc Cert.LowrankIdeal.main_v0_2)) (v3 : (c : Dev Cert.LowrankIdeal.nD) → Buf (Elt Ideal) ((c.tc : Thread Cert.LowrankIdeal.nD Cert.LowrankIdeal.τ).loc Cert.LowrankIdeal.main_v0_3)) (v4 : (c : Dev Cert.LowrankIdeal.nD) → Buf (Elt Ideal) ((c.tc : Thread Cert.LowrankIdeal.nD Cert.LowrankIdeal.τ).loc Cert.LowrankIdeal.main_v0_4)) (v5 : (c : Dev Cert.LowrankIdeal.nD) → Buf (Elt Ideal) ((c.tc : Thread Cert.LowrankIdeal.nD Cert.LowrankIdeal.τ).loc Cert.LowrankIdeal.main_v0_5)) (v6 : (c : Dev Cert.LowrankIdeal.nD) → Buf (Elt Ideal) ((c.tc : Thread Cert.LowrankIdeal.nD Cert.LowrankIdeal.τ).loc Cert.LowrankIdeal.main_v0_6)),
      θ_run (Cert.LowrankIdeal.defs (F := Ideal)) (onTc (τ := Cert.LowrankIdeal.τ) (Cert.LowrankIdeal.main (F := Ideal))) ⟨m, fun _ => 0, g⟩ (fun r => ∀ c : Dev Cert.LowrankIdeal.nD,
          r.2.mem ((c.tc : Thread Cert.LowrankIdeal.nD Cert.LowrankIdeal.τ).loc Cert.LowrankIdeal.main_v0_0) = v0 c
          ∧ r.2.mem ((c.tc : Thread Cert.LowrankIdeal.nD Cert.LowrankIdeal.τ).loc Cert.LowrankIdeal.main_v0_1) = v1 c
          ∧ r.2.mem ((c.tc : Thread Cert.LowrankIdeal.nD Cert.LowrankIdeal.τ).loc Cert.LowrankIdeal.main_v0_2) = v2 c
          ∧ r.2.mem ((c.tc : Thread Cert.LowrankIdeal.nD Cert.LowrankIdeal.τ).loc Cert.LowrankIdeal.main_v0_3) = v3 c
          ∧ r.2.mem ((c.tc : Thread Cert.LowrankIdeal.nD Cert.LowrankIdeal.τ).loc Cert.LowrankIdeal.main_v0_4) = v4 c
          ∧ r.2.mem ((c.tc : Thread Cert.LowrankIdeal.nD Cert.LowrankIdeal.τ).loc Cert.LowrankIdeal.main_v0_5) = v5 c
          ∧ r.2.mem ((c.tc : Thread Cert.LowrankIdeal.nD Cert.LowrankIdeal.τ).loc Cert.LowrankIdeal.main_v0_6) = v6 c
          ∧ r.2.mem ((c.tc : Thread Cert.LowrankIdeal.nD Cert.LowrankIdeal.τ).loc Cert.LowrankIdeal.main_arg0) = m ((c.tc : Thread Cert.LowrankIdeal.nD Cert.LowrankIdeal.τ).loc Cert.LowrankIdeal.main_arg0)
          ∧ r.2.mem ((c.tc : Thread Cert.LowrankIdeal.nD Cert.LowrankIdeal.τ).loc Cert.LowrankIdeal.main_arg1) = m ((c.tc : Thread Cert.LowrankIdeal.nD Cert.LowrankIdeal.τ).loc Cert.LowrankIdeal.main_arg1)
          ∧ r.2.mem ((c.tc : Thread Cert.LowrankIdeal.nD Cert.LowrankIdeal.τ).loc Cert.LowrankIdeal.main_arg2) = m ((c.tc : Thread Cert.LowrankIdeal.nD Cert.LowrankIdeal.τ).loc Cert.LowrankIdeal.main_arg2)
          ∧ r.2.mem ((c.tc : Thread Cert.LowrankIdeal.nD Cert.LowrankIdeal.τ).loc Cert.LowrankIdeal.main_arg3) = m ((c.tc : Thread Cert.LowrankIdeal.nD Cert.LowrankIdeal.τ).loc Cert.LowrankIdeal.main_arg3)
          ∧ r.2.mem ((c.tc : Thread Cert.LowrankIdeal.nD Cert.LowrankIdeal.τ).loc Cert.LowrankIdeal.main_arg4) = m ((c.tc : Thread Cert.LowrankIdeal.nD Cert.LowrankIdeal.τ).loc Cert.LowrankIdeal.main_arg4)
          ∧ r.2.mem ((c.tc : Thread Cert.LowrankIdeal.nD Cert.LowrankIdeal.τ).loc Cert.LowrankIdeal.main_arg5) = m ((c.tc : Thread Cert.LowrankIdeal.nD Cert.LowrankIdeal.τ).loc Cert.LowrankIdeal.main_arg5)
          ∧ r.2.mem ((c.tc : Thread Cert.LowrankIdeal.nD Cert.LowrankIdeal.τ).loc Cert.LowrankIdeal.main_arg6) = m ((c.tc : Thread Cert.LowrankIdeal.nD Cert.LowrankIdeal.τ).loc Cert.LowrankIdeal.main_arg6)
          ∧ r.2.mem ((c.tc : Thread Cert.LowrankIdeal.nD Cert.LowrankIdeal.τ).loc Cert.LowrankIdeal.main_arg7) = m ((c.tc : Thread Cert.LowrankIdeal.nD Cert.LowrankIdeal.τ).loc Cert.LowrankIdeal.main_arg7)
          ∧ r.2.mem ((c.tc : Thread Cert.LowrankIdeal.nD Cert.LowrankIdeal.τ).loc Cert.LowrankIdeal.main_arg8) = m ((c.tc : Thread Cert.LowrankIdeal.nD Cert.LowrankIdeal.τ).loc Cert.LowrankIdeal.main_arg8)
          ∧ r.2.mem ((c.tc : Thread Cert.LowrankIdeal.nD Cert.LowrankIdeal.τ).loc Cert.LowrankIdeal.main_arg9) = m ((c.tc : Thread Cert.LowrankIdeal.nD Cert.LowrankIdeal.τ).loc Cert.LowrankIdeal.main_arg9)
          ∧ r.2.mem ((c.tc : Thread Cert.LowrankIdeal.nD Cert.LowrankIdeal.τ).loc Cert.LowrankIdeal.main_arg10) = m ((c.tc : Thread Cert.LowrankIdeal.nD Cert.LowrankIdeal.τ).loc Cert.LowrankIdeal.main_arg10)
          ∧ r.2.mem ((c.tc : Thread Cert.LowrankIdeal.nD Cert.LowrankIdeal.τ).loc Cert.LowrankIdeal.main_arg11) = m ((c.tc : Thread Cert.LowrankIdeal.nD Cert.LowrankIdeal.τ).loc Cert.LowrankIdeal.main_arg11)
          ∧ r.2.mem ((c.tc : Thread Cert.LowrankIdeal.nD Cert.LowrankIdeal.τ).loc Cert.LowrankIdeal.main_arg12) = m ((c.tc : Thread Cert.LowrankIdeal.nD Cert.LowrankIdeal.τ).loc Cert.LowrankIdeal.main_arg12))
      ∧ θ_run (Cert.LowrankReferenceIdeal.defs (F := Ideal)) (onTc (τ := Cert.LowrankReferenceIdeal.τ) (Cert.LowrankReferenceIdeal.main (F := Ideal))) ⟨m', fun _ => 0, g'⟩ (fun r => ∀ c : Dev Cert.LowrankReferenceIdeal.nD,
          r.2.mem ((c.tc : Thread Cert.LowrankReferenceIdeal.nD Cert.LowrankReferenceIdeal.τ).loc Cert.LowrankReferenceIdeal.main_v0_0) = v0 c
          ∧ r.2.mem ((c.tc : Thread Cert.LowrankReferenceIdeal.nD Cert.LowrankReferenceIdeal.τ).loc Cert.LowrankReferenceIdeal.main_v0_1) = v1 c
          ∧ r.2.mem ((c.tc : Thread Cert.LowrankReferenceIdeal.nD Cert.LowrankReferenceIdeal.τ).loc Cert.LowrankReferenceIdeal.main_v0_2) = v2 c
          ∧ r.2.mem ((c.tc : Thread Cert.LowrankReferenceIdeal.nD Cert.LowrankReferenceIdeal.τ).loc Cert.LowrankReferenceIdeal.main_v0_3) = v3 c
          ∧ r.2.mem ((c.tc : Thread Cert.LowrankReferenceIdeal.nD Cert.LowrankReferenceIdeal.τ).loc Cert.LowrankReferenceIdeal.main_v0_4) = v4 c
          ∧ r.2.mem ((c.tc : Thread Cert.LowrankReferenceIdeal.nD Cert.LowrankReferenceIdeal.τ).loc Cert.LowrankReferenceIdeal.main_v0_5) = v5 c
          ∧ r.2.mem ((c.tc : Thread Cert.LowrankReferenceIdeal.nD Cert.LowrankReferenceIdeal.τ).loc Cert.LowrankReferenceIdeal.main_v0_6) = v6 c
          ∧ r.2.mem ((c.tc : Thread Cert.LowrankReferenceIdeal.nD Cert.LowrankReferenceIdeal.τ).loc Cert.LowrankReferenceIdeal.main_arg0) = m' ((c.tc : Thread Cert.LowrankReferenceIdeal.nD Cert.LowrankReferenceIdeal.τ).loc Cert.LowrankReferenceIdeal.main_arg0)
          ∧ r.2.mem ((c.tc : Thread Cert.LowrankReferenceIdeal.nD Cert.LowrankReferenceIdeal.τ).loc Cert.LowrankReferenceIdeal.main_arg1) = m' ((c.tc : Thread Cert.LowrankReferenceIdeal.nD Cert.LowrankReferenceIdeal.τ).loc Cert.LowrankReferenceIdeal.main_arg1)
          ∧ r.2.mem ((c.tc : Thread Cert.LowrankReferenceIdeal.nD Cert.LowrankReferenceIdeal.τ).loc Cert.LowrankReferenceIdeal.main_arg2) = m' ((c.tc : Thread Cert.LowrankReferenceIdeal.nD Cert.LowrankReferenceIdeal.τ).loc Cert.LowrankReferenceIdeal.main_arg2)
          ∧ r.2.mem ((c.tc : Thread Cert.LowrankReferenceIdeal.nD Cert.LowrankReferenceIdeal.τ).loc Cert.LowrankReferenceIdeal.main_arg3) = m' ((c.tc : Thread Cert.LowrankReferenceIdeal.nD Cert.LowrankReferenceIdeal.τ).loc Cert.LowrankReferenceIdeal.main_arg3)
          ∧ r.2.mem ((c.tc : Thread Cert.LowrankReferenceIdeal.nD Cert.LowrankReferenceIdeal.τ).loc Cert.LowrankReferenceIdeal.main_arg4) = m' ((c.tc : Thread Cert.LowrankReferenceIdeal.nD Cert.LowrankReferenceIdeal.τ).loc Cert.LowrankReferenceIdeal.main_arg4)
          ∧ r.2.mem ((c.tc : Thread Cert.LowrankReferenceIdeal.nD Cert.LowrankReferenceIdeal.τ).loc Cert.LowrankReferenceIdeal.main_arg5) = m' ((c.tc : Thread Cert.LowrankReferenceIdeal.nD Cert.LowrankReferenceIdeal.τ).loc Cert.LowrankReferenceIdeal.main_arg5)
          ∧ r.2.mem ((c.tc : Thread Cert.LowrankReferenceIdeal.nD Cert.LowrankReferenceIdeal.τ).loc Cert.LowrankReferenceIdeal.main_arg6) = m' ((c.tc : Thread Cert.LowrankReferenceIdeal.nD Cert.LowrankReferenceIdeal.τ).loc Cert.LowrankReferenceIdeal.main_arg6)
          ∧ r.2.mem ((c.tc : Thread Cert.LowrankReferenceIdeal.nD Cert.LowrankReferenceIdeal.τ).loc Cert.LowrankReferenceIdeal.main_arg7) = m' ((c.tc : Thread Cert.LowrankReferenceIdeal.nD Cert.LowrankReferenceIdeal.τ).loc Cert.LowrankReferenceIdeal.main_arg7)
          ∧ r.2.mem ((c.tc : Thread Cert.LowrankReferenceIdeal.nD Cert.LowrankReferenceIdeal.τ).loc Cert.LowrankReferenceIdeal.main_arg8) = m' ((c.tc : Thread Cert.LowrankReferenceIdeal.nD Cert.LowrankReferenceIdeal.τ).loc Cert.LowrankReferenceIdeal.main_arg8)
          ∧ r.2.mem ((c.tc : Thread Cert.LowrankReferenceIdeal.nD Cert.LowrankReferenceIdeal.τ).loc Cert.LowrankReferenceIdeal.main_arg9) = m' ((c.tc : Thread Cert.LowrankReferenceIdeal.nD Cert.LowrankReferenceIdeal.τ).loc Cert.LowrankReferenceIdeal.main_arg9)
          ∧ r.2.mem ((c.tc : Thread Cert.LowrankReferenceIdeal.nD Cert.LowrankReferenceIdeal.τ).loc Cert.LowrankReferenceIdeal.main_arg10) = m' ((c.tc : Thread Cert.LowrankReferenceIdeal.nD Cert.LowrankReferenceIdeal.τ).loc Cert.LowrankReferenceIdeal.main_arg10)
          ∧ r.2.mem ((c.tc : Thread Cert.LowrankReferenceIdeal.nD Cert.LowrankReferenceIdeal.τ).loc Cert.LowrankReferenceIdeal.main_arg11) = m' ((c.tc : Thread Cert.LowrankReferenceIdeal.nD Cert.LowrankReferenceIdeal.τ).loc Cert.LowrankReferenceIdeal.main_arg11)
          ∧ r.2.mem ((c.tc : Thread Cert.LowrankReferenceIdeal.nD Cert.LowrankReferenceIdeal.τ).loc Cert.LowrankReferenceIdeal.main_arg12) = m' ((c.tc : Thread Cert.LowrankReferenceIdeal.nD Cert.LowrankReferenceIdeal.τ).loc Cert.LowrankReferenceIdeal.main_arg12))

def Claim : Prop :=
  ∃ (hKernel : Cert.Kernel.Facts) (hKernelIdeal : Cert.KernelIdeal.Facts) (hReferenceIdeal : Cert.ReferenceIdeal.Facts) (hLowrank : Cert.Lowrank.Facts) (hLowrankIdeal : Cert.LowrankIdeal.Facts) (hLowrankReferenceIdeal : Cert.LowrankReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Lowrank (hLowrank := hLowrank)
    ∧ quiescent_LowrankIdeal (hLowrankIdeal := hLowrankIdeal)
    ∧ quiescent_LowrankReferenceIdeal (hLowrankReferenceIdeal := hLowrankReferenceIdeal)
    ∧ preserves_Kernel_KernelIdeal
    ∧ algebraic_KernelIdeal_ReferenceIdeal (hKernelIdeal := hKernelIdeal) (hReferenceIdeal := hReferenceIdeal)
    ∧ preserves_Lowrank_LowrankIdeal
    ∧ algebraic_LowrankIdeal_LowrankReferenceIdeal (hLowrankIdeal := hLowrankIdeal) (hLowrankReferenceIdeal := hLowrankReferenceIdeal)
-- ==== Kernel.lean ====
abbrev S1 : Shape := ⟨1, ![1]⟩
abbrev S18x56 : Shape := ⟨2, ![18, 56]⟩
abbrev S12288x2304 : Shape := ⟨2, ![12288, 2304]⟩
abbrev S2304x7168 : Shape := ⟨2, ![2304, 7168]⟩
abbrev S2304x768 : Shape := ⟨2, ![2304, 768]⟩
abbrev S768x7168 : Shape := ⟨2, ![768, 7168]⟩
abbrev S12288x7168 : Shape := ⟨2, ![12288, 7168]⟩
abbrev S2048x2304 : Shape := ⟨2, ![2048, 2304]⟩
abbrev S2304x512 : Shape := ⟨2, ![2304, 512]⟩
abbrev S384x512 : Shape := ⟨2, ![384, 512]⟩
abbrev S384x768 : Shape := ⟨2, ![384, 768]⟩
abbrev S768x512 : Shape := ⟨2, ![768, 512]⟩
abbrev S2048x512 : Shape := ⟨2, ![2048, 512]⟩
abbrev S2x2304x512 : Shape := ⟨3, ![2, 2304, 512]⟩
abbrev S128x128 : Shape := ⟨2, ![128, 128]⟩
abbrev S1x1 : Shape := ⟨2, ![1, 1]⟩
abbrev S1x128x128 : Shape := ⟨3, ![1, 128, 128]⟩
abbrev S512x2304 : Shape := ⟨2, ![512, 2304]⟩
abbrev S1x2304x512 : Shape := ⟨3, ![1, 2304, 512]⟩
abbrev S512x512 : Shape := ⟨2, ![512, 512]⟩
abbrev S128x768 : Shape := ⟨2, ![128, 768]⟩
abbrev S128x512 : Shape := ⟨2, ![128, 512]⟩
abbrev S1x1x1 : Shape := ⟨3, ![1, 1, 1]⟩

abbrev nBuf : Space → Nat
  | .hbm => 13
  | .vmem => 21
  | .smem => 4
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S1, .f32⟩
  | .hbm, ⟨3, _⟩ => ⟨S18x56, .f32⟩
  | .hbm, ⟨4, _⟩ => ⟨S12288x2304, .fp8e5m2⟩
  | .hbm, ⟨5, _⟩ => ⟨S2304x7168, .i8⟩
  | .hbm, ⟨6, _⟩ => ⟨S2304x7168, .i8⟩
  | .hbm, ⟨7, _⟩ => ⟨S2304x768, .bf16⟩
  | .hbm, ⟨8, _⟩ => ⟨S768x7168, .f32⟩
  | .hbm, ⟨9, _⟩ => ⟨S12288x7168, .bf16⟩
  | .hbm, ⟨10, _⟩ => ⟨S2304x7168, .bf16⟩
  | .hbm, ⟨11, _⟩ => ⟨S2304x7168, .i8⟩
  | .hbm, ⟨12, _⟩ => ⟨S18x56, .f32⟩
  | .local _ .vmem, ⟨0, _⟩ => ⟨S2048x2304, .fp8e5m2⟩
  | .local _ .vmem, ⟨1, _⟩ => ⟨S2048x2304, .fp8e5m2⟩
  | .local _ .vmem, ⟨2, _⟩ => ⟨S2304x512, .i8⟩
  | .local _ .vmem, ⟨3, _⟩ => ⟨S384x512, .i8⟩
  | .local _ .vmem, ⟨4, _⟩ => ⟨S384x512, .i8⟩
  | .local _ .vmem, ⟨5, _⟩ => ⟨S384x512, .i8⟩
  | .local _ .vmem, ⟨6, _⟩ => ⟨S384x512, .i8⟩
  | .local _ .vmem, ⟨7, _⟩ => ⟨S384x512, .i8⟩
  | .local _ .vmem, ⟨8, _⟩ => ⟨S384x512, .i8⟩
  | .local _ .vmem, ⟨9, _⟩ => ⟨S384x768, .bf16⟩
  | .local _ .vmem, ⟨10, _⟩ => ⟨S384x768, .bf16⟩
  | .local _ .vmem, ⟨11, _⟩ => ⟨S768x512, .f32⟩
  | .local _ .vmem, ⟨12, _⟩ => ⟨S768x512, .f32⟩
  | .local _ .vmem, ⟨13, _⟩ => ⟨S2048x512, .bf16⟩
  | .local _ .vmem, ⟨14, _⟩ => ⟨S2048x512, .bf16⟩
  | .local _ .vmem, ⟨15, _⟩ => ⟨S384x512, .bf16⟩
  | .local _ .vmem, ⟨16, _⟩ => ⟨S384x512, .bf16⟩
  | .local _ .vmem, ⟨17, _⟩ => ⟨S384x512, .i8⟩
  | .local _ .vmem, ⟨18, _⟩ => ⟨S384x512, .i8⟩
  | .local _ .vmem, ⟨19, _⟩ => ⟨S18x56, .f32⟩
  | .local _ .vmem, ⟨20, _⟩ => ⟨S2x2304x512, .bf16⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S18x56, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg6_1 : Ref sig .tc := ⟨.vmem, 4, rfl⟩
abbrev cc0_stg7_0 : Ref sig .tc := ⟨.vmem, 5, rfl⟩
abbrev cc0_stg7_1 : Ref sig .tc := ⟨.vmem, 6, rfl⟩
abbrev cc0_stg8_0 : Ref sig .tc := ⟨.vmem, 7, rfl⟩
abbrev cc0_stg8_1 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_scratch0 : Ref sig .tc := ⟨.vmem, 20, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23

abbrev nD : Nat := 1
abbrev τ : Topo := Topo.v7x

variable {F : FTy → Type} [FloatOps F]

abbrev grid0 : Pipeline.Grid := ⟨2, ![14, 6], ![false, false]⟩

def k0_mult1 (i : grid0.Coords) : BitVec 32 :=
  let arg1 : BitVec 32 := BitVec.ofNat 32 (i 1).val
  let c384_i32 : BitVec 32 := 384#32
  let v9 : BitVec 32 := Scalar.muli arg1 c384_i32
  v9
def k0_off1 (i : grid0.Coords) : Fin 3 → Nat :=
  let arg0 : BitVec 32 := BitVec.ofNat 32 (i 0).val
  let c2_i32 : BitVec 32 := 2#32
  let v5 : BitVec 32 := Scalar.remsi arg0 c2_i32
  let v17 : Index := Scalar.indexCast v5
  let c0_6 : Index := 0#32
  let c0_7 : Index := 0#32
  ![v17.toNat, 0, 0]
def k0_off2 (i : grid0.Coords) (c0_i32_14 : BitVec 32) (c0_i32_19 : BitVec 32) : Fin 2 → Nat :=
  let arg1 : BitVec 32 := BitVec.ofNat 32 (i 1).val
  let c3_i32 : BitVec 32 := 3#32
  let v28 : BitVec 32 := Scalar.muli arg1 c3_i32
  let v29 : BitVec 32 := Scalar.addi v28 c0_i32_14
  let v37 : Index := Scalar.indexCast v29
  let arg0 : BitVec 32 := BitVec.ofNat 32 (i 0).val
  let c1_i32_2 : BitVec 32 := 1#32
  let v7 : BitVec 32 := Scalar.addi arg0 c1_i32_2
  let c13_i32 : BitVec 32 := 13#32
  let v8 : BitVec 32 := Scalar.minsi v7 c13_i32
  let c4_i32 : BitVec 32 := 4#32
  let v33 : BitVec 32 := Scalar.muli v8 c4_i32
  let v34 : BitVec 32 := Scalar.addi v33 c0_i32_19
  let v38 : Index := Scalar.indexCast v34
  ![v37.toNat, v38.toNat]
def k0_off3 (i : grid0.Coords) (c0_i32_20 : BitVec 32) : Fin 3 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v44 : Index := Scalar.indexCast v6
  let arg1 : BitVec 32 := BitVec.ofNat 32 (i 1).val
  let c384_i32 : BitVec 32 := 384#32
  let v9 : BitVec 32 := Scalar.muli arg1 c384_i32
  let v10 : BitVec 32 := v9
  let v43 : BitVec 32 := Scalar.addi v10 c0_i32_20
  let v45 : Index := Scalar.indexCast v43
  let c0_21 : Index := 0#32
  ![v44.toNat, v45.toNat, 0]
def k0_off4 (i : grid0.Coords) (c0_i32_14 : BitVec 32) (c0_i32_23 : BitVec 32) : Fin 2 → Nat :=
  let arg1 : BitVec 32 := BitVec.ofNat 32 (i 1).val
  let c3_i32 : BitVec 32 := 3#32
  let v28 : BitVec 32 := Scalar.muli arg1 c3_i32
  let v29 : BitVec 32 := Scalar.addi v28 c0_i32_14
  let v54 : Index := Scalar.indexCast v29
  let arg0 : BitVec 32 := BitVec.ofNat 32 (i 0).val
  let c4_i32_22 : BitVec 32 := 4#32
  let v49 : BitVec 32 := Scalar.muli arg0 c4_i32_22
  let v50 : BitVec 32 := Scalar.addi v49 c0_i32_23
  let v55 : Index := Scalar.indexCast v50
  ![v54.toNat, v55.toNat]
def k0_off5 (i : grid0.Coords) (c0_i32_44 : BitVec 32) : Fin 3 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v126 : Index := Scalar.indexCast v6
  let arg1 : BitVec 32 := BitVec.ofNat 32 (i 1).val
  let c384_i32 : BitVec 32 := 384#32
  let v9 : BitVec 32 := Scalar.muli arg1 c384_i32
  let v10 : BitVec 32 := v9
  let v125 : BitVec 32 := Scalar.addi v10 c0_i32_44
  let v127 : Index := Scalar.indexCast v125
  let c128_45 : Index := 128#32
  ![v126.toNat, v127.toNat, 128]
def k0_off6 (i : grid0.Coords) (c0_i32_70 : BitVec 32) : Fin 3 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v208 : Index := Scalar.indexCast v6
  let arg1 : BitVec 32 := BitVec.ofNat 32 (i 1).val
  let c384_i32 : BitVec 32 := 384#32
  let v9 : BitVec 32 := Scalar.muli arg1 c384_i32
  let v10 : BitVec 32 := v9
  let v207 : BitVec 32 := Scalar.addi v10 c0_i32_70
  let v209 : Index := Scalar.indexCast v207
  let c256_71 : Index := 256#32
  ![v208.toNat, v209.toNat, 256]
def k0_off7 (i : grid0.Coords) (c0_i32_96 : BitVec 32) : Fin 3 → Nat :=
  let c1_i32 : BitVec 32 := 1#32
  let arg0 : BitVec 32 := BitVec.ofNat 32 (i 0).val
  let c2_i32 : BitVec 32 := 2#32
  let v5 : BitVec 32 := Scalar.remsi arg0 c2_i32
  let v6 : BitVec 32 := Scalar.subi c1_i32 v5
  let v290 : Index := Scalar.indexCast v6
  let arg1 : BitVec 32 := BitVec.ofNat 32 (i 1).val
  let c384_i32 : BitVec 32 := 384#32
  let v9 : BitVec 32 := Scalar.muli arg1 c384_i32
  let v10 : BitVec 32 := v9
  let v289 : BitVec 32 := Scalar.addi v10 c0_i32_96
  let v291 : Index := Scalar.indexCast v289
  let c384_97 : Index := 384#32
  ![v290.toNat, v291.toNat, 384]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c13_i32 : BitVec 32 := 13#32
  let v1 : BitVec 32 := Scalar.minsi v0 c13_i32
  let c0_i32 : BitVec 32 := 0#32
  ![arg1.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S18x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x2304 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2304x512 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S384x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S384x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S384x512 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S384x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S768x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2048x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S384x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S384x512 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S18x56 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== ReferenceIdeal.lean ====
abbrev S1 : Shape := ⟨1, ![1]⟩
abbrev S18x56 : Shape := ⟨2, ![18, 56]⟩
abbrev S12288x2304 : Shape := ⟨2, ![12288, 2304]⟩
abbrev S2304x7168 : Shape := ⟨2, ![2304, 7168]⟩
abbrev S2304x768 : Shape := ⟨2, ![2304, 768]⟩
abbrev S768x7168 : Shape := ⟨2, ![768, 7168]⟩
abbrev S12288x7168 : Shape := ⟨2, ![12288, 7168]⟩
abbrev S18x128x56x128 : Shape := ⟨4, ![18, 128, 56, 128]⟩
abbrev S18x1x56x1 : Shape := ⟨4, ![18, 1, 56, 1]⟩

abbrev nBuf : Space → Nat
  | .hbm => 13
  | .vmem => 10
  | .smem => 3
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S1, .f32⟩
  | .hbm, ⟨3, _⟩ => ⟨S18x56, .f32⟩
  | .hbm, ⟨4, _⟩ => ⟨S12288x2304, .fp8e5m2⟩
  | .hbm, ⟨5, _⟩ => ⟨S2304x7168, .i8⟩
  | .hbm, ⟨6, _⟩ => ⟨S2304x7168, .i8⟩
  | .hbm, ⟨7, _⟩ => ⟨S2304x768, .bf16⟩
  | .hbm, ⟨8, _⟩ => ⟨S768x7168, .f32⟩
  | .hbm, ⟨9, _⟩ => ⟨S12288x7168, .bf16⟩
  | .hbm, ⟨10, _⟩ => ⟨S2304x7168, .bf16⟩
  | .hbm, ⟨11, _⟩ => ⟨S2304x7168, .i8⟩
  | .hbm, ⟨12, _⟩ => ⟨S18x56, .f32⟩
  | .local _ .vmem, ⟨0, _⟩ => ⟨S18x56, .f32⟩
  | .local _ .vmem, ⟨1, _⟩ => ⟨S12288x2304, .fp8e5m2⟩
  | .local _ .vmem, ⟨2, _⟩ => ⟨S2304x7168, .i8⟩
  | .local _ .vmem, ⟨3, _⟩ => ⟨S2304x7168, .i8⟩
  | .local _ .vmem, ⟨4, _⟩ => ⟨S2304x768, .bf16⟩
  | .local _ .vmem, ⟨5, _⟩ => ⟨S768x7168, .f32⟩
  | .local _ .vmem, ⟨6, _⟩ => ⟨S12288x7168, .bf16⟩
  | .local _ .vmem, ⟨7, _⟩ => ⟨S2304x7168, .bf16⟩
  | .local _ .vmem, ⟨8, _⟩ => ⟨S2304x7168, .i8⟩
  | .local _ .vmem, ⟨9, _⟩ => ⟨S18x56, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg10_0 : Ref sig .tc := ⟨.vmem, 7, rfl⟩
abbrev cc0_stg11_0 : Ref sig .tc := ⟨.vmem, 8, rfl⟩
abbrev cc0_stg12_0 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x2304 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2304x7168 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2304x7168 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2304x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S768x7168 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12288x7168 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2304x7168 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2304x7168 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S18x56 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Lowrank.lean ====
abbrev S1 : Shape := ⟨1, ![1]⟩
abbrev S2304x384 : Shape := ⟨2, ![2304, 384]⟩
abbrev S6x2304 : Shape := ⟨2, ![6, 2304]⟩
abbrev S12288x2304 : Shape := ⟨2, ![12288, 2304]⟩
abbrev S12288x7168 : Shape := ⟨2, ![12288, 7168]⟩
abbrev S768x7168 : Shape := ⟨2, ![768, 7168]⟩
abbrev S28x768 : Shape := ⟨2, ![28, 768]⟩
abbrev S2304x768 : Shape := ⟨2, ![2304, 768]⟩
abbrev S1024x2304 : Shape := ⟨2, ![1024, 2304]⟩
abbrev S12288x512 : Shape := ⟨2, ![12288, 512]⟩
abbrev S768x512 : Shape := ⟨2, ![768, 512]⟩
abbrev S256x768 : Shape := ⟨2, ![256, 768]⟩
abbrev S768x2304 : Shape := ⟨2, ![768, 2304]⟩
abbrev S768x12288 : Shape := ⟨2, ![768, 12288]⟩
abbrev S768x28 : Shape := ⟨2, ![768, 28]⟩
abbrev S256x128 : Shape := ⟨2, ![256, 128]⟩
abbrev S128x256 : Shape := ⟨2, ![128, 256]⟩
abbrev S1x256 : Shape := ⟨2, ![1, 256]⟩
abbrev S768x1024 : Shape := ⟨2, ![768, 1024]⟩
abbrev S768x2048 : Shape := ⟨2, ![768, 2048]⟩
abbrev S2048x512 : Shape := ⟨2, ![2048, 512]⟩
abbrev S128x512 : Shape := ⟨2, ![128, 512]⟩
abbrev S128x28 : Shape := ⟨2, ![128, 28]⟩
abbrev S128 : Shape := ⟨1, ![128]⟩
abbrev S128x1 : Shape := ⟨2, ![128, 1]⟩

abbrev nBuf : Space → Nat
  | .hbm => 20
  | .vmem => 33
  | .smem => 4
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S1, .f32⟩
  | .hbm, ⟨3, _⟩ => ⟨S1, .f32⟩
  | .hbm, ⟨4, _⟩ => ⟨S2304x384, .i8⟩
  | .hbm, ⟨5, _⟩ => ⟨S6x2304, .f32⟩
  | .hbm, ⟨6, _⟩ => ⟨S6x2304, .f32⟩
  | .hbm, ⟨7, _⟩ => ⟨S12288x2304, .fp8e5m2⟩
  | .hbm, ⟨8, _⟩ => ⟨S12288x7168, .fp8e4m3⟩
  | .hbm, ⟨9, _⟩ => ⟨S768x7168, .i8⟩
  | .hbm, ⟨10, _⟩ => ⟨S28x768, .f32⟩
  | .hbm, ⟨11, _⟩ => ⟨S768x7168, .i8⟩
  | .hbm, ⟨12, _⟩ => ⟨S28x768, .f32⟩
  | .hbm, ⟨13, _⟩ => ⟨S768x7168, .f32⟩
  | .hbm, ⟨14, _⟩ => ⟨S768x7168, .f32⟩
  | .hbm, ⟨15, _⟩ => ⟨S768x7168, .i8⟩
  | .hbm, ⟨16, _⟩ => ⟨S28x768, .f32⟩
  | .hbm, ⟨17, _⟩ => ⟨S768x7168, .i8⟩
  | .hbm, ⟨18, _⟩ => ⟨S28x768, .f32⟩
  | .hbm, ⟨19, _⟩ => ⟨S2304x768, .bf16⟩
  | .local _ .vmem, ⟨0, _⟩ => ⟨S2304x384, .i8⟩
  | .local _ .vmem, ⟨1, _⟩ => ⟨S6x2304, .f32⟩
  | .local _ .vmem, ⟨2, _⟩ => ⟨S6x2304, .f32⟩
  | .local _ .vmem, ⟨3, _⟩ => ⟨S1024x2304, .fp8e5m2⟩
  | .local _ .vmem, ⟨4, _⟩ => ⟨S1024x2304, .fp8e5m2⟩
  | .local _ .vmem, ⟨5, _⟩ => ⟨S12288x512, .fp8e4m3⟩
  | .local _ .vmem, ⟨6, _⟩ => ⟨S12288x512, .fp8e4m3⟩
  | .local _ .vmem, ⟨7, _⟩ => ⟨S768x512, .i8⟩
  | .local _ .vmem, ⟨8, _⟩ => ⟨S768x512, .i8⟩
  | .local _ .vmem, ⟨9, _⟩ => ⟨S28x768, .f32⟩
  | .local _ .vmem, ⟨10, _⟩ => ⟨S768x512, .i8⟩
  | .local _ .vmem, ⟨11, _⟩ => ⟨S768x512, .i8⟩
  | .local _ .vmem, ⟨12, _⟩ => ⟨S28x768, .f32⟩
  | .local _ .vmem, ⟨13, _⟩ => ⟨S768x512, .f32⟩
  | .local _ .vmem, ⟨14, _⟩ => ⟨S768x512, .f32⟩
  | .local _ .vmem, ⟨15, _⟩ => ⟨S768x512, .f32⟩
  | .local _ .vmem, ⟨16, _⟩ => ⟨S768x512, .f32⟩
  | .local _ .vmem, ⟨17, _⟩ => ⟨S768x512, .i8⟩
  | .local _ .vmem, ⟨18, _⟩ => ⟨S768x512, .i8⟩
  | .local _ .vmem, ⟨19, _⟩ => ⟨S28x768, .f32⟩
  | .local _ .vmem, ⟨20, _⟩ => ⟨S768x512, .i8⟩
  | .local _ .vmem, ⟨21, _⟩ => ⟨S768x512, .i8⟩
  | .local _ .vmem, ⟨22, _⟩ => ⟨S28x768, .f32⟩
  | .local _ .vmem, ⟨23, _⟩ => ⟨S256x768, .bf16⟩
  | .local _ .vmem, ⟨24, _⟩ => ⟨S256x768, .bf16⟩
  | .local _ .vmem, ⟨25, _⟩ => ⟨S768x2304, .bf16⟩
  | .local _ .vmem, ⟨26, _⟩ => ⟨S768x12288, .bf16⟩
  | .local _ .vmem, ⟨27, _⟩ => ⟨S768x512, .f32⟩
  | .local _ .vmem, ⟨28, _⟩ => ⟨S768x512, .f32⟩
  | .local _ .vmem, ⟨29, _⟩ => ⟨S768x28, .f32⟩
  | .local _ .vmem, ⟨30, _⟩ => ⟨S768x28, .f32⟩
  | .local _ .vmem, ⟨31, _⟩ => ⟨S768x28, .f32⟩
  | .local _ .vmem, ⟨32, _⟩ => ⟨S768x28, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev cc0_stg4_0 : Ref sig .tc := ⟨.vmem, 0, rfl⟩
abbrev cc0_stg5_0 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg7_1 : Ref sig .tc := ⟨.vmem, 4, rfl⟩
abbrev cc0_stg8_0 : Ref sig .tc := ⟨.vmem, 5, rfl⟩
abbrev cc0_stg8_1 : Ref sig .tc := ⟨.vmem, 6, rfl⟩
abbrev cc0_stg9_0 : Ref sig .tc := ⟨.vmem, 7, rfl⟩
abbrev cc0_stg9_1 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg11_1 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg13_1 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg19_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem17_0 : DmaSem sig := 24
abbrev cc0_sem17_1 : DmaSem sig := 25
abbrev cc0_sem18_0 : DmaSem sig := 26
abbrev cc0_sem19_0 : DmaSem sig := 27
abbrev cc0_sem19_1 : DmaSem sig := 28

abbrev nD : Nat := 1
abbrev τ : Topo := Topo.v7x

variable {F : FTy → Type} [FloatOps F]

abbrev grid0 : Pipeline.Grid := ⟨1, ![27], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c9_i32 : BitVec 32 := 9#32
  let v18 : BitVec 32 := Scalar.addi c0_i32_9 c9_i32
  let c1_i32 : BitVec 32 := 1#32
  ⟨c0_i32_9, v18, c1_i32⟩
def k0_mult1 (k0_t1 : Fin k0_t1_loop.trips) : BitVec 32 :=
  let c0_i32_9 : BitVec 32 := 0#32
  let c1_i32 : BitVec 32 := 1#32
  let arg29 : BitVec 32 := Scf.iv c0_i32_9 c1_i32 k0_t1
  let c256_i32 : BitVec 32 := 256#32
  let v37 : BitVec 32 := Scalar.muli arg29 c256_i32
  v37
def k0_off1 (k0_t1 : Fin k0_t1_loop.trips) : Fin 2 → Nat :=
  let c0_i32_9 : BitVec 32 := 0#32
  let c1_i32 : BitVec 32 := 1#32
  let arg29 : BitVec 32 := Scf.iv c0_i32_9 c1_i32 k0_t1
  let c256_i32 : BitVec 32 := 256#32
  let v37 : BitVec 32 := Scalar.muli arg29 c256_i32
  let v38 : BitVec 32 := v37
  let v39 : Index := Scalar.indexCast v38
  let c0_23 : Index := 0#32
  ![v39.toNat, 0]
def k0_off2 (k0_t1 : Fin k0_t1_loop.trips) : Fin 2 → Nat :=
  let c0_24 : Index := 0#32
  let c0_i32_9 : BitVec 32 := 0#32
  let c1_i32 : BitVec 32 := 1#32
  let arg29 : BitVec 32 := Scf.iv c0_i32_9 c1_i32 k0_t1
  let c256_i32 : BitVec 32 := 256#32
  let v37 : BitVec 32 := Scalar.muli arg29 c256_i32
  let v38 : BitVec 32 := v37
  let v48 : Index := Scalar.indexCast v38
  ![0, v48.toNat]
def k0_off3 (k0_t1 : Fin k0_t1_loop.trips) : Fin 2 → Nat :=
  let c0_26 : Index := 0#32
  let c0_i32_9 : BitVec 32 := 0#32
  let c1_i32 : BitVec 32 := 1#32
  let arg29 : BitVec 32 := Scf.iv c0_i32_9 c1_i32 k0_t1
  let c256_i32 : BitVec 32 := 256#32
  let v37 : BitVec 32 := Scalar.muli arg29 c256_i32
  let v38 : BitVec 32 := v37
  let v57 : Index := Scalar.indexCast v38
  ![0, v57.toNat]
def k0_off4 (k0_t1 : Fin k0_t1_loop.trips) : Fin 2 → Nat :=
  let c3 : Index := 3#32
  let c0_i32_9 : BitVec 32 := 0#32
  let c1_i32 : BitVec 32 := 1#32
  let arg29 : BitVec 32 := Scf.iv c0_i32_9 c1_i32 k0_t1
  let c256_i32 : BitVec 32 := 256#32
  let v37 : BitVec 32 := Scalar.muli arg29 c256_i32
  let v38 : BitVec 32 := v37
  let v62 : Index := Scalar.indexCast v38
  ![3, v62.toNat]
def k0_off5 (k0_t1 : Fin k0_t1_loop.trips) : Fin 2 → Nat :=
  let c384 : Index := 384#32
  let c0_i32_9 : BitVec 32 := 0#32
  let c1_i32 : BitVec 32 := 1#32
  let arg29 : BitVec 32 := Scf.iv c0_i32_9 c1_i32 k0_t1
  let c256_i32 : BitVec 32 := 256#32
  let v37 : BitVec 32 := Scalar.muli arg29 c256_i32
  let v38 : BitVec 32 := v37
  let v71 : Index := Scalar.indexCast v38
  ![384, v71.toNat]
def k0_off6 (k0_t1 : Fin k0_t1_loop.trips) : Fin 2 → Nat :=
  let c0_i32_9 : BitVec 32 := 0#32
  let c1_i32 : BitVec 32 := 1#32
  let arg29 : BitVec 32 := Scf.iv c0_i32_9 c1_i32 k0_t1
  let c256_i32 : BitVec 32 := 256#32
  let v37 : BitVec 32 := Scalar.muli arg29 c256_i32
  let v38 : BitVec 32 := v37
  let v75 : Index := Scalar.indexCast v38
  let c128 : Index := 128#32
  ![v75.toNat, 128]
def k0_off7 (k0_t1 : Fin k0_t1_loop.trips) : Fin 2 → Nat :=
  let c1 : Index := 1#32
  let c0_i32_9 : BitVec 32 := 0#32
  let c1_i32 : BitVec 32 := 1#32
  let arg29 : BitVec 32 := Scf.iv c0_i32_9 c1_i32 k0_t1
  let c256_i32 : BitVec 32 := 256#32
  let v37 : BitVec 32 := Scalar.muli arg29 c256_i32
  let v38 : BitVec 32 := v37
  let v84 : Index := Scalar.indexCast v38
  ![1, v84.toNat]
def k0_off8 (k0_t1 : Fin k0_t1_loop.trips) : Fin 2 → Nat :=
  let c128_31 : Index := 128#32
  let c0_i32_9 : BitVec 32 := 0#32
  let c1_i32 : BitVec 32 := 1#32
  let arg29 : BitVec 32 := Scf.iv c0_i32_9 c1_i32 k0_t1
  let c256_i32 : BitVec 32 := 256#32
  let v37 : BitVec 32 := Scalar.muli arg29 c256_i32
  let v38 : BitVec 32 := v37
  let v93 : Index := Scalar.indexCast v38
  ![128, v93.toNat]
def k0_off9 (k0_t1 : Fin k0_t1_loop.trips) : Fin 2 → Nat :=
  let c4 : Index := 4#32
  let c0_i32_9 : BitVec 32 := 0#32
  let c1_i32 : BitVec 32 := 1#32
  let arg29 : BitVec 32 := Scf.iv c0_i32_9 c1_i32 k0_t1
  let c256_i32 : BitVec 32 := 256#32
  let v37 : BitVec 32 := Scalar.muli arg29 c256_i32
  let v38 : BitVec 32 := v37
  let v98 : Index := Scalar.indexCast v38
  ![4, v98.toNat]
def k0_off10 (k0_t1 : Fin k0_t1_loop.trips) : Fin 2 → Nat :=
  let c512 : Index := 512#32
  let c0_i32_9 : BitVec 32 := 0#32
  let c1_i32 : BitVec 32 := 1#32
  let arg29 : BitVec 32 := Scf.iv c0_i32_9 c1_i32 k0_t1
  let c256_i32 : BitVec 32 := 256#32
  let v37 : BitVec 32 := Scalar.muli arg29 c256_i32
  let v38 : BitVec 32 := v37
  let v107 : Index := Scalar.indexCast v38
  ![512, v107.toNat]
def k0_off11 (k0_t1 : Fin k0_t1_loop.trips) : Fin 2 → Nat :=
  let c0_i32_9 : BitVec 32 := 0#32
  let c1_i32 : BitVec 32 := 1#32
  let arg29 : BitVec 32 := Scf.iv c0_i32_9 c1_i32 k0_t1
  let c256_i32 : BitVec 32 := 256#32
  let v37 : BitVec 32 := Scalar.muli arg29 c256_i32
  let v38 : BitVec 32 := v37
  let v111 : Index := Scalar.indexCast v38
  let c256 : Index := 256#32
  ![v111.toNat, 256]
def k0_off12 (k0_t1 : Fin k0_t1_loop.trips) : Fin 2 → Nat :=
  let c2 : Index := 2#32
  let c0_i32_9 : BitVec 32 := 0#32
  let c1_i32 : BitVec 32 := 1#32
  let arg29 : BitVec 32 := Scf.iv c0_i32_9 c1_i32 k0_t1
  let c256_i32 : BitVec 32 := 256#32
  let v37 : BitVec 32 := Scalar.muli arg29 c256_i32
  let v38 : BitVec 32 := v37
  let v120 : Index := Scalar.indexCast v38
  ![2, v120.toNat]
def k0_off13 (k0_t1 : Fin k0_t1_loop.trips) : Fin 2 → Nat :=
  let c256_36 : Index := 256#32
  let c0_i32_9 : BitVec 32 := 0#32
  let c1_i32 : BitVec 32 := 1#32
  let arg29 : BitVec 32 := Scf.iv c0_i32_9 c1_i32 k0_t1
  let c256_i32 : BitVec 32 := 256#32
  let v37 : BitVec 32 := Scalar.muli arg29 c256_i32
  let v38 : BitVec 32 := v37
  let v129 : Index := Scalar.indexCast v38
  ![256, v129.toNat]
def k0_off14 (k0_t1 : Fin k0_t1_loop.trips) : Fin 2 → Nat :=
  let c5 : Index := 5#32
  let c0_i32_9 : BitVec 32 := 0#32
  let c1_i32 : BitVec 32 := 1#32
  let arg29 : BitVec 32 := Scf.iv c0_i32_9 c1_i32 k0_t1
  let c256_i32 : BitVec 32 := 256#32
  let v37 : BitVec 32 := Scalar.muli arg29 c256_i32
  let v38 : BitVec 32 := v37
  let v134 : Index := Scalar.indexCast v38
  ![5, v134.toNat]
def k0_off15 (k0_t1 : Fin k0_t1_loop.trips) : Fin 2 → Nat :=
  let c640 : Index := 640#32
  let c0_i32_9 : BitVec 32 := 0#32
  let c1_i32 : BitVec 32 := 1#32
  let arg29 : BitVec 32 := Scf.iv c0_i32_9 c1_i32 k0_t1
  let c256_i32 : BitVec 32 := 256#32
  let v37 : BitVec 32 := Scalar.muli arg29 c256_i32
  let v38 : BitVec 32 := v37
  let v143 : Index := Scalar.indexCast v38
  ![640, v143.toNat]
def k0_cond2 (i : grid0.Coords) : BitVec 1 :=
  let arg0 : BitVec 32 := BitVec.ofNat 32 (i 0).val
  let c12_i32 : BitVec 32 := 12#32
  let v3 : BitVec 1 := Scalar.cmpi .slt arg0 c12_i32
  let v4 : BitVec 32 := Scalar.extui v3
  let c0_i32_1 : BitVec 32 := 0#32
  let v5 : BitVec 1 := Scalar.cmpi .ne v4 c0_i32_1
  v5

def k0_mult2 (i : grid0.Coords) : BitVec 32 :=
  let arg0 : BitVec 32 := BitVec.ofNat 32 (i 0).val
  let c1024_i32 : BitVec 32 := 1024#32
  let v18 : BitVec 32 := Scalar.muli arg0 c1024_i32
  v18
def k0_off16 (i : grid0.Coords) : Fin 2 → Nat :=
  let c0_13 : Index := 0#32
  let arg0 : BitVec 32 := BitVec.ofNat 32 (i 0).val
  let c1024_i32 : BitVec 32 := 1024#32
  let v18 : BitVec 32 := Scalar.muli arg0 c1024_i32
  let v19 : BitVec 32 := v18
  let v27 : Index := Scalar.indexCast v19
  ![0, v27.toNat]
def k0_cond4 (i : grid0.Coords) : BitVec 1 :=
  let arg0 : BitVec 32 := BitVec.ofNat 32 (i 0).val
  let c12_i32_2 : BitVec 32 := 12#32
  let v6 : BitVec 32 := Scalar.subi arg0 c12_i32_2
  let c0_i32_5 : BitVec 32 := 0#32
  let v10 : BitVec 1 := Scalar.cmpi .sgt v6 c0_i32_5
  let c14_i32 : BitVec 32 := 14#32
  let v11 : BitVec 1 := Scalar.cmpi .slt v6 c14_i32
  let v12 : BitVec 1 := Scalar.andi v10 v11
  let v13 : BitVec 32 := Scalar.extui v12
  let c0_i32_6 : BitVec 32 := 0#32
  let v14 : BitVec 1 := Scalar.cmpi .ne v13 c0_i32_6
  v14

def k0_mult3 (i : grid0.Coords) : BitVec 32 :=
  let arg0 : BitVec 32 := BitVec.ofNat 32 (i 0).val
  let c12_i32_2 : BitVec 32 := 12#32
  let v6 : BitVec 32 := Scalar.subi arg0 c12_i32_2
  let c1_i32_87 : BitVec 32 := 1#32
  let v235 : BitVec 32 := Scalar.subi v6 c1_i32_87
  let c8_i32 : BitVec 32 := 8#32
  let v236 : BitVec 32 := Scalar.minsi v235 c8_i32
  let c256_i32 : BitVec 32 := 256#32
  let v237 : BitVec 32 := Scalar.muli v236 c256_i32
  v237
def k0_off17 (i : grid0.Coords) : Fin 2 → Nat :=
  let c0_88 : Index := 0#32
  let arg0 : BitVec 32 := BitVec.ofNat 32 (i 0).val
  let c12_i32_2 : BitVec 32 := 12#32
  let v6 : BitVec 32 := Scalar.subi arg0 c12_i32_2
  let c1_i32_87 : BitVec 32 := 1#32
  let v235 : BitVec 32 := Scalar.subi v6 c1_i32_87
  let c8_i32 : BitVec 32 := 8#32
  let v236 : BitVec 32 := Scalar.minsi v235 c8_i32
  let c256_i32 : BitVec 32 := 256#32
  let v237 : BitVec 32 := Scalar.muli v236 c256_i32
  let v238 : BitVec 32 := v237
  let v239 : Index := Scalar.indexCast v238
  ![0, v239.toNat]
def k0_mult4 (i : grid0.Coords) : BitVec 32 :=
  let arg0 : BitVec 32 := BitVec.ofNat 32 (i 0).val
  let c12_i32_2 : BitVec 32 := 12#32
  let v6 : BitVec 32 := Scalar.subi arg0 c12_i32_2
  let c1_i32_183 : BitVec 32 := 1#32
  let v466 : BitVec 32 := Scalar.subi v6 c1_i32_183
  let c8_i32_184 : BitVec 32 := 8#32
  let v467 : BitVec 32 := Scalar.minsi v466 c8_i32_184
  let c256_i32_185 : BitVec 32 := 256#32
  let v468 : BitVec 32 := Scalar.muli v467 c256_i32_185
  v468
def k0_off18 (i : grid0.Coords) : Fin 2 → Nat :=
  let c128_186 : Index := 128#32
  let arg0 : BitVec 32 := BitVec.ofNat 32 (i 0).val
  let c12_i32_2 : BitVec 32 := 12#32
  let v6 : BitVec 32 := Scalar.subi arg0 c12_i32_2
  let c1_i32_183 : BitVec 32 := 1#32
  let v466 : BitVec 32 := Scalar.subi v6 c1_i32_183
  let c8_i32_184 : BitVec 32 := 8#32
  let v467 : BitVec 32 := Scalar.minsi v466 c8_i32_184
  let c256_i32_185 : BitVec 32 := 256#32
  let v468 : BitVec 32 := Scalar.muli v467 c256_i32_185
  let v469 : BitVec 32 := v468
  let v470 : Index := Scalar.indexCast v469
  ![128, v470.toNat]
def k0_mult5 (i : grid0.Coords) : BitVec 32 :=
  let arg0 : BitVec 32 := BitVec.ofNat 32 (i 0).val
  let c12_i32_2 : BitVec 32 := 12#32
  let v6 : BitVec 32 := Scalar.subi arg0 c12_i32_2
  let c1_i32_283 : BitVec 32 := 1#32
  let v699 : BitVec 32 := Scalar.subi v6 c1_i32_283
  let c8_i32_284 : BitVec 32 := 8#32
  let v700 : BitVec 32 := Scalar.minsi v699 c8_i32_284
  let c256_i32_285 : BitVec 32 := 256#32
  let v701 : BitVec 32 := Scalar.muli v700 c256_i32_285
  v701
def k0_off19 (i : grid0.Coords) : Fin 2 → Nat :=
  let c256_286 : Index := 256#32
  let arg0 : BitVec 32 := BitVec.ofNat 32 (i 0).val
  let c12_i32_2 : BitVec 32 := 12#32
  let v6 : BitVec 32 := Scalar.subi arg0 c12_i32_2
  let c1_i32_283 : BitVec 32 := 1#32
  let v699 : BitVec 32 := Scalar.subi v6 c1_i32_283
  let c8_i32_284 : BitVec 32 := 8#32
  let v700 : BitVec 32 := Scalar.minsi v699 c8_i32_284
  let c256_i32_285 : BitVec 32 := 256#32
  let v701 : BitVec 32 := Scalar.muli v700 c256_i32_285
  let v702 : BitVec 32 := v701
  let v703 : Index := Scalar.indexCast v702
  ![256, v703.toNat]
def k0_mult6 (i : grid0.Coords) : BitVec 32 :=
  let arg0 : BitVec 32 := BitVec.ofNat 32 (i 0).val
  let c12_i32_2 : BitVec 32 := 12#32
  let v6 : BitVec 32 := Scalar.subi arg0 c12_i32_2
  let c1_i32_382 : BitVec 32 := 1#32
  let v932 : BitVec 32 := Scalar.subi v6 c1_i32_382
  let c8_i32_383 : BitVec 32 := 8#32
  let v933 : BitVec 32 := Scalar.minsi v932 c8_i32_383
  let c256_i32_384 : BitVec 32 := 256#32
  let v934 : BitVec 32 := Scalar.muli v933 c256_i32_384
  v934
def k0_off20 (i : grid0.Coords) : Fin 2 → Nat :=
  let c384_385 : Index := 384#32
  let arg0 : BitVec 32 := BitVec.ofNat 32 (i 0).val
  let c12_i32_2 : BitVec 32 := 12#32
  let v6 : BitVec 32 := Scalar.subi arg0 c12_i32_2
  let c1_i32_382 : BitVec 32 := 1#32
  let v932 : BitVec 32 := Scalar.subi v6 c1_i32_382
  let c8_i32_383 : BitVec 32 := 8#32
  let v933 : BitVec 32 := Scalar.minsi v932 c8_i32_383
  let c256_i32_384 : BitVec 32 := 256#32
  let v934 : BitVec 32 := Scalar.muli v933 c256_i32_384
  let v935 : BitVec 32 := v934
  let v936 : Index := Scalar.indexCast v935
  ![384, v936.toNat]
def k0_mult7 (i : grid0.Coords) : BitVec 32 :=
  let arg0 : BitVec 32 := BitVec.ofNat 32 (i 0).val
  let c12_i32_2 : BitVec 32 := 12#32
  let v6 : BitVec 32 := Scalar.subi arg0 c12_i32_2
  let c1_i32_481 : BitVec 32 := 1#32
  let v1165 : BitVec 32 := Scalar.subi v6 c1_i32_481
  let c8_i32_482 : BitVec 32 := 8#32
  let v1166 : BitVec 32 := Scalar.minsi v1165 c8_i32_482
  let c256_i32_483 : BitVec 32 := 256#32
  let v1167 : BitVec 32 := Scalar.muli v1166 c256_i32_483
  v1167
def k0_off21 (i : grid0.Coords) : Fin 2 → Nat :=
  let c512_484 : Index := 512#32
  let arg0 : BitVec 32 := BitVec.ofNat 32 (i 0).val
  let c12_i32_2 : BitVec 32 := 12#32
  let v6 : BitVec 32 := Scalar.subi arg0 c12_i32_2
  let c1_i32_481 : BitVec 32 := 1#32
  let v1165 : BitVec 32 := Scalar.subi v6 c1_i32_481
  let c8_i32_482 : BitVec 32 := 8#32
  let v1166 : BitVec 32 := Scalar.minsi v1165 c8_i32_482
  let c256_i32_483 : BitVec 32 := 256#32
  let v1167 : BitVec 32 := Scalar.muli v1166 c256_i32_483
  let v1168 : BitVec 32 := v1167
  let v1169 : Index := Scalar.indexCast v1168
  ![512, v1169.toNat]
def k0_mult8 (i : grid0.Coords) : BitVec 32 :=
  let arg0 : BitVec 32 := BitVec.ofNat 32 (i 0).val
  let c12_i32_2 : BitVec 32 := 12#32
  let v6 : BitVec 32 := Scalar.subi arg0 c12_i32_2
  let c1_i32_580 : BitVec 32 := 1#32
  let v1398 : BitVec 32 := Scalar.subi v6 c1_i32_580
  let c8_i32_581 : BitVec 32 := 8#32
  let v1399 : BitVec 32 := Scalar.minsi v1398 c8_i32_581
  let c256_i32_582 : BitVec 32 := 256#32
  let v1400 : BitVec 32 := Scalar.muli v1399 c256_i32_582
  v1400
def k0_off22 (i : grid0.Coords) : Fin 2 → Nat :=
  let c640_583 : Index := 640#32
  let arg0 : BitVec 32 := BitVec.ofNat 32 (i 0).val
  let c12_i32_2 : BitVec 32 := 12#32
  let v6 : BitVec 32 := Scalar.subi arg0 c12_i32_2
  let c1_i32_580 : BitVec 32 := 1#32
  let v1398 : BitVec 32 := Scalar.subi v6 c1_i32_580
  let c8_i32_581 : BitVec 32 := 8#32
  let v1399 : BitVec 32 := Scalar.minsi v1398 c8_i32_581
  let c256_i32_582 : BitVec 32 := 256#32
  let v1400 : BitVec 32 := Scalar.muli v1399 c256_i32_582
  let v1401 : BitVec 32 := v1400
  let v1402 : Index := Scalar.indexCast v1401
  ![640, v1402.toNat]
def k0_cond5 (i : grid0.Coords) : BitVec 1 :=
  let arg0 : BitVec 32 := BitVec.ofNat 32 (i 0).val
  let c12_i32_2 : BitVec 32 := 12#32
  let v6 : BitVec 32 := Scalar.subi arg0 c12_i32_2
  let c14_i32_7 : BitVec 32 := 14#32
  let v15 : BitVec 1 := Scalar.cmpi .eq v6 c14_i32_7
  let v16 : BitVec 32 := Scalar.extui v15
  let c0_i32_8 : BitVec 32 := 0#32
  let v17 : BitVec 1 := Scalar.cmpi .ne v16 c0_i32_8
  v17

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c12_i32 : BitVec 32 := 12#32
  let v0 : BitVec 32 := Scalar.subi arg0 c12_i32
  let c0_i32 : BitVec 32 := 0#32
  let c13_i32 : BitVec 32 := 13#32
  let v1 : BitVec 32 := Scalar.maxsi c0_i32 v0
  let v2 : BitVec 32 := Scalar.minsi c13_i32 v1
  let c0_i32_0 : BitVec 32 := 0#32
  let c0_i32_1 : BitVec 32 := 0#32
  ![c0_i32_0.toNat, v2.toNat]

def cc0_transform_9 (i : grid0.Coords) : Fin 2 → Nat :=
  let arg0 : BitVec 32 := BitVec.ofNat 32 (i 0).val
  let c12_i32 : BitVec 32 := 12#32
  let v0 : BitVec 32 := Scalar.subi arg0 c12_i32
  let c1_i32 : BitVec 32 := 1#32
  let v1 : BitVec 32 := Scalar.subi v0 c1_i32
  let c0_i32 : BitVec 32 := 0#32
  let c13_i32 : BitVec 32 := 13#32
  let v2 : BitVec 32 := Scalar.maxsi c0_i32 v1
  let v3 : BitVec 32 := Scalar.minsi c13_i32 v2
  let c0_i32_0 : BitVec 32 := 0#32
  let c0_i32_1 : BitVec 32 := 0#32
  ![c0_i32_0.toNat, v3.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c12_i32 : BitVec 32 := 12#32
  let v0 : BitVec 32 := Scalar.subi arg0 c12_i32
  let c1_i32 : BitVec 32 := 1#32
  let v1 : BitVec 32 := Scalar.subi v0 c1_i32
  let c0_i32 : BitVec 32 := 0#32
  let c13_i32 : BitVec 32 := 13#32
  let v2 : BitVec 32 := Scalar.maxsi c0_i32 v1
  let v3 : BitVec 32 := Scalar.minsi c13_i32 v2
  let c0_i32_0 : BitVec 32 := 0#32
  let c0_i32_1 : BitVec 32 := 0#32
  ![c0_i32_0.toNat, v3.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c12_i32 : BitVec 32 := 12#32
  let v0 : BitVec 32 := Scalar.subi arg0 c12_i32
  let c1_i32 : BitVec 32 := 1#32
  let v1 : BitVec 32 := Scalar.subi v0 c1_i32
  let c0_i32 : BitVec 32 := 0#32
  let c13_i32 : BitVec 32 := 13#32
  let v2 : BitVec 32 := Scalar.maxsi c0_i32 v1
  let v3 : BitVec 32 := Scalar.minsi c13_i32 v2
  let c0_i32_0 : BitVec 32 := 0#32
  let c0_i32_1 : BitVec 32 := 0#32
  ![c0_i32_0.toNat, v3.toNat]

def cc0_transform_14 (i : grid0.Coords) : Fin 2 → Nat :=
  let arg0 : BitVec 32 := BitVec.ofNat 32 (i 0).val
  let c12_i32 : BitVec 32 := 12#32
  let v0 : BitVec 32 := Scalar.subi arg0 c12_i32
  let c1_i32 : BitVec 32 := 1#32
  let v1 : BitVec 32 := Scalar.subi v0 c1_i32
  let c0_i32 : BitVec 32 := 0#32
  let c13_i32 : BitVec 32 := 13#32
  let v2 : BitVec 32 := Scalar.maxsi c0_i32 v1
  let v3 : BitVec 32 := Scalar.minsi c13_i32 v2
  let c0_i32_0 : BitVec 32 := 0#32
  let c0_i32_1 : BitVec 32 := 0#32
  ![c0_i32_0.toNat, v3.toNat]

def cc0_transform_15 (i : grid0.Coords) : Fin 2 → Nat :=
  let arg0 : BitVec 32 := BitVec.ofNat 32 (i 0).val
  let c12_i32 : BitVec 32 := 12#32
  let v0 : BitVec 32 := Scalar.subi arg0 c12_i32
  let c1_i32 : BitVec 32 := 1#32
  let v1 : BitVec 32 := Scalar.subi v0 c1_i32
  let c0_i32 : BitVec 32 := 0#32
  let c13_i32 : BitVec 32 := 13#32
  let v2 : BitVec 32 := Scalar.maxsi c0_i32 v1
  let v3 : BitVec 32 := Scalar.minsi c13_i32 v2
  let c0_i32_0 : BitVec 32 := 0#32
  let c0_i32_1 : BitVec 32 := 0#32
  ![c0_i32_0.toNat, v3.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c12_i32 : BitVec 32 := 12#32
  let v0 : BitVec 32 := Scalar.subi arg0 c12_i32
  let c1_i32 : BitVec 32 := 1#32
  let v1 : BitVec 32 := Scalar.subi v0 c1_i32
  let c0_i32 : BitVec 32 := 0#32
  let c13_i32 : BitVec 32 := 13#32
  let v2 : BitVec 32 := Scalar.maxsi c0_i32 v1
  let v3 : BitVec 32 := Scalar.minsi c13_i32 v2
  let c0_i32_0 : BitVec 32 := 0#32
  let c0_i32_1 : BitVec 32 := 0#32
  ![c0_i32_0.toNat, v3.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c12_i32 : BitVec 32 := 12#32
  let v0 : BitVec 32 := Scalar.subi arg0 c12_i32
  let c1_i32 : BitVec 32 := 1#32
  let v1 : BitVec 32 := Scalar.subi v0 c1_i32
  let c0_i32 : BitVec 32 := 0#32
  let c8_i32 : BitVec 32 := 8#32
  let v2 : BitVec 32 := Scalar.maxsi c0_i32 v1
  let v3 : BitVec 32 := Scalar.minsi c8_i32 v2
  let c0_i32_0 : BitVec 32 := 0#32
  let c0_i32_1 : BitVec 32 := 0#32
  ![v3.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2304x384 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x2304 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x2304 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S12288x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S768x512 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S28x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S768x512 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S28x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S768x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S768x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S768x512 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S28x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S768x512 .i8 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S28x768 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x768 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== LowrankReferenceIdeal.lean ====
abbrev S1 : Shape := ⟨1, ![1]⟩
abbrev S2304x384 : Shape := ⟨2, ![2304, 384]⟩
abbrev S6x2304 : Shape := ⟨2, ![6, 2304]⟩
abbrev S12288x2304 : Shape := ⟨2, ![12288, 2304]⟩
abbrev S12288x7168 : Shape := ⟨2, ![12288, 7168]⟩
abbrev S768x7168 : Shape := ⟨2, ![768, 7168]⟩
abbrev S28x768 : Shape := ⟨2, ![28, 768]⟩
abbrev S2304x768 : Shape := ⟨2, ![2304, 768]⟩
abbrev S2304x6 : Shape := ⟨2, ![2304, 6]⟩
abbrev S2304x3 : Shape := ⟨2, ![2304, 3]⟩
abbrev S2304x3x128 : Shape := ⟨3, ![2304, 3, 128]⟩
abbrev S2304x3x1 : Shape := ⟨3, ![2304, 3, 1]⟩
abbrev S12288x768 : Shape := ⟨2, ![12288, 768]⟩
abbrev S768x12288 : Shape := ⟨2, ![768, 12288]⟩
abbrev S768x28 : Shape := ⟨2, ![768, 28]⟩
abbrev S768x28x256 : Shape := ⟨3, ![768, 28, 256]⟩
abbrev S768x28x1 : Shape := ⟨3, ![768, 28, 1]⟩

abbrev nBuf : Space → Nat
  | .hbm => 20
  | .vmem => 16
  | .smem => 4
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S1, .f32⟩
  | .hbm, ⟨3, _⟩ => ⟨S1, .f32⟩
  | .hbm, ⟨4, _⟩ => ⟨S2304x384, .i8⟩
  | .hbm, ⟨5, _⟩ => ⟨S6x2304, .f32⟩
  | .hbm, ⟨6, _⟩ => ⟨S6x2304, .f32⟩
  | .hbm, ⟨7, _⟩ => ⟨S12288x2304, .fp8e5m2⟩
  | .hbm, ⟨8, _⟩ => ⟨S12288x7168, .fp8e4m3⟩
  | .hbm, ⟨9, _⟩ => ⟨S768x7168, .i8⟩
  | .hbm, ⟨10, _⟩ => ⟨S28x768, .f32⟩
  | .hbm, ⟨11, _⟩ => ⟨S768x7168, .i8⟩
  | .hbm, ⟨12, _⟩ => ⟨S28x768, .f32⟩
  | .hbm, ⟨13, _⟩ => ⟨S768x7168, .f32⟩
  | .hbm, ⟨14, _⟩ => ⟨S768x7168, .f32⟩
  | .hbm, ⟨15, _⟩ => ⟨S768x7168, .i8⟩
  | .hbm, ⟨16, _⟩ => ⟨S28x768, .f32⟩
  | .hbm, ⟨17, _⟩ => ⟨S768x7168, .i8⟩
  | .hbm, ⟨18, _⟩ => ⟨S28x768, .f32⟩
  | .hbm, ⟨19, _⟩ => ⟨S2304x768, .bf16⟩
  | .local _ .vmem, ⟨0, _⟩ => ⟨S2304x384, .i8⟩
  | .local _ .vmem, ⟨1, _⟩ => ⟨S6x2304, .f32⟩
  | .local _ .vmem, ⟨2, _⟩ => ⟨S6x2304, .f32⟩
  | .local _ .vmem, ⟨3, _⟩ => ⟨S12288x2304, .fp8e5m2⟩
  | .local _ .vmem, ⟨4, _⟩ => ⟨S12288x7168, .fp8e4m3⟩
  | .local _ .vmem, ⟨5, _⟩ => ⟨S768x7168, .i8⟩
  | .local _ .vmem, ⟨6, _⟩ => ⟨S28x768, .f32⟩
  | .local _ .vmem, ⟨7, _⟩ => ⟨S768x7168, .i8⟩
  | .local _ .vmem, ⟨8, _⟩ => ⟨S28x768, .f32⟩
  | .local _ .vmem, ⟨9, _⟩ => ⟨S768x7168, .f32⟩
  | .local _ .vmem, ⟨10, _⟩ => ⟨S768x7168, .f32⟩
  | .local _ .vmem, ⟨11, _⟩ => ⟨S768x7168, .i8⟩
  | .local _ .vmem, ⟨12, _⟩ => ⟨S28x768, .f32⟩
  | .local _ .vmem, ⟨13, _⟩ => ⟨S768x7168, .i8⟩
  | .local _ .vmem, ⟨14, _⟩ => ⟨S28x768, .f32⟩
  | .local _ .vmem, ⟨15, _⟩ => ⟨S2304x768, .bf16⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev cc0_stg4_0 : Ref sig .tc := ⟨.vmem, 0, rfl⟩
abbrev cc0_stg5_0 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg9_0 : Ref sig .tc := ⟨.vmem, 5, rfl⟩
abbrev cc0_stg10_0 : Ref sig .tc := ⟨.vmem, 6, rfl⟩
abbrev cc0_stg11_0 : Ref sig .tc := ⟨.vmem, 7, rfl⟩
abbrev cc0_stg12_0 : Ref sig .tc := ⟨.vmem, 8, rfl⟩
abbrev cc0_stg13_0 : Ref sig .tc := ⟨.vmem, 9, rfl⟩
abbrev cc0_stg14_0 : Ref sig .tc := ⟨.vmem, 10, rfl⟩
abbrev cc0_stg15_0 : Ref sig .tc := ⟨.vmem, 11, rfl⟩
abbrev cc0_stg16_0 : Ref sig .tc := ⟨.vmem, 12, rfl⟩
abbrev cc0_stg17_0 : Ref sig .tc := ⟨.vmem, 13, rfl⟩
abbrev cc0_stg18_0 : Ref sig .tc := ⟨.vmem, 14, rfl⟩
abbrev cc0_stg19_0 : Ref sig .tc := ⟨.vmem, 15, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2304x384 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x2304 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x2304 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12288x7168 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S768x7168 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S28x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S768x7168 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S28x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S768x7168 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S768x7168 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S768x7168 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S28x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S768x7168 .i8 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S28x768 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2304x768 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== Proof.KI.Base.lean ====
/- The grid's branch condition, the staging and scratch buffers at a grid point, and the kernel's own scratch as one
   owned buffer: what the runs of the kernel's body are stated over. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 84 = 0 :=
  (fun t => by
    have ht : t.val < 84 := Nat.lt_of_lt_of_eq t.isLt N_0
    have e0 : (grid0.coords t 0).val = t.val / 6 % 14 := Pipeline.Grid.coords_val t 0 (by decide) rfl
    have e1 : (grid0.coords t 1).val = t.val / 1 % 6 := Pipeline.Grid.coords_val t 1 (by decide) rfl
    simp only [cond0_0, e0, e1]
    word_cmp
   : ∀ t : Fin grid0.N, cond0_0 (grid0.coords t) ↔ t.val % 84 = 0)

/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S18x56 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x2304 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2304x512 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S384x512 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S384x512 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S384x512 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S384x768 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S768x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2048x512 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S384x512 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S384x512 .i8 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S18x56 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S2x2304x512 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunB.lean ====
module

public import proofs.«01_k».proof.Proof.KI.Base

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a grid point where the branch is not taken: from the inputs' contents, the three block outputs
    at anything, the scale table at `x14` and the decoded-weight buffer at `xs`, the body ends with the pieces
    `L13 … L17` written, and the inputs as they were. The lists are found by the run. -/
noncomputable def runB (c : Dev nD) (i : grid0.Coords) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S18x56 .f32) (harg5 : arg5.IsWhole) (arg6 : Memref sig .tc .vmem S2048x2304 .fp8e5m2) (harg6 : arg6.IsWhole) (arg7 : Memref sig .tc .vmem S2304x512 .i8) (harg7 : arg7.IsWhole) (arg8 : Memref sig .tc .vmem S384x512 .i8) (harg8 : arg8.IsWhole) (arg9 : Memref sig .tc .vmem S384x512 .i8) (harg9 : arg9.IsWhole) (arg10 : Memref sig .tc .vmem S384x512 .i8) (harg10 : arg10.IsWhole) (arg11 : Memref sig .tc .vmem S384x768 .bf16) (harg11 : arg11.IsWhole) (arg12 : Memref sig .tc .vmem S768x512 .f32) (harg12 : arg12.IsWhole) (arg13 : Memref sig .tc .vmem S2048x512 .bf16) (harg13 : arg13.IsWhole) (arg14 : Memref sig .tc .vmem S384x512 .bf16) (harg14 : arg14.IsWhole) (arg15 : Memref sig .tc .vmem S384x512 .i8) (harg15 : arg15.IsWhole) (arg16 : Memref sig .tc .vmem S18x56 .f32) (harg16 : arg16.IsWhole) (arg17 : Memref sig .tc .vmem S2x2304x512 .bf16) (harg17 : arg17.IsWhole) (hc0 : ¬cond0_0 i)
    (x0 : Vec F S1 .f32) (x1 : Vec F S1 .f32) (x2 : Vec F S1 .f32) (x3 : Vec F S18x56 .f32) (x4 : Vec F S2048x2304 .fp8e5m2) (x5 : Vec F S2304x512 .i8) (x6 : Vec F S384x512 .i8) (x7 : Vec F S384x512 .i8) (x8 : Vec F S384x512 .i8) (x9 : Vec F S384x768 .bf16) (x10 : Vec F S768x512 .f32) (x14 : Vec F S18x56 .f32) (xs : Vec F S2x2304x512 .bf16) :
    Σ' (L13 : List (View.Piece (Elt F) S2048x512 .bf16)), Σ' (L14 : List (View.Piece (Elt F) S384x512 .bf16)), Σ' (L15 : List (View.Piece (Elt F) S384x512 .i8)), Σ' (L16 : List (View.Piece (Elt F) S18x56 .f32)), { L17 : List (View.Piece (Elt F) S2x2304x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare x14 ∗ owns (c : Thread nD τ) arg17 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (arg16.view.loc (c : Thread nD τ) ↦[arg16.view.set]{fullShare} arg16.view.writes (Elt F) (harg16.unread x14) L16) ∗ (arg17.view.loc (c : Thread nD τ) ↦[arg17.view.set]{fullShare} arg17.view.writes (Elt F) (harg17.unread xs) L17)) -∗ K ⟨⟩))
          ⊢ wp frame (wpE (defs₀ (F := F)) Variants.none c none) E (cc0_dx_weight_update i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_dx_weight_update_eq_skeleton]; unfold cc0_dx_weight_update_skel
    simp only [k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg16.eq_unread hf14; obtain rfl := harg17.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]; · iexact H14
    iexact HS0

end Cert.KernelIdeal.Hand

end
-- ==== Proof.KI.RunA.lean ====
module

public import proofs.«01_k».proof.Proof.KI.RunB

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a grid point where the branch is taken: from the inputs' contents, the three block outputs
    at anything, the scale table at `x14` and the decoded-weight buffer at `xs`, the body ends with the pieces
    `L13 … L17` written, and the inputs as they were. The lists are found by the run. -/
noncomputable def runA (c : Dev nD) (i : grid0.Coords) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S18x56 .f32) (harg5 : arg5.IsWhole) (arg6 : Memref sig .tc .vmem S2048x2304 .fp8e5m2) (harg6 : arg6.IsWhole) (arg7 : Memref sig .tc .vmem S2304x512 .i8) (harg7 : arg7.IsWhole) (arg8 : Memref sig .tc .vmem S384x512 .i8) (harg8 : arg8.IsWhole) (arg9 : Memref sig .tc .vmem S384x512 .i8) (harg9 : arg9.IsWhole) (arg10 : Memref sig .tc .vmem S384x512 .i8) (harg10 : arg10.IsWhole) (arg11 : Memref sig .tc .vmem S384x768 .bf16) (harg11 : arg11.IsWhole) (arg12 : Memref sig .tc .vmem S768x512 .f32) (harg12 : arg12.IsWhole) (arg13 : Memref sig .tc .vmem S2048x512 .bf16) (harg13 : arg13.IsWhole) (arg14 : Memref sig .tc .vmem S384x512 .bf16) (harg14 : arg14.IsWhole) (arg15 : Memref sig .tc .vmem S384x512 .i8) (harg15 : arg15.IsWhole) (arg16 : Memref sig .tc .vmem S18x56 .f32) (harg16 : arg16.IsWhole) (arg17 : Memref sig .tc .vmem S2x2304x512 .bf16) (harg17 : arg17.IsWhole) (hc0 : cond0_0 i)
    (x0 : Vec F S1 .f32) (x1 : Vec F S1 .f32) (x2 : Vec F S1 .f32) (x3 : Vec F S18x56 .f32) (x4 : Vec F S2048x2304 .fp8e5m2) (x5 : Vec F S2304x512 .i8) (x6 : Vec F S384x512 .i8) (x7 : Vec F S384x512 .i8) (x8 : Vec F S384x512 .i8) (x9 : Vec F S384x768 .bf16) (x10 : Vec F S768x512 .f32) (x14 : Vec F S18x56 .f32) (xs : Vec F S2x2304x512 .bf16) :
    Σ' (L13 : List (View.Piece (Elt F) S2048x512 .bf16)), Σ' (L14 : List (View.Piece (Elt F) S384x512 .bf16)), Σ' (L15 : List (View.Piece (Elt F) S384x512 .i8)), Σ' (L16 : List (View.Piece (Elt F) S18x56 .f32)), { L17 : List (View.Piece (Elt F) S2x2304x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare x14 ∗ owns (c : Thread nD τ) arg17 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (arg16.view.loc (c : Thread nD τ) ↦[arg16.view.set]{fullShare} arg16.view.writes (Elt F) (harg16.unread x14) L16) ∗ (arg17.view.loc (c : Thread nD τ) ↦[arg17.view.set]{fullShare} arg17.view.writes (Elt F) (harg17.unread xs) L17)) -∗ K ⟨⟩))
          ⊢ wp frame (wpE (defs₀ (F := F)) Variants.none c none) E (cc0_dx_weight_update i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_dx_weight_update_eq_skeleton]; unfold cc0_dx_weight_update_skel
    simp only [k0_part23_eq_skeleton, k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg16.eq_unread hf14; obtain rfl := harg17.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]; · iexact H14
    iexact HS0

end Cert.KernelIdeal.Hand

end
-- ==== Proof.KI.Pieces.lean ====
/- The pieces that the body's run writes, named once for a general tile: the twelve tiles of a step's weight blocks differ
   only in their row block `rb` and column block `cb`, so one definition serves them all, and that the run's lists are
   these pieces is by definition. -/
module

public import proofs.«01_k».proof.Proof.KI.RunA
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe
open Idealize.SL.Sem

variable {F : FTy → Type} [FloatOps F]

/-! ## Coordinates computed by the body -/

/-- The buffer that the step fills, as a number. -/
abbrev nxtW (i : grid0.Coords) : Nat := (Scalar.indexCast (Scalar.subi 1#32 (Scalar.remsi (BitVec.ofNat 32 (i 0).val) 2#32))).toNat
/-- The first row of the step's row block `rb` in the whole column block, as a number. -/
abbrev rowW (i : grid0.Coords) (rb : Fin 3) : Nat :=
  (Scalar.indexCast (Scalar.addi (Scalar.muli (BitVec.ofNat 32 (i 1).val) 384#32) (BitVec.ofNat 32 (128 * rb.val)))).toNat

theorem nxtW_eq (i : grid0.Coords) : nxtW i = 1 - (i 0).val % 2 :=
  (by decide : ∀ a : Fin 14, (Scalar.indexCast (Scalar.subi 1#32 (Scalar.remsi (BitVec.ofNat 32 a.val) 2#32))).toNat = 1 - a.val % 2) (i 0)
theorem rowW_eq (i : grid0.Coords) (rb : Fin 3) : rowW i rb = 384 * (i 1).val + 128 * rb.val :=
  (by decide : ∀ (b : Fin 6) (rb : Fin 3), (Scalar.indexCast (Scalar.addi (Scalar.muli (BitVec.ofNat 32 b.val) 384#32) (BitVec.ofNat 32 (128 * rb.val)))).toNat = 384 * b.val + 128 * rb.val) (i 1) rb

theorem off1_eq (i : grid0.Coords) : k0_off1 i = ![(i 0).val % 2, 0, 0] := by
  have := (by decide : ∀ a : Fin 14, (Scalar.indexCast (Scalar.remsi (BitVec.ofNat 32 a.val) 2#32)).toNat = a.val % 2) (i 0)
  show ![_, 0, 0] = _
  rw [this]
theorem off2_eq (i : grid0.Coords) (rb : Fin 3) (cb : Fin 4) :
    k0_off2 i (BitVec.ofNat 32 rb.val) (BitVec.ofNat 32 cb.val) = ![3 * (i 1).val + rb.val, 4 * min ((i 0).val + 1) 13 + cb.val] := by
  have h0 := (by decide : ∀ (b : Fin 6) (rb : Fin 3), (Scalar.indexCast (Scalar.addi (Scalar.muli (BitVec.ofNat 32 b.val) 3#32) (BitVec.ofNat 32 rb.val))).toNat = 3 * b.val + rb.val) (i 1) rb
  have h1 := (by decide : ∀ (a : Fin 14) (cb : Fin 4), (Scalar.indexCast (Scalar.addi (Scalar.muli (Scalar.minsi (Scalar.addi (BitVec.ofNat 32 a.val) 1#32) 13#32) 4#32) (BitVec.ofNat 32 cb.val))).toNat = 4 * min (a.val + 1) 13 + cb.val) (i 0) cb
  show ![_, _] = _
  rw [h0, h1]
theorem off4_eq (i : grid0.Coords) (rb : Fin 3) (cb : Fin 4) :
    k0_off4 i (BitVec.ofNat 32 rb.val) (BitVec.ofNat 32 cb.val) = ![3 * (i 1).val + rb.val, 4 * (i 0).val + cb.val] := by
  have h0 := (by decide : ∀ (b : Fin 6) (rb : Fin 3), (Scalar.indexCast (Scalar.addi (Scalar.muli (BitVec.ofNat 32 b.val) 3#32) (BitVec.ofNat 32 rb.val))).toNat = 3 * b.val + rb.val) (i 1) rb
  have h1 := (by decide : ∀ (a : Fin 14) (cb : Fin 4), (Scalar.indexCast (Scalar.addi (Scalar.muli (BitVec.ofNat 32 a.val) 4#32) (BitVec.ofNat 32 cb.val))).toNat = 4 * a.val + cb.val) (i 0) cb
  show ![_, _] = _
  rw [h0, h1]

/-! ## One tile -/

/-- The one index of a one-word rectangle. -/
abbrev word1 {s : Shape} {off : Fin s.rank → Nat} {size : Fin s.rank → Nat} {inb} (h : (Rect.unit (s := s) off size inb).shape.numel = 1) :
    (Rect.unit (s := s) off size inb).shape.Idx := Shape.Idx.first (h.symm ▸ Nat.one_pos)

/-- A scalar operand's word. -/
abbrev word (x : Vec F S1 .f32) : Elt F .f32 := View.ld x (Rect.unit ![0] S1.size inb_S1_S1_0) (word1 (by decide))
/-- A word of the scale table. -/
abbrev tabWord (x3 : Vec F S18x56 .f32) (off : Fin 2 → Nat) (h : ∀ a, off a + S1x1.size a ≤ S18x56.size a) : Elt F .f32 :=
  View.ld x3 (Rect.unit off S1x1.size h) (word1 numel1_S1x1)

theorem slices_cb (cb : Fin 4) : S128x512.Slices ![0, 128 * cb.val] S128x128 := by
  revert cb; decide

/-- The tile of the weight gradient. -/
abbrev tPd (x9 : Vec F S128x768 .bf16) (x10 : Vec F S768x512 .f32) (cb : Fin 4) : FVec F S128x128 .f32 :=
  extractStridedSlice S128x128 ![0, 128 * cb.val] (matmul dot_S128x768_S768x512_S128x512_1_0_0_1_n_n none x9 (truncf .bf16 x10 bitsLt_bf16_f32) (constant S128x512 .f32 0x00000000#32)) (slices_cb cb)
/-- The tile of weights, decoded. -/
abbrev tW (w : Vec F S128x128 .i8) (s : Elt F .f32) : FVec F S128x128 .f32 :=
  mulf (sitofp .f32 (extsi 32 w natLt_8_32)) (broadcast S128x128 s)
/-- The tile of stepped weights. -/
def tN (pd : FVec F S128x128 .f32) (w : FVec F S128x128 .f32) (lr wd : Elt F .f32) : FVec F S128x128 .f32 :=
  subf w (mulf (broadcast S128x128 lr) (addf (mulf (broadcast S128x128 (Scalar.ofBits .f32 0x3E800000#32)) pd) (mulf (broadcast S128x128 wd) w)))
/-- The tile's largest magnitude. -/
def tA (n : FVec F S128x128 .f32) : FVec F S1x1 .f32 :=
  broadcast S1x1 (extractAt ![0, 0, 0] (shapeCast S1x1x1 (multiReduction .maximumf [1, 2] S1 (shapeCast S1x128x128 (absf n) shapeCasts_S128x128_S1x128x128) 0xFF800000#32 reduces_S1x128x128_S1 (.inl rfl) rfl) shapeCasts_S1_S1x1x1) inpos_S1x1x1_p0_0_0)
/-- The tile's scale. -/
abbrev tS (n : FVec F S128x128 .f32) : FVec F S1x1 .f32 := k0_pay97 (tA n)
/-- The tile's rounded quotients. -/
abbrev tQ (n : FVec F S128x128 .f32) (z : Vec F S128x128 .i8) : FVec F S128x128 .f32 := k0_pay98 n (tA n) z
/-- The tile of new codes. -/
def tC (n : FVec F S128x128 .f32) (z : Vec F S128x128 .i8) : IVec S128x128 8 := fptosi 8 (tQ n z)
/-- The tile of weight steps. -/
def tStep (w n : FVec F S128x128 .f32) (z : Vec F S128x128 .i8) : FVec F S128x128 .bf16 :=
  truncf .bf16 (subf (mulf (tQ n z) (broadcastTo S128x128 (tS n) broadcasts_S1x1_S128x128)) w) bitsLt_bf16_f32

/-! ## The pieces of a step -/

theorem tile_inb (rb : Fin 3) (cb : Fin 4) : ∀ a, (![128 * rb.val, 128 * cb.val] : Fin 2 → Nat) a + S128x128.size a ≤ S384x512.size a := by
  revert rb cb; decide
abbrev tileR (rb : Fin 3) (cb : Fin 4) : Rect S384x512 := Rect.unit ![128 * rb.val, 128 * cb.val] S128x128.size (tile_inb rb cb)
theorem prow_inb (rb : Fin 3) : ∀ a, (![128 * rb.val, 0] : Fin 2 → Nat) a + S128x768.size a ≤ S384x768.size a := by
  revert rb; decide

section
variable (i : grid0.Coords) (x0 x1 x2 : Vec F S1 .f32) (x3 : Vec F S18x56 .f32) (x4 : Vec F S2048x2304 .fp8e5m2) (x5 : Vec F S2304x512 .i8)
  (x6 x7 x8 : Vec F S384x512 .i8) (x9 : Vec F S384x768 .bf16) (x10 : Vec F S768x512 .f32)

/-- The decoded tile (rb, cb) of the step's weights. -/
abbrev pW (rb : Fin 3) (cb : Fin 4) : FVec F S128x128 .f32 := tW (View.ld x7 (tileR rb cb)) (tabWord x3 _ (k0_off4_inb i rb cb))
/-- The stepped tile. -/
abbrev pN (rb : Fin 3) (cb : Fin 4) : FVec F S128x128 .f32 :=
  tN (tPd (View.ld x9 (Rect.unit ![128 * rb.val, 0] S128x768.size (prow_inb rb))) (View.ld x10 (Rect.unit ![0, 0] S768x512.size inb_S768x512_S768x512_0_0)) cb)
    (pW i x3 x7 rb cb) (word x1) (word x2)

/-- The piece of the weight steps at tile (rb, cb), -/
abbrev stepP (rb : Fin 3) (cb : Fin 4) : View.Piece (Elt F) S384x512 .bf16 :=
  ⟨tileR rb cb, tStep (pW i x3 x7 rb cb) (pN i x1 x2 x3 x7 x9 x10 rb cb) (View.ld x8 (tileR rb cb))⟩
/-- and of the new codes. -/
abbrev codeP (rb : Fin 3) (cb : Fin 4) : View.Piece (Elt F) S384x512 .i8 :=
  ⟨tileR rb cb, tC (pN i x1 x2 x3 x7 x9 x10 rb cb) (View.ld x8 (tileR rb cb))⟩

/-- Twelve tiles, the last first. -/
abbrev tiles12 {α : Type} (f : Fin 3 → Fin 4 → α) : List α :=
  [f 2 3, f 2 2, f 2 1, f 2 0, f 1 3, f 1 2, f 1 1, f 1 0, f 0 3, f 0 2, f 0 1, f 0 0]

/-! ### The scale table -/

/-- The table with one word replaced. -/
abbrev tabSel (rb : Fin 3) (cb : Fin 4) (s : FVec F S1x1 .f32) (old : FVec F S18x56 .f32) : FVec F S18x56 .f32 :=
  select (andi (cmpi .eq (iota .tc S18x56 32 [0] iota_S18x56_d0_w32) (broadcast S18x56 (Scalar.addi (Scalar.muli (BitVec.ofNat 32 (i 1).val) 3#32) (BitVec.ofNat 32 rb.val))))
      (cmpi .eq (iota .tc S18x56 32 [1] iota_S18x56_d1_w32) (broadcast S18x56 (Scalar.addi (Scalar.muli (BitVec.ofNat 32 (i 0).val) 4#32) (BitVec.ofNat 32 cb.val)))))
    (broadcastTo S18x56 (shapeCast S1x1 s shapeCasts_S1x1_S1x1) broadcasts_S1x1_S18x56) old
/-- The table after the four tiles of row block `rb`. -/
abbrev tabRow (rb : Fin 3) (old : Vec F S18x56 .f32) : FVec F S18x56 .f32 :=
  tabSel i rb 3 (tS (pN i x1 x2 x3 x7 x9 x10 rb 3)) (tabSel i rb 2 (tS (pN i x1 x2 x3 x7 x9 x10 rb 2))
    (tabSel i rb 1 (tS (pN i x1 x2 x3 x7 x9 x10 rb 1)) (tabSel i rb 0 (tS (pN i x1 x2 x3 x7 x9 x10 rb 0)) (shapeCast S18x56 old shapeCasts_S18x56_S18x56))))
/-- The table after the step. -/
abbrev tabAll (old : Vec F S18x56 .f32) : FVec F S18x56 .f32 :=
  tabRow i x1 x2 x3 x7 x9 x10 2 (tabRow i x1 x2 x3 x7 x9 x10 1 (tabRow i x1 x2 x3 x7 x9 x10 0 old))

/-! ### The decoded weights kept for the next column block -/

theorem next_inb (rb : Fin 3) (cb : Fin 4) : ∀ a, (![nxtW i, rowW i rb, 128 * cb.val] : Fin 3 → Nat) a + S1x128x128.size a ≤ S2x2304x512.size a := by
  have h0 := nxtW_eq i; have h1 := rowW_eq i rb
  have hi : (i 1).val < 6 := (i 1).isLt
  intro a
  fin_cases a
  · show nxtW i + 1 ≤ 2; omega
  · show rowW i rb + 128 ≤ 2304; omega
  · show 128 * cb.val + 128 ≤ 512; omega
/-- A decoded tile as it is kept. -/
abbrev tK (w : Vec F S128x128 .i8) (s : Elt F .f32) : FVec F S1x128x128 .bf16 :=
  shapeCast S1x128x128 (truncf .bf16 (tW w s) bitsLt_bf16_f32) shapeCasts_S128x128_S1x128x128
abbrev nextR (rb : Fin 3) (cb : Fin 4) : Rect S2x2304x512 := Rect.unit ![nxtW i, rowW i rb, 128 * cb.val] S1x128x128.size (next_inb i rb cb)
abbrev nextP (rb : Fin 3) (cb : Fin 4) : View.Piece (Elt F) S2x2304x512 .bf16 :=
  ⟨nextR i rb cb, tK (View.ld x6 (tileR rb cb)) (tabWord x3 _ (k0_off2_inb i rb cb))⟩

theorem first_inb (rb : Fin 18) (cb : Fin 4) : ∀ a, (![0, 128 * rb.val, 128 * cb.val] : Fin 3 → Nat) a + S1x128x128.size a ≤ S2x2304x512.size a := by
  revert rb cb; decide
theorem first_inb' (rb : Fin 18) (cb : Fin 4) : ∀ a, (![128 * rb.val, 128 * cb.val] : Fin 2 → Nat) a + S128x128.size a ≤ S2304x512.size a := by
  revert rb cb; decide
theorem first_tab (rb : Fin 18) (cb : Fin 4) : ∀ a, (![rb.val, cb.val] : Fin 2 → Nat) a + S1x1.size a ≤ S18x56.size a := by
  revert rb cb; decide
/-- The first column block, decoded at the first step. -/
abbrev firstP (rb : Fin 18) (cb : Fin 4) : View.Piece (Elt F) S2x2304x512 .bf16 :=
  ⟨Rect.unit ![0, 128 * rb.val, 128 * cb.val] S1x128x128.size (first_inb rb cb),
    tK (View.ld x5 (Rect.unit ![128 * rb.val, 128 * cb.val] S128x128.size (first_inb' rb cb))) (tabWord x3 _ (first_tab rb cb))⟩
abbrev firstAll : List (View.Piece (Elt F) S2x2304x512 .bf16) :=
  (List.range 72).map fun n => firstP x3 x5 (Fin.ofNat 18 ((71 - n) / 4)) (Fin.ofNat 4 ((71 - n) % 4))

/-! ### The activation gradient -/

theorem dx_inb (k : Fin 4) : ∀ a, (![512 * k.val, 0] : Fin 2 → Nat) a + S512x512.size a ≤ S2048x512.size a := by revert k; decide
theorem dy_inb (k : Fin 4) : ∀ a, (![512 * k.val, 0] : Fin 2 → Nat) a + S512x2304.size a ≤ S2048x2304.size a := by revert k; decide
/-- The rows of piece `k`, from the decoded column block `w`. -/
def tDx (x : Vec F S512x2304 .fp8e5m2) (w : Vec F S1x2304x512 .bf16) (s : Elt F .f32) : FVec F S512x512 .bf16 :=
  truncf .bf16 (mulf (broadcast S512x512 s) (matmul dot_S512x2304_S2304x512_S512x512_1_0_0_1_n_n none (extf .bf16 x bitsLt_fp8e5m2_bf16)
    (shapeCast S2304x512 w shapeCasts_S1x2304x512_S2304x512) (constant S512x512 .f32 0x00000000#32))) bitsLt_bf16_f32
abbrev dxP (k : Fin 4) (w : Vec F S2x2304x512 .bf16) : View.Piece (Elt F) S2048x512 .bf16 :=
  ⟨Rect.unit ![512 * k.val, 0] S512x512.size (dx_inb k), tDx (View.ld x4 (Rect.unit ![512 * k.val, 0] S512x2304.size (dy_inb k)))
    (View.ld w (Rect.unit (k0_off1 i) S1x2304x512.size (k0_off1_inb i))) (word x0)⟩

end

/-- The whole scale table. -/
abbrev R18 : Rect S18x56 := Rect.unit ![0, 0] S18x56.size inb_S18x56_S18x56_0_0

/-! ## The run's lists are these -/

section
variable (c : Dev nD) (i : grid0.Coords) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S18x56 .f32) (harg5 : arg5.IsWhole) (arg6 : Memref sig .tc .vmem S2048x2304 .fp8e5m2) (harg6 : arg6.IsWhole) (arg7 : Memref sig .tc .vmem S2304x512 .i8) (harg7 : arg7.IsWhole) (arg8 : Memref sig .tc .vmem S384x512 .i8) (harg8 : arg8.IsWhole) (arg9 : Memref sig .tc .vmem S384x512 .i8) (harg9 : arg9.IsWhole) (arg10 : Memref sig .tc .vmem S384x512 .i8) (harg10 : arg10.IsWhole) (arg11 : Memref sig .tc .vmem S384x768 .bf16) (harg11 : arg11.IsWhole) (arg12 : Memref sig .tc .vmem S768x512 .f32) (harg12 : arg12.IsWhole) (arg13 : Memref sig .tc .vmem S2048x512 .bf16) (harg13 : arg13.IsWhole) (arg14 : Memref sig .tc .vmem S384x512 .bf16) (harg14 : arg14.IsWhole) (arg15 : Memref sig .tc .vmem S384x512 .i8) (harg15 : arg15.IsWhole) (arg16 : Memref sig .tc .vmem S18x56 .f32) (harg16 : arg16.IsWhole) (arg17 : Memref sig .tc .vmem S2x2304x512 .bf16) (harg17 : arg17.IsWhole)
  (x0 : Vec F S1 .f32) (x1 : Vec F S1 .f32) (x2 : Vec F S1 .f32) (x3 : Vec F S18x56 .f32) (x4 : Vec F S2048x2304 .fp8e5m2) (x5 : Vec F S2304x512 .i8) (x6 : Vec F S384x512 .i8) (x7 : Vec F S384x512 .i8) (x8 : Vec F S384x512 .i8) (x9 : Vec F S384x768 .bf16) (x10 : Vec F S768x512 .f32) (x14 : Vec F S18x56 .f32) (xs : Vec F S2x2304x512 .bf16)

theorem runB_step (hc0 : ¬cond0_0 i) : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x14 xs).2.1 = tiles12 (stepP i (arg3.view.read (Elt F) (harg3.unread x1)) (arg4.view.read (Elt F) (harg4.unread x2)) (arg5.view.read (Elt F) (harg5.unread x3)) (arg9.view.read (Elt F) (harg9.unread x7)) (arg10.view.read (Elt F) (harg10.unread x8)) (arg11.view.read (Elt F) (harg11.unread x9)) (arg12.view.read (Elt F) (harg12.unread x10))) := rfl
theorem runB_code (hc0 : ¬cond0_0 i) : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x14 xs).2.2.1 = tiles12 (codeP i (arg3.view.read (Elt F) (harg3.unread x1)) (arg4.view.read (Elt F) (harg4.unread x2)) (arg5.view.read (Elt F) (harg5.unread x3)) (arg9.view.read (Elt F) (harg9.unread x7)) (arg10.view.read (Elt F) (harg10.unread x8)) (arg11.view.read (Elt F) (harg11.unread x9)) (arg12.view.read (Elt F) (harg12.unread x10))) := rfl
theorem runB_next (hc0 : ¬cond0_0 i) : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x14 xs).2.2.2.2.1 = tiles12 (nextP i (arg5.view.read (Elt F) (harg5.unread x3)) (arg8.view.read (Elt F) (harg8.unread x6))) := rfl
theorem runB_dx (hc0 : ¬cond0_0 i) : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x14 xs).1 =
    [dxP i (arg2.view.read (Elt F) (harg2.unread x0)) (arg6.view.read (Elt F) (harg6.unread x4)) 3 (arg17.view.read (Elt F) (arg17.view.writes (Elt F) (harg17.unread xs) ((tiles12 (nextP i (arg5.view.read (Elt F) (harg5.unread x3)) (arg8.view.read (Elt F) (harg8.unread x6))))))),
     dxP i (arg2.view.read (Elt F) (harg2.unread x0)) (arg6.view.read (Elt F) (harg6.unread x4)) 2 (arg17.view.read (Elt F) (arg17.view.writes (Elt F) (harg17.unread xs) (((tiles12 (nextP i (arg5.view.read (Elt F) (harg5.unread x3)) (arg8.view.read (Elt F) (harg8.unread x6)))).drop 4)))),
     dxP i (arg2.view.read (Elt F) (harg2.unread x0)) (arg6.view.read (Elt F) (harg6.unread x4)) 1 (arg17.view.read (Elt F) (arg17.view.writes (Elt F) (harg17.unread xs) (((tiles12 (nextP i (arg5.view.read (Elt F) (harg5.unread x3)) (arg8.view.read (Elt F) (harg8.unread x6)))).drop 8)))),
     dxP i (arg2.view.read (Elt F) (harg2.unread x0)) (arg6.view.read (Elt F) (harg6.unread x4)) 0 (arg17.view.read (Elt F) (arg17.view.writes (Elt F) (harg17.unread xs) (((tiles12 (nextP i (arg5.view.read (Elt F) (harg5.unread x3)) (arg8.view.read (Elt F) (harg8.unread x6)))).drop 12))))] := rfl

theorem runA_step (hc0 : cond0_0 i) : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x14 xs).2.1 = tiles12 (stepP i (arg3.view.read (Elt F) (harg3.unread x1)) (arg4.view.read (Elt F) (harg4.unread x2)) (arg5.view.read (Elt F) (harg5.unread x3)) (arg9.view.read (Elt F) (harg9.unread x7)) (arg10.view.read (Elt F) (harg10.unread x8)) (arg11.view.read (Elt F) (harg11.unread x9)) (arg12.view.read (Elt F) (harg12.unread x10))) := rfl
theorem runA_code (hc0 : cond0_0 i) : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x14 xs).2.2.1 = tiles12 (codeP i (arg3.view.read (Elt F) (harg3.unread x1)) (arg4.view.read (Elt F) (harg4.unread x2)) (arg5.view.read (Elt F) (harg5.unread x3)) (arg9.view.read (Elt F) (harg9.unread x7)) (arg10.view.read (Elt F) (harg10.unread x8)) (arg11.view.read (Elt F) (harg11.unread x9)) (arg12.view.read (Elt F) (harg12.unread x10))) := rfl
theorem runA_next (hc0 : cond0_0 i) : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x14 xs).2.2.2.2.1 = tiles12 (nextP i (arg5.view.read (Elt F) (harg5.unread x3)) (arg8.view.read (Elt F) (harg8.unread x6))) ++ firstAll (arg5.view.read (Elt F) (harg5.unread x3)) (arg7.view.read (Elt F) (harg7.unread x5)) := rfl
theorem runA_dx (hc0 : cond0_0 i) : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x14 xs).1 =
    [dxP i (arg2.view.read (Elt F) (harg2.unread x0)) (arg6.view.read (Elt F) (harg6.unread x4)) 3 (arg17.view.read (Elt F) (arg17.view.writes (Elt F) (harg17.unread xs) ((tiles12 (nextP i (arg5.view.read (Elt F) (harg5.unread x3)) (arg8.view.read (Elt F) (harg8.unread x6)))) ++ firstAll (arg5.view.read (Elt F) (harg5.unread x3)) (arg7.view.read (Elt F) (harg7.unread x5))))),
     dxP i (arg2.view.read (Elt F) (harg2.unread x0)) (arg6.view.read (Elt F) (harg6.unread x4)) 2 (arg17.view.read (Elt F) (arg17.view.writes (Elt F) (harg17.unread xs) (((tiles12 (nextP i (arg5.view.read (Elt F) (harg5.unread x3)) (arg8.view.read (Elt F) (harg8.unread x6)))).drop 4) ++ firstAll (arg5.view.read (Elt F) (harg5.unread x3)) (arg7.view.read (Elt F) (harg7.unread x5))))),
     dxP i (arg2.view.read (Elt F) (harg2.unread x0)) (arg6.view.read (Elt F) (harg6.unread x4)) 1 (arg17.view.read (Elt F) (arg17.view.writes (Elt F) (harg17.unread xs) (((tiles12 (nextP i (arg5.view.read (Elt F) (harg5.unread x3)) (arg8.view.read (Elt F) (harg8.unread x6)))).drop 8) ++ firstAll (arg5.view.read (Elt F) (harg5.unread x3)) (arg7.view.read (Elt F) (harg7.unread x5))))),
     dxP i (arg2.view.read (Elt F) (harg2.unread x0)) (arg6.view.read (Elt F) (harg6.unread x4)) 0 (arg17.view.read (Elt F) (arg17.view.writes (Elt F) (harg17.unread xs) (((tiles12 (nextP i (arg5.view.read (Elt F) (harg5.unread x3)) (arg8.view.read (Elt F) (harg8.unread x6)))).drop 12) ++ firstAll (arg5.view.read (Elt F) (harg5.unread x3)) (arg7.view.read (Elt F) (harg7.unread x5)))))] := rfl

theorem runB_tab (hc0 : ¬cond0_0 i) : ∃ L, (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x14 xs).2.2.2.1 = ⟨R18, tabAll i (arg3.view.read (Elt F) (harg3.unread x1)) (arg4.view.read (Elt F) (harg4.unread x2)) (arg5.view.read (Elt F) (harg5.unread x3)) (arg9.view.read (Elt F) (harg9.unread x7)) (arg11.view.read (Elt F) (harg11.unread x9)) (arg12.view.read (Elt F) (harg12.unread x10)) (View.ld (arg16.view.read (Elt F) (harg16.unread x14)) R18)⟩ :: L := by
  refine ⟨(⟨R18, (tabRow i (arg3.view.read (Elt F) (harg3.unread x1)) (arg4.view.read (Elt F) (harg4.unread x2)) (arg5.view.read (Elt F) (harg5.unread x3)) (arg9.view.read (Elt F) (harg9.unread x7)) (arg11.view.read (Elt F) (harg11.unread x9)) (arg12.view.read (Elt F) (harg12.unread x10)) 1 (arg16.view.readCov [⟨R18, (tabRow i (arg3.view.read (Elt F) (harg3.unread x1)) (arg4.view.read (Elt F) (harg4.unread x2)) (arg5.view.read (Elt F) (harg5.unread x3)) (arg9.view.read (Elt F) (harg9.unread x7)) (arg11.view.read (Elt F) (harg11.unread x9)) (arg12.view.read (Elt F) (harg12.unread x10)) 0 (View.ld (arg16.view.read (Elt F) (harg16.unread x14)) R18))⟩] R18.toLoadRect))⟩ :: [⟨R18, (tabRow i (arg3.view.read (Elt F) (harg3.unread x1)) (arg4.view.read (Elt F) (harg4.unread x2)) (arg5.view.read (Elt F) (harg5.unread x3)) (arg9.view.read (Elt F) (harg9.unread x7)) (arg11.view.read (Elt F) (harg11.unread x9)) (arg12.view.read (Elt F) (harg12.unread x10)) 0 (View.ld (arg16.view.read (Elt F) (harg16.unread x14)) R18))⟩]), (show (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x14 xs).2.2.2.1 = (⟨R18, (tabRow i (arg3.view.read (Elt F) (harg3.unread x1)) (arg4.view.read (Elt F) (harg4.unread x2)) (arg5.view.read (Elt F) (harg5.unread x3)) (arg9.view.read (Elt F) (harg9.unread x7)) (arg11.view.read (Elt F) (harg11.unread x9)) (arg12.view.read (Elt F) (harg12.unread x10)) 2 (arg16.view.readCov (⟨R18, (tabRow i (arg3.view.read (Elt F) (harg3.unread x1)) (arg4.view.read (Elt F) (harg4.unread x2)) (arg5.view.read (Elt F) (harg5.unread x3)) (arg9.view.read (Elt F) (harg9.unread x7)) (arg11.view.read (Elt F) (harg11.unread x9)) (arg12.view.read (Elt F) (harg12.unread x10)) 1 (arg16.view.readCov [⟨R18, (tabRow i (arg3.view.read (Elt F) (harg3.unread x1)) (arg4.view.read (Elt F) (harg4.unread x2)) (arg5.view.read (Elt F) (harg5.unread x3)) (arg9.view.read (Elt F) (harg9.unread x7)) (arg11.view.read (Elt F) (harg11.unread x9)) (arg12.view.read (Elt F) (harg12.unread x10)) 0 (View.ld (arg16.view.read (Elt F) (harg16.unread x14)) R18))⟩] R18.toLoadRect))⟩ :: [⟨R18, (tabRow i (arg3.view.read (Elt F) (harg3.unread x1)) (arg4.view.read (Elt F) (harg4.unread x2)) (arg5.view.read (Elt F) (harg5.unread x3)) (arg9.view.read (Elt F) (harg9.unread x7)) (arg11.view.read (Elt F) (harg11.unread x9)) (arg12.view.read (Elt F) (harg12.unread x10)) 0 (View.ld (arg16.view.read (Elt F) (harg16.unread x14)) R18))⟩]) R18.toLoadRect))⟩ :: (⟨R18, (tabRow i (arg3.view.read (Elt F) (harg3.unread x1)) (arg4.view.read (Elt F) (harg4.unread x2)) (arg5.view.read (Elt F) (harg5.unread x3)) (arg9.view.read (Elt F) (harg9.unread x7)) (arg11.view.read (Elt F) (harg11.unread x9)) (arg12.view.read (Elt F) (harg12.unread x10)) 1 (arg16.view.readCov [⟨R18, (tabRow i (arg3.view.read (Elt F) (harg3.unread x1)) (arg4.view.read (Elt F) (harg4.unread x2)) (arg5.view.read (Elt F) (harg5.unread x3)) (arg9.view.read (Elt F) (harg9.unread x7)) (arg11.view.read (Elt F) (harg11.unread x9)) (arg12.view.read (Elt F) (harg12.unread x10)) 0 (View.ld (arg16.view.read (Elt F) (harg16.unread x14)) R18))⟩] R18.toLoadRect))⟩ :: [⟨R18, (tabRow i (arg3.view.read (Elt F) (harg3.unread x1)) (arg4.view.read (Elt F) (harg4.unread x2)) (arg5.view.read (Elt F) (harg5.unread x3)) (arg9.view.read (Elt F) (harg9.unread x7)) (arg11.view.read (Elt F) (harg11.unread x9)) (arg12.view.read (Elt F) (harg12.unread x10)) 0 (View.ld (arg16.view.read (Elt F) (harg16.unread x14)) R18))⟩])) from rfl).trans ?_⟩
  rw [View.readCov_cons_toLoadRect, View.readCov_cons_toLoadRect]

theorem runA_tab (hc0 : cond0_0 i) : ∃ L, (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x14 xs).2.2.2.1 = ⟨R18, tabAll i (arg3.view.read (Elt F) (harg3.unread x1)) (arg4.view.read (Elt F) (harg4.unread x2)) (arg5.view.read (Elt F) (harg5.unread x3)) (arg9.view.read (Elt F) (harg9.unread x7)) (arg11.view.read (Elt F) (harg11.unread x9)) (arg12.view.read (Elt F) (harg12.unread x10)) (k0_pay1)⟩ :: L := by
  refine ⟨(⟨R18, (tabRow i (arg3.view.read (Elt F) (harg3.unread x1)) (arg4.view.read (Elt F) (harg4.unread x2)) (arg5.view.read (Elt F) (harg5.unread x3)) (arg9.view.read (Elt F) (harg9.unread x7)) (arg11.view.read (Elt F) (harg11.unread x9)) (arg12.view.read (Elt F) (harg12.unread x10)) 1 (arg16.view.readCov [⟨R18, (tabRow i (arg3.view.read (Elt F) (harg3.unread x1)) (arg4.view.read (Elt F) (harg4.unread x2)) (arg5.view.read (Elt F) (harg5.unread x3)) (arg9.view.read (Elt F) (harg9.unread x7)) (arg11.view.read (Elt F) (harg11.unread x9)) (arg12.view.read (Elt F) (harg12.unread x10)) 0 (arg16.view.readCov [⟨R18, k0_pay1⟩] R18.toLoadRect))⟩, ⟨R18, k0_pay1⟩] R18.toLoadRect))⟩ :: [⟨R18, (tabRow i (arg3.view.read (Elt F) (harg3.unread x1)) (arg4.view.read (Elt F) (harg4.unread x2)) (arg5.view.read (Elt F) (harg5.unread x3)) (arg9.view.read (Elt F) (harg9.unread x7)) (arg11.view.read (Elt F) (harg11.unread x9)) (arg12.view.read (Elt F) (harg12.unread x10)) 0 (arg16.view.readCov [⟨R18, k0_pay1⟩] R18.toLoadRect))⟩, ⟨R18, k0_pay1⟩]), (show (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x14 xs).2.2.2.1 = (⟨R18, (tabRow i (arg3.view.read (Elt F) (harg3.unread x1)) (arg4.view.read (Elt F) (harg4.unread x2)) (arg5.view.read (Elt F) (harg5.unread x3)) (arg9.view.read (Elt F) (harg9.unread x7)) (arg11.view.read (Elt F) (harg11.unread x9)) (arg12.view.read (Elt F) (harg12.unread x10)) 2 (arg16.view.readCov (⟨R18, (tabRow i (arg3.view.read (Elt F) (harg3.unread x1)) (arg4.view.read (Elt F) (harg4.unread x2)) (arg5.view.read (Elt F) (harg5.unread x3)) (arg9.view.read (Elt F) (harg9.unread x7)) (arg11.view.read (Elt F) (harg11.unread x9)) (arg12.view.read (Elt F) (harg12.unread x10)) 1 (arg16.view.readCov [⟨R18, (tabRow i (arg3.view.read (Elt F) (harg3.unread x1)) (arg4.view.read (Elt F) (harg4.unread x2)) (arg5.view.read (Elt F) (harg5.unread x3)) (arg9.view.read (Elt F) (harg9.unread x7)) (arg11.view.read (Elt F) (harg11.unread x9)) (arg12.view.read (Elt F) (harg12.unread x10)) 0 (arg16.view.readCov [⟨R18, k0_pay1⟩] R18.toLoadRect))⟩, ⟨R18, k0_pay1⟩] R18.toLoadRect))⟩ :: [⟨R18, (tabRow i (arg3.view.read (Elt F) (harg3.unread x1)) (arg4.view.read (Elt F) (harg4.unread x2)) (arg5.view.read (Elt F) (harg5.unread x3)) (arg9.view.read (Elt F) (harg9.unread x7)) (arg11.view.read (Elt F) (harg11.unread x9)) (arg12.view.read (Elt F) (harg12.unread x10)) 0 (arg16.view.readCov [⟨R18, k0_pay1⟩] R18.toLoadRect))⟩, ⟨R18, k0_pay1⟩]) R18.toLoadRect))⟩ :: (⟨R18, (tabRow i (arg3.view.read (Elt F) (harg3.unread x1)) (arg4.view.read (Elt F) (harg4.unread x2)) (arg5.view.read (Elt F) (harg5.unread x3)) (arg9.view.read (Elt F) (harg9.unread x7)) (arg11.view.read (Elt F) (harg11.unread x9)) (arg12.view.read (Elt F) (harg12.unread x10)) 1 (arg16.view.readCov [⟨R18, (tabRow i (arg3.view.read (Elt F) (harg3.unread x1)) (arg4.view.read (Elt F) (harg4.unread x2)) (arg5.view.read (Elt F) (harg5.unread x3)) (arg9.view.read (Elt F) (harg9.unread x7)) (arg11.view.read (Elt F) (harg11.unread x9)) (arg12.view.read (Elt F) (harg12.unread x10)) 0 (arg16.view.readCov [⟨R18, k0_pay1⟩] R18.toLoadRect))⟩, ⟨R18, k0_pay1⟩] R18.toLoadRect))⟩ :: [⟨R18, (tabRow i (arg3.view.read (Elt F) (harg3.unread x1)) (arg4.view.read (Elt F) (harg4.unread x2)) (arg5.view.read (Elt F) (harg5.unread x3)) (arg9.view.read (Elt F) (harg9.unread x7)) (arg11.view.read (Elt F) (harg11.unread x9)) (arg12.view.read (Elt F) (harg12.unread x10)) 0 (arg16.view.readCov [⟨R18, k0_pay1⟩] R18.toLoadRect))⟩, ⟨R18, k0_pay1⟩])) from rfl).trans ?_⟩
  rw [View.readCov_cons_toLoadRect, View.readCov_cons_toLoadRect, View.readCov_cons_toLoadRect]

end

end Cert.KernelIdeal.Hand

end
-- ==== Proof.Spec.lean ====
/- What the call computes, over the extended reals, as functions of its nine argument arrays: the weights decoded from
   their codes, the activation gradient, and the weight update with its new codes and scales. Weights are addressed by
   128x128 block: row block `R`, row `a` in it, column block `K`, column `b` in it. -/
module

public import Idealize.ShloMosaic.Lib.Pointwise

@[expose] public section

set_option maxRecDepth 16384

noncomputable section

namespace Cert.Spec

open Idealize.ShloMosaic

/-- The nine arguments. -/
structure Ins where
  dyS : Elt Ideal .f32
  lr : Elt Ideal .f32
  wd : Elt Ideal .f32
  wsc : Vec Ideal ⟨2, ![18, 56]⟩ .f32
  dy : Vec Ideal ⟨2, ![12288, 2304]⟩ .fp8e5m2
  wc : Vec Ideal ⟨2, ![2304, 7168]⟩ .i8
  nz : Vec Ideal ⟨2, ![2304, 7168]⟩ .i8
  p : Vec Ideal ⟨2, ![2304, 768]⟩ .bf16
  d : Vec Ideal ⟨2, ![768, 7168]⟩ .f32

/-- The row of block and row in the block, -/
abbrev ri (R : Fin 18) (a : Fin 128) : Fin 2304 := ⟨128 * R.val + a.val, by omega⟩
/-- the column, -/
abbrev ki (K : Fin 56) (b : Fin 128) : Fin 7168 := ⟨128 * K.val + b.val, by omega⟩
/-- and back. -/
abbrev rq (r : Fin 2304) : Fin 18 := ⟨r.val / 128, by omega⟩
abbrev rr (r : Fin 2304) : Fin 128 := ⟨r.val % 128, by omega⟩
abbrev kq (k : Fin 7168) : Fin 56 := ⟨k.val / 128, by omega⟩
abbrev kr (k : Fin 7168) : Fin 128 := ⟨k.val % 128, by omega⟩

theorem rq_ri (R : Fin 18) (a : Fin 128) : rq (ri R a) = R := Fin.ext (by show (128 * R.val + a.val) / 128 = R.val; omega)
theorem rr_ri (R : Fin 18) (a : Fin 128) : rr (ri R a) = a := Fin.ext (by show (128 * R.val + a.val) % 128 = a.val; omega)
theorem kq_ki (K : Fin 56) (b : Fin 128) : kq (ki K b) = K := Fin.ext (by show (128 * K.val + b.val) / 128 = K.val; omega)
theorem kr_ki (K : Fin 56) (b : Fin 128) : kr (ki K b) = b := Fin.ext (by show (128 * K.val + b.val) % 128 = b.val; omega)
theorem ri_rq (r : Fin 2304) : ri (rq r) (rr r) = r := Fin.ext (by show 128 * (r.val / 128) + r.val % 128 = r.val; omega)
theorem ki_kq (k : Fin 7168) : ki (kq k) (kr k) = k := Fin.ext (by show 128 * (k.val / 128) + k.val % 128 = k.val; omega)

variable (S : Ins)

/-- The decoded weight. -/
def Wt (R : Fin 18) (a : Fin 128) (K : Fin 56) (b : Fin 128) : EReal :=
  FloatOps.sitofp (F := Ideal) .f32 (BitVec.signExtend 32 (S.wc (ix2 (ri R a) (ki K b)))) * S.wsc (ix2 R K)
/-- The same by row and column. -/
def W (r : Fin 2304) (k : Fin 7168) : EReal := Wt S (rq r) (rr r) (kq k) (kr k)
/-- The activation gradient. -/
def Dx (a : Fin 12288) (k : Fin 7168) : EReal := S.dyS * ∑ o : Fin 2304, S.dy (ix2 a o) * W S o k
/-- The stepped weight: decay, and a quarter of the projected update, at the learning rate. -/
def Nt (R : Fin 18) (a : Fin 128) (K : Fin 56) (b : Fin 128) : EReal :=
  Wt S R a K b - S.lr * (Ideal.ofBits .f32 1048576000#32 * (∑ x : Fin 768, S.p (ix2 (ri R a) x) * S.d (ix2 x (ki K b))) + S.wd * Wt S R a K b)
/-- A block's largest magnitude. -/
def Amax (R : Fin 18) (K : Fin 56) : EReal :=
  Finset.fold max (Ideal.ofBits .f32 4286578688#32) (fun x : Fin 128 × Fin 128 => FloatOps.absf (F := Ideal) (φ := .f32) (Nt S R x.1 K x.2)) Finset.univ
/-- The block's new scale. -/
def Sc (R : Fin 18) (K : Fin 56) : EReal :=
  if 0 < Amax S R K then Ideal.div (Amax S R K) (Ideal.ofBits .f32 1123942400#32) else Ideal.ofBits .f32 989855744#32
/-- The dithered, rounded and clipped quotient. -/
def Qt (R : Fin 18) (a : Fin 128) (K : Fin 56) (b : Fin 128) : EReal :=
  min (((127#32).toInt : ℝ) : EReal) (max (((4294967169#32).toInt : ℝ) : EReal)
    (Ideal.liftRound Int.floor (Ideal.div (Nt S R a K b) (Sc S R K) +
      Ideal.div (FloatOps.sitofp (F := Ideal) .f32 (BitVec.setWidth 32 (S.nz (ix2 (ri R a) (ki K b)))) + Ideal.ofBits .f32 1056964608#32)
        (Ideal.ofBits .f32 1132462080#32))))
/-- The new code. -/
def Ct (R : Fin 18) (a : Fin 128) (K : Fin 56) (b : Fin 128) : BitVec 8 := FloatOps.fptosi (F := Ideal) (φ := .f32) 8 (Qt S R a K b)
/-- The decoded step. -/
def Stp (R : Fin 18) (a : Fin 128) (K : Fin 56) (b : Fin 128) : EReal := Qt S R a K b * Sc S R K - Wt S R a K b

/-- The four results. -/
def outDx : Vec Ideal ⟨2, ![12288, 7168]⟩ .bf16 := fun y => Dx S (y 0) (y 1)
def outStep : Vec Ideal ⟨2, ![2304, 7168]⟩ .bf16 := fun y => Stp S (rq (y 0)) (rr (y 0)) (kq (y 1)) (kr (y 1))
def outCode : Vec Ideal ⟨2, ![2304, 7168]⟩ .i8 := fun y => Ct S (rq (y 0)) (rr (y 0)) (kq (y 1)) (kr (y 1))
def outSc : Vec Ideal ⟨2, ![18, 56]⟩ .f32 := fun y => Sc S (y 0) (y 1)

end Cert.Spec

end
-- ==== Proof.KI.Tile.lean ====
/- The body's tiles over the extended reals, at an index. -/
module

public import proofs.«01_k».proof.Proof.KI.Pieces
public import proofs.«01_k».proof.Proof.Spec

@[expose] public section

set_option maxRecDepth 16384

noncomputable section

namespace Cert.KernelIdeal.Hand

open Cert.KernelIdeal.Gen Cert.Spec
open Idealize.ShloMosaic Idealize.ShloMosaic.TcCoe
open Idealize.SL.Sem

/-! ## Addresses -/

/-- Row `a` of tile row `rb` within the step's block; -/
abbrev tr (rb : Fin 3) (a : Fin 128) : Fin 384 := ⟨128 * rb.val + a.val, by omega⟩
/-- column `b` of tile column `cb`; -/
abbrev tc (cb : Fin 4) (b : Fin 128) : Fin 512 := ⟨128 * cb.val + b.val, by omega⟩
/-- the row block of tile row `rb` at the step; -/
abbrev RB (i : grid0.Coords) (rb : Fin 3) : Fin 18 := ⟨3 * (i 1).val + rb.val, by have : (i 1).val < 6 := (i 1).isLt; omega⟩
/-- the column block of tile column `cb`, -/
abbrev KB (i : grid0.Coords) (cb : Fin 4) : Fin 56 := ⟨4 * (i 0).val + cb.val, by have : (i 0).val < 14 := (i 0).isLt; omega⟩
/-- and of the columns that come next. -/
abbrev KN (i : grid0.Coords) (cb : Fin 4) : Fin 56 := ⟨4 * min ((i 0).val + 1) 13 + cb.val, by omega⟩

/-- What a step's blocks hold of the arguments. -/
structure Blocks (S : Ins) (i : grid0.Coords) (x0 x1 x2 : Vec Ideal S1 .f32) (x3 : Vec Ideal S18x56 .f32) (x4 : Vec Ideal S2048x2304 .fp8e5m2)
    (x5 : Vec Ideal S2304x512 .i8) (x6 x7 x8 : Vec Ideal S384x512 .i8) (x9 : Vec Ideal S384x768 .bf16) (x10 : Vec Ideal S768x512 .f32) : Prop where
  h0 : x0 (ix1 0) = S.dyS
  h1 : x1 (ix1 0) = S.lr
  h2 : x2 (ix1 0) = S.wd
  h3 : ∀ R K, x3 (ix2 R K) = S.wsc (ix2 R K)
  h4 : ∀ (a : Fin 2048) (o : Fin 2304), x4 (ix2 a o) = S.dy (ix2 ⟨2048 * (i 1).val + a.val, by have : (i 1).val < 6 := (i 1).isLt; omega⟩ o)
  h5 : ∀ (R : Fin 18) a (cb : Fin 4) b, x5 (ix2 (ri R a) (tc cb b)) = S.wc (ix2 (ri R a) (ki ⟨cb.val, by omega⟩ b))
  h6 : ∀ rb a cb b, x6 (ix2 (tr rb a) (tc cb b)) = S.wc (ix2 (ri (RB i rb) a) (ki (KN i cb) b))
  h7 : ∀ rb a cb b, x7 (ix2 (tr rb a) (tc cb b)) = S.wc (ix2 (ri (RB i rb) a) (ki (KB i cb) b))
  h8 : ∀ rb a cb b, x8 (ix2 (tr rb a) (tc cb b)) = S.nz (ix2 (ri (RB i rb) a) (ki (KB i cb) b))
  h9 : ∀ rb a x, x9 (ix2 (tr rb a) x) = S.p (ix2 (ri (RB i rb) a) x)
  h10 : ∀ x cb b, x10 (ix2 x (tc cb b)) = S.d (ix2 x (ki (KB i cb) b))

/-! ## Scalars -/

theorem word_apply (x : Vec Ideal S1 .f32) : word x = x (ix1 0) :=
  View.ld_unit_apply_of x _ _ _ _ (ix1 0) fun a => by fin_cases a; rfl
theorem tabWord_apply (x3 : Vec Ideal S18x56 .f32) (off : Fin 2 → Nat) (h) (R : Fin 18) (K : Fin 56) (e : off = ![R.val, K.val]) :
    tabWord x3 off h = x3 (ix2 R K) := by
  subst e
  exact View.ld_unit_apply_of x3 _ _ _ _ (ix2 R K) fun a => by fin_cases a <;> rfl

/-! ## Tiles of variables -/

theorem tW_apply (w : Vec Ideal S128x128 .i8) (s : Elt Ideal .f32) (a b : Fin 128) :
    tW w s (ix2 a b) = FloatOps.sitofp (F := Ideal) .f32 (BitVec.signExtend 32 (w (ix2 a b))) * s := by pointwise [tW]
theorem tK_apply (w : Vec Ideal S128x128 .i8) (s : Elt Ideal .f32) (z : Fin 1) (a b : Fin 128) :
    tK w s (ix3 z a b) = FloatOps.sitofp (F := Ideal) .f32 (BitVec.signExtend 32 (w (ix2 a b))) * s := by pointwise [tK]
theorem tPd_apply (x9 : Vec Ideal S128x768 .bf16) (x10 : Vec Ideal S768x512 .f32) (cb : Fin 4) (a b : Fin 128) :
    tPd x9 x10 cb (ix2 a b) = ∑ x, x9 (ix2 a x) * x10 (ix2 x (tc cb b)) := by pointwise
theorem tN_apply (pd w : FVec Ideal S128x128 .f32) (lr wd : Elt Ideal .f32) (a b : Fin 128) :
    tN pd w lr wd (ix2 a b) = w (ix2 a b) - lr * (Ideal.ofBits .f32 1048576000#32 * pd (ix2 a b) + wd * w (ix2 a b)) := by pointwise [tN]
theorem tA_apply (n : FVec Ideal S128x128 .f32) (a b : Fin 1) :
    tA n (ix2 a b) = Finset.fold max (Ideal.ofBits .f32 4286578688#32) (fun x : Fin 128 × Fin 128 => FloatOps.absf (F := Ideal) (φ := .f32) (n (ix2 x.1 x.2))) Finset.univ := by
  pointwise [tA]
theorem tS_apply (n : FVec Ideal S128x128 .f32) (a b : Fin 1) :
    tS n (ix2 a b) = if 0 < tA n (ix2 a b) then Ideal.div (tA n (ix2 a b)) (Ideal.ofBits .f32 1123942400#32) else Ideal.ofBits .f32 989855744#32 := by
  pointwise [k0_pay97]
theorem tQ_apply (n : FVec Ideal S128x128 .f32) (z : Vec Ideal S128x128 .i8) (a b : Fin 128) :
    tQ n z (ix2 a b) = min (((127#32).toInt : ℝ) : EReal) (max (((4294967169#32).toInt : ℝ) : EReal)
      (Ideal.liftRound Int.floor (Ideal.div (n (ix2 a b)) (tS n (ix2 0 0)) +
        Ideal.div (FloatOps.sitofp (F := Ideal) .f32 (BitVec.setWidth 32 (z (ix2 a b))) + Ideal.ofBits .f32 1056964608#32) (Ideal.ofBits .f32 1132462080#32)))) := by
  pointwise [k0_pay98]
theorem tC_apply (n : FVec Ideal S128x128 .f32) (z : Vec Ideal S128x128 .i8) (a b : Fin 128) :
    tC n z (ix2 a b) = FloatOps.fptosi (F := Ideal) (φ := .f32) 8 (tQ n z (ix2 a b)) := rfl
theorem tStep_apply (w n : FVec Ideal S128x128 .f32) (z : Vec Ideal S128x128 .i8) (a b : Fin 128) :
    tStep w n z (ix2 a b) = tQ n z (ix2 a b) * tS n (ix2 0 0) - w (ix2 a b) := by pointwise [tStep]
theorem tDx_apply (x : Vec Ideal S512x2304 .fp8e5m2) (w : Vec Ideal S1x2304x512 .bf16) (s : Elt Ideal .f32) (a b : Fin 512) :
    tDx x w s (ix2 a b) = s * ∑ o : Fin 2304, x (ix2 a o) * w (ix3 0 o b) := by pointwise [tDx]
theorem tabSel_apply (i : grid0.Coords) (rb : Fin 3) (cb : Fin 4) (s : FVec Ideal S1x1 .f32) (old : FVec Ideal S18x56 .f32) (R : Fin 18) (K : Fin 56) :
    tabSel i rb cb s old (ix2 R K) = if R = RB i rb ∧ K = KB i cb then s (ix2 0 0) else old (ix2 R K) := by
  pointwise
  have e0 := (by decide : ∀ (a : Fin 6) (rb : Fin 3) (R : Fin 18),
    IntOp.cmpi .eq (BitVec.ofNat 32 R.val) (Scalar.addi (Scalar.muli (BitVec.ofNat 32 a.val) 3#32) (BitVec.ofNat 32 rb.val)) = BitVec.ofBool (decide (R.val = 3 * a.val + rb.val))) (i 1) rb R
  have e1 := (by decide : ∀ (a : Fin 14) (cb : Fin 4) (K : Fin 56),
    IntOp.cmpi .eq (BitVec.ofNat 32 K.val) (Scalar.addi (Scalar.muli (BitVec.ofNat 32 a.val) 4#32) (BitVec.ofNat 32 cb.val)) = BitVec.ofBool (decide (K.val = 4 * a.val + cb.val))) (i 0) cb K
  rw [e0, e1]
  by_cases hR : R.val = 3 * (i 1).val + rb.val <;> by_cases hK : K.val = 4 * (i 0).val + cb.val <;>
    simp [hR, hK, Fin.ext_iff, IntOp.andi, Scalar.select]

end Cert.KernelIdeal.Hand

end
-- ==== Proof.KI.Step.lean ====
/- What a step writes to its blocks, over the extended reals: the step and code blocks are the specification's at the step's
   rows and columns, and the scale table is the old one with the step's scales put in. -/
module

public import proofs.«01_k».proof.Proof.KI.Tile

@[expose] public section

set_option maxRecDepth 16384

noncomputable section

namespace Cert.KernelIdeal.Hand

open Cert.KernelIdeal.Gen Cert.Spec
open Idealize.ShloMosaic Idealize.ShloMosaic.TcCoe
open Idealize.SL.Sem

/-! ## Lists of twelve tiles -/

theorem forall_tiles12 {α : Type} {P : α → Prop} {f : Fin 3 → Fin 4 → α} (h : ∀ rb cb, P (f rb cb)) : ∀ p ∈ tiles12 f, P p := by
  intro p hp
  simp only [tiles12, List.mem_cons, List.not_mem_nil, or_false] at hp
  rcases hp with rfl | rfl | rfl | rfl | rfl | rfl | rfl | rfl | rfl | rfl | rfl | rfl <;> exact h _ _
theorem mem_tiles12 {α : Type} (f : Fin 3 → Fin 4 → α) (rb : Fin 3) (cb : Fin 4) : f rb cb ∈ tiles12 f := by
  fin_cases rb <;> fin_cases cb <;> simp [tiles12]
theorem exists_tile (y : S384x512.Idx) : ∃ (rb : Fin 3) (cb : Fin 4), y ∈ (tileR rb cb).set := by
  have h0 : (y 0).val < 384 := (y 0).isLt
  have h1 : (y 1).val < 512 := (y 1).isLt
  refine ⟨⟨(y 0).val / 128, by omega⟩, ⟨(y 1).val / 128, by omega⟩, ?_⟩
  rw [Rect.mem_set_unit]
  intro a
  fin_cases a
  · show 128 * ((y 0).val / 128) ≤ (y 0).val ∧ (y 0).val < 128 * ((y 0).val / 128) + 128; omega
  · show 128 * ((y 1).val / 128) ≤ (y 1).val ∧ (y 1).val < 128 * ((y 1).val / 128) + 128; omega
theorem tileR_emb (rb : Fin 3) (cb : Fin 4) (a b : Fin 128) : (tileR rb cb).emb (ix2 a b : S128x128.Idx) = (ix2 (tr rb a) (tc cb b) : S384x512.Idx) := by
  funext x
  fin_cases x <;> refine Fin.ext ?_ <;> exact (ValueKit.rect_emb_unit_val _ _ _ _ _).trans rfl

/-- Twelve tiles that agree with one block, read back, are the block. -/
theorem read_tiles12 {e : EltTy} {κ : Kind} {sp : Space} (v : View sig κ sp S384x512 e) (f : v.ty.Contents (Elt Ideal)) (w : Fin 3 → Fin 4 → (S128x128.Idx → Elt Ideal e)) (G : S384x512.Idx → Elt Ideal e)
    (h : ∀ rb cb a b, w rb cb (ix2 a b) = G (ix2 (tr rb a) (tc cb b))) :
    v.read (Elt Ideal) (v.writes (Elt Ideal) f (tiles12 fun rb cb => ⟨tileR rb cb, w rb cb⟩)) = G := by
  funext y
  refine View.read_writes_apply_of_pieces (v := v) (f := f) G _ ?_ y ?_
  · refine forall_tiles12 fun rb cb x => ?_
    obtain ⟨a, b, rfl⟩ : ∃ (a b : Fin 128), x = (ix2 a b : S128x128.Idx) := ⟨x 0, x 1, eq_ix2 (x : S128x128.Idx)⟩
    show w rb cb (ix2 a b) = _
    rw [h]
    exact congrArg G (tileR_emb rb cb a b).symm
  · obtain ⟨rb, cb, hy⟩ := exists_tile y
    exact ⟨_, mem_tiles12 _ rb cb, hy⟩

section
variable {S : Ins} {i : grid0.Coords} {x0 x1 x2 : Vec Ideal S1 .f32} {x3 : Vec Ideal S18x56 .f32} {x4 : Vec Ideal S2048x2304 .fp8e5m2} {x5 : Vec Ideal S2304x512 .i8}
  {x6 x7 x8 : Vec Ideal S384x512 .i8} {x9 : Vec Ideal S384x768 .bf16} {x10 : Vec Ideal S768x512 .f32} (H : Blocks S i x0 x1 x2 x3 x4 x5 x6 x7 x8 x9 x10)
include H

theorem pW_apply (rb : Fin 3) (cb : Fin 4) (a b : Fin 128) : pW i x3 x7 rb cb (ix2 a b) = Wt S (RB i rb) a (KB i cb) b := by
  rw [pW, tW_apply, tabWord_apply x3 _ _ (RB i rb) (KB i cb) (off4_eq i rb cb), H.h3, Wt, ← H.h7]
  rw [View.ld_unit_apply_of x7 _ _ _ _ (ix2 (tr rb a) (tc cb b)) fun x => by fin_cases x <;> rfl]
theorem pN_apply (rb : Fin 3) (cb : Fin 4) (a b : Fin 128) : pN i x1 x2 x3 x7 x9 x10 rb cb (ix2 a b) = Nt S (RB i rb) a (KB i cb) b := by
  have e : tPd (View.ld x9 (Rect.unit ![128 * rb.val, 0] S128x768.size (prow_inb rb))) (View.ld x10 (Rect.unit ![0, 0] S768x512.size inb_S768x512_S768x512_0_0)) cb (ix2 a b)
      = ∑ x : Fin 768, S.p (ix2 (ri (RB i rb) a) x) * S.d (ix2 x (ki (KB i cb) b)) := by
    rw [tPd_apply]
    refine Finset.sum_congr rfl fun x _ => ?_
    rw [View.ld_unit_apply_of x9 _ _ _ _ (ix2 (tr rb a) x) fun x => by fin_cases x <;> simp,
      View.ld_unit_apply_of x10 _ _ _ _ (ix2 x (tc cb b)) fun x => by fin_cases x <;> simp, H.h9, H.h10]
  rw [pN, tN_apply, e, pW_apply H, word_apply, word_apply, H.h1, H.h2, Nt]
theorem tA_pN (rb : Fin 3) (cb : Fin 4) (a b : Fin 1) : tA (pN i x1 x2 x3 x7 x9 x10 rb cb) (ix2 a b) = Amax S (RB i rb) (KB i cb) := by
  rw [tA_apply, Amax]
  simp only [pN_apply H]
theorem tS_pN (rb : Fin 3) (cb : Fin 4) (a b : Fin 1) : tS (pN i x1 x2 x3 x7 x9 x10 rb cb) (ix2 a b) = Sc S (RB i rb) (KB i cb) := by
  rw [tS_apply, tA_pN H, Sc]
theorem tQ_pN (rb : Fin 3) (cb : Fin 4) (a b : Fin 128) :
    tQ (pN i x1 x2 x3 x7 x9 x10 rb cb) (View.ld x8 (tileR rb cb)) (ix2 a b) = Qt S (RB i rb) a (KB i cb) b := by
  rw [tQ_apply, tS_pN H, pN_apply H, Qt, ← H.h8]
  rw [View.ld_unit_apply_of x8 _ _ _ _ (ix2 (tr rb a) (tc cb b)) fun x => by fin_cases x <;> rfl]

/-! ## The step's blocks -/

/-- Row `a` of the step's block in the whole array, -/
abbrev gR (i : grid0.Coords) (a : Fin 384) : Fin 2304 := ⟨384 * (i 1).val + a.val, by have : (i 1).val < 6 := (i 1).isLt; omega⟩
/-- and column `b`. -/
abbrev gK (i : grid0.Coords) (b : Fin 512) : Fin 7168 := ⟨512 * (i 0).val + b.val, by have : (i 0).val < 14 := (i 0).isLt; omega⟩
omit H in
theorem gR_tr (i : grid0.Coords) (rb : Fin 3) (a : Fin 128) : gR i (tr rb a) = ri (RB i rb) a :=
  Fin.ext (by show 384 * (i 1).val + (128 * rb.val + a.val) = 128 * (3 * (i 1).val + rb.val) + a.val; omega)
omit H in
theorem gK_tc (i : grid0.Coords) (cb : Fin 4) (b : Fin 128) : gK i (tc cb b) = ki (KB i cb) b :=
  Fin.ext (by show 512 * (i 0).val + (128 * cb.val + b.val) = 128 * (4 * (i 0).val + cb.val) + b.val; omega)

/-- The step's block of the weight steps, -/
def stepBlk (S : Ins) (i : grid0.Coords) : Vec Ideal S384x512 .bf16 := fun y => outStep S (ix2 (gR i (y 0)) (gK i (y 1)))
/-- and of the new codes. -/
def codeBlk (S : Ins) (i : grid0.Coords) : Vec Ideal S384x512 .i8 := fun y => outCode S (ix2 (gR i (y 0)) (gK i (y 1)))

theorem read_step {κ : Kind} {sp : Space} (v : View sig κ sp S384x512 .bf16) (f : v.ty.Contents (Elt Ideal)) :
    v.read (Elt Ideal) (v.writes (Elt Ideal) f (tiles12 (stepP i x1 x2 x3 x7 x8 x9 x10))) = stepBlk S i := by
  refine read_tiles12 v f (fun rb cb => tStep (pW i x3 x7 rb cb) (pN i x1 x2 x3 x7 x9 x10 rb cb) (View.ld x8 (tileR rb cb))) _ fun rb cb a b => ?_
  rw [tStep_apply, tQ_pN H, tS_pN H, pW_apply H]
  show _ = outStep S (ix2 (gR i (tr rb a)) (gK i (tc cb b)))
  rw [gR_tr, gK_tc, outStep]
  show _ = Stp S (rq (ri _ a)) (rr (ri _ a)) (kq (ki _ b)) (kr (ki _ b))
  rw [rq_ri, rr_ri, kq_ki, kr_ki, Stp]
theorem read_code {κ : Kind} {sp : Space} (v : View sig κ sp S384x512 .i8) (f : v.ty.Contents (Elt Ideal)) :
    v.read (Elt Ideal) (v.writes (Elt Ideal) f (tiles12 (codeP i x1 x2 x3 x7 x8 x9 x10))) = codeBlk S i := by
  refine read_tiles12 v f (fun rb cb => tC (pN i x1 x2 x3 x7 x9 x10 rb cb) (View.ld x8 (tileR rb cb))) _ fun rb cb a b => ?_
  rw [tC_apply, tQ_pN H]
  show _ = outCode S (ix2 (gR i (tr rb a)) (gK i (tc cb b)))
  rw [gR_tr, gK_tc, outCode]
  show _ = Ct S (rq (ri _ a)) (rr (ri _ a)) (kq (ki _ b)) (kr (ki _ b))
  rw [rq_ri, rr_ri, kq_ki, kr_ki, Ct]

/-! ## The scale table -/

theorem tabAll_apply (old : Vec Ideal S18x56 .f32) (R : Fin 18) (K : Fin 56) :
    tabAll i x1 x2 x3 x7 x9 x10 old (ix2 R K) = if R.val / 3 = (i 1).val ∧ K.val / 4 = (i 0).val then Sc S R K else old (ix2 R K) := by
  have row : ∀ (rb : Fin 3) (o : Vec Ideal S18x56 .f32),
      tabRow i x1 x2 x3 x7 x9 x10 rb o (ix2 R K) = if R = RB i rb ∧ K.val / 4 = (i 0).val then Sc S R K else o (ix2 R K) := by
    intro rb o
    have e : shapeCast S18x56 o shapeCasts_S18x56_S18x56 (ix2 R K) = o (ix2 R K) := by pointwise
    rw [tabRow, tabSel_apply, tabSel_apply, tabSel_apply, tabSel_apply, e]
    simp only [tS_pN H]
    by_cases hR : R = RB i rb
    · subst hR
      simp only [true_and]
      by_cases hK : K.val / 4 = (i 0).val
      · rw [if_pos hK]
        obtain ⟨cb, rfl⟩ : ∃ cb, K = KB i cb := ⟨⟨K.val % 4, by omega⟩, Fin.ext (by show K.val = 4 * (i 0).val + K.val % 4; omega)⟩
        fin_cases cb <;> simp [Fin.ext_iff]
      · have hk : ∀ cb : Fin 4, K ≠ KB i cb := fun cb h => hK (by rw [h]; show (4 * (i 0).val + cb.val) / 4 = (i 0).val; omega)
        simp only [hk, if_false, hK]
    · simp only [hR, false_and, if_false]
  rw [tabAll, row, row, row]
  by_cases hK : K.val / 4 = (i 0).val
  · simp only [hK, and_true]
    by_cases hR : R.val / 3 = (i 1).val
    · rw [if_pos hR]
      obtain ⟨rb, rfl⟩ : ∃ rb, R = RB i rb := ⟨⟨R.val % 3, by omega⟩, Fin.ext (by show R.val = 3 * (i 1).val + R.val % 3; omega)⟩
      fin_cases rb <;> simp [Fin.ext_iff]
    · have hr : ∀ rb : Fin 3, R ≠ RB i rb := fun rb h => hR (by rw [h]; show (3 * (i 1).val + rb.val) / 3 = (i 1).val; omega)
      simp only [hr, if_false, hR]
  · simp only [hK, and_false, if_false]

end

end Cert.KernelIdeal.Hand

end
-- ==== Proof.KI.Kept.lean ====
/- The decoded weights kept between steps: what a step finds there, what it leaves there, and the activation gradient that it
   computes from them. -/
module

public import proofs.«01_k».proof.Proof.KI.Step

@[expose] public section

set_option maxRecDepth 16384

noncomputable section

namespace Cert.KernelIdeal.Hand

open Cert.KernelIdeal.Gen Cert.Spec
open Idealize.ShloMosaic Idealize.ShloMosaic.TcCoe
open Idealize.SL.Sem

/-- The column block that a buffer holds, or will hold, while column block `j` is worked on: its own buffer holds it, the
    other takes the columns that come next. -/
abbrev colOf (j : Fin 14) (s : Fin 2) : Nat := if s.val = j.val % 2 then j.val else min (j.val + 1) 13
theorem colOf_lt (j : Fin 14) (s : Fin 2) : colOf j s < 14 := by unfold colOf; split <;> omega

theorem colOf_own (j : Fin 14) (s : Fin 2) (h : s.val = j.val % 2) : colOf j s = j.val := if_pos h
theorem colOf_other (j : Fin 14) (s : Fin 2) (h : s.val ≠ j.val % 2) : colOf j s = min (j.val + 1) 13 := if_neg h

/-- The contents aimed at while column block `j` is worked on. -/
def kept (S : Ins) (j : Fin 14) : Vec Ideal S2x2304x512 .bf16 := fun y =>
  W S (y 1) ⟨512 * colOf j (y 0) + (y 2).val, by have := colOf_lt j (y 0); have : (y 2).val < 512 := (y 2).isLt; omega⟩

/-- What holds before the step at column block `j`, row block `n`: the column block's own buffer is whole, the other has the
    rows above. -/
def Kept (S : Ins) (j : Fin 14) (n : Nat) (d : Vec Ideal S2x2304x512 .bf16) : Prop :=
  ∀ y : S2x2304x512.Idx, ((y 0).val = j.val % 2 ∨ (y 1).val < 384 * n) → d y = kept S j y

/-- Where every piece agrees with one function, a read is that function if a piece covers the index or if the old contents agree. -/
theorem read_agree {s : Shape} {e : EltTy} {κ : Kind} {sp : Space} (v : View sig κ sp s e) (f : v.ty.Contents (Elt Ideal)) (G : s.Idx → Elt Ideal e)
    (L : List (View.Piece (Elt Ideal) s e)) (h : ∀ p ∈ L, ∀ x : p.1.shape.Idx, p.2 x = G (p.1.emb x)) (y : s.Idx)
    (hy : (∃ p ∈ L, y ∈ p.1.set) ∨ v.read (Elt Ideal) f y = G y) : v.read (Elt Ideal) (v.writes (Elt Ideal) f L) y = G y := by
  by_cases hc : ∃ p ∈ L, y ∈ p.1.set
  · exact View.read_writes_apply_of_pieces (v := v) (f := f) G L h y hc
  · rw [View.read_writes_apply_of_forall_not_mem v f y L fun p hp hm => hc ⟨p, hp, hm⟩]
    exact hy.resolve_left hc

/-- An index of a rectangle, placed. -/
theorem unit_emb_eq {s : Shape} (off size : Fin s.rank → Nat) (inb) (x : (Rect.unit off size inb).shape.Idx) (y : s.Idx)
    (h : ∀ a, (y a).val = off a + (x a).val) : (Rect.unit off size inb).emb x = y :=
  funext fun a => Fin.ext ((ValueKit.rect_emb_unit_val off size inb x a).trans (h a).symm)

section
variable {S : Ins} {i : grid0.Coords} {x0 x1 x2 : Vec Ideal S1 .f32} {x3 : Vec Ideal S18x56 .f32} {x4 : Vec Ideal S2048x2304 .fp8e5m2} {x5 : Vec Ideal S2304x512 .i8}
  {x6 x7 x8 : Vec Ideal S384x512 .i8} {x9 : Vec Ideal S384x768 .bf16} {x10 : Vec Ideal S768x512 .f32} (H : Blocks S i x0 x1 x2 x3 x4 x5 x6 x7 x8 x9 x10)
include H

theorem nextP_agree (rb : Fin 3) (cb : Fin 4) (x : (nextR i rb cb).shape.Idx) :
    (nextP i x3 x6 rb cb).2 x = kept S (i 0) ((nextR i rb cb).emb x) := by
  obtain ⟨z, a, b, rfl⟩ : ∃ (z : Fin 1) (a b : Fin 128), x = (ix3 z a b : S1x128x128.Idx) := ⟨x 0, x 1, x 2, eq_ix3 (x : S1x128x128.Idx)⟩
  show tK (View.ld x6 (tileR rb cb)) (tabWord x3 _ (k0_off2_inb i rb cb)) (ix3 z a b) = _
  rw [tK_apply, tabWord_apply x3 _ _ (RB i rb) (KN i cb) (off2_eq i rb cb), H.h3,
    View.ld_unit_apply_of x6 _ _ _ _ (ix2 (tr rb a) (tc cb b)) fun x => by fin_cases x <;> rfl, H.h6]
  have hz : z.val = 0 := by omega
  have key : ∀ x : Fin 3, ((ix3 ⟨1 - (i 0).val % 2, by omega⟩ (ri (RB i rb) a) (tc cb b) : S2x2304x512.Idx) x).val
      = (![nxtW i, rowW i rb, 128 * cb.val] : Fin 3 → Nat) x + ((ix3 z a b : S1x128x128.Idx) x).val := by
    rw [nxtW_eq, rowW_eq]
    intro x; fin_cases x <;> simp [hz]; omega
  have e : (nextR i rb cb).emb (ix3 z a b : S1x128x128.Idx) = (ix3 ⟨1 - (i 0).val % 2, by omega⟩ (ri (RB i rb) a) (tc cb b) : S2x2304x512.Idx) :=
    unit_emb_eq _ _ (next_inb i rb cb) _ _ key
  rw [e]
  show _ = W S (ri (RB i rb) a) _
  have ek : ∀ (q : 1 - (i 0).val % 2 < 2) h, (⟨512 * colOf (i 0) ⟨1 - (i 0).val % 2, q⟩ + (tc cb b).val, h⟩ : Fin 7168) = ki (KN i cb) b := by
    intro q h
    refine Fin.ext ?_
    show 512 * colOf (i 0) ⟨1 - (i 0).val % 2, by omega⟩ + (128 * cb.val + b.val) = 128 * (4 * min ((i 0).val + 1) 13 + cb.val) + b.val
    have := colOf_other (i 0) ⟨1 - (i 0).val % 2, by omega⟩ (by show 1 - (i 0).val % 2 ≠ (i 0).val % 2; omega)
    omega
  refine Eq.trans ?_ (congrArg (W S (ri (RB i rb) a)) (ek (by omega) _)).symm
  rw [W, rq_ri, rr_ri, kq_ki, kr_ki, Wt]

theorem firstP_agree (hi : (i 0).val = 0) (rb : Fin 18) (cb : Fin 4) (x : (firstP x3 x5 rb cb).1.shape.Idx) :
    (firstP x3 x5 rb cb).2 x = kept S (i 0) ((firstP x3 x5 rb cb).1.emb x) := by
  obtain ⟨z, a, b, rfl⟩ : ∃ (z : Fin 1) (a b : Fin 128), x = (ix3 z a b : S1x128x128.Idx) := ⟨x 0, x 1, x 2, eq_ix3 (x : S1x128x128.Idx)⟩
  show tK (View.ld x5 (Rect.unit ![128 * rb.val, 128 * cb.val] S128x128.size (first_inb' rb cb))) (tabWord x3 _ (first_tab rb cb)) (ix3 z a b) = _
  rw [tK_apply, tabWord_apply x3 _ _ rb ⟨cb.val, by omega⟩ rfl, H.h3,
    View.ld_unit_apply_of x5 _ _ _ _ (ix2 (ri rb a) (tc cb b)) fun x => by fin_cases x <;> rfl, H.h5]
  have hz : z.val = 0 := by omega
  have e : (firstP x3 x5 rb cb).1.emb (ix3 z a b : S1x128x128.Idx) = (ix3 0 (ri rb a) (tc cb b) : S2x2304x512.Idx) :=
    unit_emb_eq _ _ (first_inb rb cb) _ _ fun x => by fin_cases x <;> simp [hz]
  rw [e]
  show _ = W S (ri rb a) _
  have ek : ∀ h, (⟨512 * colOf (i 0) 0 + (tc cb b).val, h⟩ : Fin 7168) = ki ⟨cb.val, by omega⟩ b := by
    intro h
    refine Fin.ext ?_
    show 512 * colOf (i 0) 0 + (128 * cb.val + b.val) = 128 * cb.val + b.val
    have := colOf_own (i 0) 0 (by show 0 = (i 0).val % 2; omega)
    omega
  refine Eq.trans ?_ (congrArg (W S (ri rb a)) (ek _)).symm
  rw [W, rq_ri, rr_ri, kq_ki, kr_ki, Wt]

theorem tiles_agree : ∀ p ∈ tiles12 (nextP i x3 x6), ∀ x : p.1.shape.Idx, p.2 x = kept S (i 0) (p.1.emb x) :=
  forall_tiles12 fun rb cb x => nextP_agree H rb cb x
theorem first_agree (hi : (i 0).val = 0) : ∀ p ∈ firstAll x3 x5, ∀ x : p.1.shape.Idx, p.2 x = kept S (i 0) (p.1.emb x) := by
  intro p hp
  obtain ⟨n, _, rfl⟩ := List.mem_map.mp hp
  exact firstP_agree H hi _ _

omit H in
theorem exists_next (i : grid0.Coords) (x3 : Vec Ideal S18x56 .f32) (x6 : Vec Ideal S384x512 .i8) (y : S2x2304x512.Idx) (h0 : (y 0).val ≠ (i 0).val % 2)
    (h1 : 384 * (i 1).val ≤ (y 1).val) (h2 : (y 1).val < 384 * (i 1).val + 384) : ∃ p ∈ tiles12 (nextP i x3 x6), y ∈ p.1.set := by
  have hy0 : (y 0).val < 2 := (y 0).isLt
  have hy2 : (y 2).val < 512 := (y 2).isLt
  refine ⟨_, mem_tiles12 _ ⟨((y 1).val - 384 * (i 1).val) / 128, by omega⟩ ⟨(y 2).val / 128, by omega⟩, ?_⟩
  rw [Rect.mem_set_unit]
  intro a
  fin_cases a
  · show nxtW i ≤ (y 0).val ∧ (y 0).val < nxtW i + 1; rw [nxtW_eq]; omega
  · show rowW i _ ≤ (y 1).val ∧ (y 1).val < rowW i _ + 128; rw [rowW_eq]
    show 384 * (i 1).val + 128 * (((y 1).val - 384 * (i 1).val) / 128) ≤ (y 1).val ∧ (y 1).val < 384 * (i 1).val + 128 * (((y 1).val - 384 * (i 1).val) / 128) + 128
    omega
  · show 128 * ((y 2).val / 128) ≤ (y 2).val ∧ (y 2).val < 128 * ((y 2).val / 128) + 128; omega

omit H in
theorem exists_first (x3 : Vec Ideal S18x56 .f32) (x5 : Vec Ideal S2304x512 .i8) (y : S2x2304x512.Idx) (h0 : (y 0).val = 0) : ∃ p ∈ firstAll x3 x5, y ∈ p.1.set := by
  have hy1 : (y 1).val < 2304 := (y 1).isLt
  have hy2 : (y 2).val < 512 := (y 2).isLt
  refine ⟨_, List.mem_map.mpr ⟨71 - (4 * ((y 1).val / 128) + (y 2).val / 128), List.mem_range.mpr (by omega), rfl⟩, ?_⟩
  have e : 71 - (71 - (4 * ((y 1).val / 128) + (y 2).val / 128)) = 4 * ((y 1).val / 128) + (y 2).val / 128 := by omega
  rw [e, Rect.mem_set_unit]
  intro a
  fin_cases a
  · show 0 ≤ (y 0).val ∧ (y 0).val < 0 + 1; omega
  · show 128 * (((4 * ((y 1).val / 128) + (y 2).val / 128) / 4) % 18) ≤ (y 1).val ∧ (y 1).val < 128 * (((4 * ((y 1).val / 128) + (y 2).val / 128) / 4) % 18) + 128; omega
  · show 128 * (((4 * ((y 1).val / 128) + (y 2).val / 128) % 4) % 4) ≤ (y 2).val ∧ (y 2).val < 128 * (((4 * ((y 1).val / 128) + (y 2).val / 128) % 4) % 4) + 128; omega

/-- A step that is not the first leaves its rows of the next columns decoded. -/
theorem kept_B {κ : Kind} {sp : Space} (v : View sig κ sp S2x2304x512 .bf16) (f : v.ty.Contents (Elt Ideal)) (hf : Kept S (i 0) (i 1).val (v.read (Elt Ideal) f)) :
    Kept S (i 0) ((i 1).val + 1) (v.read (Elt Ideal) (v.writes (Elt Ideal) f (tiles12 (nextP i x3 x6)))) := by
  intro y hy
  refine read_agree v f _ _ (tiles_agree H) y ?_
  by_cases h0 : (y 0).val = (i 0).val % 2
  · exact .inr (hf y (.inl h0))
  · have h2 := hy.resolve_left h0
    by_cases h1 : (y 1).val < 384 * (i 1).val
    · exact .inr (hf y (.inr h1))
    · exact .inl (exists_next i x3 x6 y h0 (by omega) (by omega))
/-- The first step decodes the first columns as well. -/
theorem kept_A (hi : (i 0).val = 0) (hi1 : (i 1).val = 0) {κ : Kind} {sp : Space} (v : View sig κ sp S2x2304x512 .bf16) (f : v.ty.Contents (Elt Ideal)) :
    Kept S (i 0) ((i 1).val + 1) (v.read (Elt Ideal) (v.writes (Elt Ideal) f (tiles12 (nextP i x3 x6) ++ firstAll x3 x5))) := by
  intro y hy
  refine read_agree v f _ _ (fun p hp => (List.mem_append.mp hp).elim (tiles_agree H p) (first_agree H hi p)) y (.inl ?_)
  by_cases h0 : (y 0).val = (i 0).val % 2
  · obtain ⟨p, hp, hm⟩ := exists_first x3 x5 y (by omega)
    exact ⟨p, List.mem_append.mpr (.inr hp), hm⟩
  · have h2 := hy.resolve_left h0
    obtain ⟨p, hp, hm⟩ := exists_next i x3 x6 y h0 (by omega) (by omega)
    exact ⟨p, List.mem_append.mpr (.inl hp), hm⟩

/-- What the gradient reads is the column block's own buffer, whatever of the next columns is already written. -/
theorem own_B {κ : Kind} {sp : Space} (v : View sig κ sp S2x2304x512 .bf16) (f : v.ty.Contents (Elt Ideal)) (hf : Kept S (i 0) (i 1).val (v.read (Elt Ideal) f)) (n : Nat) :
    Kept S (i 0) 0 (v.read (Elt Ideal) (v.writes (Elt Ideal) f ((tiles12 (nextP i x3 x6)).drop n))) := by
  intro y hy
  refine read_agree v f _ _ (fun p hp => tiles_agree H p (List.mem_of_mem_drop hp)) y (.inr (hf y ?_))
  exact .inl (hy.resolve_right (by omega))
theorem own_A (hi : (i 0).val = 0) {κ : Kind} {sp : Space} (v : View sig κ sp S2x2304x512 .bf16) (f : v.ty.Contents (Elt Ideal)) (n : Nat) :
    Kept S (i 0) 0 (v.read (Elt Ideal) (v.writes (Elt Ideal) f ((tiles12 (nextP i x3 x6)).drop n ++ firstAll x3 x5))) := by
  intro y hy
  refine read_agree v f _ _ (fun p hp => (List.mem_append.mp hp).elim (fun hp => tiles_agree H p (List.mem_of_mem_drop hp)) (first_agree H hi p)) y (.inl ?_)
  obtain ⟨p, hp, hm⟩ := exists_first x3 x5 y (by have := hy.resolve_right (by omega); omega)
  exact ⟨p, List.mem_append.mpr (.inr hp), hm⟩

/-! ## The activation gradient -/

omit H in
/-- The step's block of the activation gradient. -/
def dxBlk (S : Ins) (i : grid0.Coords) : Vec Ideal S2048x512 .bf16 := fun y =>
  outDx S (ix2 ⟨2048 * (i 1).val + (y 0).val, by have : (i 1).val < 6 := (i 1).isLt; have : (y 0).val < 2048 := (y 0).isLt; omega⟩ (gK i (y 1)))

theorem dxP_agree (k : Fin 4) (w : Vec Ideal S2x2304x512 .bf16) (hw : Kept S (i 0) 0 w) (x : (dxP i x0 x4 k w).1.shape.Idx) :
    (dxP i x0 x4 k w).2 x = dxBlk S i ((dxP i x0 x4 k w).1.emb x) := by
  obtain ⟨a, b, rfl⟩ : ∃ (a b : Fin 512), x = (ix2 a b : S512x512.Idx) := ⟨x 0, x 1, eq_ix2 (x : S512x512.Idx)⟩
  have e : (dxP i x0 x4 k w).1.emb (ix2 a b : S512x512.Idx) = (ix2 ⟨512 * k.val + a.val, by omega⟩ b : S2048x512.Idx) := unit_emb_eq _ _ (dx_inb k) _ _ fun x => by fin_cases x <;> simp
  rw [e]
  show tDx (View.ld x4 (Rect.unit ![512 * k.val, 0] S512x2304.size (dy_inb k))) (View.ld w (Rect.unit (k0_off1 i) S1x2304x512.size (k0_off1_inb i))) (word x0) (ix2 a b) = _
  rw [tDx_apply, word_apply, H.h0]
  show _ = S.dyS * ∑ o : Fin 2304, S.dy (ix2 _ o) * W S o (gK i b)
  refine congrArg (S.dyS * ·) (Finset.sum_congr rfl fun o _ => ?_)
  rw [View.ld_unit_apply_of x4 _ _ _ _ (ix2 ⟨512 * k.val + a.val, by omega⟩ o) fun x => by fin_cases x <;> simp, H.h4]
  have key : ∀ x : Fin 3, ((ix3 ⟨(i 0).val % 2, by omega⟩ o b : S2x2304x512.Idx) x).val = (![(i 0).val % 2, 0, 0] : Fin 3 → Nat) x + ((ix3 0 o b : S1x2304x512.Idx) x).val := by
    intro x; fin_cases x <;> simp
  rw [View.ld_unit_apply_of w (k0_off1 i) S1x2304x512.size (k0_off1_inb i) (ix3 0 o b : S1x2304x512.Idx) (ix3 ⟨(i 0).val % 2, by omega⟩ o b) fun x => (key x).trans (congrArg (· + _) (congrFun (off1_eq i) x).symm)]
  rw [hw _ (.inl rfl)]
  congr 1
  show W S o _ = _
  refine congrArg (W S o) (Fin.ext ?_)
  have e : colOf (i 0) ⟨(i 0).val % 2, by omega⟩ = (i 0).val := if_pos rfl
  exact congrArg (512 * · + b.val) e

theorem read_dx {κ : Kind} {sp : Space} (v : View sig κ sp S2048x512 .bf16) (f : v.ty.Contents (Elt Ideal)) (w3 w2 w1 w0 : Vec Ideal S2x2304x512 .bf16)
    (h3 : Kept S (i 0) 0 w3) (h2 : Kept S (i 0) 0 w2) (h1 : Kept S (i 0) 0 w1) (h0 : Kept S (i 0) 0 w0) :
    v.read (Elt Ideal) (v.writes (Elt Ideal) f [dxP i x0 x4 3 w3, dxP i x0 x4 2 w2, dxP i x0 x4 1 w1, dxP i x0 x4 0 w0]) = dxBlk S i := by
  funext y
  have hy0 : (y 0).val < 2048 := (y 0).isLt
  have hy1 : (y 1).val < 512 := (y 1).isLt
  refine View.read_writes_apply_of_pieces (v := v) (f := f) (dxBlk S i) _ ?_ y ?_
  · intro p hp
    simp only [List.mem_cons, List.not_mem_nil, or_false] at hp
    rcases hp with rfl | rfl | rfl | rfl
    · exact dxP_agree H 3 w3 h3
    · exact dxP_agree H 2 w2 h2
    · exact dxP_agree H 1 w1 h1
    · exact dxP_agree H 0 w0 h0
  · have key : ∀ (k : Fin 4) (w : Vec Ideal S2x2304x512 .bf16), (y 0).val / 512 = k.val → y ∈ (dxP i x0 x4 k w).1.set := by
      intro k w hk
      rw [Rect.mem_set_unit]
      intro a
      fin_cases a
      · show 512 * k.val ≤ (y 0).val ∧ (y 0).val < 512 * k.val + 512; omega
      · show 0 ≤ (y 1).val ∧ (y 1).val < 0 + 512; omega
    have : (y 0).val / 512 = 3 ∨ (y 0).val / 512 = 2 ∨ (y 0).val / 512 = 1 ∨ (y 0).val / 512 = 0 := by omega
    rcases this with h | h | h | h
    · exact ⟨_, by simp, key 3 w3 h⟩
    · exact ⟨_, List.mem_cons_of_mem _ List.mem_cons_self, key 2 w2 h⟩
    · exact ⟨_, List.mem_cons_of_mem _ (List.mem_cons_of_mem _ List.mem_cons_self), key 1 w1 h⟩
    · exact ⟨_, List.mem_cons_of_mem _ (List.mem_cons_of_mem _ (List.mem_cons_of_mem _ List.mem_cons_self)), key 0 w0 h⟩

end

end Cert.KernelIdeal.Hand

end
-- ==== Proof.KI.Data.lean ====
/- The pipeline's proof data: what each window's buffer holds after the body at each point, and what the decoded weights kept
   between points are. -/
module

public import proofs.«01_k».proof.Proof.KI.Base
public import proofs.«01_k».proof.Proof.KI.Kept

@[expose] public section

set_option maxRecDepth 16384

noncomputable section

namespace Cert.KernelIdeal.Hand

open Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The arguments in memory. -/
def ins (c : Dev nD) : Ins where
  dyS := (m ((c : Thread nD τ).loc main_arg0) : Vec Ideal S1 .f32) (ix1 0)
  lr := (m ((c : Thread nD τ).loc main_arg1) : Vec Ideal S1 .f32) (ix1 0)
  wd := (m ((c : Thread nD τ).loc main_arg2) : Vec Ideal S1 .f32) (ix1 0)
  wsc := m ((c : Thread nD τ).loc main_arg3)
  dy := m ((c : Thread nD τ).loc main_arg4)
  wc := m ((c : Thread nD τ).loc main_arg5)
  nz := m ((c : Thread nD τ).loc main_arg6)
  p := m ((c : Thread nD τ).loc main_arg7)
  d := m ((c : Thread nD τ).loc main_arg8)

/-! ## The blocks -/

theorem coord0 (t : Fin cfg0.N) : (grid0.coords t 0).val = t.val / 6 := by
  have ht : t.val < 84 := Nat.lt_of_lt_of_eq t.isLt N_0
  have e0 : (grid0.coords t 0).val = t.val / 6 % 14 := Pipeline.Grid.coords_val t 0 (by decide) rfl
  omega
theorem coord1 (t : Fin cfg0.N) : (grid0.coords t 1).val = t.val % 6 := by
  have e1 : (grid0.coords t 1).val = t.val / 1 % 6 := Pipeline.Grid.coords_val t 1 (by decide) rfl
  omega

theorem idx4 : ∀ t : Fin cfg0.N, win0_4.index t = ![(grid0.coords t 1).val, 0] := (by decide +kernel : ∀ t : Fin grid0.N, win0_4.index t = ![(grid0.coords t 1).val, 0])
theorem idx5 : ∀ t : Fin cfg0.N, win0_5.index t = ![0, 0] := (by decide +kernel : ∀ t : Fin grid0.N, win0_5.index t = ![0, 0])
theorem idx6 : ∀ t : Fin cfg0.N, win0_6.index t = ![(grid0.coords t 1).val, min ((grid0.coords t 0).val + 1) 13] :=
  (by decide +kernel : ∀ t : Fin grid0.N, win0_6.index t = ![(grid0.coords t 1).val, min ((grid0.coords t 0).val + 1) 13])
theorem idx7 : ∀ t : Fin cfg0.N, win0_7.index t = ![(grid0.coords t 1).val, (grid0.coords t 0).val] :=
  (by decide +kernel : ∀ t : Fin grid0.N, win0_7.index t = ![(grid0.coords t 1).val, (grid0.coords t 0).val])
theorem idx8 : ∀ t : Fin cfg0.N, win0_8.index t = ![(grid0.coords t 1).val, (grid0.coords t 0).val] :=
  (by decide +kernel : ∀ t : Fin grid0.N, win0_8.index t = ![(grid0.coords t 1).val, (grid0.coords t 0).val])
theorem idx9 : ∀ t : Fin cfg0.N, win0_9.index t = ![(grid0.coords t 1).val, 0] := (by decide +kernel : ∀ t : Fin grid0.N, win0_9.index t = ![(grid0.coords t 1).val, 0])
theorem idx10 : ∀ t : Fin cfg0.N, win0_10.index t = ![0, (grid0.coords t 0).val] := (by decide +kernel : ∀ t : Fin grid0.N, win0_10.index t = ![0, (grid0.coords t 0).val])

theorem idx3 : ∀ t : Fin cfg0.N, win0_3.index t = ![0, 0] := (by decide +kernel : ∀ t : Fin grid0.N, win0_3.index t = ![0, 0])
theorem idx0 : ∀ t : Fin cfg0.N, win0_0.index t = ![0] := (by decide +kernel : ∀ t : Fin grid0.N, win0_0.index t = ![0])
theorem idx1 : ∀ t : Fin cfg0.N, win0_1.index t = ![0] := (by decide +kernel : ∀ t : Fin grid0.N, win0_1.index t = ![0])
theorem idx2 : ∀ t : Fin cfg0.N, win0_2.index t = ![0] := (by decide +kernel : ∀ t : Fin grid0.N, win0_2.index t = ![0])

/-- The blocks of a point are the arguments' at its coordinates. -/
theorem blocks (c : Dev nD) (t : Fin cfg0.N) : Blocks (ins m c) (grid0.coords t) (iblk m c 0 t) (iblk m c 1 t) (iblk m c 2 t) (iblk m c 3 t) (iblk m c 4 t)
    (iblk m c 5 t) (iblk m c 6 t) (iblk m c 7 t) (iblk m c 8 t) (iblk m c 9 t) (iblk m c 10 t) where
  h0 := by blk_ext [iblk, V, idx0 t, ins]
  h1 := by blk_ext [iblk, V, idx1 t, ins]
  h2 := by blk_ext [iblk, V, idx2 t, ins]
  h3 R K := by blk_ext [iblk, V, idx3 t, ins]
  h4 a o := by blk_ext [iblk, V, idx4 t, ins]
  h5 R a cb b := by blk_ext [iblk, V, idx5 t, ins]
  h6 rb a cb b := by blk_ext [iblk, V, idx6 t, ins]
  h7 rb a cb b := by blk_ext [iblk, V, idx7 t, ins]
  h8 rb a cb b := by blk_ext [iblk, V, idx8 t, ins]
  h9 rb a x := by blk_ext [iblk, V, idx9 t, ins]
  h10 x cb b := by blk_ext [iblk, V, idx10 t, ins]

/-! ## The proof data -/

/-- The scale table after point `n`: the scales of the blocks whose points have run, zero elsewhere. -/
def tabAt (S : Ins) (n : Nat) : Vec Ideal S18x56 .f32 := fun y => if 6 * ((y 1).val / 4) + (y 0).val / 3 ≤ n then outSc S y else 0

/-- What the kept weights are before point `n`. -/
def InvAt (S : Ins) (n : Nat) (d : Vec Ideal S2x2304x512 .bf16) : Prop :=
  ∀ (h : n < 84), n ≠ 0 → Kept S ⟨n / 6, by omega⟩ (n % 6) d

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => dxBlk (ins m c) (grid0.coords t)
    | ⟨12, _⟩ => stepBlk (ins m c) (grid0.coords t)
    | ⟨13, _⟩ => codeBlk (ins m c) (grid0.coords t)
    | ⟨14, _⟩ => tabAt (ins m c) t.val
  Φ t := iprop((∃ d, owns (c : Thread nD τ) scM0_0 fullShare d ∗ ⌜InvAt (ins m c) t.val d⌝) ∗ (∃ r, prngReg c r))
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = dxBlk (ins m c) (grid0.coords t) := by dsimp only [dats]
theorem after0_12 (c : Dev nD) (t : Fin cfg0.N) : (dats m 0 c).after 12 t = stepBlk (ins m c) (grid0.coords t) := by dsimp only [dats]
theorem after0_13 (c : Dev nD) (t : Fin cfg0.N) : (dats m 0 c).after 13 t = codeBlk (ins m c) (grid0.coords t) := by dsimp only [dats]
theorem after0_14 (c : Dev nD) (t : Fin cfg0.N) : (dats m 0 c).after 14 t = tabAt (ins m c) t.val := by dsimp only [dats]

/-- Each input's current buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
/-- The scale table's buffer, after the first point, holds what the point before left. -/
theorem before0_14 (c : Dev nD) (t : Fin cfg0.N) (ht : t.val ≠ 0) (d) : (dats m 0 c).before 14 t d = tabAt (ins m c) (t.val - 1) := by
  rw [(dats m 0 c).before_out_kept 14 rfl t ht ?_ (fun _ => rfl) (fun _ _ => rfl) d, after0_14]
  have h : ∀ t : Fin cfg0.N, t.val + 1 ≠ 84 → (cfg0.win 14).flush t = false :=
    (by decide +kernel : ∀ t : Fin grid0.N, t.val + 1 ≠ 84 → win0_14.flush t = false)
  refine h _ ?_
  have := Nat.lt_of_lt_of_eq t.isLt N_0
  show t.val - 1 + 1 ≠ 84
  omega

end Cert.KernelIdeal.Hand

end
-- ==== Proof.KI.Reads.lean ====
/- What the body's runs leave in the blocks and in the kept weights, read back. -/
module

public import proofs.«01_k».proof.Proof.KI.Kept

@[expose] public section

set_option maxRecDepth 16384

noncomputable section

namespace Cert.KernelIdeal.Hand

open Cert.KernelIdeal.Gen Cert.Spec
open Idealize.ShloMosaic Idealize.ShloMosaic.TcCoe
open Idealize.SL.Sem

/-- The whole table, written last, is what is read back; -/
theorem read_whole {κ : Kind} {sp : Space} (v : View sig κ sp S18x56 .f32) (f : v.ty.Contents (Elt Ideal)) (w : Vec Ideal S18x56 .f32) (L : List (View.Piece (Elt Ideal) S18x56 .f32)) :
    v.read (Elt Ideal) (v.writes (Elt Ideal) f (⟨R18, w⟩ :: L)) = w := by
  funext y
  have e : R18.emb y = y := unit_emb_eq _ _ inb_S18x56_S18x56_0_0 y y fun a => by fin_cases a <;> exact (Nat.zero_add _).symm
  exact (congrArg (v.read (Elt Ideal) (v.writes (Elt Ideal) f (⟨R18, w⟩ :: L))) e.symm).trans (View.read_writes_cons_emb v f R18 w L y)
/-- and a load of all of it is it. -/
theorem ld_whole (x : Vec Ideal S18x56 .f32) : View.ld x R18 = x := by
  funext y
  exact View.ld_unit_apply_of x _ _ inb_S18x56_S18x56_0_0 y y fun a => by fin_cases a <;> exact (Nat.zero_add _).symm

section
variable {S : Ins} (c : Dev nD) (i : grid0.Coords) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S18x56 .f32) (harg5 : arg5.IsWhole) (arg6 : Memref sig .tc .vmem S2048x2304 .fp8e5m2) (harg6 : arg6.IsWhole) (arg7 : Memref sig .tc .vmem S2304x512 .i8) (harg7 : arg7.IsWhole) (arg8 : Memref sig .tc .vmem S384x512 .i8) (harg8 : arg8.IsWhole) (arg9 : Memref sig .tc .vmem S384x512 .i8) (harg9 : arg9.IsWhole) (arg10 : Memref sig .tc .vmem S384x512 .i8) (harg10 : arg10.IsWhole) (arg11 : Memref sig .tc .vmem S384x768 .bf16) (harg11 : arg11.IsWhole) (arg12 : Memref sig .tc .vmem S768x512 .f32) (harg12 : arg12.IsWhole) (arg13 : Memref sig .tc .vmem S2048x512 .bf16) (harg13 : arg13.IsWhole) (arg14 : Memref sig .tc .vmem S384x512 .bf16) (harg14 : arg14.IsWhole) (arg15 : Memref sig .tc .vmem S384x512 .i8) (harg15 : arg15.IsWhole) (arg16 : Memref sig .tc .vmem S18x56 .f32) (harg16 : arg16.IsWhole) (arg17 : Memref sig .tc .vmem S2x2304x512 .bf16) (harg17 : arg17.IsWhole)
  (x0 : Vec Ideal S1 .f32) (x1 : Vec Ideal S1 .f32) (x2 : Vec Ideal S1 .f32) (x3 : Vec Ideal S18x56 .f32) (x4 : Vec Ideal S2048x2304 .fp8e5m2) (x5 : Vec Ideal S2304x512 .i8) (x6 : Vec Ideal S384x512 .i8) (x7 : Vec Ideal S384x512 .i8) (x8 : Vec Ideal S384x512 .i8) (x9 : Vec Ideal S384x768 .bf16) (x10 : Vec Ideal S768x512 .f32) (x14 : Vec Ideal S18x56 .f32) (xs : Vec Ideal S2x2304x512 .bf16)
variable (H : Blocks S i x0 x1 x2 x3 x4 x5 x6 x7 x8 x9 x10)
include H

theorem runB_read_dx (hc0 : ¬cond0_0 i) (hK : Kept S (i 0) (i 1).val xs) (f : arg13.view.ty.Contents (Elt Ideal)) :
    arg13.view.read (Elt Ideal) (arg13.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x14 xs).1) = dxBlk S i := by
  rw [runB_dx]
  simp only [harg2.read_unread, harg3.read_unread, harg4.read_unread, harg5.read_unread, harg6.read_unread, harg7.read_unread, harg8.read_unread, harg9.read_unread, harg10.read_unread, harg11.read_unread, harg12.read_unread]
  exact read_dx H arg13.view f _ _ _ _ (own_B H arg17.view _ (by rw [harg17.read_unread]; exact hK) 0) (own_B H arg17.view _ (by rw [harg17.read_unread]; exact hK) 4) (own_B H arg17.view _ (by rw [harg17.read_unread]; exact hK) 8) (own_B H arg17.view _ (by rw [harg17.read_unread]; exact hK) 12)
theorem runB_read_step (hc0 : ¬cond0_0 i) (f : arg14.view.ty.Contents (Elt Ideal)) :
    arg14.view.read (Elt Ideal) (arg14.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x14 xs).2.1) = stepBlk S i := by
  rw [runB_step]
  simp only [harg2.read_unread, harg3.read_unread, harg4.read_unread, harg5.read_unread, harg6.read_unread, harg7.read_unread, harg8.read_unread, harg9.read_unread, harg10.read_unread, harg11.read_unread, harg12.read_unread]
  exact read_step H arg14.view f
theorem runB_read_code (hc0 : ¬cond0_0 i) (f : arg15.view.ty.Contents (Elt Ideal)) :
    arg15.view.read (Elt Ideal) (arg15.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x14 xs).2.2.1) = codeBlk S i := by
  rw [runB_code]
  simp only [harg2.read_unread, harg3.read_unread, harg4.read_unread, harg5.read_unread, harg6.read_unread, harg7.read_unread, harg8.read_unread, harg9.read_unread, harg10.read_unread, harg11.read_unread, harg12.read_unread]
  exact read_code H arg15.view f
omit H in
theorem runB_read_tab (hc0 : ¬cond0_0 i) :
    arg16.view.read (Elt Ideal) (arg16.view.writes (Elt Ideal) (harg16.unread x14) (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x14 xs).2.2.2.1) = tabAll i x1 x2 x3 x7 x9 x10 x14 := by
  obtain ⟨L, hL⟩ := runB_tab (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x14 xs hc0
  rw [hL]
  simp only [harg2.read_unread, harg3.read_unread, harg4.read_unread, harg5.read_unread, harg6.read_unread, harg7.read_unread, harg8.read_unread, harg9.read_unread, harg10.read_unread, harg11.read_unread, harg12.read_unread, harg16.read_unread]
  exact read_whole arg16.view _ _ L |>.trans (by rw [ld_whole])
theorem runB_read_kept (hc0 : ¬cond0_0 i) (hK : Kept S (i 0) (i 1).val xs) :
    Kept S (i 0) ((i 1).val + 1) (arg17.view.read (Elt Ideal) (arg17.view.writes (Elt Ideal) (harg17.unread xs) (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x14 xs).2.2.2.2.1)) := by
  rw [runB_next]
  simp only [harg2.read_unread, harg3.read_unread, harg4.read_unread, harg5.read_unread, harg6.read_unread, harg7.read_unread, harg8.read_unread, harg9.read_unread, harg10.read_unread, harg11.read_unread, harg12.read_unread]
  exact kept_B H arg17.view _ (by rw [harg17.read_unread]; exact hK)

theorem runA_read_dx (hc0 : cond0_0 i) (hi : (i 0).val = 0) (hi1 : (i 1).val = 0) (f : arg13.view.ty.Contents (Elt Ideal)) :
    arg13.view.read (Elt Ideal) (arg13.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x14 xs).1) = dxBlk S i := by
  rw [runA_dx]
  simp only [harg2.read_unread, harg3.read_unread, harg4.read_unread, harg5.read_unread, harg6.read_unread, harg7.read_unread, harg8.read_unread, harg9.read_unread, harg10.read_unread, harg11.read_unread, harg12.read_unread]
  exact read_dx H arg13.view f _ _ _ _ (own_A H hi arg17.view _ 0) (own_A H hi arg17.view _ 4) (own_A H hi arg17.view _ 8) (own_A H hi arg17.view _ 12)
theorem runA_read_step (hc0 : cond0_0 i) (f : arg14.view.ty.Contents (Elt Ideal)) :
    arg14.view.read (Elt Ideal) (arg14.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x14 xs).2.1) = stepBlk S i := by
  rw [runA_step]
  simp only [harg2.read_unread, harg3.read_unread, harg4.read_unread, harg5.read_unread, harg6.read_unread, harg7.read_unread, harg8.read_unread, harg9.read_unread, harg10.read_unread, harg11.read_unread, harg12.read_unread]
  exact read_step H arg14.view f
theorem runA_read_code (hc0 : cond0_0 i) (f : arg15.view.ty.Contents (Elt Ideal)) :
    arg15.view.read (Elt Ideal) (arg15.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x14 xs).2.2.1) = codeBlk S i := by
  rw [runA_code]
  simp only [harg2.read_unread, harg3.read_unread, harg4.read_unread, harg5.read_unread, harg6.read_unread, harg7.read_unread, harg8.read_unread, harg9.read_unread, harg10.read_unread, harg11.read_unread, harg12.read_unread]
  exact read_code H arg15.view f
omit H in
theorem runA_read_tab (hc0 : cond0_0 i) :
    arg16.view.read (Elt Ideal) (arg16.view.writes (Elt Ideal) (harg16.unread x14) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x14 xs).2.2.2.1) = tabAll i x1 x2 x3 x7 x9 x10 (k0_pay1 (F := Ideal)) := by
  obtain ⟨L, hL⟩ := runA_tab (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x14 xs hc0
  rw [hL]
  simp only [harg2.read_unread, harg3.read_unread, harg4.read_unread, harg5.read_unread, harg6.read_unread, harg7.read_unread, harg8.read_unread, harg9.read_unread, harg10.read_unread, harg11.read_unread, harg12.read_unread, harg16.read_unread]
  exact read_whole arg16.view _ _ L
theorem runA_read_kept (hc0 : cond0_0 i) (hi : (i 0).val = 0) (hi1 : (i 1).val = 0) :
    Kept S (i 0) ((i 1).val + 1) (arg17.view.read (Elt Ideal) (arg17.view.writes (Elt Ideal) (harg17.unread xs) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x14 xs).2.2.2.2.1)) := by
  rw [runA_next]
  simp only [harg2.read_unread, harg3.read_unread, harg4.read_unread, harg5.read_unread, harg6.read_unread, harg7.read_unread, harg8.read_unread, harg9.read_unread, harg10.read_unread, harg11.read_unread, harg12.read_unread]
  exact kept_A H hi hi1 arg17.view _

end

end Cert.KernelIdeal.Hand

end
-- ==== Proof.KI.Body.lean ====
/- The body obligation: at every point the body takes the proof data from one point to the next. And the run of the whole
   program, with its frame. -/
module

public import proofs.«01_k».proof.Proof.KI.Base
public import proofs.«01_k».proof.Proof.KI.Data
public import proofs.«01_k».proof.Proof.KI.Reads

@[expose] public section

set_option maxRecDepth 16384

noncomputable section

namespace Cert.KernelIdeal.Hand

open Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## From one point to the next -/

theorem tab_first (S : Ins) (t : Fin cfg0.N) (ht : t.val = 0) {x0 x1 x2 x3 x4 x5 x6 x7 x8 x9 x10} (H : Blocks S (grid0.coords t) x0 x1 x2 x3 x4 x5 x6 x7 x8 x9 x10) :
    tabAll (grid0.coords t) x1 x2 x3 x7 x9 x10 (k0_pay1 (F := Ideal)) = tabAt S t.val := by
  funext y
  obtain ⟨R, K, rfl⟩ : ∃ (R : Fin 18) (K : Fin 56), y = (ix2 R K : S18x56.Idx) := ⟨y 0, y 1, eq_ix2 (y : S18x56.Idx)⟩
  have e : (k0_pay1 (F := Ideal)) (ix2 R K) = 0 := by pointwise [k0_pay1]
  rw [tabAll_apply H, coord0, coord1, e]
  show _ = if 6 * (K.val / 4) + R.val / 3 ≤ t.val then Sc S R K else 0
  refine if_congr ?_ rfl rfl
  omega
theorem tab_next (S : Ins) (t : Fin cfg0.N) (ht : t.val ≠ 0) {x0 x1 x2 x3 x4 x5 x6 x7 x8 x9 x10} (H : Blocks S (grid0.coords t) x0 x1 x2 x3 x4 x5 x6 x7 x8 x9 x10) :
    tabAll (grid0.coords t) x1 x2 x3 x7 x9 x10 (tabAt S (t.val - 1)) = tabAt S t.val := by
  funext y
  obtain ⟨R, K, rfl⟩ : ∃ (R : Fin 18) (K : Fin 56), y = (ix2 R K : S18x56.Idx) := ⟨y 0, y 1, eq_ix2 (y : S18x56.Idx)⟩
  rw [tabAll_apply H, coord0, coord1]
  show (if _ then Sc S R K else if 6 * (K.val / 4) + R.val / 3 ≤ t.val - 1 then Sc S R K else 0) = if 6 * (K.val / 4) + R.val / 3 ≤ t.val then Sc S R K else 0
  by_cases h : R.val / 3 = t.val % 6 ∧ K.val / 4 = t.val / 6
  · rw [if_pos h, if_pos (by omega)]
  · rw [if_neg h]
    refine if_congr ?_ rfl rfl
    omega

/-- What is kept after a step is what the next step needs. -/
theorem inv_succ (S : Ins) (t : Fin cfg0.N) (d : Vec Ideal S2x2304x512 .bf16) (h : Kept S (grid0.coords t 0) ((grid0.coords t 1).val + 1) d) :
    InvAt S (t.val + 1) d := by
  intro hn _ y hy
  have c0 := coord0 t
  have c1 := coord1 t
  have hy0 : (y 0).val < 2 := (y 0).isLt
  have hy1 : (y 1).val < 2304 := (y 1).isLt
  have hy' : (y 0).val = (t.val + 1) / 6 % 2 ∨ (y 1).val < 384 * ((t.val + 1) % 6) := hy
  rw [h y (by omega)]
  unfold kept
  refine congrArg (W S (y 1)) (Fin.ext ?_)
  show 512 * colOf (grid0.coords t 0) (y 0) + (y 2).val = 512 * colOf ⟨(t.val + 1) / 6, by omega⟩ (y 0) + (y 2).val
  by_cases hc : (t.val + 1) / 6 = t.val / 6
  · have : (grid0.coords t 0 : Fin 14) = ⟨(t.val + 1) / 6, by omega⟩ := Fin.ext (by show (grid0.coords t 0).val = (t.val + 1) / 6; omega)
    rw [this]
  · have e1 := colOf_other (grid0.coords t 0) (y 0) (by omega)
    have e2 := colOf_own ⟨(t.val + 1) / 6, by omega⟩ (y 0) (by show (y 0).val = (t.val + 1) / 6 % 2; omega)
    rw [e1, e2]
    show 512 * min ((grid0.coords t 0).val + 1) 13 + (y 2).val = 512 * ((t.val + 1) / 6) + (y 2).val
    omega
theorem inv_kept (S : Ins) (t : Fin cfg0.N) (ht : t.val ≠ 0) (d : Vec Ideal S2x2304x512 .bf16) (h : InvAt S t.val d) :
    Kept S (grid0.coords t 0) (grid0.coords t 1).val d := by
  have hN : t.val < 84 := lt_of_lt_of_eq t.isLt N_0
  have := h hN ht
  have e : (grid0.coords t 0 : Fin 14) = ⟨t.val / 6, (by omega : t.val / 6 < 14)⟩ := Fin.ext (coord0 t)
  rw [coord1]
  exact e ▸ this

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 3200000 in
/-- The body at any point: the inputs' buffers hold their blocks, the kept weights what the points before left; the run of the
    point's case applies, and its outputs read back are the proof data's. -/
theorem sound_body (c : Dev nD) (t : Fin cfg0.N) :
    bodyPre m c t ⊢ wp frame (wpE (defs₀ (F := Ideal)) Variants.none c none) Set.univ (bodyAt0 t) (fun _ => bodyPost m c t) := by
  have H := blocks m c t
  have hN : t.val < 84 := lt_of_lt_of_eq t.isLt N_0
  unfold bodyPre bodyPost bodyAt0
  simp only [before0_0, before0_1, before0_2, before0_3, before0_4, before0_5, before0_6, before0_7, before0_8, before0_9, before0_10]
  rw [show (dats m 0 c).Φ t.succ = iprop((∃ d, owns (c : Thread nD τ) scM0_0 fullShare d ∗ ⌜InvAt (ins m c) (t.val + 1) d⌝) ∗ (∃ r, prngReg c r)) from rfl,
    show (dats m 0 c).Φ t.castSucc = iprop((∃ d, owns (c : Thread nD τ) scM0_0 fullShare d ∗ ⌜InvAt (ins m c) t.val d⌝) ∗ (∃ r, prngReg c r)) from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  by_cases h0 : t.val % 84 = 0
  · have ht : t.val = 0 := by omega
    have hi : (grid0.coords t 0).val = 0 := by rw [coord0]; omega
    have hi1 : (grid0.coords t 1).val = 0 := by rw [coord1]; omega
    iintro ⟨⟨⟨%ds, HS0, %hinv⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runA c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 14 t d14) ds).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexact H14
    isplitl [HS0]; · iexact HS0
    iintro ⟨H0, H1, H2, H3, H4, H5, H6, H7, H8, H9, H10, ⟨%e11, H11⟩, ⟨%e12, H12⟩, ⟨%e13, H13⟩, H14, HS0⟩
    isplitl [HS0 Hg]
    · isplitl [HS0]
      · iexists _; isplitl [HS0]
        · unfold owns; iexists _; isplitr
          swap; · iexact HS0
          ipureintro; rfl
        ipureintro; exact inv_succ _ t _ (runA_read_kept c (grid0.coords t) _ _ _ _ _ _ _ _ _ _ _ _ _ _ _ _ _ _ _ _ _ _ _ _ _ _ _ _ _ _ _ _ _ _ _ _ _ _ _ _ _ _ _ _ _ H _ hi hi1)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact runA_read_dx c (grid0.coords t) _ _ _ _ _ _ _ _ _ _ _ _ _ _ _ _ _ _ _ _ _ _ _ _ _ _ _ _ _ _ _ _ _ _ _ _ _ _ _ _ _ _ _ _ _ H _ hi hi1 _
    isplitl [H12]
    · unfold owns; iexists _; isplitr
      swap; · iexact H12
      ipureintro; exact runA_read_step c (grid0.coords t) _ _ _ _ _ _ _ _ _ _ _ _ _ _ _ _ _ _ _ _ _ _ _ _ _ _ _ _ _ _ _ _ _ _ _ _ _ _ _ _ _ _ _ _ _ H _ _
    isplitl [H13]
    · unfold owns; iexists _; isplitr
      swap; · iexact H13
      ipureintro; exact runA_read_code c (grid0.coords t) _ _ _ _ _ _ _ _ _ _ _ _ _ _ _ _ _ _ _ _ _ _ _ _ _ _ _ _ _ _ _ _ _ _ _ _ _ _ _ _ _ _ _ _ _ H _ _
    unfold owns; iexists _; isplitr
    swap; · iexact H14
    ipureintro; exact (runA_read_tab c (grid0.coords t) _ _ _ _ _ _ _ _ _ _ _ _ _ _ _ _ _ _ _ _ _ _ _ _ _ _ _ _ _ _ _ _ _ _ _ _ _ _ _ _ _ _ _ _ _ _).trans (tab_first _ t ht H)
  · have ht : t.val ≠ 0 := by omega
    iintro ⟨⟨⟨%ds, HS0, %hinv⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    rw [before0_14 m c t ht]
    iapply ((runB c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (tabAt (ins m c) (t.val - 1)) ds).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexact H14
    isplitl [HS0]; · iexact HS0
    iintro ⟨H0, H1, H2, H3, H4, H5, H6, H7, H8, H9, H10, ⟨%e11, H11⟩, ⟨%e12, H12⟩, ⟨%e13, H13⟩, H14, HS0⟩
    isplitl [HS0 Hg]
    · isplitl [HS0]
      · iexists _; isplitl [HS0]
        · unfold owns; iexists _; isplitr
          swap; · iexact HS0
          ipureintro; rfl
        ipureintro; exact inv_succ _ t _ (runB_read_kept c (grid0.coords t) _ _ _ _ _ _ _ _ _ _ _ _ _ _ _ _ _ _ _ _ _ _ _ _ _ _ _ _ _ _ _ _ _ _ _ _ _ _ _ _ _ _ _ _ _ H _ (inv_kept _ t ht _ hinv))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact runB_read_dx c (grid0.coords t) _ _ _ _ _ _ _ _ _ _ _ _ _ _ _ _ _ _ _ _ _ _ _ _ _ _ _ _ _ _ _ _ _ _ _ _ _ _ _ _ _ _ _ _ _ H _ (inv_kept _ t ht _ hinv) _
    isplitl [H12]
    · unfold owns; iexists _; isplitr
      swap; · iexact H12
      ipureintro; exact runB_read_step c (grid0.coords t) _ _ _ _ _ _ _ _ _ _ _ _ _ _ _ _ _ _ _ _ _ _ _ _ _ _ _ _ _ _ _ _ _ _ _ _ _ _ _ _ _ _ _ _ _ H _ _
    isplitl [H13]
    · unfold owns; iexists _; isplitr
      swap; · iexact H13
      ipureintro; exact runB_read_code c (grid0.coords t) _ _ _ _ _ _ _ _ _ _ _ _ _ _ _ _ _ _ _ _ _ _ _ _ _ _ _ _ _ _ _ _ _ _ _ _ _ _ _ _ _ _ _ _ _ H _ _
    unfold owns; iexists _; isplitr
    swap; · iexact H14
    ipureintro; exact (runB_read_tab c (grid0.coords t) _ _ _ _ _ _ _ _ _ _ _ _ _ _ _ _ _ _ _ _ _ _ _ _ _ _ _ _ _ _ _ _ _ _ _ _ _ _ _ _ _ _ _ _ _ _).trans (tab_next _ t ht H)

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

end Cert.KernelIdeal.Hand

end
-- ==== Proof.KI.Run.lean ====
/- The run of the whole program with its frame, and what the four result arrays hold at the end: the results of the specification. -/
module

public import proofs.«01_k».proof.Proof.KI.Body

@[expose] public section

set_option maxRecDepth 16384

noncomputable section

namespace Cert.KernelIdeal.Hand

open Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

variable (ρ : Dev nD → PrngReg)

theorem hin (c : Dev nD) : Pipeline.ΦA spec0 c ⊢ (dats m 0 c).Φ 0 := by
  rw [show (dats m 0 c).Φ 0 = iprop((∃ d, owns (c : Thread nD τ) scM0_0 fullShare d ∗ ⌜InvAt (ins m c) 0 d⌝) ∗ (∃ r, prngReg c r)) from rfl, PhiA0_eq]
  iintro ⟨⟨%d, H⟩, Hg⟩
  isplitl [H]
  · iexists d; isplitl [H]; · iexact H
    ipureintro; exact fun _ h => absurd rfl h
  iexact Hg
theorem hout (c : Dev nD) : (dats m 0 c).Φ (Fin.last cfg0.N) ⊢ Pipeline.ΦA spec0 c := by
  rw [show (dats m 0 c).Φ (Fin.last cfg0.N) = iprop((∃ d, owns (c : Thread nD τ) scM0_0 fullShare d ∗ ⌜InvAt (ins m c) (Fin.last cfg0.N).val d⌝) ∗ (∃ r, prngReg c r)) from rfl, PhiA0_eq]
  iintro ⟨⟨%d, H, %h⟩, Hg⟩
  isplitl [H]; · iexists d; iexact H
  iexact Hg

-- the launch lemma's implicit arguments are found by unifying its conclusion with this one, which takes unfolding plain
-- definitions in a metavariable's type
set_option backward.isDefEq.respectTransparency.types false in
/-- The launch: every array at the end is what the proof data says, and every semaphore counter of the machine is zero. -/
theorem run_main_quiescent : θ_run defs (onTc (τ := τ) (main (F := Ideal))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_main_quiescent m ρ)

/-! ## The result arrays -/

theorem idx11 : ∀ t : Fin cfg0.N, win0_11.index t = ![(grid0.coords t 1).val, (grid0.coords t 0).val] :=
  (by decide +kernel : ∀ t : Fin grid0.N, win0_11.index t = ![(grid0.coords t 1).val, (grid0.coords t 0).val])
theorem idx12 : ∀ t : Fin cfg0.N, win0_12.index t = ![(grid0.coords t 1).val, (grid0.coords t 0).val] :=
  (by decide +kernel : ∀ t : Fin grid0.N, win0_12.index t = ![(grid0.coords t 1).val, (grid0.coords t 0).val])
theorem idx13 : ∀ t : Fin cfg0.N, win0_13.index t = ![(grid0.coords t 1).val, (grid0.coords t 0).val] :=
  (by decide +kernel : ∀ t : Fin grid0.N, win0_13.index t = ![(grid0.coords t 1).val, (grid0.coords t 0).val])

theorem arr11 (c : Dev nD) : (dats m 0 c).arrAt 11 cfg0.N = outDx (ins m c) := by
  refine (dats m 0 c).arrAt_eq_of_covers 11 _ (by decide +kernel) fun t hf y => ?_
  blk_simp
  rw [after0_11]
  refine congrArg (outDx (ins m c)) (funext fun a => Fin.ext ?_)
  fin_cases a
  · blk_simp [idx11 t]
    exact congrArg (· + (y 0).val) (Nat.mul_comm _ _)
  · blk_simp [idx11 t]
    exact congrArg (· + (y 1).val) (Nat.mul_comm _ _)
theorem arr12 (c : Dev nD) : (dats m 0 c).arrAt 12 cfg0.N = outStep (ins m c) := by
  refine (dats m 0 c).arrAt_eq_of_covers 12 _ (by decide +kernel) fun t hf y => ?_
  blk_simp
  rw [after0_12]
  refine congrArg (outStep (ins m c)) (funext fun a => Fin.ext ?_)
  fin_cases a
  · blk_simp [idx12 t]
    exact congrArg (· + (y 0).val) (Nat.mul_comm _ _)
  · blk_simp [idx12 t]
    exact congrArg (· + (y 1).val) (Nat.mul_comm _ _)
theorem arr13 (c : Dev nD) : (dats m 0 c).arrAt 13 cfg0.N = outCode (ins m c) := by
  refine (dats m 0 c).arrAt_eq_of_covers 13 _ (by decide +kernel) fun t hf y => ?_
  blk_simp
  rw [after0_13]
  refine congrArg (outCode (ins m c)) (funext fun a => Fin.ext ?_)
  fin_cases a
  · blk_simp [idx13 t]
    exact congrArg (· + (y 0).val) (Nat.mul_comm _ _)
  · blk_simp [idx13 t]
    exact congrArg (· + (y 1).val) (Nat.mul_comm _ _)
theorem arr14 (c : Dev nD) : (dats m 0 c).arrAt 14 cfg0.N = outSc (ins m c) := by
  refine (dats m 0 c).arrAt_eq_of_after_last 14 ⟨83, by decide +kernel⟩ (by decide +kernel) _ fun j => ?_
  blk_simp
  refine (congrFun (after0_14 m c ⟨83, by decide +kernel⟩) _).trans ?_
  exact if_pos (by
    show 6 * ((j 1).val / 4) + (j 0).val / 3 ≤ 83
    have : (j 0).val < 18 := (j 0).isLt
    have : (j 1).val < 56 := (j 1).isLt
    omega)

/-! ## The run -/

/-- Every argument ends as it was. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)
/-- The frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))
/-- The results, and the arguments with them. -/
theorem run_values : θ_run defs (onTc (τ := τ) (main (F := Ideal))) ⟨m, fun _ => 0, ρ⟩ (fun r => ∀ c : Dev nD,
      r.2.mem ((c.tc : Thread nD τ).loc main_v0_0) = outDx (ins m c)
      ∧ r.2.mem ((c.tc : Thread nD τ).loc main_v0_1) = outStep (ins m c)
      ∧ r.2.mem ((c.tc : Thread nD τ).loc main_v0_2) = outCode (ins m c)
      ∧ r.2.mem ((c.tc : Thread nD τ).loc main_v0_3) = outSc (ins m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h.1 c).1 11).trans (arr11 m c), ((h.1 c).1 12).trans (arr12 m c), ((h.1 c).1 13).trans (arr13 m c),
      ((h.1 c).1 14).trans (arr14 m c), h.2 c⟩)
    (θ_run_and (run_main m ρ) (unchanged m ρ))

end Cert.KernelIdeal.Hand

end
-- ==== Proof.K.Base.lean ====
/- The grid's branch condition, the staging and scratch buffers at a grid point, and the kernel's own scratch as one
   owned buffer: what the runs of the kernel's body are stated over. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 84 = 0 :=
  (fun t => by
    have ht : t.val < 84 := Nat.lt_of_lt_of_eq t.isLt N_0
    have e0 : (grid0.coords t 0).val = t.val / 6 % 14 := Pipeline.Grid.coords_val t 0 (by decide) rfl
    have e1 : (grid0.coords t 1).val = t.val / 1 % 6 := Pipeline.Grid.coords_val t 1 (by decide) rfl
    simp only [cond0_0, e0, e1]
    word_cmp
   : ∀ t : Fin grid0.N, cond0_0 (grid0.coords t) ↔ t.val % 84 = 0)

/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S18x56 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x2304 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2304x512 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S384x512 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S384x512 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S384x512 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S384x768 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S768x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2048x512 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S384x512 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S384x512 .i8 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S18x56 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S2x2304x512 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunB.lean ====
module

public import proofs.«01_k».proof.Proof.K.Base

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a grid point where the branch is not taken: from the inputs' contents, with the outputs and the
    decoded-weight buffer at anything, the body ends with the inputs as they were and the rest at something. -/
theorem runB (c : Dev nD) (i : grid0.Coords) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S18x56 .f32) (harg5 : arg5.IsWhole) (arg6 : Memref sig .tc .vmem S2048x2304 .fp8e5m2) (harg6 : arg6.IsWhole) (arg7 : Memref sig .tc .vmem S2304x512 .i8) (harg7 : arg7.IsWhole) (arg8 : Memref sig .tc .vmem S384x512 .i8) (harg8 : arg8.IsWhole) (arg9 : Memref sig .tc .vmem S384x512 .i8) (harg9 : arg9.IsWhole) (arg10 : Memref sig .tc .vmem S384x512 .i8) (harg10 : arg10.IsWhole) (arg11 : Memref sig .tc .vmem S384x768 .bf16) (harg11 : arg11.IsWhole) (arg12 : Memref sig .tc .vmem S768x512 .f32) (harg12 : arg12.IsWhole) (arg13 : Memref sig .tc .vmem S2048x512 .bf16) (harg13 : arg13.IsWhole) (arg14 : Memref sig .tc .vmem S384x512 .bf16) (harg14 : arg14.IsWhole) (arg15 : Memref sig .tc .vmem S384x512 .i8) (harg15 : arg15.IsWhole) (arg16 : Memref sig .tc .vmem S18x56 .f32) (harg16 : arg16.IsWhole) (arg17 : Memref sig .tc .vmem S2x2304x512 .bf16) (harg17 : arg17.IsWhole) (hc0 : ¬cond0_0 i)
    (x0 : Vec F S1 .f32) (x1 : Vec F S1 .f32) (x2 : Vec F S1 .f32) (x3 : Vec F S18x56 .f32) (x4 : Vec F S2048x2304 .fp8e5m2) (x5 : Vec F S2304x512 .i8) (x6 : Vec F S384x512 .i8) (x7 : Vec F S384x512 .i8) (x8 : Vec F S384x512 .i8) (x9 : Vec F S384x768 .bf16) (x10 : Vec F S768x512 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_dx_weight_update i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_dx_weight_update_eq_skeleton]; unfold cc0_dx_weight_update_skel
  simp only [k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact HS0
  ipureintro; rfl

end Cert.Kernel.Hand

end
-- ==== Proof.K.RunA.lean ====
module

public import proofs.«01_k».proof.Proof.K.RunB

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a grid point where the branch is taken: from the inputs' contents, with the outputs and the
    decoded-weight buffer at anything, the body ends with the inputs as they were and the rest at something. -/
theorem runA (c : Dev nD) (i : grid0.Coords) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S18x56 .f32) (harg5 : arg5.IsWhole) (arg6 : Memref sig .tc .vmem S2048x2304 .fp8e5m2) (harg6 : arg6.IsWhole) (arg7 : Memref sig .tc .vmem S2304x512 .i8) (harg7 : arg7.IsWhole) (arg8 : Memref sig .tc .vmem S384x512 .i8) (harg8 : arg8.IsWhole) (arg9 : Memref sig .tc .vmem S384x512 .i8) (harg9 : arg9.IsWhole) (arg10 : Memref sig .tc .vmem S384x512 .i8) (harg10 : arg10.IsWhole) (arg11 : Memref sig .tc .vmem S384x768 .bf16) (harg11 : arg11.IsWhole) (arg12 : Memref sig .tc .vmem S768x512 .f32) (harg12 : arg12.IsWhole) (arg13 : Memref sig .tc .vmem S2048x512 .bf16) (harg13 : arg13.IsWhole) (arg14 : Memref sig .tc .vmem S384x512 .bf16) (harg14 : arg14.IsWhole) (arg15 : Memref sig .tc .vmem S384x512 .i8) (harg15 : arg15.IsWhole) (arg16 : Memref sig .tc .vmem S18x56 .f32) (harg16 : arg16.IsWhole) (arg17 : Memref sig .tc .vmem S2x2304x512 .bf16) (harg17 : arg17.IsWhole) (hc0 : cond0_0 i)
    (x0 : Vec F S1 .f32) (x1 : Vec F S1 .f32) (x2 : Vec F S1 .f32) (x3 : Vec F S18x56 .f32) (x4 : Vec F S2048x2304 .fp8e5m2) (x5 : Vec F S2304x512 .i8) (x6 : Vec F S384x512 .i8) (x7 : Vec F S384x512 .i8) (x8 : Vec F S384x512 .i8) (x9 : Vec F S384x768 .bf16) (x10 : Vec F S768x512 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_dx_weight_update i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_dx_weight_update_eq_skeleton]; unfold cc0_dx_weight_update_skel
  simp only [k0_part23_eq_skeleton, k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact HS0
  ipureintro; rfl

end Cert.Kernel.Hand

end
-- ==== Proof.K.Frame.lean ====
/- The frame of the kernel at any values: @main ends, with every argument array as it was. What the kernel leaves in its
   four outputs is not followed here, nor what its decoded-weight buffer holds. -/
module

public import proofs.«01_k».proof.Proof.K.RunA
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows: nothing of what the kernel leaves in them is stated. -/
def forgets0 : Fin 15 → Bool := fun w => w.val == 11 || w.val == 12 || w.val == 13 || w.val == 14

/-- The proof data of the pipeline on core `c`: the arrays as the region finds them; after the body at a point each
    input's buffer at its block and the outputs unnamed; the invariant owns the scoped buffers and the generator register;
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q w := Pipeline.shareOf spec0 w
  owed _ := 0

/-- The arrays are as the region finds them. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

set_option maxHeartbeats 3200000 in
/-- The body at any point: the branch is taken or not, and either run applies; the invariant lends the body the
    decoded-weight buffer at some contents and takes it back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  have hN : t.val < 84 := lt_of_lt_of_eq t.isLt (show cfg0.N = 84 from N_0)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  by_cases h0 : t.val % 84 = 0
  on_goal 1 => iapply ((runA c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
  on_goal 2 => iapply ((runB c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
  all_goals
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [HS0]; · iexact HS0
    iintro ⟨H0, H1, H2, H3, H4, H5, H6, H7, H8, H9, H10, H11, H12, H13, H14, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation of the launch, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

/-- The frame from a run read relationally: an argument array is staged by an input window, and an input window never
    writes its array. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 7 rfl).trans ((hA c 7).trans (V_main_arg5 m c)),
      (Pipeline.RDat.FramePost.arr_in h c 8 rfl).trans ((hA c 8).trans (V_main_arg6 m c)),
      (Pipeline.RDat.FramePost.arr_in h c 9 rfl).trans ((hA c 9).trans (V_main_arg7 m c)),
      (Pipeline.RDat.FramePost.arr_in h c 10 rfl).trans ((hA c 10).trans (V_main_arg8 m c))⟩) h

-- the launch lemma's implicit arguments are found by unifying its conclusion with this one, which takes unfolding plain
-- definitions in a metavariable's type
set_option backward.isDefEq.respectTransparency.types false in
/-- The launch: every input array at the end is as it was, and every semaphore counter of the machine is zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Every argument ends as it was. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of_forget m ρ (fun c => (dats m 0 c).toRForget forgets0) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel.Hand

end
-- ==== Proof.RI.Pay.lean ====
/- The reference's values at an index: the results of the specification. -/
module

public import proofs.«01_k».proof.Proof.Gen.ReferenceIdeal.Value
public import proofs.«01_k».proof.Proof.Spec
public import Idealize.ShloMosaic.Lib.Pointwise
public import Idealize.ShloMosaic.Lib.Pipeline.ValueKit

@[expose] public section

set_option maxRecDepth 16384

noncomputable section

open Idealize.ShloMosaic Cert.ReferenceIdeal Cert.ReferenceIdeal.Gen Cert.Spec

namespace Cert.ReferenceIdeal.Hand

variable (S : Ins)

theorem ofs (R : Fin 18) (a : Fin 128) : (⟨R.val * 128 + a.val, by omega⟩ : Fin 2304) = ri R a := Fin.ext (by show R.val * 128 + a.val = 128 * R.val + a.val; omega)
theorem ofk (K : Fin 56) (b : Fin 128) : (⟨K.val * 128 + b.val, by omega⟩ : Fin 7168) = ki K b := Fin.ext (by show K.val * 128 + b.val = 128 * K.val + b.val; omega)

/-- A signed word and its extension are one number. -/
theorem sitofp_ext (b : BitVec 8) : (FloatOps.sitofp .f32 b : Ideal .f32) = FloatOps.sitofp .f32 (BitVec.signExtend 32 b) := by
  show (((b.toInt : ℤ) : ℝ) : EReal) = (((BitVec.signExtend 32 b).toInt : ℝ) : EReal)
  rw [BitVec.toInt_signExtend_of_le (by decide)]

theorem W_ri (R : Fin 18) (a : Fin 128) (K : Fin 56) (b : Fin 128) : W S (ri R a) (ki K b) = Wt S R a K b := by
  unfold W
  rw [rq_ri, rr_ri, kq_ki, kr_ki]

theorem pay5_apply (r : Fin 2304) (k : Fin 7168) : k0_pay5 (F := Ideal) S.wc S.wsc (ix2 r k) = W S r k := by
  pointwise [k0_pay5]
  unfold W Wt
  rw [ri_rq, ki_kq, sitofp_ext]
theorem pay6_apply (a : Fin 12288) (k : Fin 7168) : k0_pay6 (F := Ideal) S.dy S.wc S.wsc S.dyS (ix2 a k) = Dx S a k := by
  pointwise [k0_pay6]
  simp only [pay5_apply]
  rfl
theorem pay7_apply (R : Fin 18) (a : Fin 128) (K : Fin 56) (b : Fin 128) :
    k0_pay7 (F := Ideal) S.wc S.wsc S.d S.p S.lr S.wd (ix4 R a K b) = Nt S R a K b := by
  pointwise [k0_pay7]
  simp only [ofs, ofk, pay5_apply, W_ri]
  rfl

/-- The entries of the blocked array that a maximum over a block runs over. -/
theorem fiber (R : Fin 18) (K : Fin 56) (i : S18x128x56x128.Idx) :
    (reduces_S18x128x56x128_S18x56).drop i = ix2 R K ↔ ∃ x : Fin 128 × Fin 128, ix4 R x.1 K x.2 = i := by
  constructor
  · intro e
    refine ⟨(i 1, i 3), ?_⟩
    funext a; apply Fin.ext
    match a with
    | ⟨0, _⟩ => exact (congrArg Fin.val (congrFun e 0)).symm
    | ⟨1, _⟩ => rfl
    | ⟨2, _⟩ => exact (congrArg Fin.val (congrFun e 1)).symm
    | ⟨3, _⟩ => rfl
  · rintro ⟨x, rfl⟩
    funext b
    apply Fin.ext
    match b with
    | ⟨0, _⟩ => rfl
    | ⟨1, _⟩ => rfl
theorem pay8_apply (R : Fin 18) (K : Fin 56) :
    k0_pay8 (F := Ideal) S.wc S.wsc S.d S.p S.lr S.wd (ix2 R K) = Amax S R K := by
  pointwise [k0_pay8]
  rw [Finset.fold_filter_eq_fold_of_fiber _ _ (fun x : Fin 128 × Fin 128 => (ix4 R x.1 K x.2 : S18x128x56x128.Idx))
    (fun x y e => Prod.ext (congrFun e 1) (congrFun e 3)) (fiber R K)]
  simp only [pay7_apply]
  rfl
theorem pay1_of (A : FVec Ideal S18x56 .f32) (R : Fin 18) (K : Fin 56) :
    k0_pay1 (cmpf .ogt A (broadcast S18x56 (Scalar.ofBits .f32 0x00000000#32))) (divf A (broadcast S18x56 (Scalar.ofBits .f32 0x42FE0000#32))) (ix2 R K) =
      if 0 < A (ix2 R K) then Ideal.div (A (ix2 R K)) (Ideal.ofBits .f32 1123942400#32) else Ideal.ofBits .f32 989855744#32 := by
  pointwise [k0_pay1]
/-- The reference's values over the arguments: the stepped weight in blocks, -/
abbrev n31 : FVec Ideal S18x128x56x128 .f32 := k0_pay7 S.wc S.wsc S.d S.p S.lr S.wd
/-- whether a block's largest magnitude is positive, -/
abbrev n35 : IVec S18x56 1 := k0_pay9 (F := Ideal) S.wc S.wsc S.d S.p S.lr S.wd
/-- and its 127th part. -/
abbrev n37 : FVec Ideal S18x56 .f32 := k0_pay10 S.wc S.wsc S.d S.p S.lr S.wd

theorem pay1_apply (R : Fin 18) (K : Fin 56) : k0_pay1 (n35 S) (n37 S) (ix2 R K) = Sc S R K := by
  unfold n35 n37 k0_pay9 k0_pay10
  refine (pay1_of _ R K).trans ?_
  rw [pay8_apply]
  unfold Sc
  rfl

/-- A number rounded down and clipped is a whole number from −127 to 127, -/
theorem clipped_whole (x : EReal) : ∃ n : ℤ, -127 ≤ n ∧ n ≤ 127 ∧
    min (((127#32).toInt : ℝ) : EReal) (max (((4294967169#32).toInt : ℝ) : EReal) (Ideal.liftRound Int.floor x)) = ((n : ℝ) : EReal) := by
  have e1 : (127#32).toInt = 127 := by decide
  have e2 : (4294967169#32).toInt = -127 := by decide
  rw [e1, e2]
  induction x using EReal.rec with
  | bot =>
    refine ⟨-127, by norm_num, by norm_num, ?_⟩
    rw [Ideal.liftRound_bot, max_bot_right]
    exact min_eq_right (EReal.coe_le_coe_iff.mpr (by norm_num))
  | top =>
    refine ⟨127, by norm_num, by norm_num, ?_⟩
    rw [Ideal.liftRound_top, max_top_right, min_top_right]
  | coe r =>
    refine ⟨min 127 (max (-127) ⌊r⌋), by omega, by omega, ?_⟩
    rw [Ideal.liftRound_coe, ← EReal.coe_strictMono.monotone.map_max, ← EReal.coe_strictMono.monotone.map_min]
    push_cast
    rfl
/-- so it is its code's number. -/
theorem code_roundtrip (R : Fin 18) (a : Fin 128) (K : Fin 56) (b : Fin 128) :
    (FloatOps.sitofp .f32 (Ct S R a K b) : Ideal .f32) = Qt S R a K b := by
  unfold Ct Qt
  obtain ⟨n, h1, h2, e⟩ := clipped_whole (Ideal.div (Nt S R a K b) (Sc S R K) +
      Ideal.div (FloatOps.sitofp (F := Ideal) .f32 (BitVec.setWidth 32 (S.nz (ix2 (ri R a) (ki K b)))) + Ideal.ofBits .f32 1056964608#32)
        (Ideal.ofBits .f32 1132462080#32))
  rw [e]
  show (((BitVec.ofInt 8 (Ideal.toIntClamped (-(2 ^ (8 - 1) : Nat)) ((2 ^ (8 - 1) : Nat) - 1) ((n : ℝ) : EReal))).toInt : ℝ) : EReal) = _
  rw [Ideal.toIntClamped_coe, Int.floor_intCast, Int.ceil_intCast, ite_self, BitVec.toInt_ofInt,
    show max (-((2 ^ (8 - 1) : Nat) : ℤ)) (min (((2 ^ (8 - 1) : Nat) : ℤ) - 1) n) = n by norm_num; omega,
    Int.bmod_eq_of_le (by norm_num; omega) (by norm_num; omega)]

theorem pay2_of (v31 : FVec Ideal S18x128x56x128 .f32) (v35 : IVec S18x56 1) (v37 : FVec Ideal S18x56 .f32) (nz : Vec Ideal S2304x7168 .i8)
    (R : Fin 18) (a : Fin 128) (K : Fin 56) (b : Fin 128) :
    k0_pay2 v31 v35 v37 nz (ix4 R a K b) = FloatOps.fptosi (F := Ideal) (φ := .f32) 8
      (min (((127#32).toInt : ℝ) : EReal) (max (((4294967169#32).toInt : ℝ) : EReal)
        (Ideal.liftRound Int.floor (Ideal.div (v31 (ix4 R a K b)) (k0_pay1 v35 v37 (ix2 R K)) +
          Ideal.div (FloatOps.sitofp (F := Ideal) .f32 (BitVec.setWidth 32 (nz (ix2 (ri R a) (ki K b)))) + Ideal.ofBits .f32 1056964608#32)
            (Ideal.ofBits .f32 1132462080#32))))) := by
  pointwise [k0_pay2]
  simp only [ofs, ofk]
theorem pay2_apply (R : Fin 18) (a : Fin 128) (K : Fin 56) (b : Fin 128) :
    k0_pay2 (n31 S) (n35 S) (n37 S) S.nz (ix4 R a K b) = Ct S R a K b := by
  rw [pay2_of, pay1_apply, show n31 S (ix4 R a K b) = _ from pay7_apply S R a K b]
  unfold Ct Qt
  rfl

theorem pay3_of (v31 : FVec Ideal S18x128x56x128 .f32) (v35 : IVec S18x56 1) (v37 : FVec Ideal S18x56 .f32) (nz : Vec Ideal S2304x7168 .i8) (r : Fin 2304) (k : Fin 7168) :
    k0_pay3 v31 v35 v37 nz (ix2 r k) = k0_pay2 v31 v35 v37 nz (ix4 (rq r) (rr r) (kq k) (kr k)) := by
  pointwise [k0_pay3]
theorem pay4_of (v9 : FVec Ideal S2304x7168 .f32) (v31 : FVec Ideal S18x128x56x128 .f32) (v35 : IVec S18x56 1) (v37 : FVec Ideal S18x56 .f32) (nz : Vec Ideal S2304x7168 .i8)
    (r : Fin 2304) (k : Fin 7168) :
    k0_pay4 v9 v31 v35 v37 nz (ix2 r k) =
      (FloatOps.sitofp .f32 (k0_pay2 v31 v35 v37 nz (ix4 (rq r) (rr r) (kq k) (kr k))) : Ideal .f32) * k0_pay1 v35 v37 (ix2 (rq r) (kq k)) - v9 (ix2 r k) := by
  pointwise [k0_pay4]

/-! ## The four results -/

theorem step_apply (r : Fin 2304) (k : Fin 7168) :
    k0_pay4 (k0_pay5 (F := Ideal) S.wc S.wsc) (n31 S) (n35 S) (n37 S) S.nz (ix2 r k) = Stp S (rq r) (rr r) (kq k) (kr k) := by
  rw [pay4_of, pay2_apply, pay1_apply, pay5_apply, code_roundtrip]
  rfl

theorem dx_eq : k0_pay6 (F := Ideal) S.dy S.wc S.wsc S.dyS = outDx S := by
  funext y
  rw [eq_ix2 (y : S12288x7168.Idx)]
  exact pay6_apply S _ _
theorem step_eq : k0_pay4 (k0_pay5 (F := Ideal) S.wc S.wsc) (n31 S) (n35 S) (n37 S) S.nz = outStep S := by
  funext y
  rw [eq_ix2 (y : S2304x7168.Idx)]
  exact step_apply S _ _
theorem code_eq : k0_pay3 (n31 S) (n35 S) (n37 S) S.nz = outCode S := by
  funext y
  rw [eq_ix2 (y : S2304x7168.Idx)]
  exact (pay3_of _ _ _ _ _ _).trans (pay2_apply S _ _ _ _)
theorem sc_eq : k0_pay1 (n35 S) (n37 S) = outSc S := by
  funext y
  rw [eq_ix2 (y : S18x56.Idx)]
  exact pay1_apply S _ _

end Cert.ReferenceIdeal.Hand

end
-- ==== Proof.RI.Arrays.lean ====
/- What the reference's four result arrays hold at the end. -/
module

public import proofs.«01_k».proof.Proof.RI.Pay

@[expose] public section

set_option maxRecDepth 16384

noncomputable section

open Idealize.SL.Sem Idealize.ShloMosaic Idealize.ShloMosaic.TcCoe Idealize.ShloMosaic.Pipeline Cert.ReferenceIdeal Cert.ReferenceIdeal.Gen Cert.Spec

namespace Cert.ReferenceIdeal.Hand

variable (m : (ℓ : Loc nD τ sig) → Buf (Elt Ideal) ℓ)

/-- The arguments in memory. -/
def ins (c : Dev nD) : Ins where
  dyS := (m ((c : Thread nD τ).loc main_arg0) : Vec Ideal S1 .f32) (ix1 0)
  lr := (m ((c : Thread nD τ).loc main_arg1) : Vec Ideal S1 .f32) (ix1 0)
  wd := (m ((c : Thread nD τ).loc main_arg2) : Vec Ideal S1 .f32) (ix1 0)
  wsc := m ((c : Thread nD τ).loc main_arg3)
  dy := m ((c : Thread nD τ).loc main_arg4)
  wc := m ((c : Thread nD τ).loc main_arg5)
  nz := m ((c : Thread nD τ).loc main_arg6)
  p := m ((c : Thread nD τ).loc main_arg7)
  d := m ((c : Thread nD τ).loc main_arg8)

theorem idx3 : win0_3.index t0_0 = ![0, 0] := by decide +kernel
theorem iblk3 (c : Dev nD) : (iblk m c 3 t0_0 : Vec Ideal S18x56 .f32) = m ((c : Thread nD τ).loc main_arg3) := by
  funext y
  blk_ext [iblk, V, idx3]
theorem idx4 : win0_4.index t0_0 = ![0, 0] := by decide +kernel
theorem iblk4 (c : Dev nD) : (iblk m c 4 t0_0 : Vec Ideal S12288x2304 .fp8e5m2) = m ((c : Thread nD τ).loc main_arg4) := by
  funext y
  blk_ext [iblk, V, idx4]
theorem idx5 : win0_5.index t0_0 = ![0, 0] := by decide +kernel
theorem iblk5 (c : Dev nD) : (iblk m c 5 t0_0 : Vec Ideal S2304x7168 .i8) = m ((c : Thread nD τ).loc main_arg5) := by
  funext y
  blk_ext [iblk, V, idx5]
theorem idx6 : win0_6.index t0_0 = ![0, 0] := by decide +kernel
theorem iblk6 (c : Dev nD) : (iblk m c 6 t0_0 : Vec Ideal S2304x7168 .i8) = m ((c : Thread nD τ).loc main_arg6) := by
  funext y
  blk_ext [iblk, V, idx6]
theorem idx7 : win0_7.index t0_0 = ![0, 0] := by decide +kernel
theorem iblk7 (c : Dev nD) : (iblk m c 7 t0_0 : Vec Ideal S2304x768 .bf16) = m ((c : Thread nD τ).loc main_arg7) := by
  funext y
  blk_ext [iblk, V, idx7]
theorem idx8 : win0_8.index t0_0 = ![0, 0] := by decide +kernel
theorem iblk8 (c : Dev nD) : (iblk m c 8 t0_0 : Vec Ideal S768x7168 .f32) = m ((c : Thread nD τ).loc main_arg8) := by
  funext y
  blk_ext [iblk, V, idx8]
theorem idx0 : win0_0.index t0_0 = ![0] := by decide +kernel
theorem iblk0 (c : Dev nD) : (iblk m c 0 t0_0 : Vec Ideal S1 .f32) = m ((c : Thread nD τ).loc main_arg0) := by
  funext y
  blk_ext [iblk, V, idx0]
theorem idx1 : win0_1.index t0_0 = ![0] := by decide +kernel
theorem iblk1 (c : Dev nD) : (iblk m c 1 t0_0 : Vec Ideal S1 .f32) = m ((c : Thread nD τ).loc main_arg1) := by
  funext y
  blk_ext [iblk, V, idx1]
theorem idx2 : win0_2.index t0_0 = ![0] := by decide +kernel
theorem iblk2 (c : Dev nD) : (iblk m c 2 t0_0 : Vec Ideal S1 .f32) = m ((c : Thread nD τ).loc main_arg2) := by
  funext y
  blk_ext [iblk, V, idx2]
theorem rd3 (c : Dev nD) (h : (Memref.whole cc0_stg3_0).IsWhole) : View.read (Elt Ideal) (View.whole cc0_stg3_0) (h.unread (iblk m c 3 t0_0)) = (ins m c).wsc :=
  (h.read_unread _).trans (iblk3 m c)
theorem rd4 (c : Dev nD) (h : (Memref.whole cc0_stg4_0).IsWhole) : View.read (Elt Ideal) (View.whole cc0_stg4_0) (h.unread (iblk m c 4 t0_0)) = (ins m c).dy :=
  (h.read_unread _).trans (iblk4 m c)
theorem rd5 (c : Dev nD) (h : (Memref.whole cc0_stg5_0).IsWhole) : View.read (Elt Ideal) (View.whole cc0_stg5_0) (h.unread (iblk m c 5 t0_0)) = (ins m c).wc :=
  (h.read_unread _).trans (iblk5 m c)
theorem rd6 (c : Dev nD) (h : (Memref.whole cc0_stg6_0).IsWhole) : View.read (Elt Ideal) (View.whole cc0_stg6_0) (h.unread (iblk m c 6 t0_0)) = (ins m c).nz :=
  (h.read_unread _).trans (iblk6 m c)
theorem rd7 (c : Dev nD) (h : (Memref.whole cc0_stg7_0).IsWhole) : View.read (Elt Ideal) (View.whole cc0_stg7_0) (h.unread (iblk m c 7 t0_0)) = (ins m c).p :=
  (h.read_unread _).trans (iblk7 m c)
theorem rd8 (c : Dev nD) (h : (Memref.whole cc0_stg8_0).IsWhole) : View.read (Elt Ideal) (View.whole cc0_stg8_0) (h.unread (iblk m c 8 t0_0)) = (ins m c).d :=
  (h.read_unread _).trans (iblk8 m c)
theorem rd0 (c : Dev nD) (h : (Memref.whole cc0_stg0_0).IsWhole) (y : S1.Idx) : View.read (Elt Ideal) (View.whole cc0_stg0_0) (h.unread (iblk m c 0 t0_0)) y = (ins m c).dyS := by
  have hy : y = ix1 0 := (eq_ix1 (y : S1.Idx)).trans (congrArg ix1 (Subsingleton.elim (α := Fin 1) _ _))
  rw [h.read_unread, iblk0, hy]
  rfl
theorem rd1 (c : Dev nD) (h : (Memref.whole cc0_stg1_0).IsWhole) (y : S1.Idx) : View.read (Elt Ideal) (View.whole cc0_stg1_0) (h.unread (iblk m c 1 t0_0)) y = (ins m c).lr := by
  have hy : y = ix1 0 := (eq_ix1 (y : S1.Idx)).trans (congrArg ix1 (Subsingleton.elim (α := Fin 1) _ _))
  rw [h.read_unread, iblk1, hy]
  rfl
theorem rd2 (c : Dev nD) (h : (Memref.whole cc0_stg2_0).IsWhole) (y : S1.Idx) : View.read (Elt Ideal) (View.whole cc0_stg2_0) (h.unread (iblk m c 2 t0_0)) y = (ins m c).wd := by
  have hy : y = ix1 0 := (eq_ix1 (y : S1.Idx)).trans (congrArg ix1 (Subsingleton.elim (α := Fin 1) _ _))
  rw [h.read_unread, iblk2, hy]
  rfl
theorem arr9 (c : Dev nD) : (dats m 0 c).arrAt 9 cfg0.N = outDx (ins m c) := by
  rw [← dx_eq]
  refine (dats m 0 c).arrAt_eq_of_after_last 9 t0_0 (by decide +kernel) _ fun j => ?_
  blk_simp
  rw [after0_9]
  dsimp only [outsAt0]
  frame_out
  simp only [rd0 m c, rd1 m c, rd2 m c, rd3 m c, rd4 m c, rd5 m c, rd6 m c, rd7 m c, rd8 m c]
theorem arr10 (c : Dev nD) : (dats m 0 c).arrAt 10 cfg0.N = outStep (ins m c) := by
  rw [← step_eq]
  refine (dats m 0 c).arrAt_eq_of_after_last 10 t0_0 (by decide +kernel) _ fun j => ?_
  blk_simp
  rw [after0_10]
  frame_out
  simp only [rd0 m c, rd1 m c, rd2 m c, rd3 m c, rd4 m c, rd5 m c, rd6 m c, rd7 m c, rd8 m c]
theorem arr11 (c : Dev nD) : (dats m 0 c).arrAt 11 cfg0.N = outCode (ins m c) := by
  rw [← code_eq]
  refine (dats m 0 c).arrAt_eq_of_after_last 11 t0_0 (by decide +kernel) _ fun j => ?_
  blk_simp
  rw [after0_11]
  frame_out
  simp only [rd0 m c, rd1 m c, rd2 m c, rd3 m c, rd4 m c, rd5 m c, rd6 m c, rd7 m c, rd8 m c]
theorem arr12 (c : Dev nD) : (dats m 0 c).arrAt 12 cfg0.N = outSc (ins m c) := by
  rw [← sc_eq]
  refine (dats m 0 c).arrAt_eq_of_after_last 12 t0_0 (by decide +kernel) _ fun j => ?_
  blk_simp
  rw [after0_12]
  frame_out
  simp only [rd0 m c, rd1 m c, rd2 m c, rd3 m c, rd4 m c, rd5 m c, rd6 m c, rd7 m c, rd8 m c]

variable (ρ : Dev nD → PrngReg)

/-- The results, and the arguments with them. -/
theorem run_values : θ_run defs (onTc (τ := τ) (main (F := Ideal))) ⟨m, fun _ => 0, ρ⟩ (fun r => ∀ c : Dev nD,
      r.2.mem ((c.tc : Thread nD τ).loc main_v0_0) = outDx (ins m c)
      ∧ r.2.mem ((c.tc : Thread nD τ).loc main_v0_1) = outStep (ins m c)
      ∧ r.2.mem ((c.tc : Thread nD τ).loc main_v0_2) = outCode (ins m c)
      ∧ r.2.mem ((c.tc : Thread nD τ).loc main_v0_3) = outSc (ins m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (arr9 m c), (h c).2.1.trans (arr10 m c), (h c).2.2.1.trans (arr11 m c),
      (h c).2.2.2.1.trans (arr12 m c), (h c).2.2.2.2⟩)
    (Cert.ReferenceIdeal.Value.run_blocks m ρ)

end Cert.ReferenceIdeal.Hand

end
-- ==== Proof.L.Base.lean ====
/- The branch conditions over the grid, the staging buffers at a grid point, and the kernel's own scratch as owned buffers. -/
module

public import proofs.«01_k».proof.Proof.Gen.Lowrank.Launch
public import proofs.«01_k».proof.Proof.Gen.Lowrank.Skeleton
public import proofs.«01_k».proof.Proof.Gen.Lowrank.Points
public import proofs.«01_k».proof.Proof.Gen.Lowrank.Frame
public import proofs.«01_k».proof.Proof.Gen.Lowrank.Loops
public import Idealize.ShloMosaic.Lib.Pipeline.FrameBody
public import Idealize.ShloMosaic.Lib.Tactic
public import Idealize.ShloMosaic.Lib.WordCmp

@[expose] public section

set_option maxRecDepth 16384

noncomputable section

namespace Cert.Lowrank.Hand

open Cert.Lowrank.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The conditions of the body's five branches, from the grid coordinate. -/
abbrev cond0_0 (i : grid0.Coords) : Prop := k0_cond1 i = 1#1
abbrev cond0_1 (i : grid0.Coords) : Prop := k0_cond2 i = 1#1
abbrev cond0_2 (i : grid0.Coords) : Prop := (Scalar.cmpi .ne (Scalar.extui (Scalar.cmpi .eq (Scalar.subi (BitVec.ofNat 32 (i 0).val) 12#32) 0#32)) 0#32) = 1#1
abbrev cond0_3 (i : grid0.Coords) : Prop := k0_cond4 i = 1#1
abbrev cond0_4 (i : grid0.Coords) : Prop := k0_cond5 i = 1#1

theorem coord0 (t : Fin cfg0.N) : (grid0.coords t 0).val = t.val := by
  have ht : t.val < 27 := Nat.lt_of_lt_of_eq t.isLt N_0
  have e0 : (grid0.coords t 0).val = t.val / 1 % 27 := Pipeline.Grid.coords_val t 0 (by decide) rfl
  omega

/-- Where each holds. -/
theorem hcond0_0 (t : Fin cfg0.N) : cond0_0 (grid0.coords t) ↔ t.val = 0 :=
  (by decide +kernel : ∀ t : Fin grid0.N, cond0_0 (grid0.coords t) ↔ t.val = 0) t
theorem hcond0_1 (t : Fin cfg0.N) : cond0_1 (grid0.coords t) ↔ t.val < 12 :=
  (by decide +kernel : ∀ t : Fin grid0.N, cond0_1 (grid0.coords t) ↔ t.val < 12) t
theorem hcond0_2 (t : Fin cfg0.N) : cond0_2 (grid0.coords t) ↔ t.val = 12 :=
  (by decide +kernel : ∀ t : Fin grid0.N, cond0_2 (grid0.coords t) ↔ t.val = 12) t
theorem hcond0_3 (t : Fin cfg0.N) : cond0_3 (grid0.coords t) ↔ 12 < t.val ∧ t.val < 26 :=
  (by decide +kernel : ∀ t : Fin grid0.N, cond0_3 (grid0.coords t) ↔ 12 < t.val ∧ t.val < 26) t
theorem hcond0_4 (t : Fin cfg0.N) : cond0_4 (grid0.coords t) ↔ t.val = 26 :=
  (by decide +kernel : ∀ t : Fin grid0.N, cond0_4 (grid0.coords t) ↔ t.val = 26) t

/-! ## The buffers -/

/-- Each window's current staging memref at point `t`, and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2304x384 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S6x2304 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S6x2304 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x2304 .fp8e5m2 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S12288x512 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S768x512 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S28x768 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S768x512 .i8 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S28x768 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S768x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S768x512 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S768x512 .i8 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S28x768 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S768x512 .i8 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S28x768 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S256x768 .bf16 := win0_19.stage (cfg0.slots t 19)
abbrev hs0_19 (t : Fin cfg0.N) : (ms0_19 t).IsWhole := hstage0_19 ((cfg0.slots t 19).cast nbuf0_19)
/-- The scratch operands: whole scoped buffers of the kernel's own, passed beside the windows. -/
abbrev scM0_0 : Memref sig .tc .vmem S768x2304 .bf16 := Memref.whole cc0_scratch0
abbrev scM0_1 : Memref sig .tc .vmem S768x12288 .bf16 := Memref.whole cc0_scratch1
abbrev scM0_2 : Memref sig .tc .vmem S768x512 .f32 := Memref.whole cc0_scratch2
abbrev scM0_3 : Memref sig .tc .vmem S768x512 .f32 := Memref.whole cc0_scratch3
abbrev scM0_4 : Memref sig .tc .vmem S768x28 .f32 := Memref.whole cc0_scratch4
abbrev scM0_5 : Memref sig .tc .vmem S768x28 .f32 := Memref.whole cc0_scratch5
abbrev scM0_6 : Memref sig .tc .vmem S768x28 .f32 := Memref.whole cc0_scratch6
abbrev scM0_7 : Memref sig .tc .vmem S768x28 .f32 := Memref.whole cc0_scratch7

/-- The invariant of a kernel that keeps nothing, with the scratch operands as memrefs owned at some contents. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.Lowrank.Hand

end
-- ==== Proof.L.RunA.lean ====
/- The run of the kernel's body in one of its five cases. -/
module

public import proofs.«01_k».proof.Proof.L.Base

@[expose] public section

set_option maxRecDepth 16384

noncomputable section

namespace Cert.Lowrank.Hand

open Cert.Lowrank.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S2304x384 .i8) (harg5 : arg5.IsWhole) (arg6 : Memref sig .tc .vmem S6x2304 .f32) (harg6 : arg6.IsWhole) (arg7 : Memref sig .tc .vmem S6x2304 .f32) (harg7 : arg7.IsWhole) (arg8 : Memref sig .tc .vmem S1024x2304 .fp8e5m2) (harg8 : arg8.IsWhole) (arg9 : Memref sig .tc .vmem S12288x512 .fp8e4m3) (harg9 : arg9.IsWhole) (arg10 : Memref sig .tc .vmem S768x512 .i8) (harg10 : arg10.IsWhole) (arg11 : Memref sig .tc .vmem S28x768 .f32) (harg11 : arg11.IsWhole) (arg12 : Memref sig .tc .vmem S768x512 .i8) (harg12 : arg12.IsWhole) (arg13 : Memref sig .tc .vmem S28x768 .f32) (harg13 : arg13.IsWhole) (arg14 : Memref sig .tc .vmem S768x512 .f32) (harg14 : arg14.IsWhole) (arg15 : Memref sig .tc .vmem S768x512 .f32) (harg15 : arg15.IsWhole) (arg16 : Memref sig .tc .vmem S768x512 .i8) (harg16 : arg16.IsWhole) (arg17 : Memref sig .tc .vmem S28x768 .f32) (harg17 : arg17.IsWhole) (arg18 : Memref sig .tc .vmem S768x512 .i8) (harg18 : arg18.IsWhole) (arg19 : Memref sig .tc .vmem S28x768 .f32) (harg19 : arg19.IsWhole) (arg20 : Memref sig .tc .vmem S256x768 .bf16) (harg20 : arg20.IsWhole) (arg21 : Memref sig .tc .vmem S768x2304 .bf16) (harg21 : arg21.IsWhole) (arg22 : Memref sig .tc .vmem S768x12288 .bf16) (harg22 : arg22.IsWhole) (arg23 : Memref sig .tc .vmem S768x512 .f32) (harg23 : arg23.IsWhole) (arg24 : Memref sig .tc .vmem S768x512 .f32) (harg24 : arg24.IsWhole) (arg25 : Memref sig .tc .vmem S768x28 .f32) (harg25 : arg25.IsWhole) (arg26 : Memref sig .tc .vmem S768x28 .f32) (harg26 : arg26.IsWhole) (arg27 : Memref sig .tc .vmem S768x28 .f32) (harg27 : arg27.IsWhole) (arg28 : Memref sig .tc .vmem S768x28 .f32) (harg28 : arg28.IsWhole)

set_option maxHeartbeats 16000000 in
/-- The body at the first grid point: the projection is decoded, the scale tables are transposed, the new tables are
    cleared, and the first columns of the projected gradients are computed. -/
noncomputable def runA (h1 : cond0_0 i) (h2 : cond0_1 i) (h3 : ¬cond0_2 i) (h4 : ¬cond0_3 i) (h5 : ¬cond0_4 i)
    (x2 : Vec F S1 .f32) (x5 : Vec F S2304x384 .i8) (x6 : Vec F S6x2304 .f32) (x7 : Vec F S6x2304 .f32) (x8 : Vec F S1024x2304 .fp8e5m2) (x11 : Vec F S28x768 .f32) (x13 : Vec F S28x768 .f32) (x21 : Vec F S768x2304 .bf16) (x22 : Vec F S768x12288 .bf16) :
    Σ' (L21 : List (View.Piece (Elt F) S768x2304 .bf16)), Σ' (L22 : List (View.Piece (Elt F) S768x12288 .bf16)), Σ' (L25 : List (View.Piece (Elt F) S768x28 .f32)), Σ' (L26 : List (View.Piece (Elt F) S768x28 .f32)), Σ' (L27 : List (View.Piece (Elt F) S768x28 .f32)), { L28 : List (View.Piece (Elt F) S768x28 .f32) //
      ∀ (E : Set ℕ) (K : PUnit → sProp 𝕄),
        iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg11 fullShare x11 ∗ owns (c : Thread nD τ) arg13 fullShare x13 ∗ owns (c : Thread nD τ) arg21 fullShare x21 ∗ owns (c : Thread nD τ) arg22 fullShare x22 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg11 fullShare x11 ∗ owns (c : Thread nD τ) arg13 fullShare x13 ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22) ∗ (∃ f, arg25.view.loc (c : Thread nD τ) ↦[arg25.view.set]{fullShare} arg25.view.writes (Elt F) f L25) ∗ (∃ f, arg26.view.loc (c : Thread nD τ) ↦[arg26.view.set]{fullShare} arg26.view.writes (Elt F) f L26) ∗ (∃ f, arg27.view.loc (c : Thread nD τ) ↦[arg27.view.set]{fullShare} arg27.view.writes (Elt F) f L27) ∗ (∃ f, arg28.view.loc (c : Thread nD τ) ↦[arg28.view.set]{fullShare} arg28.view.writes (Elt F) f L28)) -∗ K ⟨⟩))
          ⊢ wp frame (wpE (defs₀ (F := F)) Variants.none c none) E (cc0_lowrank_adam i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, fun E K => ?run⟩
  case run =>
    simp only [cc0_lowrank_adam_eq_skeleton]; unfold cc0_lowrank_adam_skel
    unfold owns
    iintro ⟨⟨%f2, %hf2, H2⟩, ⟨%f5, %hf5, H5⟩, ⟨%f6, %hf6, H6⟩, ⟨%f7, %hf7, H7⟩, ⟨%f8, %hf8, H8⟩, ⟨%f11, %hf11, H11⟩, ⟨%f13, %hf13, H13⟩, ⟨%f21, %hf21, H21⟩, ⟨%f22, %hf22, H22⟩, ⟨%d25, %f25, -, H25⟩, ⟨%d26, %f26, -, H26⟩, ⟨%d27, %f27, -, H27⟩, ⟨%d28, %f28, -, H28⟩, Hk⟩
    obtain rfl := harg2.eq_unread hf2; obtain rfl := harg5.eq_unread hf5; obtain rfl := harg6.eq_unread hf6; obtain rfl := harg7.eq_unread hf7; obtain rfl := harg8.eq_unread hf8; obtain rfl := harg11.eq_unread hf11; obtain rfl := harg13.eq_unread hf13; obtain rfl := harg21.eq_unread hf21; obtain rfl := harg22.eq_unread hf22
    sl_exec (disch := first | sl_exact h1 | sl_exact h2 | sl_exact h3 | sl_exact h4 | sl_exact h5)
    sl_step
    iapply Hk
    isplitl [H2]
    · iexists _; isplitr; · ipureintro; exact harg2.read_unread _
      iexact H2
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H11]
    · iexists _; isplitr; · ipureintro; exact harg11.read_unread _
      iexact H11
    isplitl [H13]
    · iexists _; isplitr; · ipureintro; exact harg13.read_unread _
      iexact H13
    isplitl [H21]; · iexact H21
    isplitl [H22]; · iexact H22
    isplitl [H25]; · iexists _; iexact H25
    isplitl [H26]; · iexists _; iexact H26
    isplitl [H27]; · iexists _; iexact H27
    iexists _; iexact H28

end Cert.Lowrank.Hand

end
-- ==== Proof.L.RunB.lean ====
/- The run of the kernel's body in one of its five cases. -/
module

public import proofs.«01_k».proof.Proof.L.Base

@[expose] public section

set_option maxRecDepth 16384

noncomputable section

namespace Cert.Lowrank.Hand

open Cert.Lowrank.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S2304x384 .i8) (harg5 : arg5.IsWhole) (arg6 : Memref sig .tc .vmem S6x2304 .f32) (harg6 : arg6.IsWhole) (arg7 : Memref sig .tc .vmem S6x2304 .f32) (harg7 : arg7.IsWhole) (arg8 : Memref sig .tc .vmem S1024x2304 .fp8e5m2) (harg8 : arg8.IsWhole) (arg9 : Memref sig .tc .vmem S12288x512 .fp8e4m3) (harg9 : arg9.IsWhole) (arg10 : Memref sig .tc .vmem S768x512 .i8) (harg10 : arg10.IsWhole) (arg11 : Memref sig .tc .vmem S28x768 .f32) (harg11 : arg11.IsWhole) (arg12 : Memref sig .tc .vmem S768x512 .i8) (harg12 : arg12.IsWhole) (arg13 : Memref sig .tc .vmem S28x768 .f32) (harg13 : arg13.IsWhole) (arg14 : Memref sig .tc .vmem S768x512 .f32) (harg14 : arg14.IsWhole) (arg15 : Memref sig .tc .vmem S768x512 .f32) (harg15 : arg15.IsWhole) (arg16 : Memref sig .tc .vmem S768x512 .i8) (harg16 : arg16.IsWhole) (arg17 : Memref sig .tc .vmem S28x768 .f32) (harg17 : arg17.IsWhole) (arg18 : Memref sig .tc .vmem S768x512 .i8) (harg18 : arg18.IsWhole) (arg19 : Memref sig .tc .vmem S28x768 .f32) (harg19 : arg19.IsWhole) (arg20 : Memref sig .tc .vmem S256x768 .bf16) (harg20 : arg20.IsWhole) (arg21 : Memref sig .tc .vmem S768x2304 .bf16) (harg21 : arg21.IsWhole) (arg22 : Memref sig .tc .vmem S768x12288 .bf16) (harg22 : arg22.IsWhole) (arg23 : Memref sig .tc .vmem S768x512 .f32) (harg23 : arg23.IsWhole) (arg24 : Memref sig .tc .vmem S768x512 .f32) (harg24 : arg24.IsWhole) (arg25 : Memref sig .tc .vmem S768x28 .f32) (harg25 : arg25.IsWhole) (arg26 : Memref sig .tc .vmem S768x28 .f32) (harg26 : arg26.IsWhole) (arg27 : Memref sig .tc .vmem S768x28 .f32) (harg27 : arg27.IsWhole) (arg28 : Memref sig .tc .vmem S768x28 .f32) (harg28 : arg28.IsWhole)

set_option maxHeartbeats 16000000 in
/-- The body at the points 1 to 11: further columns of the projected gradients. -/
noncomputable def runB (h1 : ¬cond0_0 i) (h2 : cond0_1 i) (h3 : ¬cond0_2 i) (h4 : ¬cond0_3 i) (h5 : ¬cond0_4 i)
    (x2 : Vec F S1 .f32) (x8 : Vec F S1024x2304 .fp8e5m2) (x21 : Vec F S768x2304 .bf16) (x22 : Vec F S768x12288 .bf16) :
     { L22 : List (View.Piece (Elt F) S768x12288 .bf16) //
      ∀ (E : Set ℕ) (K : PUnit → sProp 𝕄),
        iprop(owns (c : Thread nD τ) arg2 fullShare x2 ∗ owns (c : Thread nD τ) arg8 fullShare x8 ∗ owns (c : Thread nD τ) arg21 fullShare x21 ∗ owns (c : Thread nD τ) arg22 fullShare x22
            ∗ (iprop(owns (c : Thread nD τ) arg2 fullShare x2 ∗ owns (c : Thread nD τ) arg8 fullShare x8 ∗ owns (c : Thread nD τ) arg21 fullShare x21 ∗ (arg22.view.loc (c : Thread nD τ) ↦[arg22.view.set]{fullShare} arg22.view.writes (Elt F) (harg22.unread x22) L22)) -∗ K ⟨⟩))
          ⊢ wp frame (wpE (defs₀ (F := F)) Variants.none c none) E (cc0_lowrank_adam i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, fun E K => ?run⟩
  case run =>
    simp only [cc0_lowrank_adam_eq_skeleton]; unfold cc0_lowrank_adam_skel
    unfold owns
    iintro ⟨⟨%f2, %hf2, H2⟩, ⟨%f8, %hf8, H8⟩, ⟨%f21, %hf21, H21⟩, ⟨%f22, %hf22, H22⟩, Hk⟩
    obtain rfl := harg2.eq_unread hf2; obtain rfl := harg8.eq_unread hf8; obtain rfl := harg21.eq_unread hf21; obtain rfl := harg22.eq_unread hf22
    sl_exec (disch := first | sl_exact h1 | sl_exact h2 | sl_exact h3 | sl_exact h4 | sl_exact h5)
    sl_step
    iapply Hk
    isplitl [H2]
    · iexists _; isplitr; · ipureintro; exact harg2.read_unread _
      iexact H2
    isplitl [H8]
    · iexists _; isplitr; · ipureintro; exact harg8.read_unread _
      iexact H8
    isplitl [H21]
    · iexists _; isplitr; · ipureintro; exact harg21.read_unread _
      iexact H21
    iexact H22

end Cert.Lowrank.Hand

end
-- ==== Proof.L.RunC.lean ====
/- The run of the kernel's body in one of its five cases. -/
module

public import proofs.«01_k».proof.Proof.L.Base

@[expose] public section

set_option maxRecDepth 16384

noncomputable section

namespace Cert.Lowrank.Hand

open Cert.Lowrank.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S2304x384 .i8) (harg5 : arg5.IsWhole) (arg6 : Memref sig .tc .vmem S6x2304 .f32) (harg6 : arg6.IsWhole) (arg7 : Memref sig .tc .vmem S6x2304 .f32) (harg7 : arg7.IsWhole) (arg8 : Memref sig .tc .vmem S1024x2304 .fp8e5m2) (harg8 : arg8.IsWhole) (arg9 : Memref sig .tc .vmem S12288x512 .fp8e4m3) (harg9 : arg9.IsWhole) (arg10 : Memref sig .tc .vmem S768x512 .i8) (harg10 : arg10.IsWhole) (arg11 : Memref sig .tc .vmem S28x768 .f32) (harg11 : arg11.IsWhole) (arg12 : Memref sig .tc .vmem S768x512 .i8) (harg12 : arg12.IsWhole) (arg13 : Memref sig .tc .vmem S28x768 .f32) (harg13 : arg13.IsWhole) (arg14 : Memref sig .tc .vmem S768x512 .f32) (harg14 : arg14.IsWhole) (arg15 : Memref sig .tc .vmem S768x512 .f32) (harg15 : arg15.IsWhole) (arg16 : Memref sig .tc .vmem S768x512 .i8) (harg16 : arg16.IsWhole) (arg17 : Memref sig .tc .vmem S28x768 .f32) (harg17 : arg17.IsWhole) (arg18 : Memref sig .tc .vmem S768x512 .i8) (harg18 : arg18.IsWhole) (arg19 : Memref sig .tc .vmem S28x768 .f32) (harg19 : arg19.IsWhole) (arg20 : Memref sig .tc .vmem S256x768 .bf16) (harg20 : arg20.IsWhole) (arg21 : Memref sig .tc .vmem S768x2304 .bf16) (harg21 : arg21.IsWhole) (arg22 : Memref sig .tc .vmem S768x12288 .bf16) (harg22 : arg22.IsWhole) (arg23 : Memref sig .tc .vmem S768x512 .f32) (harg23 : arg23.IsWhole) (arg24 : Memref sig .tc .vmem S768x512 .f32) (harg24 : arg24.IsWhole) (arg25 : Memref sig .tc .vmem S768x28 .f32) (harg25 : arg25.IsWhole) (arg26 : Memref sig .tc .vmem S768x28 .f32) (harg26 : arg26.IsWhole) (arg27 : Memref sig .tc .vmem S768x28 .f32) (harg27 : arg27.IsWhole) (arg28 : Memref sig .tc .vmem S768x28 .f32) (harg28 : arg28.IsWhole)

set_option maxHeartbeats 16000000 in
/-- The body at point 12: the first column block of the gradient, in six chunks of tokens. -/
noncomputable def runC (h1 : ¬cond0_0 i) (h2 : ¬cond0_1 i) (h3 : cond0_2 i) (h4 : ¬cond0_3 i) (h5 : ¬cond0_4 i)
    (x9 : Vec F S12288x512 .fp8e4m3) (x22 : Vec F S768x12288 .bf16) :
    Σ' (L23 : List (View.Piece (Elt F) S768x512 .f32)), { L24 : List (View.Piece (Elt F) S768x512 .f32) //
      ∀ (E : Set ℕ) (K : PUnit → sProp 𝕄),
        iprop(owns (c : Thread nD τ) arg9 fullShare x9 ∗ owns (c : Thread nD τ) arg22 fullShare x22 ∗ (∃ d, owns (c : Thread nD τ) arg23 fullShare d) ∗ (∃ d, owns (c : Thread nD τ) arg24 fullShare d)
            ∗ (iprop(owns (c : Thread nD τ) arg9 fullShare x9 ∗ owns (c : Thread nD τ) arg22 fullShare x22 ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24)) -∗ K ⟨⟩))
          ⊢ wp frame (wpE (defs₀ (F := F)) Variants.none c none) E (cc0_lowrank_adam i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, fun E K => ?run⟩
  case run =>
    simp only [cc0_lowrank_adam_eq_skeleton]; unfold cc0_lowrank_adam_skel
    simp only [k0_part3_eq_skeleton]
    unfold owns
    iintro ⟨⟨%f9, %hf9, H9⟩, ⟨%f22, %hf22, H22⟩, ⟨%d23, %f23, -, H23⟩, ⟨%d24, %f24, -, H24⟩, Hk⟩
    obtain rfl := harg9.eq_unread hf9; obtain rfl := harg22.eq_unread hf22
    sl_exec (disch := first | sl_exact h1 | sl_exact h2 | sl_exact h3 | sl_exact h4 | sl_exact h5)
    sl_step
    iapply Hk
    isplitl [H9]
    · iexists _; isplitr; · ipureintro; exact harg9.read_unread _
      iexact H9
    isplitl [H22]
    · iexists _; isplitr; · ipureintro; exact harg22.read_unread _
      iexact H22
    isplitl [H23]; · iexists _; iexact H23
    iexists _; iexact H24

end Cert.Lowrank.Hand

end
-- ==== Proof.L.RunD.lean ====
/- The run of the kernel's body in one of its five cases. -/
module

public import proofs.«01_k».proof.Proof.L.Base

@[expose] public section

set_option maxRecDepth 16384

noncomputable section

namespace Cert.Lowrank.Hand

open Cert.Lowrank.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S2304x384 .i8) (harg5 : arg5.IsWhole) (arg6 : Memref sig .tc .vmem S6x2304 .f32) (harg6 : arg6.IsWhole) (arg7 : Memref sig .tc .vmem S6x2304 .f32) (harg7 : arg7.IsWhole) (arg8 : Memref sig .tc .vmem S1024x2304 .fp8e5m2) (harg8 : arg8.IsWhole) (arg9 : Memref sig .tc .vmem S12288x512 .fp8e4m3) (harg9 : arg9.IsWhole) (arg10 : Memref sig .tc .vmem S768x512 .i8) (harg10 : arg10.IsWhole) (arg11 : Memref sig .tc .vmem S28x768 .f32) (harg11 : arg11.IsWhole) (arg12 : Memref sig .tc .vmem S768x512 .i8) (harg12 : arg12.IsWhole) (arg13 : Memref sig .tc .vmem S28x768 .f32) (harg13 : arg13.IsWhole) (arg14 : Memref sig .tc .vmem S768x512 .f32) (harg14 : arg14.IsWhole) (arg15 : Memref sig .tc .vmem S768x512 .f32) (harg15 : arg15.IsWhole) (arg16 : Memref sig .tc .vmem S768x512 .i8) (harg16 : arg16.IsWhole) (arg17 : Memref sig .tc .vmem S28x768 .f32) (harg17 : arg17.IsWhole) (arg18 : Memref sig .tc .vmem S768x512 .i8) (harg18 : arg18.IsWhole) (arg19 : Memref sig .tc .vmem S28x768 .f32) (harg19 : arg19.IsWhole) (arg20 : Memref sig .tc .vmem S256x768 .bf16) (harg20 : arg20.IsWhole) (arg21 : Memref sig .tc .vmem S768x2304 .bf16) (harg21 : arg21.IsWhole) (arg22 : Memref sig .tc .vmem S768x12288 .bf16) (harg22 : arg22.IsWhole) (arg23 : Memref sig .tc .vmem S768x512 .f32) (harg23 : arg23.IsWhole) (arg24 : Memref sig .tc .vmem S768x512 .f32) (harg24 : arg24.IsWhole) (arg25 : Memref sig .tc .vmem S768x28 .f32) (harg25 : arg25.IsWhole) (arg26 : Memref sig .tc .vmem S768x28 .f32) (harg26 : arg26.IsWhole) (arg27 : Memref sig .tc .vmem S768x28 .f32) (harg27 : arg27.IsWhole) (arg28 : Memref sig .tc .vmem S768x28 .f32) (harg28 : arg28.IsWhole)

set_option maxHeartbeats 16000000 in
/-- The body at the points 13 to 25: the update of the column block before, and the gradient of the next. -/
noncomputable def runD (h1 : ¬cond0_0 i) (h2 : ¬cond0_1 i) (h3 : ¬cond0_2 i) (h4 : cond0_3 i) (h5 : ¬cond0_4 i)
    (x1 : Vec F S1 .f32) (x3 : Vec F S1 .f32) (x4 : Vec F S1 .f32) (x9 : Vec F S12288x512 .fp8e4m3) (x10 : Vec F S768x512 .i8) (x12 : Vec F S768x512 .i8) (x21 : Vec F S768x2304 .bf16) (x22 : Vec F S768x12288 .bf16) (x24 : Vec F S768x512 .f32) (x25 : Vec F S768x28 .f32) (x26 : Vec F S768x28 .f32) (x27 : Vec F S768x28 .f32) (x28 : Vec F S768x28 .f32) :
    Σ' (L14 : List (View.Piece (Elt F) S768x512 .f32)), Σ' (L15 : List (View.Piece (Elt F) S768x512 .f32)), Σ' (L16 : List (View.Piece (Elt F) S768x512 .i8)), Σ' (L18 : List (View.Piece (Elt F) S768x512 .i8)), Σ' (L20 : List (View.Piece (Elt F) S256x768 .bf16)), Σ' (L23 : List (View.Piece (Elt F) S768x512 .f32)), Σ' (L24 : List (View.Piece (Elt F) S768x512 .f32)), Σ' (L27 : List (View.Piece (Elt F) S768x28 .f32)), { L28 : List (View.Piece (Elt F) S768x28 .f32) //
      ∀ (E : Set ℕ) (K : PUnit → sProp 𝕄),
        iprop(owns (c : Thread nD τ) arg1 fullShare x1 ∗ owns (c : Thread nD τ) arg3 fullShare x3 ∗ owns (c : Thread nD τ) arg4 fullShare x4 ∗ owns (c : Thread nD τ) arg9 fullShare x9 ∗ owns (c : Thread nD τ) arg10 fullShare x10 ∗ owns (c : Thread nD τ) arg12 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg18 fullShare d) ∗ (∃ d, owns (c : Thread nD τ) arg20 fullShare d) ∗ owns (c : Thread nD τ) arg21 fullShare x21 ∗ owns (c : Thread nD τ) arg22 fullShare x22 ∗ (∃ d, owns (c : Thread nD τ) arg23 fullShare d) ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28
            ∗ (iprop(owns (c : Thread nD τ) arg1 fullShare x1 ∗ owns (c : Thread nD τ) arg3 fullShare x3 ∗ owns (c : Thread nD τ) arg4 fullShare x4 ∗ owns (c : Thread nD τ) arg9 fullShare x9 ∗ owns (c : Thread nD τ) arg10 fullShare x10 ∗ owns (c : Thread nD τ) arg12 fullShare x12 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg18.view.loc (c : Thread nD τ) ↦[arg18.view.set]{fullShare} arg18.view.writes (Elt F) f L18) ∗ (∃ f, arg20.view.loc (c : Thread nD τ) ↦[arg20.view.set]{fullShare} arg20.view.writes (Elt F) f L20) ∗ owns (c : Thread nD τ) arg21 fullShare x21 ∗ owns (c : Thread nD τ) arg22 fullShare x22 ∗ (∃ f, arg23.view.loc (c : Thread nD τ) ↦[arg23.view.set]{fullShare} arg23.view.writes (Elt F) f L23) ∗ (arg24.view.loc (c : Thread nD τ) ↦[arg24.view.set]{fullShare} arg24.view.writes (Elt F) (harg24.unread x24) L24) ∗ owns (c : Thread nD τ) arg25 fullShare x25 ∗ owns (c : Thread nD τ) arg26 fullShare x26 ∗ (arg27.view.loc (c : Thread nD τ) ↦[arg27.view.set]{fullShare} arg27.view.writes (Elt F) (harg27.unread x27) L27) ∗ (arg28.view.loc (c : Thread nD τ) ↦[arg28.view.set]{fullShare} arg28.view.writes (Elt F) (harg28.unread x28) L28)) -∗ K ⟨⟩))
          ⊢ wp frame (wpE (defs₀ (F := F)) Variants.none c none) E (cc0_lowrank_adam i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, ?_, ?_, ?_, fun E K => ?run⟩
  case run =>
    simp only [cc0_lowrank_adam_eq_skeleton]; unfold cc0_lowrank_adam_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f1, %hf1, H1⟩, ⟨%f3, %hf3, H3⟩, ⟨%f4, %hf4, H4⟩, ⟨%f9, %hf9, H9⟩, ⟨%f10, %hf10, H10⟩, ⟨%f12, %hf12, H12⟩, ⟨%d14, %f14, -, H14⟩, ⟨%d15, %f15, -, H15⟩, ⟨%d16, %f16, -, H16⟩, ⟨%d18, %f18, -, H18⟩, ⟨%d20, %f20, -, H20⟩, ⟨%f21, %hf21, H21⟩, ⟨%f22, %hf22, H22⟩, ⟨%d23, %f23, -, H23⟩, ⟨%f24, %hf24, H24⟩, ⟨%f25, %hf25, H25⟩, ⟨%f26, %hf26, H26⟩, ⟨%f27, %hf27, H27⟩, ⟨%f28, %hf28, H28⟩, Hk⟩
    obtain rfl := harg1.eq_unread hf1; obtain rfl := harg3.eq_unread hf3; obtain rfl := harg4.eq_unread hf4; obtain rfl := harg9.eq_unread hf9; obtain rfl := harg10.eq_unread hf10; obtain rfl := harg12.eq_unread hf12; obtain rfl := harg21.eq_unread hf21; obtain rfl := harg22.eq_unread hf22; obtain rfl := harg24.eq_unread hf24; obtain rfl := harg25.eq_unread hf25; obtain rfl := harg26.eq_unread hf26; obtain rfl := harg27.eq_unread hf27; obtain rfl := harg28.eq_unread hf28
    sl_exec (disch := first | sl_exact h1 | sl_exact h2 | sl_exact h3 | sl_exact h4 | sl_exact h5)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H9]
    · iexists _; isplitr; · ipureintro; exact harg9.read_unread _
      iexact H9
    isplitl [H10]
    · iexists _; isplitr; · ipureintro; exact harg10.read_unread _
      iexact H10
    isplitl [H12]
    · iexists _; isplitr; · ipureintro; exact harg12.read_unread _
      iexact H12
    isplitl [H14]; · iexists _; iexact H14
    isplitl [H15]; · iexists _; iexact H15
    isplitl [H16]; · iexists _; iexact H16
    isplitl [H18]; · iexists _; iexact H18
    isplitl [H20]; · iexists _; iexact H20
    isplitl [H21]
    · iexists _; isplitr; · ipureintro; exact harg21.read_unread _
      iexact H21
    isplitl [H22]
    · iexists _; isplitr; · ipureintro; exact harg22.read_unread _
      iexact H22
    isplitl [H23]; · iexists _; iexact H23
    isplitl [H24]; · iexact H24
    isplitl [H25]
    · iexists _; isplitr; · ipureintro; exact harg25.read_unread _
      iexact H25
    isplitl [H26]
    · iexists _; isplitr; · ipureintro; exact harg26.read_unread _
      iexact H26
    isplitl [H27]; · iexact H27
    iexact H28

end Cert.Lowrank.Hand

end
-- ==== Proof.L.RunE.lean ====
/- The run of the kernel's body in one of its five cases. -/
module

public import proofs.«01_k».proof.Proof.L.Base

@[expose] public section

set_option maxRecDepth 16384

noncomputable section

namespace Cert.Lowrank.Hand

open Cert.Lowrank.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S2304x384 .i8) (harg5 : arg5.IsWhole) (arg6 : Memref sig .tc .vmem S6x2304 .f32) (harg6 : arg6.IsWhole) (arg7 : Memref sig .tc .vmem S6x2304 .f32) (harg7 : arg7.IsWhole) (arg8 : Memref sig .tc .vmem S1024x2304 .fp8e5m2) (harg8 : arg8.IsWhole) (arg9 : Memref sig .tc .vmem S12288x512 .fp8e4m3) (harg9 : arg9.IsWhole) (arg10 : Memref sig .tc .vmem S768x512 .i8) (harg10 : arg10.IsWhole) (arg11 : Memref sig .tc .vmem S28x768 .f32) (harg11 : arg11.IsWhole) (arg12 : Memref sig .tc .vmem S768x512 .i8) (harg12 : arg12.IsWhole) (arg13 : Memref sig .tc .vmem S28x768 .f32) (harg13 : arg13.IsWhole) (arg14 : Memref sig .tc .vmem S768x512 .f32) (harg14 : arg14.IsWhole) (arg15 : Memref sig .tc .vmem S768x512 .f32) (harg15 : arg15.IsWhole) (arg16 : Memref sig .tc .vmem S768x512 .i8) (harg16 : arg16.IsWhole) (arg17 : Memref sig .tc .vmem S28x768 .f32) (harg17 : arg17.IsWhole) (arg18 : Memref sig .tc .vmem S768x512 .i8) (harg18 : arg18.IsWhole) (arg19 : Memref sig .tc .vmem S28x768 .f32) (harg19 : arg19.IsWhole) (arg20 : Memref sig .tc .vmem S256x768 .bf16) (harg20 : arg20.IsWhole) (arg21 : Memref sig .tc .vmem S768x2304 .bf16) (harg21 : arg21.IsWhole) (arg22 : Memref sig .tc .vmem S768x12288 .bf16) (harg22 : arg22.IsWhole) (arg23 : Memref sig .tc .vmem S768x512 .f32) (harg23 : arg23.IsWhole) (arg24 : Memref sig .tc .vmem S768x512 .f32) (harg24 : arg24.IsWhole) (arg25 : Memref sig .tc .vmem S768x28 .f32) (harg25 : arg25.IsWhole) (arg26 : Memref sig .tc .vmem S768x28 .f32) (harg26 : arg26.IsWhole) (arg27 : Memref sig .tc .vmem S768x28 .f32) (harg27 : arg27.IsWhole) (arg28 : Memref sig .tc .vmem S768x28 .f32) (harg28 : arg28.IsWhole)

set_option maxHeartbeats 16000000 in
/-- The body at the last point: the update of the last column block, and the new scale tables. -/
noncomputable def runE (h1 : ¬cond0_0 i) (h2 : ¬cond0_1 i) (h3 : ¬cond0_2 i) (h4 : ¬cond0_3 i) (h5 : cond0_4 i)
    (x1 : Vec F S1 .f32) (x3 : Vec F S1 .f32) (x4 : Vec F S1 .f32) (x10 : Vec F S768x512 .i8) (x12 : Vec F S768x512 .i8) (x24 : Vec F S768x512 .f32) (x25 : Vec F S768x28 .f32) (x26 : Vec F S768x28 .f32) (x27 : Vec F S768x28 .f32) (x28 : Vec F S768x28 .f32) :
    Σ' (L14 : List (View.Piece (Elt F) S768x512 .f32)), Σ' (L15 : List (View.Piece (Elt F) S768x512 .f32)), Σ' (L16 : List (View.Piece (Elt F) S768x512 .i8)), Σ' (L17 : List (View.Piece (Elt F) S28x768 .f32)), Σ' (L18 : List (View.Piece (Elt F) S768x512 .i8)), Σ' (L19 : List (View.Piece (Elt F) S28x768 .f32)), Σ' (L27 : List (View.Piece (Elt F) S768x28 .f32)), { L28 : List (View.Piece (Elt F) S768x28 .f32) //
      ∀ (E : Set ℕ) (K : PUnit → sProp 𝕄),
        iprop(owns (c : Thread nD τ) arg1 fullShare x1 ∗ owns (c : Thread nD τ) arg3 fullShare x3 ∗ owns (c : Thread nD τ) arg4 fullShare x4 ∗ owns (c : Thread nD τ) arg10 fullShare x10 ∗ owns (c : Thread nD τ) arg12 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28
            ∗ (iprop(owns (c : Thread nD τ) arg1 fullShare x1 ∗ owns (c : Thread nD τ) arg3 fullShare x3 ∗ owns (c : Thread nD τ) arg4 fullShare x4 ∗ owns (c : Thread nD τ) arg10 fullShare x10 ∗ owns (c : Thread nD τ) arg12 fullShare x12 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ owns (c : Thread nD τ) arg24 fullShare x24 ∗ owns (c : Thread nD τ) arg25 fullShare x25 ∗ owns (c : Thread nD τ) arg26 fullShare x26 ∗ (arg27.view.loc (c : Thread nD τ) ↦[arg27.view.set]{fullShare} arg27.view.writes (Elt F) (harg27.unread x27) L27) ∗ (arg28.view.loc (c : Thread nD τ) ↦[arg28.view.set]{fullShare} arg28.view.writes (Elt F) (harg28.unread x28) L28)) -∗ K ⟨⟩))
          ⊢ wp frame (wpE (defs₀ (F := F)) Variants.none c none) E (cc0_lowrank_adam i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, ?_, ?_, fun E K => ?run⟩
  case run =>
    simp only [cc0_lowrank_adam_eq_skeleton]; unfold cc0_lowrank_adam_skel
    simp only [k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton]
    unfold owns
    iintro ⟨⟨%f1, %hf1, H1⟩, ⟨%f3, %hf3, H3⟩, ⟨%f4, %hf4, H4⟩, ⟨%f10, %hf10, H10⟩, ⟨%f12, %hf12, H12⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%f24, %hf24, H24⟩, ⟨%f25, %hf25, H25⟩, ⟨%f26, %hf26, H26⟩, ⟨%f27, %hf27, H27⟩, ⟨%f28, %hf28, H28⟩, Hk⟩
    obtain rfl := harg1.eq_unread hf1; obtain rfl := harg3.eq_unread hf3; obtain rfl := harg4.eq_unread hf4; obtain rfl := harg10.eq_unread hf10; obtain rfl := harg12.eq_unread hf12; obtain rfl := harg24.eq_unread hf24; obtain rfl := harg25.eq_unread hf25; obtain rfl := harg26.eq_unread hf26; obtain rfl := harg27.eq_unread hf27; obtain rfl := harg28.eq_unread hf28
    sl_exec (disch := first | sl_exact h1 | sl_exact h2 | sl_exact h3 | sl_exact h4 | sl_exact h5)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H10]
    · iexists _; isplitr; · ipureintro; exact harg10.read_unread _
      iexact H10
    isplitl [H12]
    · iexists _; isplitr; · ipureintro; exact harg12.read_unread _
      iexact H12
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H24]
    · iexists _; isplitr; · ipureintro; exact harg24.read_unread _
      iexact H24
    isplitl [H25]
    · iexists _; isplitr; · ipureintro; exact harg25.read_unread _
      iexact H25
    isplitl [H26]
    · iexists _; isplitr; · ipureintro; exact harg26.read_unread _
      iexact H26
    isplitl [H27]; · iexact H27
    iexact H28

end Cert.Lowrank.Hand

end
-- ==== Proof.L.Frame.lean ====
/- The first call's program, over any arithmetic: every argument ends as it was. -/
module

public import proofs.«01_k».proof.Proof.L.Base
public import proofs.«01_k».proof.Proof.Gen.Lowrank.Launch
public import proofs.«01_k».proof.Proof.Gen.Lowrank.Points
public import proofs.«01_k».proof.Proof.Gen.Lowrank.Frame
public import proofs.«01_k».proof.Proof.L.RunA
public import proofs.«01_k».proof.Proof.L.RunB
public import proofs.«01_k».proof.Proof.L.RunC
public import proofs.«01_k».proof.Proof.L.RunD
public import proofs.«01_k».proof.Proof.L.RunE
public import Idealize.ShloMosaic.Lib.Claim

@[expose] public section

set_option maxRecDepth 16384

noncomputable section

namespace Cert.Lowrank.Hand

open Cert.Lowrank.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows: nothing of what the kernel leaves in them is stated. -/
def forgets0 : Fin 20 → Bool := fun w => decide (13 ≤ w.val)

/-- The proof data of the pipeline on core `c`: after the body at a point each input's buffer at its block and the outputs
    unnamed; the invariant owns the scoped buffers and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | w => Pipeline.Dat.unnamed (cfg := cfg0) w t
  Φ _ := Pipeline.ΦA spec0 c
  q w := Pipeline.shareOf spec0 w
  owed _ := 0

/-- The arrays are as the region finds them. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = iblk m c 2 t := rfl
theorem after0_3 (c : Dev nD) (t : Fin cfg0.N) : (dats m 0 c).after 3 t = iblk m c 3 t := rfl
theorem after0_4 (c : Dev nD) (t : Fin cfg0.N) : (dats m 0 c).after 4 t = iblk m c 4 t := rfl
theorem after0_5 (c : Dev nD) (t : Fin cfg0.N) : (dats m 0 c).after 5 t = iblk m c 5 t := rfl
theorem after0_6 (c : Dev nD) (t : Fin cfg0.N) : (dats m 0 c).after 6 t = iblk m c 6 t := rfl
theorem after0_7 (c : Dev nD) (t : Fin cfg0.N) : (dats m 0 c).after 7 t = iblk m c 7 t := rfl
theorem after0_8 (c : Dev nD) (t : Fin cfg0.N) : (dats m 0 c).after 8 t = iblk m c 8 t := rfl
theorem after0_9 (c : Dev nD) (t : Fin cfg0.N) : (dats m 0 c).after 9 t = iblk m c 9 t := rfl
theorem after0_10 (c : Dev nD) (t : Fin cfg0.N) : (dats m 0 c).after 10 t = iblk m c 10 t := rfl
theorem after0_11 (c : Dev nD) (t : Fin cfg0.N) : (dats m 0 c).after 11 t = iblk m c 11 t := rfl
theorem after0_12 (c : Dev nD) (t : Fin cfg0.N) : (dats m 0 c).after 12 t = iblk m c 12 t := rfl

/-- Each input's current buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

set_option maxHeartbeats 6400000 in
/-- The body at any point: one of the five runs applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = Pipeline.ΦA spec0 c from rfl, show (dats m 0 c).Φ t.castSucc = Pipeline.ΦA spec0 c from rfl, PhiA0_eq]
  have hN : t.val < 27 := lt_of_lt_of_eq t.isLt N_0
  iintro ⟨⟨⟨⟨%d21, S0⟩, ⟨%d22, S1⟩, ⟨%d23, S2⟩, ⟨%d24, S3⟩, ⟨%d25, S4⟩, ⟨%d26, S5⟩, ⟨%d27, S6⟩, ⟨%d28, S7⟩⟩, Hg⟩, Ho, ⟨%y0, H0⟩, ⟨%y1, H1⟩, ⟨%y2, H2⟩, ⟨%y3, H3⟩, ⟨%y4, H4⟩, ⟨%y5, H5⟩, ⟨%y6, H6⟩, ⟨%y7, H7⟩, ⟨%y8, H8⟩, ⟨%y9, H9⟩, ⟨%y10, H10⟩, ⟨%y11, H11⟩, ⟨%y12, H12⟩, ⟨%y13, H13⟩, ⟨%y14, H14⟩, ⟨%y15, H15⟩, ⟨%y16, H16⟩, ⟨%y17, H17⟩, ⟨%y18, H18⟩, ⟨%y19, H19⟩⟩
  by_cases h0 : t.val = 0
  · iapply ((runA c (grid0.coords t) _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr (by omega)) ((hcond0_1 t).mpr (by omega)) (fun h => absurd ((hcond0_2 t).mp h) (by omega)) (fun h => absurd ((hcond0_3 t).mp h) (by omega)) (fun h => absurd ((hcond0_4 t).mp h) (by omega)) (iblk m c 1 t) (iblk m c 4 t) (iblk m c 5 t) (iblk m c 6 t) (iblk m c 7 t) (iblk m c 10 t) (iblk m c 12 t) d21 d22).2.2.2.2.2.2 Set.univ _)
    isplitl [H1]; · iexact H1
    isplitl [H4]; · iexact H4
    isplitl [H5]; · iexact H5
    isplitl [H6]; · iexact H6
    isplitl [H7]; · iexact H7
    isplitl [H10]; · iexact H10
    isplitl [H12]; · iexact H12
    isplitl [S0]; · iexact S0
    isplitl [S1]; · iexact S1
    isplitl [S4]; · iexists _; iexact S4
    isplitl [S5]; · iexists _; iexact S5
    isplitl [S6]; · iexists _; iexact S6
    isplitl [S7]; · iexists _; iexact S7
    iintro ⟨H1, H4, H5, H6, H7, H10, H12, S0, S1, ⟨%e25, S4⟩, ⟨%e26, S5⟩, ⟨%e27, S6⟩, ⟨%e28, S7⟩⟩
    isplitl [S0 S1 S2 S3 S4 S5 S6 S7 Hg]
    · isplitl [S0 S1 S2 S3 S4 S5 S6 S7]
      · isplitl [S0]
        · iexists _
          unfold owns; iexists _; isplitr
          swap; · iexact S0
          ipureintro; rfl
        isplitl [S1]
        · iexists _
          unfold owns; iexists _; isplitr
          swap; · iexact S1
          ipureintro; rfl
        isplitl [S2]
        · iexists _
          iexact S2
        isplitl [S3]
        · iexists _
          iexact S3
        isplitl [S4]
        · iexists _
          unfold owns; iexists _; isplitr
          swap; · iexact S4
          ipureintro; rfl
        isplitl [S5]
        · iexists _
          unfold owns; iexists _; isplitr
          swap; · iexact S5
          ipureintro; rfl
        isplitl [S6]
        · iexists _
          unfold owns; iexists _; isplitr
          swap; · iexact S6
          ipureintro; rfl
        iexists _
        unfold owns; iexists _; isplitr
        swap; · iexact S7
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexists _; iexact H13
    isplitl [H14]
    · iexists _; iexact H14
    isplitl [H15]
    · iexists _; iexact H15
    isplitl [H16]
    · iexists _; iexact H16
    isplitl [H17]
    · iexists _; iexact H17
    isplitl [H18]
    · iexists _; iexact H18
    iexists _; iexact H19
  by_cases h1 : t.val < 12
  · iapply ((runB c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => absurd ((hcond0_0 t).mp h) (by omega)) ((hcond0_1 t).mpr (by omega)) (fun h => absurd ((hcond0_2 t).mp h) (by omega)) (fun h => absurd ((hcond0_3 t).mp h) (by omega)) (fun h => absurd ((hcond0_4 t).mp h) (by omega)) (iblk m c 1 t) (iblk m c 7 t) d21 d22).2 Set.univ _)
    isplitl [H1]; · iexact H1
    isplitl [H7]; · iexact H7
    isplitl [S0]; · iexact S0
    isplitl [S1]; · iexact S1
    iintro ⟨H1, H7, S0, S1⟩
    isplitl [S0 S1 S2 S3 S4 S5 S6 S7 Hg]
    · isplitl [S0 S1 S2 S3 S4 S5 S6 S7]
      · isplitl [S0]
        · iexists _
          iexact S0
        isplitl [S1]
        · iexists _
          unfold owns; iexists _; isplitr
          swap; · iexact S1
          ipureintro; rfl
        isplitl [S2]
        · iexists _
          iexact S2
        isplitl [S3]
        · iexists _
          iexact S3
        isplitl [S4]
        · iexists _
          iexact S4
        isplitl [S5]
        · iexists _
          iexact S5
        isplitl [S6]
        · iexists _
          iexact S6
        iexists _
        iexact S7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexists _; iexact H13
    isplitl [H14]
    · iexists _; iexact H14
    isplitl [H15]
    · iexists _; iexact H15
    isplitl [H16]
    · iexists _; iexact H16
    isplitl [H17]
    · iexists _; iexact H17
    isplitl [H18]
    · iexists _; iexact H18
    iexists _; iexact H19
  by_cases h2 : t.val = 12
  · iapply ((runC c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => absurd ((hcond0_0 t).mp h) (by omega)) (fun h => absurd ((hcond0_1 t).mp h) (by omega)) ((hcond0_2 t).mpr (by omega)) (fun h => absurd ((hcond0_3 t).mp h) (by omega)) (fun h => absurd ((hcond0_4 t).mp h) (by omega)) (iblk m c 8 t) d22).2.2 Set.univ _)
    isplitl [H8]; · iexact H8
    isplitl [S1]; · iexact S1
    isplitl [S2]; · iexists _; iexact S2
    isplitl [S3]; · iexists _; iexact S3
    iintro ⟨H8, S1, ⟨%e23, S2⟩, ⟨%e24, S3⟩⟩
    isplitl [S0 S1 S2 S3 S4 S5 S6 S7 Hg]
    · isplitl [S0 S1 S2 S3 S4 S5 S6 S7]
      · isplitl [S0]
        · iexists _
          iexact S0
        isplitl [S1]
        · iexists _
          iexact S1
        isplitl [S2]
        · iexists _
          unfold owns; iexists _; isplitr
          swap; · iexact S2
          ipureintro; rfl
        isplitl [S3]
        · iexists _
          unfold owns; iexists _; isplitr
          swap; · iexact S3
          ipureintro; rfl
        isplitl [S4]
        · iexists _
          iexact S4
        isplitl [S5]
        · iexists _
          iexact S5
        isplitl [S6]
        · iexists _
          iexact S6
        iexists _
        iexact S7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexists _; iexact H13
    isplitl [H14]
    · iexists _; iexact H14
    isplitl [H15]
    · iexists _; iexact H15
    isplitl [H16]
    · iexists _; iexact H16
    isplitl [H17]
    · iexists _; iexact H17
    isplitl [H18]
    · iexists _; iexact H18
    iexists _; iexact H19
  by_cases h3 : t.val < 26
  · iapply ((runD c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => absurd ((hcond0_0 t).mp h) (by omega)) (fun h => absurd ((hcond0_1 t).mp h) (by omega)) (fun h => absurd ((hcond0_2 t).mp h) (by omega)) ((hcond0_3 t).mpr (by omega)) (fun h => absurd ((hcond0_4 t).mp h) (by omega)) (iblk m c 0 t) (iblk m c 2 t) (iblk m c 3 t) (iblk m c 8 t) (iblk m c 9 t) (iblk m c 11 t) d21 d22 d24 d25 d26 d27 d28).2.2.2.2.2.2.2.2.2 Set.univ _)
    isplitl [H0]; · iexact H0
    isplitl [H2]; · iexact H2
    isplitl [H3]; · iexact H3
    isplitl [H8]; · iexact H8
    isplitl [H9]; · iexact H9
    isplitl [H11]; · iexact H11
    isplitl [H13]; · iexists _; iexact H13
    isplitl [H14]; · iexists _; iexact H14
    isplitl [H15]; · iexists _; iexact H15
    isplitl [H17]; · iexists _; iexact H17
    isplitl [H19]; · iexists _; iexact H19
    isplitl [S0]; · iexact S0
    isplitl [S1]; · iexact S1
    isplitl [S2]; · iexists _; iexact S2
    isplitl [S3]; · iexact S3
    isplitl [S4]; · iexact S4
    isplitl [S5]; · iexact S5
    isplitl [S6]; · iexact S6
    isplitl [S7]; · iexact S7
    iintro ⟨H0, H2, H3, H8, H9, H11, ⟨%e14, H13⟩, ⟨%e15, H14⟩, ⟨%e16, H15⟩, ⟨%e18, H17⟩, ⟨%e20, H19⟩, S0, S1, ⟨%e23, S2⟩, S3, S4, S5, S6, S7⟩
    isplitl [S0 S1 S2 S3 S4 S5 S6 S7 Hg]
    · isplitl [S0 S1 S2 S3 S4 S5 S6 S7]
      · isplitl [S0]
        · iexists _
          iexact S0
        isplitl [S1]
        · iexists _
          iexact S1
        isplitl [S2]
        · iexists _
          unfold owns; iexists _; isplitr
          swap; · iexact S2
          ipureintro; rfl
        isplitl [S3]
        · iexists _
          unfold owns; iexists _; isplitr
          swap; · iexact S3
          ipureintro; rfl
        isplitl [S4]
        · iexists _
          iexact S4
        isplitl [S5]
        · iexists _
          iexact S5
        isplitl [S6]
        · iexists _
          unfold owns; iexists _; isplitr
          swap; · iexact S6
          ipureintro; rfl
        iexists _
        unfold owns; iexists _; isplitr
        swap; · iexact S7
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexists _
      unfold owns; iexists _; isplitr
      swap; · iexact H13
      ipureintro; rfl
    isplitl [H14]
    · iexists _
      unfold owns; iexists _; isplitr
      swap; · iexact H14
      ipureintro; rfl
    isplitl [H15]
    · iexists _
      unfold owns; iexists _; isplitr
      swap; · iexact H15
      ipureintro; rfl
    isplitl [H16]
    · iexists _; iexact H16
    isplitl [H17]
    · iexists _
      unfold owns; iexists _; isplitr
      swap; · iexact H17
      ipureintro; rfl
    isplitl [H18]
    · iexists _; iexact H18
    iexists _
    unfold owns; iexists _; isplitr
    swap; · iexact H19
    ipureintro; rfl
  have h4 : t.val = 26 := by omega
  iapply ((runE c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => absurd ((hcond0_0 t).mp h) (by omega)) (fun h => absurd ((hcond0_1 t).mp h) (by omega)) (fun h => absurd ((hcond0_2 t).mp h) (by omega)) (fun h => absurd ((hcond0_3 t).mp h) (by omega)) ((hcond0_4 t).mpr (by omega)) (iblk m c 0 t) (iblk m c 2 t) (iblk m c 3 t) (iblk m c 9 t) (iblk m c 11 t) d24 d25 d26 d27 d28).2.2.2.2.2.2.2.2 Set.univ _)
  isplitl [H0]; · iexact H0
  isplitl [H2]; · iexact H2
  isplitl [H3]; · iexact H3
  isplitl [H9]; · iexact H9
  isplitl [H11]; · iexact H11
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [S3]; · iexact S3
  isplitl [S4]; · iexact S4
  isplitl [S5]; · iexact S5
  isplitl [S6]; · iexact S6
  isplitl [S7]; · iexact S7
  iintro ⟨H0, H2, H3, H9, H11, ⟨%e14, H13⟩, ⟨%e15, H14⟩, ⟨%e16, H15⟩, ⟨%e17, H16⟩, ⟨%e18, H17⟩, ⟨%e19, H18⟩, S3, S4, S5, S6, S7⟩
  isplitl [S0 S1 S2 S3 S4 S5 S6 S7 Hg]
  · isplitl [S0 S1 S2 S3 S4 S5 S6 S7]
    · isplitl [S0]
      · iexists _
        iexact S0
      isplitl [S1]
      · iexists _
        iexact S1
      isplitl [S2]
      · iexists _
        iexact S2
      isplitl [S3]
      · iexists _
        iexact S3
      isplitl [S4]
      · iexists _
        iexact S4
      isplitl [S5]
      · iexists _
        iexact S5
      isplitl [S6]
      · iexists _
        unfold owns; iexists _; isplitr
        swap; · iexact S6
        ipureintro; rfl
      iexists _
      unfold owns; iexists _; isplitr
      swap; · iexact S7
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _
    unfold owns; iexists _; isplitr
    swap; · iexact H13
    ipureintro; rfl
  isplitl [H14]
  · iexists _
    unfold owns; iexists _; isplitr
    swap; · iexact H14
    ipureintro; rfl
  isplitl [H15]
  · iexists _
    unfold owns; iexists _; isplitr
    swap; · iexact H15
    ipureintro; rfl
  isplitl [H16]
  · iexists _
    unfold owns; iexists _; isplitr
    swap; · iexact H16
    ipureintro; rfl
  isplitl [H17]
  · iexists _
    unfold owns; iexists _; isplitr
    swap; · iexact H17
    ipureintro; rfl
  isplitl [H18]
  · iexists _
    unfold owns; iexists _; isplitr
    swap; · iexact H18
    ipureintro; rfl
  iexists _; iexact H19

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation of the launch, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- An argument array is staged by an input window, and an input window never writes its array. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c)),
      (Pipeline.RDat.FramePost.arr_in h c 11 rfl).trans ((hA c 11).trans (V_main_arg11 m c)),
      (Pipeline.RDat.FramePost.arr_in h c 12 rfl).trans ((hA c 12).trans (V_main_arg12 m c))⟩) h

-- the launch lemma's implicit arguments are found by unifying its conclusion with this one, which takes unfolding plain
-- definitions in a metavariable's type
set_option backward.isDefEq.respectTransparency.types false in
/-- The launch: every input array at the end is as it was, and every semaphore counter of the machine is zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch0.to₀ defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of_forget m ρ (fun c => (dats m 0 c).toRForget forgets0) (A_eq m) ((θ_run defs _ _).mono (fun _ h => h.1) (run_main_quiescent m ρ)))
    ((θ_run defs _ _).mono (fun _ h => h.2) (run_main_quiescent m ρ))

end Cert.Lowrank.Hand

end
-- ==== Proof.LI.Base.lean ====
/- The branch conditions over the grid, the staging buffers at a grid point, and the kernel's own scratch as owned buffers. -/
module

public import proofs.«01_k».proof.Proof.Gen.LowrankIdeal.Launch
public import proofs.«01_k».proof.Proof.Gen.LowrankIdeal.Skeleton
public import proofs.«01_k».proof.Proof.Gen.LowrankIdeal.Points
public import proofs.«01_k».proof.Proof.Gen.LowrankIdeal.Frame
public import proofs.«01_k».proof.Proof.Gen.LowrankIdeal.Loops
public import Idealize.ShloMosaic.Lib.Pipeline.FrameBody
public import Idealize.ShloMosaic.Lib.Tactic
public import Idealize.ShloMosaic.Lib.WordCmp

@[expose] public section

set_option maxRecDepth 16384

noncomputable section

namespace Cert.LowrankIdeal.Hand

open Cert.LowrankIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The conditions of the body's five branches, from the grid coordinate. -/
abbrev cond0_0 (i : grid0.Coords) : Prop := k0_cond1 i = 1#1
abbrev cond0_1 (i : grid0.Coords) : Prop := k0_cond2 i = 1#1
abbrev cond0_2 (i : grid0.Coords) : Prop := (Scalar.cmpi .ne (Scalar.extui (Scalar.cmpi .eq (Scalar.subi (BitVec.ofNat 32 (i 0).val) 12#32) 0#32)) 0#32) = 1#1
abbrev cond0_3 (i : grid0.Coords) : Prop := k0_cond4 i = 1#1
abbrev cond0_4 (i : grid0.Coords) : Prop := k0_cond5 i = 1#1

theorem coord0 (t : Fin cfg0.N) : (grid0.coords t 0).val = t.val := by
  have ht : t.val < 27 := Nat.lt_of_lt_of_eq t.isLt N_0
  have e0 : (grid0.coords t 0).val = t.val / 1 % 27 := Pipeline.Grid.coords_val t 0 (by decide) rfl
  omega

/-- Where each holds. -/
theorem hcond0_0 (t : Fin cfg0.N) : cond0_0 (grid0.coords t) ↔ t.val = 0 :=
  (by decide +kernel : ∀ t : Fin grid0.N, cond0_0 (grid0.coords t) ↔ t.val = 0) t
theorem hcond0_1 (t : Fin cfg0.N) : cond0_1 (grid0.coords t) ↔ t.val < 12 :=
  (by decide +kernel : ∀ t : Fin grid0.N, cond0_1 (grid0.coords t) ↔ t.val < 12) t
theorem hcond0_2 (t : Fin cfg0.N) : cond0_2 (grid0.coords t) ↔ t.val = 12 :=
  (by decide +kernel : ∀ t : Fin grid0.N, cond0_2 (grid0.coords t) ↔ t.val = 12) t
theorem hcond0_3 (t : Fin cfg0.N) : cond0_3 (grid0.coords t) ↔ 12 < t.val ∧ t.val < 26 :=
  (by decide +kernel : ∀ t : Fin grid0.N, cond0_3 (grid0.coords t) ↔ 12 < t.val ∧ t.val < 26) t
theorem hcond0_4 (t : Fin cfg0.N) : cond0_4 (grid0.coords t) ↔ t.val = 26 :=
  (by decide +kernel : ∀ t : Fin grid0.N, cond0_4 (grid0.coords t) ↔ t.val = 26) t

/-! ## The buffers -/

/-- Each window's current staging memref at point `t`, and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2304x384 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S6x2304 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S6x2304 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x2304 .fp8e5m2 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S12288x512 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S768x512 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S28x768 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S768x512 .i8 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S28x768 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S768x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S768x512 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S768x512 .i8 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S28x768 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S768x512 .i8 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S28x768 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S256x768 .bf16 := win0_19.stage (cfg0.slots t 19)
abbrev hs0_19 (t : Fin cfg0.N) : (ms0_19 t).IsWhole := hstage0_19 ((cfg0.slots t 19).cast nbuf0_19)
/-- The scratch operands: whole scoped buffers of the kernel's own, passed beside the windows. -/
abbrev scM0_0 : Memref sig .tc .vmem S768x2304 .bf16 := Memref.whole cc0_scratch0
abbrev scM0_1 : Memref sig .tc .vmem S768x12288 .bf16 := Memref.whole cc0_scratch1
abbrev scM0_2 : Memref sig .tc .vmem S768x512 .f32 := Memref.whole cc0_scratch2
abbrev scM0_3 : Memref sig .tc .vmem S768x512 .f32 := Memref.whole cc0_scratch3
abbrev scM0_4 : Memref sig .tc .vmem S768x28 .f32 := Memref.whole cc0_scratch4
abbrev scM0_5 : Memref sig .tc .vmem S768x28 .f32 := Memref.whole cc0_scratch5
abbrev scM0_6 : Memref sig .tc .vmem S768x28 .f32 := Memref.whole cc0_scratch6
abbrev scM0_7 : Memref sig .tc .vmem S768x28 .f32 := Memref.whole cc0_scratch7

/-- The invariant of a kernel that keeps nothing, with the scratch operands as memrefs owned at some contents. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.LowrankIdeal.Hand

end
-- ==== Proof.LI.RunA.lean ====
/- The run of the kernel's body in one of its five cases. -/
module

public import proofs.«01_k».proof.Proof.LI.Base

@[expose] public section

set_option maxRecDepth 16384

noncomputable section

namespace Cert.LowrankIdeal.Hand

open Cert.LowrankIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S2304x384 .i8) (harg5 : arg5.IsWhole) (arg6 : Memref sig .tc .vmem S6x2304 .f32) (harg6 : arg6.IsWhole) (arg7 : Memref sig .tc .vmem S6x2304 .f32) (harg7 : arg7.IsWhole) (arg8 : Memref sig .tc .vmem S1024x2304 .fp8e5m2) (harg8 : arg8.IsWhole) (arg9 : Memref sig .tc .vmem S12288x512 .fp8e4m3) (harg9 : arg9.IsWhole) (arg10 : Memref sig .tc .vmem S768x512 .i8) (harg10 : arg10.IsWhole) (arg11 : Memref sig .tc .vmem S28x768 .f32) (harg11 : arg11.IsWhole) (arg12 : Memref sig .tc .vmem S768x512 .i8) (harg12 : arg12.IsWhole) (arg13 : Memref sig .tc .vmem S28x768 .f32) (harg13 : arg13.IsWhole) (arg14 : Memref sig .tc .vmem S768x512 .f32) (harg14 : arg14.IsWhole) (arg15 : Memref sig .tc .vmem S768x512 .f32) (harg15 : arg15.IsWhole) (arg16 : Memref sig .tc .vmem S768x512 .i8) (harg16 : arg16.IsWhole) (arg17 : Memref sig .tc .vmem S28x768 .f32) (harg17 : arg17.IsWhole) (arg18 : Memref sig .tc .vmem S768x512 .i8) (harg18 : arg18.IsWhole) (arg19 : Memref sig .tc .vmem S28x768 .f32) (harg19 : arg19.IsWhole) (arg20 : Memref sig .tc .vmem S256x768 .bf16) (harg20 : arg20.IsWhole) (arg21 : Memref sig .tc .vmem S768x2304 .bf16) (harg21 : arg21.IsWhole) (arg22 : Memref sig .tc .vmem S768x12288 .bf16) (harg22 : arg22.IsWhole) (arg23 : Memref sig .tc .vmem S768x512 .f32) (harg23 : arg23.IsWhole) (arg24 : Memref sig .tc .vmem S768x512 .f32) (harg24 : arg24.IsWhole) (arg25 : Memref sig .tc .vmem S768x28 .f32) (harg25 : arg25.IsWhole) (arg26 : Memref sig .tc .vmem S768x28 .f32) (harg26 : arg26.IsWhole) (arg27 : Memref sig .tc .vmem S768x28 .f32) (harg27 : arg27.IsWhole) (arg28 : Memref sig .tc .vmem S768x28 .f32) (harg28 : arg28.IsWhole)

set_option maxHeartbeats 16000000 in
/-- The body at the first grid point: the projection is decoded, the scale tables are transposed, the new tables are
    cleared, and the first columns of the projected gradients are computed. -/
noncomputable def runA (h1 : cond0_0 i) (h2 : cond0_1 i) (h3 : ¬cond0_2 i) (h4 : ¬cond0_3 i) (h5 : ¬cond0_4 i)
    (x2 : Vec F S1 .f32) (x5 : Vec F S2304x384 .i8) (x6 : Vec F S6x2304 .f32) (x7 : Vec F S6x2304 .f32) (x8 : Vec F S1024x2304 .fp8e5m2) (x11 : Vec F S28x768 .f32) (x13 : Vec F S28x768 .f32) (x21 : Vec F S768x2304 .bf16) (x22 : Vec F S768x12288 .bf16) :
    Σ' (L21 : List (View.Piece (Elt F) S768x2304 .bf16)), Σ' (L22 : List (View.Piece (Elt F) S768x12288 .bf16)), Σ' (L25 : List (View.Piece (Elt F) S768x28 .f32)), Σ' (L26 : List (View.Piece (Elt F) S768x28 .f32)), Σ' (L27 : List (View.Piece (Elt F) S768x28 .f32)), { L28 : List (View.Piece (Elt F) S768x28 .f32) //
      ∀ (E : Set ℕ) (K : PUnit → sProp 𝕄),
        iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg11 fullShare x11 ∗ owns (c : Thread nD τ) arg13 fullShare x13 ∗ owns (c : Thread nD τ) arg21 fullShare x21 ∗ owns (c : Thread nD τ) arg22 fullShare x22 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg2 fullShare x2 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg11 fullShare x11 ∗ owns (c : Thread nD τ) arg13 fullShare x13 ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22) ∗ (∃ f, arg25.view.loc (c : Thread nD τ) ↦[arg25.view.set]{fullShare} arg25.view.writes (Elt F) f L25) ∗ (∃ f, arg26.view.loc (c : Thread nD τ) ↦[arg26.view.set]{fullShare} arg26.view.writes (Elt F) f L26) ∗ (∃ f, arg27.view.loc (c : Thread nD τ) ↦[arg27.view.set]{fullShare} arg27.view.writes (Elt F) f L27) ∗ (∃ f, arg28.view.loc (c : Thread nD τ) ↦[arg28.view.set]{fullShare} arg28.view.writes (Elt F) f L28)) -∗ K ⟨⟩))
          ⊢ wp frame (wpE (defs₀ (F := F)) Variants.none c none) E (cc0_lowrank_adam i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, fun E K => ?run⟩
  case run =>
    simp only [cc0_lowrank_adam_eq_skeleton]; unfold cc0_lowrank_adam_skel
    unfold owns
    iintro ⟨⟨%f2, %hf2, H2⟩, ⟨%f5, %hf5, H5⟩, ⟨%f6, %hf6, H6⟩, ⟨%f7, %hf7, H7⟩, ⟨%f8, %hf8, H8⟩, ⟨%f11, %hf11, H11⟩, ⟨%f13, %hf13, H13⟩, ⟨%f21, %hf21, H21⟩, ⟨%f22, %hf22, H22⟩, ⟨%d25, %f25, -, H25⟩, ⟨%d26, %f26, -, H26⟩, ⟨%d27, %f27, -, H27⟩, ⟨%d28, %f28, -, H28⟩, Hk⟩
    obtain rfl := harg2.eq_unread hf2; obtain rfl := harg5.eq_unread hf5; obtain rfl := harg6.eq_unread hf6; obtain rfl := harg7.eq_unread hf7; obtain rfl := harg8.eq_unread hf8; obtain rfl := harg11.eq_unread hf11; obtain rfl := harg13.eq_unread hf13; obtain rfl := harg21.eq_unread hf21; obtain rfl := harg22.eq_unread hf22
    sl_exec (disch := first | sl_exact h1 | sl_exact h2 | sl_exact h3 | sl_exact h4 | sl_exact h5)
    sl_step
    iapply Hk
    isplitl [H2]
    · iexists _; isplitr; · ipureintro; exact harg2.read_unread _
      iexact H2
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H11]
    · iexists _; isplitr; · ipureintro; exact harg11.read_unread _
      iexact H11
    isplitl [H13]
    · iexists _; isplitr; · ipureintro; exact harg13.read_unread _
      iexact H13
    isplitl [H21]; · iexact H21
    isplitl [H22]; · iexact H22
    isplitl [H25]; · iexists _; iexact H25
    isplitl [H26]; · iexists _; iexact H26
    isplitl [H27]; · iexists _; iexact H27
    iexists _; iexact H28

end Cert.LowrankIdeal.Hand

end
-- ==== Proof.LI.RunB.lean ====
/- The run of the kernel's body in one of its five cases. -/
module

public import proofs.«01_k».proof.Proof.LI.Base

@[expose] public section

set_option maxRecDepth 16384

noncomputable section

namespace Cert.LowrankIdeal.Hand

open Cert.LowrankIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S2304x384 .i8) (harg5 : arg5.IsWhole) (arg6 : Memref sig .tc .vmem S6x2304 .f32) (harg6 : arg6.IsWhole) (arg7 : Memref sig .tc .vmem S6x2304 .f32) (harg7 : arg7.IsWhole) (arg8 : Memref sig .tc .vmem S1024x2304 .fp8e5m2) (harg8 : arg8.IsWhole) (arg9 : Memref sig .tc .vmem S12288x512 .fp8e4m3) (harg9 : arg9.IsWhole) (arg10 : Memref sig .tc .vmem S768x512 .i8) (harg10 : arg10.IsWhole) (arg11 : Memref sig .tc .vmem S28x768 .f32) (harg11 : arg11.IsWhole) (arg12 : Memref sig .tc .vmem S768x512 .i8) (harg12 : arg12.IsWhole) (arg13 : Memref sig .tc .vmem S28x768 .f32) (harg13 : arg13.IsWhole) (arg14 : Memref sig .tc .vmem S768x512 .f32) (harg14 : arg14.IsWhole) (arg15 : Memref sig .tc .vmem S768x512 .f32) (harg15 : arg15.IsWhole) (arg16 : Memref sig .tc .vmem S768x512 .i8) (harg16 : arg16.IsWhole) (arg17 : Memref sig .tc .vmem S28x768 .f32) (harg17 : arg17.IsWhole) (arg18 : Memref sig .tc .vmem S768x512 .i8) (harg18 : arg18.IsWhole) (arg19 : Memref sig .tc .vmem S28x768 .f32) (harg19 : arg19.IsWhole) (arg20 : Memref sig .tc .vmem S256x768 .bf16) (harg20 : arg20.IsWhole) (arg21 : Memref sig .tc .vmem S768x2304 .bf16) (harg21 : arg21.IsWhole) (arg22 : Memref sig .tc .vmem S768x12288 .bf16) (harg22 : arg22.IsWhole) (arg23 : Memref sig .tc .vmem S768x512 .f32) (harg23 : arg23.IsWhole) (arg24 : Memref sig .tc .vmem S768x512 .f32) (harg24 : arg24.IsWhole) (arg25 : Memref sig .tc .vmem S768x28 .f32) (harg25 : arg25.IsWhole) (arg26 : Memref sig .tc .vmem S768x28 .f32) (harg26 : arg26.IsWhole) (arg27 : Memref sig .tc .vmem S768x28 .f32) (harg27 : arg27.IsWhole) (arg28 : Memref sig .tc .vmem S768x28 .f32) (harg28 : arg28.IsWhole)

set_option maxHeartbeats 16000000 in
/-- The body at the points 1 to 11: further columns of the projected gradients. -/
noncomputable def runB (h1 : ¬cond0_0 i) (h2 : cond0_1 i) (h3 : ¬cond0_2 i) (h4 : ¬cond0_3 i) (h5 : ¬cond0_4 i)
    (x2 : Vec F S1 .f32) (x8 : Vec F S1024x2304 .fp8e5m2) (x21 : Vec F S768x2304 .bf16) (x22 : Vec F S768x12288 .bf16) :
     { L22 : List (View.Piece (Elt F) S768x12288 .bf16) //
      ∀ (E : Set ℕ) (K : PUnit → sProp 𝕄),
        iprop(owns (c : Thread nD τ) arg2 fullShare x2 ∗ owns (c : Thread nD τ) arg8 fullShare x8 ∗ owns (c : Thread nD τ) arg21 fullShare x21 ∗ owns (c : Thread nD τ) arg22 fullShare x22
            ∗ (iprop(owns (c : Thread nD τ) arg2 fullShare x2 ∗ owns (c : Thread nD τ) arg8 fullShare x8 ∗ owns (c : Thread nD τ) arg21 fullShare x21 ∗ (arg22.view.loc (c : Thread nD τ) ↦[arg22.view.set]{fullShare} arg22.view.writes (Elt F) (harg22.unread x22) L22)) -∗ K ⟨⟩))
          ⊢ wp frame (wpE (defs₀ (F := F)) Variants.none c none) E (cc0_lowrank_adam i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, fun E K => ?run⟩
  case run =>
    simp only [cc0_lowrank_adam_eq_skeleton]; unfold cc0_lowrank_adam_skel
    unfold owns
    iintro ⟨⟨%f2, %hf2, H2⟩, ⟨%f8, %hf8, H8⟩, ⟨%f21, %hf21, H21⟩, ⟨%f22, %hf22, H22⟩, Hk⟩
    obtain rfl := harg2.eq_unread hf2; obtain rfl := harg8.eq_unread hf8; obtain rfl := harg21.eq_unread hf21; obtain rfl := harg22.eq_unread hf22
    sl_exec (disch := first | sl_exact h1 | sl_exact h2 | sl_exact h3 | sl_exact h4 | sl_exact h5)
    sl_step
    iapply Hk
    isplitl [H2]
    · iexists _; isplitr; · ipureintro; exact harg2.read_unread _
      iexact H2
    isplitl [H8]
    · iexists _; isplitr; · ipureintro; exact harg8.read_unread _
      iexact H8
    isplitl [H21]
    · iexists _; isplitr; · ipureintro; exact harg21.read_unread _
      iexact H21
    iexact H22

end Cert.LowrankIdeal.Hand

end
-- ==== Proof.LI.RunC.lean ====
/- The run of the kernel's body in one of its five cases. -/
module

public import proofs.«01_k».proof.Proof.LI.Base

@[expose] public section

set_option maxRecDepth 16384

noncomputable section

namespace Cert.LowrankIdeal.Hand

open Cert.LowrankIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S2304x384 .i8) (harg5 : arg5.IsWhole) (arg6 : Memref sig .tc .vmem S6x2304 .f32) (harg6 : arg6.IsWhole) (arg7 : Memref sig .tc .vmem S6x2304 .f32) (harg7 : arg7.IsWhole) (arg8 : Memref sig .tc .vmem S1024x2304 .fp8e5m2) (harg8 : arg8.IsWhole) (arg9 : Memref sig .tc .vmem S12288x512 .fp8e4m3) (harg9 : arg9.IsWhole) (arg10 : Memref sig .tc .vmem S768x512 .i8) (harg10 : arg10.IsWhole) (arg11 : Memref sig .tc .vmem S28x768 .f32) (harg11 : arg11.IsWhole) (arg12 : Memref sig .tc .vmem S768x512 .i8) (harg12 : arg12.IsWhole) (arg13 : Memref sig .tc .vmem S28x768 .f32) (harg13 : arg13.IsWhole) (arg14 : Memref sig .tc .vmem S768x512 .f32) (harg14 : arg14.IsWhole) (arg15 : Memref sig .tc .vmem S768x512 .f32) (harg15 : arg15.IsWhole) (arg16 : Memref sig .tc .vmem S768x512 .i8) (harg16 : arg16.IsWhole) (arg17 : Memref sig .tc .vmem S28x768 .f32) (harg17 : arg17.IsWhole) (arg18 : Memref sig .tc .vmem S768x512 .i8) (harg18 : arg18.IsWhole) (arg19 : Memref sig .tc .vmem S28x768 .f32) (harg19 : arg19.IsWhole) (arg20 : Memref sig .tc .vmem S256x768 .bf16) (harg20 : arg20.IsWhole) (arg21 : Memref sig .tc .vmem S768x2304 .bf16) (harg21 : arg21.IsWhole) (arg22 : Memref sig .tc .vmem S768x12288 .bf16) (harg22 : arg22.IsWhole) (arg23 : Memref sig .tc .vmem S768x512 .f32) (harg23 : arg23.IsWhole) (arg24 : Memref sig .tc .vmem S768x512 .f32) (harg24 : arg24.IsWhole) (arg25 : Memref sig .tc .vmem S768x28 .f32) (harg25 : arg25.IsWhole) (arg26 : Memref sig .tc .vmem S768x28 .f32) (harg26 : arg26.IsWhole) (arg27 : Memref sig .tc .vmem S768x28 .f32) (harg27 : arg27.IsWhole) (arg28 : Memref sig .tc .vmem S768x28 .f32) (harg28 : arg28.IsWhole)

set_option maxHeartbeats 16000000 in
/-- The body at point 12: the first column block of the gradient, in six chunks of tokens. -/
noncomputable def runC (h1 : ¬cond0_0 i) (h2 : ¬cond0_1 i) (h3 : cond0_2 i) (h4 : ¬cond0_3 i) (h5 : ¬cond0_4 i)
    (x9 : Vec F S12288x512 .fp8e4m3) (x22 : Vec F S768x12288 .bf16) :
    Σ' (L23 : List (View.Piece (Elt F) S768x512 .f32)), { L24 : List (View.Piece (Elt F) S768x512 .f32) //
      ∀ (E : Set ℕ) (K : PUnit → sProp 𝕄),
        iprop(owns (c : Thread nD τ) arg9 fullShare x9 ∗ owns (c : Thread nD τ) arg22 fullShare x22 ∗ (∃ d, owns (c : Thread nD τ) arg23 fullShare d) ∗ (∃ d, owns (c : Thread nD τ) arg24 fullShare d)
            ∗ (iprop(owns (c : Thread nD τ) arg9 fullShare x9 ∗ owns (c : Thread nD τ) arg22 fullShare x22 ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24)) -∗ K ⟨⟩))
          ⊢ wp frame (wpE (defs₀ (F := F)) Variants.none c none) E (cc0_lowrank_adam i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, fun E K => ?run⟩
  case run =>
    simp only [cc0_lowrank_adam_eq_skeleton]; unfold cc0_lowrank_adam_skel
    simp only [k0_part3_eq_skeleton]
    unfold owns
    iintro ⟨⟨%f9, %hf9, H9⟩, ⟨%f22, %hf22, H22⟩, ⟨%d23, %f23, -, H23⟩, ⟨%d24, %f24, -, H24⟩, Hk⟩
    obtain rfl := harg9.eq_unread hf9; obtain rfl := harg22.eq_unread hf22
    sl_exec (disch := first | sl_exact h1 | sl_exact h2 | sl_exact h3 | sl_exact h4 | sl_exact h5)
    sl_step
    iapply Hk
    isplitl [H9]
    · iexists _; isplitr; · ipureintro; exact harg9.read_unread _
      iexact H9
    isplitl [H22]
    · iexists _; isplitr; · ipureintro; exact harg22.read_unread _
      iexact H22
    isplitl [H23]; · iexists _; iexact H23
    iexists _; iexact H24

end Cert.LowrankIdeal.Hand

end
-- ==== Proof.LI.RunD.lean ====
/- The run of the kernel's body in one of its five cases. -/
module

public import proofs.«01_k».proof.Proof.LI.Base

@[expose] public section

set_option maxRecDepth 16384

noncomputable section

namespace Cert.LowrankIdeal.Hand

open Cert.LowrankIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S2304x384 .i8) (harg5 : arg5.IsWhole) (arg6 : Memref sig .tc .vmem S6x2304 .f32) (harg6 : arg6.IsWhole) (arg7 : Memref sig .tc .vmem S6x2304 .f32) (harg7 : arg7.IsWhole) (arg8 : Memref sig .tc .vmem S1024x2304 .fp8e5m2) (harg8 : arg8.IsWhole) (arg9 : Memref sig .tc .vmem S12288x512 .fp8e4m3) (harg9 : arg9.IsWhole) (arg10 : Memref sig .tc .vmem S768x512 .i8) (harg10 : arg10.IsWhole) (arg11 : Memref sig .tc .vmem S28x768 .f32) (harg11 : arg11.IsWhole) (arg12 : Memref sig .tc .vmem S768x512 .i8) (harg12 : arg12.IsWhole) (arg13 : Memref sig .tc .vmem S28x768 .f32) (harg13 : arg13.IsWhole) (arg14 : Memref sig .tc .vmem S768x512 .f32) (harg14 : arg14.IsWhole) (arg15 : Memref sig .tc .vmem S768x512 .f32) (harg15 : arg15.IsWhole) (arg16 : Memref sig .tc .vmem S768x512 .i8) (harg16 : arg16.IsWhole) (arg17 : Memref sig .tc .vmem S28x768 .f32) (harg17 : arg17.IsWhole) (arg18 : Memref sig .tc .vmem S768x512 .i8) (harg18 : arg18.IsWhole) (arg19 : Memref sig .tc .vmem S28x768 .f32) (harg19 : arg19.IsWhole) (arg20 : Memref sig .tc .vmem S256x768 .bf16) (harg20 : arg20.IsWhole) (arg21 : Memref sig .tc .vmem S768x2304 .bf16) (harg21 : arg21.IsWhole) (arg22 : Memref sig .tc .vmem S768x12288 .bf16) (harg22 : arg22.IsWhole) (arg23 : Memref sig .tc .vmem S768x512 .f32) (harg23 : arg23.IsWhole) (arg24 : Memref sig .tc .vmem S768x512 .f32) (harg24 : arg24.IsWhole) (arg25 : Memref sig .tc .vmem S768x28 .f32) (harg25 : arg25.IsWhole) (arg26 : Memref sig .tc .vmem S768x28 .f32) (harg26 : arg26.IsWhole) (arg27 : Memref sig .tc .vmem S768x28 .f32) (harg27 : arg27.IsWhole) (arg28 : Memref sig .tc .vmem S768x28 .f32) (harg28 : arg28.IsWhole)

set_option maxHeartbeats 16000000 in
/-- The body at the points 13 to 25: the update of the column block before, and the gradient of the next. -/
noncomputable def runD (h1 : ¬cond0_0 i) (h2 : ¬cond0_1 i) (h3 : ¬cond0_2 i) (h4 : cond0_3 i) (h5 : ¬cond0_4 i)
    (x1 : Vec F S1 .f32) (x3 : Vec F S1 .f32) (x4 : Vec F S1 .f32) (x9 : Vec F S12288x512 .fp8e4m3) (x10 : Vec F S768x512 .i8) (x12 : Vec F S768x512 .i8) (x21 : Vec F S768x2304 .bf16) (x22 : Vec F S768x12288 .bf16) (x24 : Vec F S768x512 .f32) (x25 : Vec F S768x28 .f32) (x26 : Vec F S768x28 .f32) (x27 : Vec F S768x28 .f32) (x28 : Vec F S768x28 .f32) :
    Σ' (L14 : List (View.Piece (Elt F) S768x512 .f32)), Σ' (L15 : List (View.Piece (Elt F) S768x512 .f32)), Σ' (L16 : List (View.Piece (Elt F) S768x512 .i8)), Σ' (L18 : List (View.Piece (Elt F) S768x512 .i8)), Σ' (L20 : List (View.Piece (Elt F) S256x768 .bf16)), Σ' (L23 : List (View.Piece (Elt F) S768x512 .f32)), Σ' (L24 : List (View.Piece (Elt F) S768x512 .f32)), Σ' (L27 : List (View.Piece (Elt F) S768x28 .f32)), { L28 : List (View.Piece (Elt F) S768x28 .f32) //
      ∀ (E : Set ℕ) (K : PUnit → sProp 𝕄),
        iprop(owns (c : Thread nD τ) arg1 fullShare x1 ∗ owns (c : Thread nD τ) arg3 fullShare x3 ∗ owns (c : Thread nD τ) arg4 fullShare x4 ∗ owns (c : Thread nD τ) arg9 fullShare x9 ∗ owns (c : Thread nD τ) arg10 fullShare x10 ∗ owns (c : Thread nD τ) arg12 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg18 fullShare d) ∗ (∃ d, owns (c : Thread nD τ) arg20 fullShare d) ∗ owns (c : Thread nD τ) arg21 fullShare x21 ∗ owns (c : Thread nD τ) arg22 fullShare x22 ∗ (∃ d, owns (c : Thread nD τ) arg23 fullShare d) ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28
            ∗ (iprop(owns (c : Thread nD τ) arg1 fullShare x1 ∗ owns (c : Thread nD τ) arg3 fullShare x3 ∗ owns (c : Thread nD τ) arg4 fullShare x4 ∗ owns (c : Thread nD τ) arg9 fullShare x9 ∗ owns (c : Thread nD τ) arg10 fullShare x10 ∗ owns (c : Thread nD τ) arg12 fullShare x12 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg18.view.loc (c : Thread nD τ) ↦[arg18.view.set]{fullShare} arg18.view.writes (Elt F) f L18) ∗ (∃ f, arg20.view.loc (c : Thread nD τ) ↦[arg20.view.set]{fullShare} arg20.view.writes (Elt F) f L20) ∗ owns (c : Thread nD τ) arg21 fullShare x21 ∗ owns (c : Thread nD τ) arg22 fullShare x22 ∗ (∃ f, arg23.view.loc (c : Thread nD τ) ↦[arg23.view.set]{fullShare} arg23.view.writes (Elt F) f L23) ∗ (arg24.view.loc (c : Thread nD τ) ↦[arg24.view.set]{fullShare} arg24.view.writes (Elt F) (harg24.unread x24) L24) ∗ owns (c : Thread nD τ) arg25 fullShare x25 ∗ owns (c : Thread nD τ) arg26 fullShare x26 ∗ (arg27.view.loc (c : Thread nD τ) ↦[arg27.view.set]{fullShare} arg27.view.writes (Elt F) (harg27.unread x27) L27) ∗ (arg28.view.loc (c : Thread nD τ) ↦[arg28.view.set]{fullShare} arg28.view.writes (Elt F) (harg28.unread x28) L28)) -∗ K ⟨⟩))
          ⊢ wp frame (wpE (defs₀ (F := F)) Variants.none c none) E (cc0_lowrank_adam i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, ?_, ?_, ?_, fun E K => ?run⟩
  case run =>
    simp only [cc0_lowrank_adam_eq_skeleton]; unfold cc0_lowrank_adam_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f1, %hf1, H1⟩, ⟨%f3, %hf3, H3⟩, ⟨%f4, %hf4, H4⟩, ⟨%f9, %hf9, H9⟩, ⟨%f10, %hf10, H10⟩, ⟨%f12, %hf12, H12⟩, ⟨%d14, %f14, -, H14⟩, ⟨%d15, %f15, -, H15⟩, ⟨%d16, %f16, -, H16⟩, ⟨%d18, %f18, -, H18⟩, ⟨%d20, %f20, -, H20⟩, ⟨%f21, %hf21, H21⟩, ⟨%f22, %hf22, H22⟩, ⟨%d23, %f23, -, H23⟩, ⟨%f24, %hf24, H24⟩, ⟨%f25, %hf25, H25⟩, ⟨%f26, %hf26, H26⟩, ⟨%f27, %hf27, H27⟩, ⟨%f28, %hf28, H28⟩, Hk⟩
    obtain rfl := harg1.eq_unread hf1; obtain rfl := harg3.eq_unread hf3; obtain rfl := harg4.eq_unread hf4; obtain rfl := harg9.eq_unread hf9; obtain rfl := harg10.eq_unread hf10; obtain rfl := harg12.eq_unread hf12; obtain rfl := harg21.eq_unread hf21; obtain rfl := harg22.eq_unread hf22; obtain rfl := harg24.eq_unread hf24; obtain rfl := harg25.eq_unread hf25; obtain rfl := harg26.eq_unread hf26; obtain rfl := harg27.eq_unread hf27; obtain rfl := harg28.eq_unread hf28
    sl_exec (disch := first | sl_exact h1 | sl_exact h2 | sl_exact h3 | sl_exact h4 | sl_exact h5)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H9]
    · iexists _; isplitr; · ipureintro; exact harg9.read_unread _
      iexact H9
    isplitl [H10]
    · iexists _; isplitr; · ipureintro; exact harg10.read_unread _
      iexact H10
    isplitl [H12]
    · iexists _; isplitr; · ipureintro; exact harg12.read_unread _
      iexact H12
    isplitl [H14]; · iexists _; iexact H14
    isplitl [H15]; · iexists _; iexact H15
    isplitl [H16]; · iexists _; iexact H16
    isplitl [H18]; · iexists _; iexact H18
    isplitl [H20]; · iexists _; iexact H20
    isplitl [H21]
    · iexists _; isplitr; · ipureintro; exact harg21.read_unread _
      iexact H21
    isplitl [H22]
    · iexists _; isplitr; · ipureintro; exact harg22.read_unread _
      iexact H22
    isplitl [H23]; · iexists _; iexact H23
    isplitl [H24]; · iexact H24
    isplitl [H25]
    · iexists _; isplitr; · ipureintro; exact harg25.read_unread _
      iexact H25
    isplitl [H26]
    · iexists _; isplitr; · ipureintro; exact harg26.read_unread _
      iexact H26
    isplitl [H27]; · iexact H27
    iexact H28

end Cert.LowrankIdeal.Hand

end
-- ==== Proof.LI.RunE.lean ====
/- The run of the kernel's body in one of its five cases. -/
module

public import proofs.«01_k».proof.Proof.LI.Base

@[expose] public section

set_option maxRecDepth 16384

noncomputable section

namespace Cert.LowrankIdeal.Hand

open Cert.LowrankIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S2304x384 .i8) (harg5 : arg5.IsWhole) (arg6 : Memref sig .tc .vmem S6x2304 .f32) (harg6 : arg6.IsWhole) (arg7 : Memref sig .tc .vmem S6x2304 .f32) (harg7 : arg7.IsWhole) (arg8 : Memref sig .tc .vmem S1024x2304 .fp8e5m2) (harg8 : arg8.IsWhole) (arg9 : Memref sig .tc .vmem S12288x512 .fp8e4m3) (harg9 : arg9.IsWhole) (arg10 : Memref sig .tc .vmem S768x512 .i8) (harg10 : arg10.IsWhole) (arg11 : Memref sig .tc .vmem S28x768 .f32) (harg11 : arg11.IsWhole) (arg12 : Memref sig .tc .vmem S768x512 .i8) (harg12 : arg12.IsWhole) (arg13 : Memref sig .tc .vmem S28x768 .f32) (harg13 : arg13.IsWhole) (arg14 : Memref sig .tc .vmem S768x512 .f32) (harg14 : arg14.IsWhole) (arg15 : Memref sig .tc .vmem S768x512 .f32) (harg15 : arg15.IsWhole) (arg16 : Memref sig .tc .vmem S768x512 .i8) (harg16 : arg16.IsWhole) (arg17 : Memref sig .tc .vmem S28x768 .f32) (harg17 : arg17.IsWhole) (arg18 : Memref sig .tc .vmem S768x512 .i8) (harg18 : arg18.IsWhole) (arg19 : Memref sig .tc .vmem S28x768 .f32) (harg19 : arg19.IsWhole) (arg20 : Memref sig .tc .vmem S256x768 .bf16) (harg20 : arg20.IsWhole) (arg21 : Memref sig .tc .vmem S768x2304 .bf16) (harg21 : arg21.IsWhole) (arg22 : Memref sig .tc .vmem S768x12288 .bf16) (harg22 : arg22.IsWhole) (arg23 : Memref sig .tc .vmem S768x512 .f32) (harg23 : arg23.IsWhole) (arg24 : Memref sig .tc .vmem S768x512 .f32) (harg24 : arg24.IsWhole) (arg25 : Memref sig .tc .vmem S768x28 .f32) (harg25 : arg25.IsWhole) (arg26 : Memref sig .tc .vmem S768x28 .f32) (harg26 : arg26.IsWhole) (arg27 : Memref sig .tc .vmem S768x28 .f32) (harg27 : arg27.IsWhole) (arg28 : Memref sig .tc .vmem S768x28 .f32) (harg28 : arg28.IsWhole)

set_option maxHeartbeats 16000000 in
/-- The body at the last point: the update of the last column block, and the new scale tables. -/
noncomputable def runE (h1 : ¬cond0_0 i) (h2 : ¬cond0_1 i) (h3 : ¬cond0_2 i) (h4 : ¬cond0_3 i) (h5 : cond0_4 i)
    (x1 : Vec F S1 .f32) (x3 : Vec F S1 .f32) (x4 : Vec F S1 .f32) (x10 : Vec F S768x512 .i8) (x12 : Vec F S768x512 .i8) (x24 : Vec F S768x512 .f32) (x25 : Vec F S768x28 .f32) (x26 : Vec F S768x28 .f32) (x27 : Vec F S768x28 .f32) (x28 : Vec F S768x28 .f32) :
    Σ' (L14 : List (View.Piece (Elt F) S768x512 .f32)), Σ' (L15 : List (View.Piece (Elt F) S768x512 .f32)), Σ' (L16 : List (View.Piece (Elt F) S768x512 .i8)), Σ' (L17 : List (View.Piece (Elt F) S28x768 .f32)), Σ' (L18 : List (View.Piece (Elt F) S768x512 .i8)), Σ' (L19 : List (View.Piece (Elt F) S28x768 .f32)), Σ' (L27 : List (View.Piece (Elt F) S768x28 .f32)), { L28 : List (View.Piece (Elt F) S768x28 .f32) //
      ∀ (E : Set ℕ) (K : PUnit → sProp 𝕄),
        iprop(owns (c : Thread nD τ) arg1 fullShare x1 ∗ owns (c : Thread nD τ) arg3 fullShare x3 ∗ owns (c : Thread nD τ) arg4 fullShare x4 ∗ owns (c : Thread nD τ) arg10 fullShare x10 ∗ owns (c : Thread nD τ) arg12 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28
            ∗ (iprop(owns (c : Thread nD τ) arg1 fullShare x1 ∗ owns (c : Thread nD τ) arg3 fullShare x3 ∗ owns (c : Thread nD τ) arg4 fullShare x4 ∗ owns (c : Thread nD τ) arg10 fullShare x10 ∗ owns (c : Thread nD τ) arg12 fullShare x12 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ owns (c : Thread nD τ) arg24 fullShare x24 ∗ owns (c : Thread nD τ) arg25 fullShare x25 ∗ owns (c : Thread nD τ) arg26 fullShare x26 ∗ (arg27.view.loc (c : Thread nD τ) ↦[arg27.view.set]{fullShare} arg27.view.writes (Elt F) (harg27.unread x27) L27) ∗ (arg28.view.loc (c : Thread nD τ) ↦[arg28.view.set]{fullShare} arg28.view.writes (Elt F) (harg28.unread x28) L28)) -∗ K ⟨⟩))
          ⊢ wp frame (wpE (defs₀ (F := F)) Variants.none c none) E (cc0_lowrank_adam i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, ?_, ?_, fun E K => ?run⟩
  case run =>
    simp only [cc0_lowrank_adam_eq_skeleton]; unfold cc0_lowrank_adam_skel
    simp only [k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton]
    unfold owns
    iintro ⟨⟨%f1, %hf1, H1⟩, ⟨%f3, %hf3, H3⟩, ⟨%f4, %hf4, H4⟩, ⟨%f10, %hf10, H10⟩, ⟨%f12, %hf12, H12⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%f24, %hf24, H24⟩, ⟨%f25, %hf25, H25⟩, ⟨%f26, %hf26, H26⟩, ⟨%f27, %hf27, H27⟩, ⟨%f28, %hf28, H28⟩, Hk⟩
    obtain rfl := harg1.eq_unread hf1; obtain rfl := harg3.eq_unread hf3; obtain rfl := harg4.eq_unread hf4; obtain rfl := harg10.eq_unread hf10; obtain rfl := harg12.eq_unread hf12; obtain rfl := harg24.eq_unread hf24; obtain rfl := harg25.eq_unread hf25; obtain rfl := harg26.eq_unread hf26; obtain rfl := harg27.eq_unread hf27; obtain rfl := harg28.eq_unread hf28
    sl_exec (disch := first | sl_exact h1 | sl_exact h2 | sl_exact h3 | sl_exact h4 | sl_exact h5)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H10]
    · iexists _; isplitr; · ipureintro; exact harg10.read_unread _
      iexact H10
    isplitl [H12]
    · iexists _; isplitr; · ipureintro; exact harg12.read_unread _
      iexact H12
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H24]
    · iexists _; isplitr; · ipureintro; exact harg24.read_unread _
      iexact H24
    isplitl [H25]
    · iexists _; isplitr; · ipureintro; exact harg25.read_unread _
      iexact H25
    isplitl [H26]
    · iexists _; isplitr; · ipureintro; exact harg26.read_unread _
      iexact H26
    isplitl [H27]; · iexact H27
    iexact H28

end Cert.LowrankIdeal.Hand

end
-- ==== Proof.LI.Pieces.lean ====
/- The pieces that the body's runs write, named once for a general chunk of 128 rows and block of 256 columns: the six
   chunks and the two blocks differ only in where they lie, so one definition serves them all, and that the runs' lists
   are these pieces is by definition. -/
module

public import proofs.«01_k».proof.Proof.LI.RunB
public import proofs.«01_k».proof.Proof.LI.RunC
public import proofs.«01_k».proof.Proof.LI.RunD
public import proofs.«01_k».proof.Proof.LI.RunE
public import Idealize.ShloMosaic.Lib.Pipeline.ValueKit

@[expose] public section

set_option maxRecDepth 16384

noncomputable section

namespace Cert.LowrankIdeal.Hand

open Cert.LowrankIdeal.Gen
open Idealize.ShloMosaic Idealize.ShloMosaic.TcCoe
open Idealize.SL.Sem

variable {F : FTy → Type} [FloatOps F]

/-! ## Rectangles -/

/-- The one index of a one-word rectangle. -/
abbrev word1 {s : Shape} {off : Fin s.rank → Nat} {size : Fin s.rank → Nat} {inb} (h : (Rect.unit (s := s) off size inb).shape.numel = 1) :
    (Rect.unit (s := s) off size inb).shape.Idx := Shape.Idx.first (h.symm ▸ Nat.one_pos)
/-- A scalar operand's word. -/
abbrev word (x : Vec F S1 .f32) : Elt F .f32 := View.ld x (Rect.unit ![0] S1.size inb_S1_S1_0) (word1 (by decide))

theorem inb_rows (c : Fin 6) : ∀ a, (![128 * c.val, 0] : Fin 2 → Nat) a + S128x512.size a ≤ S768x512.size a := by revert c; decide
theorem inb_tabs (c : Fin 6) : ∀ a, (![128 * c.val, 0] : Fin 2 → Nat) a + S128x28.size a ≤ S768x28.size a := by revert c; decide
theorem inb_tile (c : Fin 6) (b : Fin 2) : ∀ a, (![128 * c.val, 256 * b.val] : Fin 2 → Nat) a + S128x256.size a ≤ S768x512.size a := by revert c b; decide
theorem inb_pcol (c : Fin 6) : ∀ a, (![0, 128 * c.val] : Fin 2 → Nat) a + S256x128.size a ≤ S256x768.size a := by revert c; decide
theorem inb_acol (c : Fin 6) : ∀ a, (![0, 2048 * c.val] : Fin 2 → Nat) a + S768x2048.size a ≤ S768x12288.size a := by revert c; decide
theorem inb_xrow (c : Fin 6) : ∀ a, (![2048 * c.val, 0] : Fin 2 → Nat) a + S2048x512.size a ≤ S12288x512.size a := by revert c; decide
theorem slices_b (b : Fin 2) : S128x512.Slices ![0, 256 * b.val] S128x256 := by revert b; decide

/-- The rows of a chunk, the tables' rows of a chunk, and the tile of a chunk and a block. -/
abbrev rowsR (c : Fin 6) : Rect S768x512 := Rect.unit ![128 * c.val, 0] S128x512.size (inb_rows c)
abbrev tabsR (c : Fin 6) : Rect S768x28 := Rect.unit ![128 * c.val, 0] S128x28.size (inb_tabs c)
abbrev tileR (c : Fin 6) (b : Fin 2) : Rect S768x512 := Rect.unit ![128 * c.val, 256 * b.val] S128x256.size (inb_tile c b)
/-- A chunk's columns of the block of the decoded projection that is written out, -/
abbrev pcolR (c : Fin 6) : Rect S256x768 := Rect.unit ![0, 128 * c.val] S256x128.size (inb_pcol c)
/-- and the tokens of a chunk, in the projected gradients and in the activations. -/
abbrev acolR (c : Fin 6) : Rect S768x12288 := Rect.unit ![0, 2048 * c.val] S768x2048.size (inb_acol c)
abbrev xrowR (c : Fin 6) : Rect S12288x512 := Rect.unit ![2048 * c.val, 0] S2048x512.size (inb_xrow c)
abbrev R512 : Rect S768x512 := Rect.unit ![0, 0] S768x512.size inb_S768x512_S768x512_0_0
abbrev R28 : Rect S768x28 := Rect.unit ![0, 0] S768x28.size inb_S768x28_S768x28_0_0
abbrev RT : Rect S28x768 := Rect.unit ![0, 0] S28x768.size inb_S28x768_S28x768_0_0

/-- The first column of the projection's block at the point, as a number. -/
abbrev pOff (i : grid0.Coords) : Nat :=
  (Scalar.indexCast (Scalar.muli (Scalar.minsi (Scalar.subi (Scalar.subi (BitVec.ofNat 32 (i 0).val) 12#32) 1#32) 8#32) 256#32)).toNat
/-- The lane of the point's block `b`. -/
abbrev laneW (i : grid0.Coords) (b : Fin 2) : BitVec 32 :=
  Scalar.addi (Scalar.muli (Scalar.subi (Scalar.subi (BitVec.ofNat 32 (i 0).val) 12#32) 1#32) 2#32) (BitVec.ofNat 32 b.val)

/-! ## One tile -/

/-- The scaled gradient's rows, -/
def tG (g : Vec F S128x512 .f32) (xs : Elt F .f32) : FVec F S128x512 .f32 := mulf (broadcast S128x512 xs) g
/-- and its block. -/
def tB (g : Vec F S128x512 .f32) (xs : Elt F .f32) (b : Fin 2) : FVec F S128x256 .f32 :=
  extractStridedSlice S128x256 ![0, 256 * b.val] (tG g xs) (slices_b b)
/-- A lane of a table. -/
def tSel (i : grid0.Coords) (b : Fin 2) : IVec S128x28 1 :=
  cmpi .eq (iota .tc S128x28 32 [1] iota_S128x28_d1_w32) (broadcast S128x28 (laneW i b))
def tCol (i : grid0.Coords) (b : Fin 2) (tab : Vec F S128x28 .f32) : FVec F S128x256 .f32 :=
  broadcastTo S128x256 (shapeCast S128x1 (multiReduction .add [1] S128 (select (tSel i b) tab (broadcast S128x28 (Scalar.ofBits .f32 0x00000000#32))) 0x00000000#32 reduces_S128x28_S128 (.inl rfl) rfl) shapeCasts_S128_S128x1) broadcasts_S128x1_S128x256
/-- The new first moment. -/
def tM (i : grid0.Coords) (b : Fin 2) (cd : Vec F S128x256 .i8) (tab : Vec F S128x28 .f32) (g : FVec F S128x256 .f32) : FVec F S128x256 .f32 :=
  addf (mulf (broadcast S128x256 (Scalar.ofBits .f32 0x3F666666#32)) (mulf (sitofp .f32 (extsi 32 cd natLt_8_32)) (tCol i b tab)))
    (mulf (broadcast S128x256 (Scalar.ofBits .f32 0x3DCCCCCD#32)) g)
/-- The new second moment. -/
def tO (i : grid0.Coords) (b : Fin 2) (cd : Vec F S128x256 .i8) (tab : Vec F S128x28 .f32) : FVec F S128x256 .f32 :=
  mulf (sitofp .f32 (extui 32 cd natLt_8_32)) (tCol i b tab)
def tV (o g : FVec F S128x256 .f32) : FVec F S128x256 .f32 :=
  addf (mulf (broadcast S128x256 (Scalar.ofBits .f32 0x3F7FBE77#32)) (mulf o o))
    (mulf (mulf (broadcast S128x256 (Scalar.ofBits .f32 0x3A83126F#32)) g) g)
/-- The step in the projected space. -/
def tD (m v : FVec F S128x256 .f32) (b1 b2 : Elt F .f32) : FVec F S128x256 .f32 :=
  divf (divf m (broadcast S128x256 b1)) (addf (sqrt (divf v (broadcast S128x256 b2))) (broadcast S128x256 (Scalar.ofBits .f32 0x322BCC77#32)))
/-- A tile's rows' largest entries, -/
def tX (a : FVec F S128x256 .f32) : FVec F S128x1 .f32 :=
  shapeCast S128x1 (multiReduction .maximumf [1] S128 a 0xFF800000#32 reduces_S128x256_S128 (.inl rfl) rfl) shapeCasts_S128_S128x1
/-- and their scales, at most the number given of steps each. -/
def tS (a : FVec F S128x256 .f32) (n : F .f32) : FVec F S128x1 .f32 :=
  select (cmpf .ogt (tX a) (broadcast S128x1 (Scalar.ofBits .f32 0x00000000#32))) (divf (tX a) (broadcast S128x1 n)) (broadcast S128x1 (Scalar.ofBits .f32 0x3F800000#32))
abbrev tMs (m : FVec F S128x256 .f32) : FVec F S128x1 .f32 := tS (absf m) (Scalar.ofBits .f32 0x42FE0000#32)
abbrev tVs (v : FVec F S128x256 .f32) : FVec F S128x1 .f32 := tS (sqrt v) (Scalar.ofBits .f32 0x437F0000#32)
/-- The new codes. -/
def tMc (m : FVec F S128x256 .f32) : IVec S128x256 8 :=
  fptosi 8 (minimumf (broadcast S128x256 (Scalar.sitofp .f32 127#32)) (maximumf (broadcast S128x256 (Scalar.sitofp .f32 4294967169#32)) (roundeven (divf m (broadcastTo S128x256 (tMs m) broadcasts_S128x1_S128x256)))))
def tVc (v : FVec F S128x256 .f32) : IVec S128x256 8 :=
  trunci 8 (fptosi 32 (minimumf (broadcast S128x256 (Scalar.sitofp .f32 255#32)) (maximumf (broadcast S128x256 (Scalar.sitofp .f32 0#32)) (roundeven (divf (sqrt v) (broadcastTo S128x256 (tVs v) broadcasts_S128x1_S128x256)))))) natLt_8_32
/-- A lane of a table's rows, overwritten. -/
def tPut (i : grid0.Coords) (b : Fin 2) (s : FVec F S128x1 .f32) (old : Vec F S128x28 .f32) : FVec F S128x28 .f32 :=
  select (tSel i b) (broadcastTo S128x28 (shapeCast S128x1 s shapeCasts_S128x1_S128x1) broadcasts_S128x1_S128x28) old
/-- A chunk's part of the dot product. -/
def tDot (a : Vec F S768x2048 .bf16) (x : Vec F S2048x512 .fp8e4m3) : FVec F S768x512 .f32 :=
  matmul dot_S768x2048_S2048x512_S768x512_1_0_0_1_n_n none a x (constant S768x512 .f32 0x00000000#32)

/-! ## The tile of a chunk and a block -/

section
variable (i : grid0.Coords) (x1 x3 x4 : Vec F S1 .f32) (x24 : Vec F S768x512 .f32) (x10 x12 : Vec F S768x512 .i8) (x25 x26 x27 x28 : Vec F S768x28 .f32)
abbrev qG (c : Fin 6) (b : Fin 2) : FVec F S128x256 .f32 := tB (View.ld x24 (rowsR c)) (word x1) b
abbrev qM (c : Fin 6) (b : Fin 2) : FVec F S128x256 .f32 := tM i b (View.ld x10 (tileR c b)) (View.ld x25 (tabsR c)) (qG x1 x24 c b)
abbrev qV (c : Fin 6) (b : Fin 2) : FVec F S128x256 .f32 := tV (tO i b (View.ld x12 (tileR c b)) (View.ld x26 (tabsR c))) (qG x1 x24 c b)

/-- Six pieces, the last first; -/
abbrev six {α : Type} (f : Fin 6 → α) : List α := [f 5, f 4, f 3, f 2, f 1, f 0]
/-- and twelve. -/
abbrev twelve {α : Type} (f : Fin 6 → Fin 2 → α) : List α := [f 5 1, f 5 0, f 4 1, f 4 0, f 3 1, f 3 0, f 2 1, f 2 0, f 1 1, f 1 0, f 0 1, f 0 0]

abbrev pcG (c : Fin 6) : View.Piece (Elt F) S768x512 .f32 := ⟨rowsR c, tG (View.ld x24 (rowsR c)) (word x1)⟩
abbrev pcD (c : Fin 6) (b : Fin 2) : View.Piece (Elt F) S768x512 .f32 := ⟨tileR c b, tD (qM i x1 x24 x10 x25 c b) (qV i x1 x24 x12 x26 c b) (word x3) (word x4)⟩
abbrev pcMc (c : Fin 6) (b : Fin 2) : View.Piece (Elt F) S768x512 .i8 := ⟨tileR c b, tMc (qM i x1 x24 x10 x25 c b)⟩
abbrev pcVc (c : Fin 6) (b : Fin 2) : View.Piece (Elt F) S768x512 .i8 := ⟨tileR c b, tVc (qV i x1 x24 x12 x26 c b)⟩
abbrev pcMs (c : Fin 6) : View.Piece (Elt F) S768x28 .f32 :=
  ⟨tabsR c, shapeCast S128x28 (tPut i 1 (tMs (qM i x1 x24 x10 x25 c 1)) (tPut i 0 (tMs (qM i x1 x24 x10 x25 c 0)) (View.ld x27 (tabsR c)))) shapeCasts_S128x28_S128x28⟩
abbrev pcVs (c : Fin 6) : View.Piece (Elt F) S768x28 .f32 :=
  ⟨tabsR c, shapeCast S128x28 (tPut i 1 (tVs (qV i x1 x24 x12 x26 c 1)) (tPut i 0 (tVs (qV i x1 x24 x12 x26 c 0)) (View.ld x28 (tabsR c)))) shapeCasts_S128x28_S128x28⟩
end

/-- The projection's block, chunk by chunk. -/
abbrev pcP (i : grid0.Coords) (x21 : Vec F S768x2304 .bf16) (h : ∀ (c : Fin 6) a, (![128 * c.val, pOff i] : Fin 2 → Nat) a + S128x256.size a ≤ S768x2304.size a) (c : Fin 6) : View.Piece (Elt F) S256x768 .bf16 :=
  ⟨pcolR c, transpose S256x128 [1, 0] (View.ld x21 (Rect.unit ![128 * c.val, pOff i] S128x256.size (h c))) transposes_S128x256_p1_0_S256x128⟩

/-- The dot product over the first chunks. -/
abbrev qDot (x22 : Vec F S768x12288 .bf16) (x9 : Vec F S12288x512 .fp8e4m3) (c : Fin 6) : FVec F S768x512 .f32 := tDot (View.ld x22 (acolR c)) (View.ld x9 (xrowR c))

/-- The running sum over the chunks of tokens: each chunk's product is added to what is read back, and stored whole. -/
def accL {κ : Kind} {sp : Space} (v : View sig κ sp S768x512 .f32) (x22 : Vec F S768x12288 .bf16) (x9 : Vec F S12288x512 .fp8e4m3) : Nat → List (View.Piece (Elt F) S768x512 .f32)
  | 0 => [⟨R512, shapeCast S768x512 (qDot x22 x9 0) shapeCasts_S768x512_S768x512⟩]
  | n + 1 => ⟨R512, shapeCast S768x512 (addf (v.readCov (accL v x22 x9 n) R512.toLoadRect) (qDot x22 x9 (Fin.ofNat 6 (n + 1)))) shapeCasts_S768x512_S768x512⟩ :: accL v x22 x9 n
/-- What is left in the gradient's buffer. -/
abbrev pcDot {κ : Kind} {sp : Space} (v : View sig κ sp S768x512 .f32) (x22 : Vec F S768x12288 .bf16) (x9 : Vec F S12288x512 .fp8e4m3) : View.Piece (Elt F) S768x512 .f32 :=
  ⟨R512, shapeCast S768x512 (addf (v.readCov (accL v x22 x9 4) R512.toLoadRect) (qDot x22 x9 5)) shapeCasts_S768x512_S768x512⟩
/-- The projected gradients of a chunk of tokens. -/
abbrev pcA (i : grid0.Coords) (x2 : Vec F S1 .f32) (x21 : Vec F S768x2304 .bf16) (x8 : Vec F S1024x2304 .fp8e5m2) (h : ∀ a, k0_off16 i a + S768x1024.size a ≤ S768x12288.size a) : View.Piece (Elt F) S768x12288 .bf16 :=
  ⟨Rect.unit (k0_off16 i) S768x1024.size h, k0_pay7 (word x2) (View.ld x21 (Rect.unit ![0, 0] S768x2304.size inb_S768x2304_S768x2304_0_0)) (View.ld x8 (Rect.unit ![0, 0] S1024x2304.size inb_S1024x2304_S1024x2304_0_0))⟩
/-- A table, turned. -/
abbrev pcT (w : Vec F S768x28 .f32) : View.Piece (Elt F) S28x768 .f32 := ⟨RT, transpose S28x768 [1, 0] w transposes_S768x28_p1_0_S28x768⟩

section
variable (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S2304x384 .i8) (harg5 : arg5.IsWhole) (arg6 : Memref sig .tc .vmem S6x2304 .f32) (harg6 : arg6.IsWhole) (arg7 : Memref sig .tc .vmem S6x2304 .f32) (harg7 : arg7.IsWhole) (arg8 : Memref sig .tc .vmem S1024x2304 .fp8e5m2) (harg8 : arg8.IsWhole) (arg9 : Memref sig .tc .vmem S12288x512 .fp8e4m3) (harg9 : arg9.IsWhole) (arg10 : Memref sig .tc .vmem S768x512 .i8) (harg10 : arg10.IsWhole) (arg11 : Memref sig .tc .vmem S28x768 .f32) (harg11 : arg11.IsWhole) (arg12 : Memref sig .tc .vmem S768x512 .i8) (harg12 : arg12.IsWhole) (arg13 : Memref sig .tc .vmem S28x768 .f32) (harg13 : arg13.IsWhole) (arg14 : Memref sig .tc .vmem S768x512 .f32) (harg14 : arg14.IsWhole) (arg15 : Memref sig .tc .vmem S768x512 .f32) (harg15 : arg15.IsWhole) (arg16 : Memref sig .tc .vmem S768x512 .i8) (harg16 : arg16.IsWhole) (arg17 : Memref sig .tc .vmem S28x768 .f32) (harg17 : arg17.IsWhole) (arg18 : Memref sig .tc .vmem S768x512 .i8) (harg18 : arg18.IsWhole) (arg19 : Memref sig .tc .vmem S28x768 .f32) (harg19 : arg19.IsWhole) (arg20 : Memref sig .tc .vmem S256x768 .bf16) (harg20 : arg20.IsWhole) (arg21 : Memref sig .tc .vmem S768x2304 .bf16) (harg21 : arg21.IsWhole) (arg22 : Memref sig .tc .vmem S768x12288 .bf16) (harg22 : arg22.IsWhole) (arg23 : Memref sig .tc .vmem S768x512 .f32) (harg23 : arg23.IsWhole) (arg24 : Memref sig .tc .vmem S768x512 .f32) (harg24 : arg24.IsWhole) (arg25 : Memref sig .tc .vmem S768x28 .f32) (harg25 : arg25.IsWhole) (arg26 : Memref sig .tc .vmem S768x28 .f32) (harg26 : arg26.IsWhole) (arg27 : Memref sig .tc .vmem S768x28 .f32) (harg27 : arg27.IsWhole) (arg28 : Memref sig .tc .vmem S768x28 .f32) (harg28 : arg28.IsWhole)

theorem runD_14 (h1 : ¬cond0_0 i) (h2 : ¬cond0_1 i) (h3 : ¬cond0_2 i) (h4 : cond0_3 i) (h5 : ¬cond0_4 i) (x1 : Vec F S1 .f32) (x3 : Vec F S1 .f32) (x4 : Vec F S1 .f32) (x9 : Vec F S12288x512 .fp8e4m3) (x10 : Vec F S768x512 .i8) (x12 : Vec F S768x512 .i8) (x21 : Vec F S768x2304 .bf16) (x22 : Vec F S768x12288 .bf16) (x24 : Vec F S768x512 .f32) (x25 : Vec F S768x28 .f32) (x26 : Vec F S768x28 .f32) (x27 : Vec F S768x28 .f32) (x28 : Vec F S768x28 .f32) :
    (runD (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 x1 x3 x4 x9 x10 x12 x21 x22 x24 x25 x26 x27 x28).1 = six (pcG (arg1.view.read (Elt F) (harg1.unread x1)) (arg24.view.read (Elt F) (harg24.unread x24))) := rfl
theorem runD_15 (h1 : ¬cond0_0 i) (h2 : ¬cond0_1 i) (h3 : ¬cond0_2 i) (h4 : cond0_3 i) (h5 : ¬cond0_4 i) (x1 : Vec F S1 .f32) (x3 : Vec F S1 .f32) (x4 : Vec F S1 .f32) (x9 : Vec F S12288x512 .fp8e4m3) (x10 : Vec F S768x512 .i8) (x12 : Vec F S768x512 .i8) (x21 : Vec F S768x2304 .bf16) (x22 : Vec F S768x12288 .bf16) (x24 : Vec F S768x512 .f32) (x25 : Vec F S768x28 .f32) (x26 : Vec F S768x28 .f32) (x27 : Vec F S768x28 .f32) (x28 : Vec F S768x28 .f32) :
    (runD (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 x1 x3 x4 x9 x10 x12 x21 x22 x24 x25 x26 x27 x28).2.1 = twelve (pcD i (arg1.view.read (Elt F) (harg1.unread x1)) (arg3.view.read (Elt F) (harg3.unread x3)) (arg4.view.read (Elt F) (harg4.unread x4)) (arg24.view.read (Elt F) (harg24.unread x24)) (arg10.view.read (Elt F) (harg10.unread x10)) (arg12.view.read (Elt F) (harg12.unread x12)) (arg25.view.read (Elt F) (harg25.unread x25)) (arg26.view.read (Elt F) (harg26.unread x26))) := rfl
theorem runD_16 (h1 : ¬cond0_0 i) (h2 : ¬cond0_1 i) (h3 : ¬cond0_2 i) (h4 : cond0_3 i) (h5 : ¬cond0_4 i) (x1 : Vec F S1 .f32) (x3 : Vec F S1 .f32) (x4 : Vec F S1 .f32) (x9 : Vec F S12288x512 .fp8e4m3) (x10 : Vec F S768x512 .i8) (x12 : Vec F S768x512 .i8) (x21 : Vec F S768x2304 .bf16) (x22 : Vec F S768x12288 .bf16) (x24 : Vec F S768x512 .f32) (x25 : Vec F S768x28 .f32) (x26 : Vec F S768x28 .f32) (x27 : Vec F S768x28 .f32) (x28 : Vec F S768x28 .f32) :
    (runD (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 x1 x3 x4 x9 x10 x12 x21 x22 x24 x25 x26 x27 x28).2.2.1 = twelve (pcMc i (arg1.view.read (Elt F) (harg1.unread x1)) (arg24.view.read (Elt F) (harg24.unread x24)) (arg10.view.read (Elt F) (harg10.unread x10)) (arg25.view.read (Elt F) (harg25.unread x25))) := rfl
theorem runD_18 (h1 : ¬cond0_0 i) (h2 : ¬cond0_1 i) (h3 : ¬cond0_2 i) (h4 : cond0_3 i) (h5 : ¬cond0_4 i) (x1 : Vec F S1 .f32) (x3 : Vec F S1 .f32) (x4 : Vec F S1 .f32) (x9 : Vec F S12288x512 .fp8e4m3) (x10 : Vec F S768x512 .i8) (x12 : Vec F S768x512 .i8) (x21 : Vec F S768x2304 .bf16) (x22 : Vec F S768x12288 .bf16) (x24 : Vec F S768x512 .f32) (x25 : Vec F S768x28 .f32) (x26 : Vec F S768x28 .f32) (x27 : Vec F S768x28 .f32) (x28 : Vec F S768x28 .f32) :
    (runD (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 x1 x3 x4 x9 x10 x12 x21 x22 x24 x25 x26 x27 x28).2.2.2.1 = twelve (pcVc i (arg1.view.read (Elt F) (harg1.unread x1)) (arg24.view.read (Elt F) (harg24.unread x24)) (arg12.view.read (Elt F) (harg12.unread x12)) (arg26.view.read (Elt F) (harg26.unread x26))) := rfl
theorem runD_27 (h1 : ¬cond0_0 i) (h2 : ¬cond0_1 i) (h3 : ¬cond0_2 i) (h4 : cond0_3 i) (h5 : ¬cond0_4 i) (x1 : Vec F S1 .f32) (x3 : Vec F S1 .f32) (x4 : Vec F S1 .f32) (x9 : Vec F S12288x512 .fp8e4m3) (x10 : Vec F S768x512 .i8) (x12 : Vec F S768x512 .i8) (x21 : Vec F S768x2304 .bf16) (x22 : Vec F S768x12288 .bf16) (x24 : Vec F S768x512 .f32) (x25 : Vec F S768x28 .f32) (x26 : Vec F S768x28 .f32) (x27 : Vec F S768x28 .f32) (x28 : Vec F S768x28 .f32) :
    (runD (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 x1 x3 x4 x9 x10 x12 x21 x22 x24 x25 x26 x27 x28).2.2.2.2.2.2.2.1 = six (pcMs i (arg1.view.read (Elt F) (harg1.unread x1)) (arg24.view.read (Elt F) (harg24.unread x24)) (arg10.view.read (Elt F) (harg10.unread x10)) (arg25.view.read (Elt F) (harg25.unread x25)) (arg27.view.read (Elt F) (harg27.unread x27))) := rfl
theorem runD_28 (h1 : ¬cond0_0 i) (h2 : ¬cond0_1 i) (h3 : ¬cond0_2 i) (h4 : cond0_3 i) (h5 : ¬cond0_4 i) (x1 : Vec F S1 .f32) (x3 : Vec F S1 .f32) (x4 : Vec F S1 .f32) (x9 : Vec F S12288x512 .fp8e4m3) (x10 : Vec F S768x512 .i8) (x12 : Vec F S768x512 .i8) (x21 : Vec F S768x2304 .bf16) (x22 : Vec F S768x12288 .bf16) (x24 : Vec F S768x512 .f32) (x25 : Vec F S768x28 .f32) (x26 : Vec F S768x28 .f32) (x27 : Vec F S768x28 .f32) (x28 : Vec F S768x28 .f32) :
    (runD (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 x1 x3 x4 x9 x10 x12 x21 x22 x24 x25 x26 x27 x28).2.2.2.2.2.2.2.2.1 = six (pcVs i (arg1.view.read (Elt F) (harg1.unread x1)) (arg24.view.read (Elt F) (harg24.unread x24)) (arg12.view.read (Elt F) (harg12.unread x12)) (arg26.view.read (Elt F) (harg26.unread x26)) (arg28.view.read (Elt F) (harg28.unread x28))) := rfl
theorem runE_14 (h1 : ¬cond0_0 i) (h2 : ¬cond0_1 i) (h3 : ¬cond0_2 i) (h4 : ¬cond0_3 i) (h5 : cond0_4 i) (x1 : Vec F S1 .f32) (x3 : Vec F S1 .f32) (x4 : Vec F S1 .f32) (x10 : Vec F S768x512 .i8) (x12 : Vec F S768x512 .i8) (x24 : Vec F S768x512 .f32) (x25 : Vec F S768x28 .f32) (x26 : Vec F S768x28 .f32) (x27 : Vec F S768x28 .f32) (x28 : Vec F S768x28 .f32) :
    (runE (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 x1 x3 x4 x10 x12 x24 x25 x26 x27 x28).1 = six (pcG (arg1.view.read (Elt F) (harg1.unread x1)) (arg24.view.read (Elt F) (harg24.unread x24))) := rfl
theorem runE_15 (h1 : ¬cond0_0 i) (h2 : ¬cond0_1 i) (h3 : ¬cond0_2 i) (h4 : ¬cond0_3 i) (h5 : cond0_4 i) (x1 : Vec F S1 .f32) (x3 : Vec F S1 .f32) (x4 : Vec F S1 .f32) (x10 : Vec F S768x512 .i8) (x12 : Vec F S768x512 .i8) (x24 : Vec F S768x512 .f32) (x25 : Vec F S768x28 .f32) (x26 : Vec F S768x28 .f32) (x27 : Vec F S768x28 .f32) (x28 : Vec F S768x28 .f32) :
    (runE (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 x1 x3 x4 x10 x12 x24 x25 x26 x27 x28).2.1 = twelve (pcD i (arg1.view.read (Elt F) (harg1.unread x1)) (arg3.view.read (Elt F) (harg3.unread x3)) (arg4.view.read (Elt F) (harg4.unread x4)) (arg24.view.read (Elt F) (harg24.unread x24)) (arg10.view.read (Elt F) (harg10.unread x10)) (arg12.view.read (Elt F) (harg12.unread x12)) (arg25.view.read (Elt F) (harg25.unread x25)) (arg26.view.read (Elt F) (harg26.unread x26))) := rfl
theorem runE_16 (h1 : ¬cond0_0 i) (h2 : ¬cond0_1 i) (h3 : ¬cond0_2 i) (h4 : ¬cond0_3 i) (h5 : cond0_4 i) (x1 : Vec F S1 .f32) (x3 : Vec F S1 .f32) (x4 : Vec F S1 .f32) (x10 : Vec F S768x512 .i8) (x12 : Vec F S768x512 .i8) (x24 : Vec F S768x512 .f32) (x25 : Vec F S768x28 .f32) (x26 : Vec F S768x28 .f32) (x27 : Vec F S768x28 .f32) (x28 : Vec F S768x28 .f32) :
    (runE (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 x1 x3 x4 x10 x12 x24 x25 x26 x27 x28).2.2.1 = twelve (pcMc i (arg1.view.read (Elt F) (harg1.unread x1)) (arg24.view.read (Elt F) (harg24.unread x24)) (arg10.view.read (Elt F) (harg10.unread x10)) (arg25.view.read (Elt F) (harg25.unread x25))) := rfl
theorem runE_18 (h1 : ¬cond0_0 i) (h2 : ¬cond0_1 i) (h3 : ¬cond0_2 i) (h4 : ¬cond0_3 i) (h5 : cond0_4 i) (x1 : Vec F S1 .f32) (x3 : Vec F S1 .f32) (x4 : Vec F S1 .f32) (x10 : Vec F S768x512 .i8) (x12 : Vec F S768x512 .i8) (x24 : Vec F S768x512 .f32) (x25 : Vec F S768x28 .f32) (x26 : Vec F S768x28 .f32) (x27 : Vec F S768x28 .f32) (x28 : Vec F S768x28 .f32) :
    (runE (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 x1 x3 x4 x10 x12 x24 x25 x26 x27 x28).2.2.2.2.1 = twelve (pcVc i (arg1.view.read (Elt F) (harg1.unread x1)) (arg24.view.read (Elt F) (harg24.unread x24)) (arg12.view.read (Elt F) (harg12.unread x12)) (arg26.view.read (Elt F) (harg26.unread x26))) := rfl
theorem runE_27 (h1 : ¬cond0_0 i) (h2 : ¬cond0_1 i) (h3 : ¬cond0_2 i) (h4 : ¬cond0_3 i) (h5 : cond0_4 i) (x1 : Vec F S1 .f32) (x3 : Vec F S1 .f32) (x4 : Vec F S1 .f32) (x10 : Vec F S768x512 .i8) (x12 : Vec F S768x512 .i8) (x24 : Vec F S768x512 .f32) (x25 : Vec F S768x28 .f32) (x26 : Vec F S768x28 .f32) (x27 : Vec F S768x28 .f32) (x28 : Vec F S768x28 .f32) :
    (runE (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 x1 x3 x4 x10 x12 x24 x25 x26 x27 x28).2.2.2.2.2.2.1 = six (pcMs i (arg1.view.read (Elt F) (harg1.unread x1)) (arg24.view.read (Elt F) (harg24.unread x24)) (arg10.view.read (Elt F) (harg10.unread x10)) (arg25.view.read (Elt F) (harg25.unread x25)) (arg27.view.read (Elt F) (harg27.unread x27))) := rfl
theorem runE_28 (h1 : ¬cond0_0 i) (h2 : ¬cond0_1 i) (h3 : ¬cond0_2 i) (h4 : ¬cond0_3 i) (h5 : cond0_4 i) (x1 : Vec F S1 .f32) (x3 : Vec F S1 .f32) (x4 : Vec F S1 .f32) (x10 : Vec F S768x512 .i8) (x12 : Vec F S768x512 .i8) (x24 : Vec F S768x512 .f32) (x25 : Vec F S768x28 .f32) (x26 : Vec F S768x28 .f32) (x27 : Vec F S768x28 .f32) (x28 : Vec F S768x28 .f32) :
    (runE (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 x1 x3 x4 x10 x12 x24 x25 x26 x27 x28).2.2.2.2.2.2.2.1 = six (pcVs i (arg1.view.read (Elt F) (harg1.unread x1)) (arg24.view.read (Elt F) (harg24.unread x24)) (arg12.view.read (Elt F) (harg12.unread x12)) (arg26.view.read (Elt F) (harg26.unread x26)) (arg28.view.read (Elt F) (harg28.unread x28))) := rfl
theorem runD_20 (h1 : ¬cond0_0 i) (h2 : ¬cond0_1 i) (h3 : ¬cond0_2 i) (h4 : cond0_3 i) (h5 : ¬cond0_4 i) (x1 : Vec F S1 .f32) (x3 : Vec F S1 .f32) (x4 : Vec F S1 .f32) (x9 : Vec F S12288x512 .fp8e4m3) (x10 : Vec F S768x512 .i8) (x12 : Vec F S768x512 .i8) (x21 : Vec F S768x2304 .bf16) (x22 : Vec F S768x12288 .bf16) (x24 : Vec F S768x512 .f32) (x25 : Vec F S768x28 .f32) (x26 : Vec F S768x28 .f32) (x27 : Vec F S768x28 .f32) (x28 : Vec F S768x28 .f32) (h : ∀ (c : Fin 6) a, (![128 * c.val, pOff i] : Fin 2 → Nat) a + S128x256.size a ≤ S768x2304.size a) :
    (runD (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 x1 x3 x4 x9 x10 x12 x21 x22 x24 x25 x26 x27 x28).2.2.2.2.1 = six (pcP i (arg21.view.read (Elt F) (harg21.unread x21)) h) := rfl
theorem runC_24 (h1 : ¬cond0_0 i) (h2 : ¬cond0_1 i) (h3 : cond0_2 i) (h4 : ¬cond0_3 i) (h5 : ¬cond0_4 i) (x9 : Vec F S12288x512 .fp8e4m3) (x22 : Vec F S768x12288 .bf16) :
    (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 x9 x22).2.1 = [pcDot arg23.view (arg22.view.read (Elt F) (harg22.unread x22)) (arg9.view.read (Elt F) (harg9.unread x9))] := rfl
theorem runD_24 (h1 : ¬cond0_0 i) (h2 : ¬cond0_1 i) (h3 : ¬cond0_2 i) (h4 : cond0_3 i) (h5 : ¬cond0_4 i) (x1 : Vec F S1 .f32) (x3 : Vec F S1 .f32) (x4 : Vec F S1 .f32) (x9 : Vec F S12288x512 .fp8e4m3) (x10 : Vec F S768x512 .i8) (x12 : Vec F S768x512 .i8) (x21 : Vec F S768x2304 .bf16) (x22 : Vec F S768x12288 .bf16) (x24 : Vec F S768x512 .f32) (x25 : Vec F S768x28 .f32) (x26 : Vec F S768x28 .f32) (x27 : Vec F S768x28 .f32) (x28 : Vec F S768x28 .f32) :
    (runD (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 x1 x3 x4 x9 x10 x12 x21 x22 x24 x25 x26 x27 x28).2.2.2.2.2.2.1 = [pcDot arg23.view (arg22.view.read (Elt F) (harg22.unread x22)) (arg9.view.read (Elt F) (harg9.unread x9))] := rfl
theorem runB_22 (h1 : ¬cond0_0 i) (h2 : cond0_1 i) (h3 : ¬cond0_2 i) (h4 : ¬cond0_3 i) (h5 : ¬cond0_4 i) (x2 : Vec F S1 .f32) (x8 : Vec F S1024x2304 .fp8e5m2) (x21 : Vec F S768x2304 .bf16) (x22 : Vec F S768x12288 .bf16) (h : ∀ a, k0_off16 i a + S768x1024.size a ≤ S768x12288.size a) :
    (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 x2 x8 x21 x22).1 = [pcA i (arg2.view.read (Elt F) (harg2.unread x2)) (arg21.view.read (Elt F) (harg21.unread x21)) (arg8.view.read (Elt F) (harg8.unread x8)) h] := rfl
theorem runE_17 (h1 : ¬cond0_0 i) (h2 : ¬cond0_1 i) (h3 : ¬cond0_2 i) (h4 : ¬cond0_3 i) (h5 : cond0_4 i) (x1 : Vec F S1 .f32) (x3 : Vec F S1 .f32) (x4 : Vec F S1 .f32) (x10 : Vec F S768x512 .i8) (x12 : Vec F S768x512 .i8) (x24 : Vec F S768x512 .f32) (x25 : Vec F S768x28 .f32) (x26 : Vec F S768x28 .f32) (x27 : Vec F S768x28 .f32) (x28 : Vec F S768x28 .f32) :
    (runE (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 x1 x3 x4 x10 x12 x24 x25 x26 x27 x28).2.2.2.1 = [pcT (arg27.view.readCov (six (pcMs i (arg1.view.read (Elt F) (harg1.unread x1)) (arg24.view.read (Elt F) (harg24.unread x24)) (arg10.view.read (Elt F) (harg10.unread x10)) (arg25.view.read (Elt F) (harg25.unread x25)) (arg27.view.read (Elt F) (harg27.unread x27)))) R28.toLoadRect)] := rfl
theorem runE_19 (h1 : ¬cond0_0 i) (h2 : ¬cond0_1 i) (h3 : ¬cond0_2 i) (h4 : ¬cond0_3 i) (h5 : cond0_4 i) (x1 : Vec F S1 .f32) (x3 : Vec F S1 .f32) (x4 : Vec F S1 .f32) (x10 : Vec F S768x512 .i8) (x12 : Vec F S768x512 .i8) (x24 : Vec F S768x512 .f32) (x25 : Vec F S768x28 .f32) (x26 : Vec F S768x28 .f32) (x27 : Vec F S768x28 .f32) (x28 : Vec F S768x28 .f32) :
    (runE (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 x1 x3 x4 x10 x12 x24 x25 x26 x27 x28).2.2.2.2.2.1 = [pcT (arg28.view.readCov (six (pcVs i (arg1.view.read (Elt F) (harg1.unread x1)) (arg24.view.read (Elt F) (harg24.unread x24)) (arg12.view.read (Elt F) (harg12.unread x12)) (arg26.view.read (Elt F) (harg26.unread x26)) (arg28.view.read (Elt F) (harg28.unread x28)))) R28.toLoadRect)] := rfl
end

end Cert.LowrankIdeal.Hand

end
-- ==== Proof.LSpec.lean ====
/- What the first call computes, over the extended reals, as functions of its thirteen argument arrays: the decoded
   projection, the projected gradient, and the moments' update with the new codes and scales. Moments are addressed by row
   and column, and by row, block of 256 columns and column in the block. -/
module

public import Idealize.ShloMosaic.Lib.Pointwise

@[expose] public section

set_option maxRecDepth 16384

noncomputable section

namespace Cert.LSpec

open Idealize.ShloMosaic

/-- The thirteen arguments. -/
structure Ins where
  xs : Elt Ideal .f32
  dyS : Elt Ideal .f32
  b1 : Elt Ideal .f32
  b2 : Elt Ideal .f32
  pc : Vec Ideal ⟨2, ![2304, 384]⟩ .i8
  ps : Vec Ideal ⟨2, ![6, 2304]⟩ .f32
  pz : Vec Ideal ⟨2, ![6, 2304]⟩ .f32
  dy : Vec Ideal ⟨2, ![12288, 2304]⟩ .fp8e5m2
  x : Vec Ideal ⟨2, ![12288, 7168]⟩ .fp8e4m3
  mc : Vec Ideal ⟨2, ![768, 7168]⟩ .i8
  ms : Vec Ideal ⟨2, ![28, 768]⟩ .f32
  vc : Vec Ideal ⟨2, ![768, 7168]⟩ .i8
  vs : Vec Ideal ⟨2, ![28, 768]⟩ .f32

/-- The column of block and column in the block, -/
abbrev ki (K : Fin 28) (b : Fin 256) : Fin 7168 := ⟨256 * K.val + b.val, by omega⟩
/-- and back. -/
abbrev kq (k : Fin 7168) : Fin 28 := ⟨k.val / 256, by omega⟩
abbrev kr (k : Fin 7168) : Fin 256 := ⟨k.val % 256, by omega⟩

theorem kq_ki (K : Fin 28) (b : Fin 256) : kq (ki K b) = K := Fin.ext (by show (256 * K.val + b.val) / 256 = K.val; omega)
theorem kr_ki (K : Fin 28) (b : Fin 256) : kr (ki K b) = b := Fin.ext (by show (256 * K.val + b.val) % 256 = b.val; omega)
theorem ki_kq (k : Fin 7168) : ki (kq k) (kr k) = k := Fin.ext (by show 256 * (k.val / 256) + k.val % 256 = k.val; omega)

/-- The group of 128 ranks that a rank lies in, and the byte that holds its field. -/
abbrev grp (r : Fin 768) : Fin 6 := ⟨r.val / 128, by omega⟩
abbrev byt (r : Fin 768) : Fin 384 := ⟨128 * (r.val / 128 % 3) + r.val % 128, by omega⟩

variable (S : Ins)

/-- The four-bit field of the projection: the low one for the first half of the ranks, the high one for the second. -/
def fld (b : BitVec 8) (r : Fin 768) : BitVec 32 :=
  if r.val < 384 then IntOp.andi (BitVec.setWidth 32 b) 15#32 else IntOp.shrsi .vector (BitVec.setWidth 32 b) 4#32
/-- The decoded projection. -/
def P (o : Fin 2304) (r : Fin 768) : EReal :=
  (FloatOps.sitofp (F := Ideal) .f32 (fld (S.pc (ix2 o (byt r))) r) - S.pz (ix2 (grp r) o)) * S.ps (ix2 (grp r) o)
/-- The projected output gradient. -/
def A (a : Fin 12288) (r : Fin 768) : EReal := S.dyS * ∑ o : Fin 2304, S.dy (ix2 a o) * P S o r
/-- The projected weight gradient before its scale, -/
def Gr (r : Fin 768) (k : Fin 7168) : EReal := ∑ a : Fin 12288, A S a r * S.x (ix2 a k)
/-- and after it. -/
def G (r : Fin 768) (k : Fin 7168) : EReal := S.xs * Gr S r k
/-- The new first moment, -/
def Mn (r : Fin 768) (K : Fin 28) (b : Fin 256) : EReal :=
  Ideal.ofBits .f32 1063675494#32 * (FloatOps.sitofp (F := Ideal) .f32 (BitVec.signExtend 32 (S.mc (ix2 r (ki K b)))) * S.ms (ix2 K r))
    + Ideal.ofBits .f32 1036831949#32 * G S r (ki K b)
/-- the root of the old second moment, -/
def So (r : Fin 768) (K : Fin 28) (b : Fin 256) : EReal :=
  FloatOps.sitofp (F := Ideal) .f32 (BitVec.setWidth 32 (S.vc (ix2 r (ki K b)))) * S.vs (ix2 K r)
/-- the new second moment, -/
def Vn (r : Fin 768) (K : Fin 28) (b : Fin 256) : EReal :=
  Ideal.ofBits .f32 1065336439#32 * (So S r K b * So S r K b) + Ideal.ofBits .f32 981668463#32 * G S r (ki K b) * G S r (ki K b)
/-- and its root. -/
def Sv (r : Fin 768) (K : Fin 28) (b : Fin 256) : EReal := Ideal.sqrt (Vn S r K b)
/-- The step in the projected space. -/
def D (r : Fin 768) (K : Fin 28) (b : Fin 256) : EReal :=
  Ideal.div (Ideal.div (Mn S r K b) S.b1) (Ideal.sqrt (Ideal.div (Vn S r K b) S.b2) + Ideal.ofBits .f32 841731191#32)
/-- A block's largest magnitude, and its scale. -/
def Ma (r : Fin 768) (K : Fin 28) : EReal :=
  Finset.fold max (Ideal.ofBits .f32 4286578688#32) (fun b : Fin 256 => FloatOps.absf (F := Ideal) (φ := .f32) (Mn S r K b)) Finset.univ
def Ms (r : Fin 768) (K : Fin 28) : EReal :=
  if 0 < Ma S r K then Ideal.div (Ma S r K) (Ideal.ofBits .f32 1123942400#32) else Ideal.ofBits .f32 1065353216#32
def Va (r : Fin 768) (K : Fin 28) : EReal :=
  Finset.fold max (Ideal.ofBits .f32 4286578688#32) (fun b : Fin 256 => Sv S r K b) Finset.univ
def Vs (r : Fin 768) (K : Fin 28) : EReal :=
  if 0 < Va S r K then Ideal.div (Va S r K) (Ideal.ofBits .f32 1132396544#32) else Ideal.ofBits .f32 1065353216#32
/-- The new codes: the quotient by the block's scale, rounded to the nearest whole number, clipped. -/
def Mc (r : Fin 768) (K : Fin 28) (b : Fin 256) : BitVec 8 :=
  FloatOps.fptosi (F := Ideal) (φ := .f32) 8 (min (((127#32).toInt : ℝ) : EReal) (max (((4294967169#32).toInt : ℝ) : EReal)
    (Ideal.liftRound Ideal.roundHalfEven (Ideal.div (Mn S r K b) (Ms S r K)))))
def Vc (r : Fin 768) (K : Fin 28) (b : Fin 256) : BitVec 8 :=
  BitVec.setWidth 8 (FloatOps.fptosi (F := Ideal) (φ := .f32) 32 (min (((255#32).toInt : ℝ) : EReal) (max (((0#32).toInt : ℝ) : EReal)
    (Ideal.liftRound Ideal.roundHalfEven (Ideal.div (Sv S r K b) (Vs S r K))))))

/-- The seven results. -/
def outG : Vec Ideal ⟨2, ![768, 7168]⟩ .f32 := fun y => G S (y 0) (y 1)
def outD : Vec Ideal ⟨2, ![768, 7168]⟩ .f32 := fun y => D S (y 0) (kq (y 1)) (kr (y 1))
def outMc : Vec Ideal ⟨2, ![768, 7168]⟩ .i8 := fun y => Mc S (y 0) (kq (y 1)) (kr (y 1))
def outMs : Vec Ideal ⟨2, ![28, 768]⟩ .f32 := fun y => Ms S (y 1) (y 0)
def outVc : Vec Ideal ⟨2, ![768, 7168]⟩ .i8 := fun y => Vc S (y 0) (kq (y 1)) (kr (y 1))
def outVs : Vec Ideal ⟨2, ![28, 768]⟩ .f32 := fun y => Vs S (y 1) (y 0)
def outP : Vec Ideal ⟨2, ![2304, 768]⟩ .bf16 := fun y => P S (y 0) (y 1)

end Cert.LSpec

end
-- ==== Proof.LI.Tile.lean ====
/- The body's tiles over the extended reals, at an index. -/
module

public import proofs.«01_k».proof.Proof.LI.Pieces
public import proofs.«01_k».proof.Proof.LSpec

@[expose] public section

set_option maxRecDepth 16384

noncomputable section

namespace Cert.LowrankIdeal.Hand

open Cert.LowrankIdeal.Gen Cert.LSpec
open Idealize.ShloMosaic Idealize.ShloMosaic.TcCoe
open Idealize.SL.Sem

/-! ## Addresses -/

/-- Row `a` of chunk `c`; -/
abbrev rw_ (c : Fin 6) (a : Fin 128) : Fin 768 := ⟨128 * c.val + a.val, by omega⟩
/-- column `y` of block `b` within the step's columns; -/
abbrev cl (b : Fin 2) (y : Fin 256) : Fin 512 := ⟨256 * b.val + y.val, by omega⟩
/-- the block of columns within the whole array. -/
abbrev KB (j : Fin 14) (b : Fin 2) : Fin 28 := ⟨2 * j.val + b.val, by omega⟩

/-! ## Tiles of variables -/

theorem word_apply (x : Vec Ideal S1 .f32) : word x = x (ix1 0) :=
  View.ld_unit_apply_of x _ _ _ _ (ix1 0) fun a => by fin_cases a; rfl

theorem lane_eq : ∀ (t : Fin 27) (j : Fin 14) (b : Fin 2) (K : Fin 28), t.val = 13 + j.val →
    IntOp.cmpi .eq (BitVec.ofNat 32 K.val) (Scalar.addi (Scalar.muli (Scalar.subi (Scalar.subi (BitVec.ofNat 32 t.val) 12#32) 1#32) 2#32) (BitVec.ofNat 32 b.val))
      = BitVec.ofBool (decide (K = KB j b)) := by
  have h : ∀ (j : Fin 14) (b : Fin 2) (K : Fin 28),
      IntOp.cmpi .eq (BitVec.ofNat 32 K.val) (Scalar.addi (Scalar.muli (Scalar.subi (Scalar.subi (BitVec.ofNat 32 (13 + j.val)) 12#32) 1#32) 2#32) (BitVec.ofNat 32 b.val))
        = BitVec.ofBool (decide (K = KB j b)) := by decide +kernel
  intro t j b K e
  rw [e]
  exact h j b K

theorem tG_apply (g : Vec Ideal S128x512 .f32) (xs : Elt Ideal .f32) (a : Fin 128) (k : Fin 512) : tG g xs (ix2 a k) = xs * g (ix2 a k) := by pointwise [tG]
theorem tB_apply (g : Vec Ideal S128x512 .f32) (xs : Elt Ideal .f32) (b : Fin 2) (a : Fin 128) (y : Fin 256) : tB g xs b (ix2 a y) = xs * g (ix2 a (cl b y)) := by pointwise [tB, tG]
theorem tSel_apply (i : grid0.Coords) (j : Fin 14) (hj : (i 0).val = 13 + j.val) (b : Fin 2) (a : Fin 128) (K : Fin 28) :
    tSel i b (ix2 a K) = BitVec.ofBool (decide (K = KB j b)) := by
  pointwise [tSel]
  exact lane_eq (i 0) j b K hj
theorem tCol_apply (i : grid0.Coords) (j : Fin 14) (hj : (i 0).val = 13 + j.val) (b : Fin 2) (tab : Vec Ideal S128x28 .f32) (a : Fin 128) (y : Fin 256) :
    tCol i b tab (ix2 a y) = tab (ix2 a (KB j b)) := by
  pointwise [tCol]
  simp only [tSel_apply i j hj]
  have e : ∀ x : Fin 28, Scalar.select (BitVec.ofBool (decide (x = KB j b))) (tab (ix2 a x)) (0 : EReal) = if x = KB j b then tab (ix2 a x) else 0 := by
    intro x
    by_cases h : x = KB j b <;> simp [h, Scalar.select]
  simp only [e, Finset.sum_ite_eq', Finset.mem_univ, if_true]
theorem tM_apply (i : grid0.Coords) (j : Fin 14) (hj : (i 0).val = 13 + j.val) (b : Fin 2) (cd : Vec Ideal S128x256 .i8) (tab : Vec Ideal S128x28 .f32) (g : FVec Ideal S128x256 .f32) (a : Fin 128) (y : Fin 256) :
    tM i b cd tab g (ix2 a y) = Ideal.ofBits .f32 1063675494#32 * (FloatOps.sitofp (F := Ideal) .f32 (BitVec.signExtend 32 (cd (ix2 a y))) * tab (ix2 a (KB j b)))
      + Ideal.ofBits .f32 1036831949#32 * g (ix2 a y) := by
  rw [← tCol_apply i j hj b tab a y]
  pointwise [tM]
theorem tO_apply (i : grid0.Coords) (j : Fin 14) (hj : (i 0).val = 13 + j.val) (b : Fin 2) (cd : Vec Ideal S128x256 .i8) (tab : Vec Ideal S128x28 .f32) (a : Fin 128) (y : Fin 256) :
    tO i b cd tab (ix2 a y) = FloatOps.sitofp (F := Ideal) .f32 (BitVec.setWidth 32 (cd (ix2 a y))) * tab (ix2 a (KB j b)) := by
  rw [← tCol_apply i j hj b tab a y]
  pointwise [tO]
theorem tV_apply (o g : FVec Ideal S128x256 .f32) (a : Fin 128) (y : Fin 256) :
    tV o g (ix2 a y) = Ideal.ofBits .f32 1065336439#32 * (o (ix2 a y) * o (ix2 a y)) + Ideal.ofBits .f32 981668463#32 * g (ix2 a y) * g (ix2 a y) := by pointwise [tV]
theorem tD_apply (m v : FVec Ideal S128x256 .f32) (b1 b2 : Elt Ideal .f32) (a : Fin 128) (y : Fin 256) :
    tD m v b1 b2 (ix2 a y) = Ideal.div (Ideal.div (m (ix2 a y)) b1) (Ideal.sqrt (Ideal.div (v (ix2 a y)) b2) + Ideal.ofBits .f32 841731191#32) := by pointwise [tD]
theorem tX_apply (n : FVec Ideal S128x256 .f32) (a : Fin 128) (z : Fin 1) :
    tX n (ix2 a z) = Finset.fold max (Ideal.ofBits .f32 4286578688#32) (fun y : Fin 256 => n (ix2 a y)) Finset.univ := by
  pointwise [tX]
theorem tS_apply (n : FVec Ideal S128x256 .f32) (q : Ideal .f32) (a : Fin 128) (z : Fin 1) :
    tS n q (ix2 a z) = if 0 < tX n (ix2 a z) then Ideal.div (tX n (ix2 a z)) q else Ideal.ofBits .f32 1065353216#32 := by
  pointwise [tS]
theorem tMc_apply (m : FVec Ideal S128x256 .f32) (a : Fin 128) (y : Fin 256) :
    tMc m (ix2 a y) = FloatOps.fptosi (F := Ideal) (φ := .f32) 8 (min (((127#32).toInt : ℝ) : EReal) (max (((4294967169#32).toInt : ℝ) : EReal)
      (Ideal.liftRound Ideal.roundHalfEven (Ideal.div (m (ix2 a y)) (tMs m (ix2 a 0)))))) := by
  pointwise [tMc]
theorem tVc_apply (v : FVec Ideal S128x256 .f32) (a : Fin 128) (y : Fin 256) :
    tVc v (ix2 a y) = BitVec.setWidth 8 (FloatOps.fptosi (F := Ideal) (φ := .f32) 32 (min (((255#32).toInt : ℝ) : EReal) (max (((0#32).toInt : ℝ) : EReal)
      (Ideal.liftRound Ideal.roundHalfEven (Ideal.div (Ideal.sqrt (v (ix2 a y))) (tVs v (ix2 a 0))))))) := by
  pointwise [tVc]
theorem tPut_apply (i : grid0.Coords) (j : Fin 14) (hj : (i 0).val = 13 + j.val) (b : Fin 2) (s : FVec Ideal S128x1 .f32) (old : Vec Ideal S128x28 .f32) (a : Fin 128) (K : Fin 28) :
    tPut i b s old (ix2 a K) = if K = KB j b then s (ix2 a 0) else old (ix2 a K) := by
  have e := tSel_apply i j hj b a K
  pointwise [tPut]
  rw [e]
  by_cases h : K = KB j b <;> simp [h, Scalar.select]
theorem tDot_apply (x : Vec Ideal S768x2048 .bf16) (y : Vec Ideal S2048x512 .fp8e4m3) (r : Fin 768) (k : Fin 512) :
    tDot x y (ix2 r k) = ∑ t : Fin 2048, x (ix2 r t) * y (ix2 t k) := by pointwise [tDot]
theorem pay7_apply (s : Elt Ideal .f32) (p : Vec Ideal S768x2304 .bf16) (d : Vec Ideal S1024x2304 .fp8e5m2) (r : Fin 768) (t : Fin 1024) :
    k0_pay7 s p d (ix2 r t) = s * ∑ o : Fin 2304, p (ix2 r o) * d (ix2 t o) := by pointwise [k0_pay7]
theorem turn_apply (w : Vec Ideal S768x28 .f32) (K : Fin 28) (r : Fin 768) :
    transpose S28x768 [1, 0] w transposes_S768x28_p1_0_S28x768 (ix2 K r) = w (ix2 r K) := by pointwise
theorem pay3_apply (w : Vec Ideal S28x768 .f32) (r : Fin 768) (K : Fin 28) : k0_pay3 w (ix2 r K) = w (ix2 K r) := by pointwise [k0_pay3]
theorem pay4_apply (w : Vec Ideal S28x768 .f32) (r : Fin 768) (K : Fin 28) : k0_pay4 w (ix2 r K) = w (ix2 K r) := by pointwise [k0_pay4]
theorem pturn_apply (w : Vec Ideal S128x256 .bf16) (o : Fin 256) (a : Fin 128) :
    transpose S256x128 [1, 0] w transposes_S128x256_p1_0_S256x128 (ix2 o a) = w (ix2 a o) := by pointwise
theorem cast28_apply (w : Vec Ideal S128x28 .f32) (a : Fin 128) (K : Fin 28) : shapeCast S128x28 w shapeCasts_S128x28_S128x28 (ix2 a K) = w (ix2 a K) := by pointwise
theorem cast512 (w : FVec Ideal S768x512 .f32) : shapeCast S768x512 w shapeCasts_S768x512_S768x512 = w := by
  funext y
  obtain ⟨r, k, rfl⟩ : ∃ (r : Fin 768) (k : Fin 512), y = (ix2 r k : S768x512.Idx) := ⟨y 0, y 1, eq_ix2 (y : S768x512.Idx)⟩
  pointwise

end Cert.LowrankIdeal.Hand

end
-- ==== Proof.LI.Step.lean ====
/- What the pieces of one step amount to: the blocks of the results as functions of the arguments. -/
module

public import proofs.«01_k».proof.Proof.LI.Tile
public import Idealize.ShloMosaic.Lib.VecWindow

@[expose] public section

set_option maxRecDepth 16384

noncomputable section

namespace Cert.LowrankIdeal.Hand

open Cert.LowrankIdeal.Gen Cert.LSpec
open Idealize.ShloMosaic Idealize.ShloMosaic.TcCoe
open Idealize.SL.Sem

/-! ## Reading back -/

theorem forall_six {α : Type} {P : α → Prop} {f : Fin 6 → α} (h : ∀ c, P (f c)) : ∀ p ∈ six f, P p := by
  intro p hp
  simp only [six, List.mem_cons, List.not_mem_nil, or_false] at hp
  rcases hp with rfl | rfl | rfl | rfl | rfl | rfl <;> exact h _
theorem mem_six {α : Type} (f : Fin 6 → α) (c : Fin 6) : f c ∈ six f := by
  fin_cases c <;> simp [six]
theorem forall_twelve {α : Type} {P : α → Prop} {f : Fin 6 → Fin 2 → α} (h : ∀ c b, P (f c b)) : ∀ p ∈ twelve f, P p := by
  intro p hp
  simp only [twelve, List.mem_cons, List.not_mem_nil, or_false] at hp
  rcases hp with rfl | rfl | rfl | rfl | rfl | rfl | rfl | rfl | rfl | rfl | rfl | rfl <;> exact h _ _
theorem mem_twelve {α : Type} (f : Fin 6 → Fin 2 → α) (c : Fin 6) (b : Fin 2) : f c b ∈ twelve f := by
  fin_cases c <;> fin_cases b <;> simp [twelve]

section
variable {e : EltTy} {κ : Kind} {sp : Space}

theorem read_twelve (v : View sig κ sp S768x512 e) (f : v.ty.Contents (Elt Ideal)) (w : Fin 6 → Fin 2 → (S128x256.Idx → Elt Ideal e)) (G : S768x512.Idx → Elt Ideal e)
    (h : ∀ c b a y, w c b (ix2 a y) = G (ix2 (rw_ c a) (cl b y))) :
    v.read (Elt Ideal) (v.writes (Elt Ideal) f (twelve fun c b => ⟨tileR c b, w c b⟩)) = G := by
  funext y
  refine View.read_writes_apply_of_pieces (v := v) (f := f) G _ ?_ y ?_
  · refine forall_twelve fun c b x => ?_
    obtain ⟨a, z, rfl⟩ : ∃ (a : Fin 128) (z : Fin 256), x = (ix2 a z : S128x256.Idx) := ⟨x 0, x 1, eq_ix2 (x : S128x256.Idx)⟩
    show w c b (ix2 a z) = _
    rw [h]
    refine congrArg G (Eq.symm ?_)
    funext q
    fin_cases q <;> refine Fin.ext ?_ <;> exact (ValueKit.rect_emb_unit_val _ _ (inb_tile c b) _ _).trans rfl
  · have h0 : (y 0).val < 768 := (y 0).isLt
    have h1 : (y 1).val < 512 := (y 1).isLt
    refine ⟨_, mem_twelve _ ⟨(y 0).val / 128, by omega⟩ ⟨(y 1).val / 256, by omega⟩, ?_⟩
    rw [Rect.mem_set_unit]
    intro a
    fin_cases a
    · show 128 * ((y 0).val / 128) ≤ (y 0).val ∧ (y 0).val < 128 * ((y 0).val / 128) + 128; omega
    · show 256 * ((y 1).val / 256) ≤ (y 1).val ∧ (y 1).val < 256 * ((y 1).val / 256) + 256; omega
theorem read_rows (v : View sig κ sp S768x512 e) (f : v.ty.Contents (Elt Ideal)) (w : Fin 6 → (S128x512.Idx → Elt Ideal e)) (G : S768x512.Idx → Elt Ideal e)
    (h : ∀ c a y, w c (ix2 a y) = G (ix2 (rw_ c a) y)) :
    v.read (Elt Ideal) (v.writes (Elt Ideal) f (six fun c => ⟨rowsR c, w c⟩)) = G := by
  funext y
  refine View.read_writes_apply_of_pieces (v := v) (f := f) G _ ?_ y ?_
  · refine forall_six fun c x => ?_
    obtain ⟨a, z, rfl⟩ : ∃ (a : Fin 128) (z : Fin 512), x = (ix2 a z : S128x512.Idx) := ⟨x 0, x 1, eq_ix2 (x : S128x512.Idx)⟩
    show w c (ix2 a z) = _
    rw [h]
    refine congrArg G (Eq.symm ?_)
    funext q
    fin_cases q <;> refine Fin.ext ?_ <;> refine (ValueKit.rect_emb_unit_val _ _ (inb_rows c) _ _).trans ?_ <;> simp
  · have h0 : (y 0).val < 768 := (y 0).isLt
    have h1 : (y 1).val < 512 := (y 1).isLt
    refine ⟨_, mem_six _ ⟨(y 0).val / 128, by omega⟩, ?_⟩
    rw [Rect.mem_set_unit]
    intro a
    fin_cases a
    · show 128 * ((y 0).val / 128) ≤ (y 0).val ∧ (y 0).val < 128 * ((y 0).val / 128) + 128; omega
    · show 0 ≤ (y 1).val ∧ (y 1).val < 0 + 512; omega
theorem read_tabs (v : View sig κ sp S768x28 e) (f : v.ty.Contents (Elt Ideal)) (w : Fin 6 → (S128x28.Idx → Elt Ideal e)) (G : S768x28.Idx → Elt Ideal e)
    (h : ∀ c a y, w c (ix2 a y) = G (ix2 (rw_ c a) y)) :
    v.read (Elt Ideal) (v.writes (Elt Ideal) f (six fun c => ⟨tabsR c, w c⟩)) = G := by
  funext y
  refine View.read_writes_apply_of_pieces (v := v) (f := f) G _ ?_ y ?_
  · refine forall_six fun c x => ?_
    obtain ⟨a, z, rfl⟩ : ∃ (a : Fin 128) (z : Fin 28), x = (ix2 a z : S128x28.Idx) := ⟨x 0, x 1, eq_ix2 (x : S128x28.Idx)⟩
    show w c (ix2 a z) = _
    rw [h]
    refine congrArg G (Eq.symm ?_)
    funext q
    fin_cases q <;> refine Fin.ext ?_ <;> refine (ValueKit.rect_emb_unit_val _ _ (inb_tabs c) _ _).trans ?_ <;> simp
  · have h0 : (y 0).val < 768 := (y 0).isLt
    have h1 : (y 1).val < 28 := (y 1).isLt
    refine ⟨_, mem_six _ ⟨(y 0).val / 128, by omega⟩, ?_⟩
    rw [Rect.mem_set_unit]
    intro a
    fin_cases a
    · show 128 * ((y 0).val / 128) ≤ (y 0).val ∧ (y 0).val < 128 * ((y 0).val / 128) + 128; omega
    · show 0 ≤ (y 1).val ∧ (y 1).val < 0 + 28; omega
theorem read_pcols (v : View sig κ sp S256x768 e) (f : v.ty.Contents (Elt Ideal)) (w : Fin 6 → (S256x128.Idx → Elt Ideal e)) (G : S256x768.Idx → Elt Ideal e)
    (h : ∀ c o a, w c (ix2 o a) = G (ix2 o (rw_ c a))) :
    v.read (Elt Ideal) (v.writes (Elt Ideal) f (six fun c => ⟨pcolR c, w c⟩)) = G := by
  funext y
  refine View.read_writes_apply_of_pieces (v := v) (f := f) G _ ?_ y ?_
  · refine forall_six fun c x => ?_
    obtain ⟨a, z, rfl⟩ : ∃ (a : Fin 256) (z : Fin 128), x = (ix2 a z : S256x128.Idx) := ⟨x 0, x 1, eq_ix2 (x : S256x128.Idx)⟩
    show w c (ix2 a z) = _
    rw [h]
    refine congrArg G (Eq.symm ?_)
    funext q
    fin_cases q <;> refine Fin.ext ?_ <;> refine (ValueKit.rect_emb_unit_val _ _ (inb_pcol c) _ _).trans ?_ <;> simp
  · have h0 : (y 0).val < 256 := (y 0).isLt
    have h1 : (y 1).val < 768 := (y 1).isLt
    refine ⟨_, mem_six _ ⟨(y 1).val / 128, by omega⟩, ?_⟩
    rw [Rect.mem_set_unit]
    intro a
    fin_cases a
    · show 0 ≤ (y 0).val ∧ (y 0).val < 0 + 256; omega
    · show 128 * ((y 1).val / 128) ≤ (y 1).val ∧ (y 1).val < 128 * ((y 1).val / 128) + 128; omega
end

theorem ld_tile {e : EltTy} (x : Vec Ideal S768x512 e) (c : Fin 6) (b : Fin 2) (a : Fin 128) (y : Fin 256) :
    View.ld x (tileR c b) (ix2 a y) = x (ix2 (rw_ c a) (cl b y)) := View.ld_unit_apply_of x _ _ _ _ (ix2 (rw_ c a) (cl b y)) fun q => by fin_cases q <;> rfl
theorem ld_rows (x : Vec Ideal S768x512 .f32) (c : Fin 6) (a : Fin 128) (k : Fin 512) :
    View.ld x (rowsR c) (ix2 a k) = x (ix2 (rw_ c a) k) := View.ld_unit_apply_of x _ _ _ _ (ix2 (rw_ c a) k) fun q => by fin_cases q <;> simp
theorem ld_tabs (x : Vec Ideal S768x28 .f32) (c : Fin 6) (a : Fin 128) (K : Fin 28) :
    View.ld x (tabsR c) (ix2 a K) = x (ix2 (rw_ c a) K) := View.ld_unit_apply_of x _ _ _ _ (ix2 (rw_ c a) K) fun q => by fin_cases q <;> simp

/-! ## The update -/

/-- Column `k` of block `j` of 512 columns. -/
abbrev gk (j : Fin 14) (k : Fin 512) : Fin 7168 := ⟨512 * j.val + k.val, by omega⟩
theorem gk_cl (j : Fin 14) (b : Fin 2) (y : Fin 256) : gk j (cl b y) = ki (KB j b) y :=
  Fin.ext (by show 512 * j.val + (256 * b.val + y.val) = 256 * (2 * j.val + b.val) + y.val; omega)

/-- What an update's blocks hold of the arguments. -/
structure Upd (S : Ins) (i : grid0.Coords) (j : Fin 14) (x1 x3 x4 : Vec Ideal S1 .f32) (x10 x12 : Vec Ideal S768x512 .i8) (x24 : Vec Ideal S768x512 .f32) (x25 x26 : Vec Ideal S768x28 .f32) : Prop where
  hj : (i 0).val = 13 + j.val
  h1 : x1 (ix1 0) = S.xs
  h3 : x3 (ix1 0) = S.b1
  h4 : x4 (ix1 0) = S.b2
  h10 : ∀ r k, x10 (ix2 r k) = S.mc (ix2 r (gk j k))
  h12 : ∀ r k, x12 (ix2 r k) = S.vc (ix2 r (gk j k))
  h24 : ∀ r k, x24 (ix2 r k) = Gr S r (gk j k)
  h25 : ∀ r K, x25 (ix2 r K) = S.ms (ix2 K r)
  h26 : ∀ r K, x26 (ix2 r K) = S.vs (ix2 K r)

section
variable {S : Ins} {i : grid0.Coords} {j : Fin 14} {x1 x3 x4 : Vec Ideal S1 .f32} {x10 x12 : Vec Ideal S768x512 .i8} {x24 : Vec Ideal S768x512 .f32} {x25 x26 : Vec Ideal S768x28 .f32}
variable (H : Upd S i j x1 x3 x4 x10 x12 x24 x25 x26)
include H

theorem qG_apply (c : Fin 6) (b : Fin 2) (a : Fin 128) (y : Fin 256) : qG x1 x24 c b (ix2 a y) = G S (rw_ c a) (ki (KB j b) y) := by
  rw [qG, tB_apply, word_apply, ld_rows, H.h1, H.h24, gk_cl, LSpec.G]
theorem qM_apply (c : Fin 6) (b : Fin 2) (a : Fin 128) (y : Fin 256) : qM i x1 x24 x10 x25 c b (ix2 a y) = Mn S (rw_ c a) (KB j b) y := by
  rw [qM, tM_apply i j H.hj, qG_apply H, ld_tile, ld_tabs, H.h10, H.h25, gk_cl, Mn]
theorem qV_apply (c : Fin 6) (b : Fin 2) (a : Fin 128) (y : Fin 256) : qV i x1 x24 x12 x26 c b (ix2 a y) = Vn S (rw_ c a) (KB j b) y := by
  rw [qV, tV_apply, tO_apply i j H.hj, qG_apply H, ld_tile, ld_tabs, H.h12, H.h26, gk_cl, Vn, So]
theorem tMs_apply (c : Fin 6) (b : Fin 2) (a : Fin 128) (z : Fin 1) : tMs (qM i x1 x24 x10 x25 c b) (ix2 a z) = Ms S (rw_ c a) (KB j b) := by
  have e : tX (absf (qM i x1 x24 x10 x25 c b)) (ix2 a z) = Ma S (rw_ c a) (KB j b) := by
    rw [tX_apply, Ma]
    refine Finset.fold_congr fun y _ => ?_
    show FloatOps.absf (F := Ideal) (φ := .f32) (qM i x1 x24 x10 x25 c b (ix2 a y)) = _
    rw [qM_apply H]
  rw [tMs, tS_apply, e, Ms]
  rfl
theorem tVs_apply (c : Fin 6) (b : Fin 2) (a : Fin 128) (z : Fin 1) : tVs (qV i x1 x24 x12 x26 c b) (ix2 a z) = Vs S (rw_ c a) (KB j b) := by
  have e : tX (sqrt (qV i x1 x24 x12 x26 c b)) (ix2 a z) = Va S (rw_ c a) (KB j b) := by
    rw [tX_apply, Va]
    refine Finset.fold_congr fun y _ => ?_
    show Ideal.sqrt (qV i x1 x24 x12 x26 c b (ix2 a y)) = _
    rw [qV_apply H, Sv]
  rw [tVs, tS_apply, e, Vs]
  rfl

/-- The step's blocks. -/
def gBlk (S : Ins) (j : Fin 14) : Vec Ideal S768x512 .f32 := fun y => outG S (ix2 (y 0) (gk j (y 1)))
def dBlk (S : Ins) (j : Fin 14) : Vec Ideal S768x512 .f32 := fun y => outD S (ix2 (y 0) (gk j (y 1)))
def mcBlk (S : Ins) (j : Fin 14) : Vec Ideal S768x512 .i8 := fun y => outMc S (ix2 (y 0) (gk j (y 1)))
def vcBlk (S : Ins) (j : Fin 14) : Vec Ideal S768x512 .i8 := fun y => outVc S (ix2 (y 0) (gk j (y 1)))

section
variable {κ : Kind} {sp : Space}
theorem read_g (v : View sig κ sp S768x512 .f32) (f : v.ty.Contents (Elt Ideal)) : v.read (Elt Ideal) (v.writes (Elt Ideal) f (six (pcG x1 x24))) = gBlk S j := by
  refine read_rows v f (fun c => tG (View.ld x24 (rowsR c)) (word x1)) _ fun c a k => ?_
  rw [tG_apply, word_apply, ld_rows, H.h1, H.h24]
  rfl
theorem read_d (v : View sig κ sp S768x512 .f32) (f : v.ty.Contents (Elt Ideal)) :
    v.read (Elt Ideal) (v.writes (Elt Ideal) f (twelve (pcD i x1 x3 x4 x24 x10 x12 x25 x26))) = dBlk S j := by
  refine read_twelve v f (fun c b => tD (qM i x1 x24 x10 x25 c b) (qV i x1 x24 x12 x26 c b) (word x3) (word x4)) _ fun c b a y => ?_
  rw [tD_apply, qM_apply H, qV_apply H, word_apply, word_apply, H.h3, H.h4]
  show _ = D S (rw_ c a) (kq (gk j (cl b y))) (kr (gk j (cl b y)))
  rw [gk_cl, kq_ki, kr_ki, D]
theorem read_mc (v : View sig κ sp S768x512 .i8) (f : v.ty.Contents (Elt Ideal)) :
    v.read (Elt Ideal) (v.writes (Elt Ideal) f (twelve (pcMc i x1 x24 x10 x25))) = mcBlk S j := by
  refine read_twelve v f (fun c b => tMc (qM i x1 x24 x10 x25 c b)) _ fun c b a y => ?_
  rw [tMc_apply, qM_apply H, tMs_apply H]
  show _ = Mc S (rw_ c a) (kq (gk j (cl b y))) (kr (gk j (cl b y)))
  rw [gk_cl, kq_ki, kr_ki, Mc]
theorem read_vc (v : View sig κ sp S768x512 .i8) (f : v.ty.Contents (Elt Ideal)) :
    v.read (Elt Ideal) (v.writes (Elt Ideal) f (twelve (pcVc i x1 x24 x12 x26))) = vcBlk S j := by
  refine read_twelve v f (fun c b => tVc (qV i x1 x24 x12 x26 c b)) _ fun c b a y => ?_
  rw [tVc_apply, qV_apply H, tVs_apply H]
  show _ = Vc S (rw_ c a) (kq (gk j (cl b y))) (kr (gk j (cl b y)))
  rw [gk_cl, kq_ki, kr_ki, Vc, Sv]
/-- A table with the step's two lanes overwritten. -/
def newTab (s : Fin 768 → Fin 28 → EReal) (j : Fin 14) (old : Vec Ideal S768x28 .f32) : Vec Ideal S768x28 .f32 :=
  fun y => if (y 1).val / 2 = j.val then s (y 0) (y 1) else old (ix2 (y 0) (y 1))
omit H in
theorem newTab_put (s : Fin 768 → Fin 28 → EReal) (j : Fin 14) (old : Vec Ideal S768x28 .f32) (r : Fin 768) (K : Fin 28) :
    (if K = KB j 1 then s r (KB j 1) else if K = KB j 0 then s r (KB j 0) else old (ix2 r K)) = newTab s j old (ix2 r K) := by
  show _ = if K.val / 2 = j.val then s r K else old (ix2 r K)
  by_cases h1 : K = KB j 1
  · rw [if_pos h1, if_pos (by rw [h1]; show (2 * j.val + 1) / 2 = j.val; omega), h1]
  · rw [if_neg h1]
    by_cases h0 : K = KB j 0
    · rw [if_pos h0, if_pos (by rw [h0]; show (2 * j.val + 0) / 2 = j.val; omega), h0]
    · rw [if_neg h0, if_neg]
      intro h
      have n1 : K.val ≠ 2 * j.val + 1 := fun e => h1 (Fin.ext e)
      have n0 : K.val ≠ 2 * j.val + 0 := fun e => h0 (Fin.ext e)
      omega
theorem read_ms (x27 : Vec Ideal S768x28 .f32) (v : View sig κ sp S768x28 .f32) (f : v.ty.Contents (Elt Ideal)) :
    v.read (Elt Ideal) (v.writes (Elt Ideal) f (six (pcMs i x1 x24 x10 x25 x27))) = newTab (Ms S) j x27 := by
  refine read_tabs v f (fun c => shapeCast S128x28 (tPut i 1 (tMs (qM i x1 x24 x10 x25 c 1)) (tPut i 0 (tMs (qM i x1 x24 x10 x25 c 0)) (View.ld x27 (tabsR c)))) shapeCasts_S128x28_S128x28) _ fun c a K => ?_
  rw [cast28_apply, tPut_apply i j H.hj, tPut_apply i j H.hj, tMs_apply H, tMs_apply H, ld_tabs]
  exact newTab_put (Ms S) j x27 _ K
theorem read_vs (x28 : Vec Ideal S768x28 .f32) (v : View sig κ sp S768x28 .f32) (f : v.ty.Contents (Elt Ideal)) :
    v.read (Elt Ideal) (v.writes (Elt Ideal) f (six (pcVs i x1 x24 x12 x26 x28))) = newTab (Vs S) j x28 := by
  refine read_tabs v f (fun c => shapeCast S128x28 (tPut i 1 (tVs (qV i x1 x24 x12 x26 c 1)) (tPut i 0 (tVs (qV i x1 x24 x12 x26 c 0)) (View.ld x28 (tabsR c)))) shapeCasts_S128x28_S128x28) _ fun c a K => ?_
  rw [cast28_apply, tPut_apply i j H.hj, tPut_apply i j H.hj, tVs_apply H, tVs_apply H, ld_tabs]
  exact newTab_put (Vs S) j x28 _ K
end
end

/-- A table filled up to the step, -/
def Tab (s : Fin 768 → Fin 28 → EReal) (n : Nat) (x : Vec Ideal S768x28 .f32) : Prop := ∀ r K, K.val < 2 * n → x (ix2 r K) = s r K
/-- is filled up to the next one by the step. -/
theorem Tab.step {s : Fin 768 → Fin 28 → EReal} {j : Fin 14} {x : Vec Ideal S768x28 .f32} (h : Tab s j.val x) : Tab s (j.val + 1) (newTab s j x) := by
  intro r K hK
  show (if K.val / 2 = j.val then s r K else x (ix2 r K)) = _
  by_cases e : K.val / 2 = j.val
  · rw [if_pos e]
  · rw [if_neg e]; exact h r K (by omega)

section
variable {κ : Kind} {sp : Space}

/-- A table turned and stored whole. -/
theorem read_turn (v : View sig κ sp S28x768 .f32) (f : v.ty.Contents (Elt Ideal)) (w : Vec Ideal S768x28 .f32) :
    v.read (Elt Ideal) (v.writes (Elt Ideal) f [pcT w]) = fun y => w (ix2 (y 1) (y 0)) := by
  rw [View.read_writes_full v f inb_S28x768_S28x768_0_0]
  funext y
  obtain ⟨K, r, rfl⟩ : ∃ (K : Fin 28) (r : Fin 768), y = (ix2 K r : S28x768.Idx) := ⟨y 0, y 1, eq_ix2 (y : S28x768.Idx)⟩
  exact turn_apply w K r
/-- A load of a whole table that the pieces cover. -/
theorem cov_tab (v : View sig κ sp S768x28 .f32) (L : List (View.Piece (Elt Ideal) S768x28 .f32)) :
    v.readCov L R28.toLoadRect = v.read (Elt Ideal) (v.writes (Elt Ideal) v.junk L) := View.readAt_full v _ inb_S768x28_S768x28_0_0

/-! ## The projection's block -/

theorem pOff_eq (i : grid0.Coords) (j : Fin 14) (hj : (i 0).val = 13 + j.val) : pOff i = 256 * min j.val 8 := by
  show (Scalar.indexCast (Scalar.muli (Scalar.minsi (Scalar.subi (Scalar.subi (BitVec.ofNat 32 (i 0).val) 12#32) 1#32) 8#32) 256#32)).toNat = _
  rw [hj]
  exact (by decide +kernel : ∀ j : Fin 14, (Scalar.indexCast (Scalar.muli (Scalar.minsi (Scalar.subi (Scalar.subi (BitVec.ofNat 32 (13 + j.val)) 12#32) 1#32) 8#32) 256#32)).toNat = 256 * min j.val 8) j
theorem inb_p (i : grid0.Coords) (j : Fin 14) (hj : (i 0).val = 13 + j.val) : ∀ (c : Fin 6) a, (![128 * c.val, pOff i] : Fin 2 → Nat) a + S128x256.size a ≤ S768x2304.size a := by
  rw [pOff_eq i j hj]
  intro c a
  fin_cases a
  · show 128 * c.val + 128 ≤ 768; omega
  · show 256 * min j.val 8 + 256 ≤ 2304; omega
/-- Row `o` of the block in the whole projection. -/
abbrev po (n : Nat) (o : Fin 256) : Fin 2304 := ⟨256 * min n 8 + o.val, by omega⟩
def pBlk (S : Ins) (n : Nat) : Vec Ideal S256x768 .bf16 := fun y => outP S (ix2 (po n (y 0)) (y 1))
theorem read_p {S : Ins} (i : grid0.Coords) (j : Fin 14) (hj : (i 0).val = 13 + j.val) (x21 : Vec Ideal S768x2304 .bf16) (h21 : ∀ r o, x21 (ix2 r o) = P S o r)
    (v : View sig κ sp S256x768 .bf16) (f : v.ty.Contents (Elt Ideal)) :
    v.read (Elt Ideal) (v.writes (Elt Ideal) f (six (pcP i x21 (inb_p i j hj)))) = pBlk S j.val := by
  refine read_pcols v f (fun c => transpose S256x128 [1, 0] (View.ld x21 (Rect.unit ![128 * c.val, pOff i] S128x256.size (inb_p i j hj c))) transposes_S128x256_p1_0_S256x128) _ fun c o a => ?_
  rw [pturn_apply, View.ld_unit_apply_of x21 _ _ _ _ (ix2 (rw_ c a) (po j.val o)) fun q => by
    fin_cases q
    · rfl
    · show 256 * min j.val 8 + o.val = pOff i + o.val; rw [pOff_eq i j hj], h21]
  rfl

/-! ## The gradient's dot product -/

/-- A running sum. -/
def psum (f : Fin 6 → EReal) : Nat → EReal
  | 0 => f 0
  | n + 1 => psum f n + f (Fin.ofNat 6 (n + 1))
/-- Token `t` of chunk `c`. -/
abbrev tk (c : Fin 6) (t : Fin 2048) : Fin 12288 := ⟨2048 * c.val + t.val, by omega⟩
theorem sum_tk (f : Fin 12288 → EReal) : ∑ a, f a = ∑ c : Fin 6, ∑ t : Fin 2048, f (tk c t) := by
  rw [← Finset.sum_product' (f := fun c t => f (tk c t))]
  refine (Finset.sum_bij' (fun p _ => tk p.1 p.2) (fun a _ => ((⟨a.val / 2048, by omega⟩ : Fin 6), (⟨a.val % 2048, by omega⟩ : Fin 2048))) ?_ ?_ ?_ ?_ ?_).symm
  · intros; exact Finset.mem_univ _
  · intros; simp
  · intro p _
    refine Prod.ext (Fin.ext ?_) (Fin.ext ?_)
    · show (2048 * p.1.val + p.2.val) / 2048 = p.1.val; omega
    · show (2048 * p.1.val + p.2.val) % 2048 = p.2.val; omega
  · intro a _
    exact Fin.ext (by show 2048 * (a.val / 2048) + a.val % 2048 = a.val; omega)
  · intros; rfl
theorem qDot_apply (x22 : Vec Ideal S768x12288 .bf16) (x9 : Vec Ideal S12288x512 .fp8e4m3) (c : Fin 6) (r : Fin 768) (k : Fin 512) :
    qDot x22 x9 c (ix2 r k) = ∑ t : Fin 2048, x22 (ix2 r (tk c t)) * x9 (ix2 (tk c t) k) := by
  rw [qDot, tDot_apply]
  refine Finset.sum_congr rfl fun t _ => ?_
  rw [View.ld_unit_apply_of x22 _ _ _ _ (ix2 r (tk c t)) fun q => by fin_cases q <;> simp,
    View.ld_unit_apply_of x9 _ _ _ _ (ix2 (tk c t) k) fun q => by fin_cases q <;> simp]
theorem accL_apply (v : View sig κ sp S768x512 .f32) (x22 : Vec Ideal S768x12288 .bf16) (x9 : Vec Ideal S12288x512 .fp8e4m3) (r : Fin 768) (k : Fin 512) :
    ∀ n, v.readCov (accL v x22 x9 n) R512.toLoadRect (ix2 r k) = psum (fun c => qDot x22 x9 c (ix2 r k)) n
  | 0 => by
    rw [accL, View.readCov_full v inb_S768x512_S768x512_0_0 inb_S768x512_S768x512_0_0, cast512]
    rfl
  | n + 1 => by
    rw [accL, View.readCov_full v inb_S768x512_S768x512_0_0 inb_S768x512_S768x512_0_0, cast512, psum, ← accL_apply v x22 x9 r k n]
    rfl
theorem read_dot (v w : View sig κ sp S768x512 .f32) (f : w.ty.Contents (Elt Ideal)) (x22 : Vec Ideal S768x12288 .bf16) (x9 : Vec Ideal S12288x512 .fp8e4m3) (r : Fin 768) (k : Fin 512) :
    w.read (Elt Ideal) (w.writes (Elt Ideal) f [pcDot v x22 x9]) (ix2 r k) = ∑ a : Fin 12288, x22 (ix2 r a) * x9 (ix2 a k) := by
  rw [View.read_writes_full w f inb_S768x512_S768x512_0_0, cast512, sum_tk]
  show v.readCov (accL v x22 x9 4) R512.toLoadRect (ix2 r k) + qDot x22 x9 5 (ix2 r k) = _
  rw [accL_apply]
  have e : ∀ g : Fin 6 → EReal, psum g 4 + g 5 = ∑ c, g c := fun g => by
    rw [Fin.sum_univ_six]
    rfl
  exact (e fun c => qDot x22 x9 c (ix2 r k)).trans (Finset.sum_congr rfl fun c _ => qDot_apply x22 x9 c r k)

/-! ## The projected gradients -/

theorem off16_eq (i : grid0.Coords) (hi : (i 0).val < 12) : k0_off16 i = ![0, 1024 * (i 0).val] := by
  have := (by decide +kernel : ∀ t : Fin 27, t.val < 12 → (Scalar.indexCast (Scalar.muli (BitVec.ofNat 32 t.val) 1024#32)).toNat = 1024 * t.val) (i 0) hi
  show ![0, _] = _
  rw [this]
theorem inb_a (i : grid0.Coords) (hi : (i 0).val < 12) : ∀ a, k0_off16 i a + S768x1024.size a ≤ S768x12288.size a := by
  rw [off16_eq i hi]
  intro a
  fin_cases a
  · show 0 + 768 ≤ 768; omega
  · show 1024 * (i 0).val + 1024 ≤ 12288; omega
/-- The projected gradients up to a chunk of tokens. -/
def Grads (S : Ins) (n : Nat) (x : Vec Ideal S768x12288 .bf16) : Prop := ∀ r (a : Fin 12288), a.val < 1024 * n → x (ix2 r a) = A S a r
theorem read_a {S : Ins} (i : grid0.Coords) (hi : (i 0).val < 12) (x2 : Vec Ideal S1 .f32) (x21 : Vec Ideal S768x2304 .bf16) (x8 : Vec Ideal S1024x2304 .fp8e5m2)
    (h2 : x2 (ix1 0) = S.dyS) (h21 : ∀ r o, x21 (ix2 r o) = P S o r) (h8 : ∀ (t : Fin 1024) o, x8 (ix2 t o) = S.dy (ix2 ⟨1024 * (i 0).val + t.val, by omega⟩ o))
    (v : View sig κ sp S768x12288 .bf16) (f : v.ty.Contents (Elt Ideal)) (hf : Grads S (i 0).val (v.read (Elt Ideal) f)) :
    Grads S ((i 0).val + 1) (v.read (Elt Ideal) (v.writes (Elt Ideal) f [pcA i x2 x21 x8 (inb_a i hi)])) := by
  intro r a ha
  by_cases h : a.val < 1024 * (i 0).val
  · rw [View.read_writes_cons_unit_of_not_mem v f (inb_a i hi) _ [] (ix2 r a) (off16_eq i hi) 1 (Or.inl h)]
    exact hf r a h
  · rw [View.read_writes_cons_unit_of_mem v f (inb_a i hi) _ [] (ix2 r a) (ix2 r (⟨a.val - 1024 * (i 0).val, by omega⟩ : Fin 1024)) (off16_eq i hi) fun q => by
      fin_cases q
      · show r.val = 0 + r.val; omega
      · show a.val = 1024 * (i 0).val + (a.val - 1024 * (i 0).val); omega]
    rw [pay7_apply, word_apply, h2, A]
    refine congrArg (S.dyS * ·) (Finset.sum_congr rfl fun o _ => ?_)
    rw [View.ld_unit_apply_of x21 _ _ _ _ (ix2 r o) fun q => by fin_cases q <;> simp,
      View.ld_unit_apply_of x8 _ _ _ _ (ix2 (⟨a.val - 1024 * (i 0).val, by omega⟩ : Fin 1024) o) fun q => by fin_cases q <;> simp, h21, h8, mul_comm]
    congr 3
    exact Fin.ext (by show 1024 * (i 0).val + (a.val - 1024 * (i 0).val) = a.val; omega)
end

end Cert.LowrankIdeal.Hand

end
-- ==== Proof.LI.PiecesA.lean ====
/- What the first point stores: the decoded projection, trip by trip, and the turned scales. -/
module

public import proofs.«01_k».proof.Proof.LI.RunA
public import proofs.«01_k».proof.Proof.LI.Step
public import Idealize.ShloMosaic.Lib.VecWindow

@[expose] public section

set_option maxRecDepth 16384

noncomputable section

namespace Cert.LowrankIdeal.Hand

open Cert.LowrankIdeal.Gen Cert.LSpec
open Idealize.ShloMosaic Idealize.ShloMosaic.TcCoe
open Idealize.SL.Sem

variable {κ : Kind} {sp : Space}

/-! ## A trip's places and values -/

theorem off1_eq : ∀ k : Fin k0_t1_loop.trips, k0_off1 k = ![256 * k.val, 0] := by decide +kernel
theorem off2_eq : ∀ k : Fin k0_t1_loop.trips, k0_off2 k = ![0, 256 * k.val] := by decide +kernel
theorem off3_eq : ∀ k : Fin k0_t1_loop.trips, k0_off3 k = ![128 * 0, 256 * k.val] := by decide +kernel
theorem off4_eq : ∀ k : Fin k0_t1_loop.trips, k0_off4 k = ![3, 256 * k.val] := by decide +kernel
theorem off5_eq : ∀ k : Fin k0_t1_loop.trips, k0_off5 k = ![128 * 3, 256 * k.val] := by decide +kernel
theorem off6_eq : ∀ k : Fin k0_t1_loop.trips, k0_off6 k = ![256 * k.val, 128] := by decide +kernel
theorem off7_eq : ∀ k : Fin k0_t1_loop.trips, k0_off7 k = ![1, 256 * k.val] := by decide +kernel
theorem off8_eq : ∀ k : Fin k0_t1_loop.trips, k0_off8 k = ![128 * 1, 256 * k.val] := by decide +kernel
theorem off9_eq : ∀ k : Fin k0_t1_loop.trips, k0_off9 k = ![4, 256 * k.val] := by decide +kernel
theorem off10_eq : ∀ k : Fin k0_t1_loop.trips, k0_off10 k = ![128 * 4, 256 * k.val] := by decide +kernel
theorem off11_eq : ∀ k : Fin k0_t1_loop.trips, k0_off11 k = ![256 * k.val, 256] := by decide +kernel
theorem off12_eq : ∀ k : Fin k0_t1_loop.trips, k0_off12 k = ![2, 256 * k.val] := by decide +kernel
theorem off13_eq : ∀ k : Fin k0_t1_loop.trips, k0_off13 k = ![128 * 2, 256 * k.val] := by decide +kernel
theorem off14_eq : ∀ k : Fin k0_t1_loop.trips, k0_off14 k = ![5, 256 * k.val] := by decide +kernel
theorem off15_eq : ∀ k : Fin k0_t1_loop.trips, k0_off15 k = ![128 * 5, 256 * k.val] := by decide +kernel
theorem trips_eq : k0_t1_loop.trips = 9 := by decide +kernel

theorem dec0_apply (v : Vec Ideal S256x128 .i8) (z s : Vec Ideal S1x256 .f32) (a : Fin 128) (b : Fin 256) :
    (k0_pay16 v z s) (ix2 a b) = (FloatOps.sitofp (F := Ideal) .f32 (IntOp.andi (BitVec.setWidth 32 (v (ix2 b a))) 15#32) - z (ix2 0 b)) * s (ix2 0 b) := by pointwise [k0_pay16, k0_pay15]
theorem dec1_apply (v : Vec Ideal S256x128 .i8) (z s : Vec Ideal S1x256 .f32) (a : Fin 128) (b : Fin 256) :
    (k0_pay20 (k0_pay19 v) z s) (ix2 a b) = (FloatOps.sitofp (F := Ideal) .f32 (IntOp.andi (BitVec.setWidth 32 (v (ix2 b a))) 15#32) - z (ix2 0 b)) * s (ix2 0 b) := by pointwise [k0_pay20, k0_pay19, k0_pay18]
theorem dec2_apply (v : Vec Ideal S256x128 .i8) (z s : Vec Ideal S1x256 .f32) (a : Fin 128) (b : Fin 256) :
    (k0_pay1 (k0_pay24 v z s)) (ix2 a b) = (FloatOps.sitofp (F := Ideal) .f32 (IntOp.andi (BitVec.setWidth 32 (v (ix2 b a))) 15#32) - z (ix2 0 b)) * s (ix2 0 b) := by pointwise [k0_pay1, k0_pay24, k0_pay22]
theorem dec3_apply (v : Vec Ideal S256x128 .i8) (z s : Vec Ideal S1x256 .f32) (a : Fin 128) (b : Fin 256) :
    (k0_pay17 v z s) (ix2 a b) = (FloatOps.sitofp (F := Ideal) .f32 (IntOp.shrsi .vector (BitVec.setWidth 32 (v (ix2 b a))) 4#32) - z (ix2 0 b)) * s (ix2 0 b) := by pointwise [k0_pay17, k0_pay15]
theorem dec4_apply (v : Vec Ideal S256x128 .i8) (z s : Vec Ideal S1x256 .f32) (a : Fin 128) (b : Fin 256) :
    (k0_pay21 (k0_pay18 v) 4#32 z s) (ix2 a b) = (FloatOps.sitofp (F := Ideal) .f32 (IntOp.shrsi .vector (BitVec.setWidth 32 (v (ix2 b a))) 4#32) - z (ix2 0 b)) * s (ix2 0 b) := by pointwise [k0_pay21, k0_pay18]
theorem dec5_apply (v : Vec Ideal S256x128 .i8) (z s : Vec Ideal S1x256 .f32) (a : Fin 128) (b : Fin 256) :
    (k0_pay2 (k0_pay23 v) z s) (ix2 a b) = (FloatOps.sitofp (F := Ideal) .f32 (IntOp.shrsi .vector (BitVec.setWidth 32 (v (ix2 b a))) 4#32) - z (ix2 0 b)) * s (ix2 0 b) := by pointwise [k0_pay2, k0_pay23, k0_pay22]

/-- A decoded field at its place in the projection. -/
theorem dec_P {S : Ins} (n : Fin 6) (k : Fin k0_t1_loop.trips) (x5 : Vec Ideal S2304x384 .i8) (x6 x7 : Vec Ideal S6x2304 .f32)
    (h5 : ∀ o b, x5 (ix2 o b) = S.pc (ix2 o b)) (h6 : ∀ g o, x6 (ix2 g o) = S.ps (ix2 g o)) (h7 : ∀ g o, x7 (ix2 g o) = S.pz (ix2 g o))
    {o5 oz : Fin 2 → Nat} (e5 : o5 = ![256 * k.val, 128 * (n.val % 3)]) (ez : oz = ![n.val, 256 * k.val])
    (i5 : ∀ a, o5 a + (![256, 128] : Fin 2 → Nat) a ≤ S2304x384.size a) (iz : ∀ a, oz a + (![1, 256] : Fin 2 → Nat) a ≤ S6x2304.size a)
    (a : Fin 128) (b : Fin 256) (r : Fin 768) (o : Fin 2304) (hr : r.val = 128 * n.val + a.val) (ho : o.val = 256 * k.val + b.val)
    (F8 : BitVec 8 → BitVec 32) (hF : ∀ w, fld w r = F8 w) :
    (FloatOps.sitofp (F := Ideal) .f32 (F8 (View.ld x5 (Rect.unit o5 ![256, 128] i5) (ix2 b a))) - View.ld x7 (Rect.unit oz ![1, 256] iz) (ix2 0 b))
      * View.ld x6 (Rect.unit oz ![1, 256] iz) (ix2 0 b) = P S o r := by
  subst e5 ez
  have hg : grp r = n := Fin.ext (by show r.val / 128 = n.val; omega)
  have hb : byt r = (⟨128 * (n.val % 3) + a.val, by omega⟩ : Fin 384) := Fin.ext (by show 128 * (r.val / 128 % 3) + r.val % 128 = 128 * (n.val % 3) + a.val; omega)
  rw [View.ld_unit_apply_of x5 _ _ _ _ (ix2 o (⟨128 * (n.val % 3) + a.val, by omega⟩ : Fin 384)) fun q => by fin_cases q <;> simp [ho],
    View.ld_unit_apply_of x6 _ _ _ _ (ix2 n o) fun q => by fin_cases q <;> simp [ho],
    View.ld_unit_apply_of x7 _ _ _ _ (ix2 n o) fun q => by fin_cases q <;> simp [ho], h5, h6, h7, P, hg, hb, hF]

/-- Reading back past one stored chunk. -/
theorem read_chunk (v : View sig κ sp S768x2304 .bf16) (f : v.ty.Contents (Elt Ideal)) (n k : Nat) {off : Fin 2 → Nat} (e : off = ![128 * n, 256 * k])
    (inb : ∀ a, off a + (![128, 256] : Fin 2 → Nat) a ≤ S768x2304.size a) (w : Vec Ideal S128x256 .bf16) (rest : List (Σ r : Rect S768x2304, r.shape.Idx → Elt Ideal .bf16))
    (r : Fin 768) (o : Fin 2304) (X : EReal)
    (hw : ∀ (a : Fin 128) (b : Fin 256), r.val = 128 * n + a.val → o.val = 256 * k + b.val → w (ix2 a b) = X)
    (hrest : ¬ (128 * n ≤ r.val ∧ r.val < 128 * n + 128 ∧ 256 * k ≤ o.val ∧ o.val < 256 * k + 256) → v.read (Elt Ideal) (v.writes (Elt Ideal) f rest) (ix2 r o) = X) :
    v.read (Elt Ideal) (v.writes (Elt Ideal) f (⟨Rect.unit off ![128, 256] inb, w⟩ :: rest)) (ix2 r o) = X := by
  by_cases h : 128 * n ≤ r.val ∧ r.val < 128 * n + 128 ∧ 256 * k ≤ o.val ∧ o.val < 256 * k + 256
  · rw [View.read_writes_cons_unit_of_mem v f inb w rest (ix2 r o) (ix2 (⟨r.val - 128 * n, by omega⟩ : Fin 128) (⟨o.val - 256 * k, by omega⟩ : Fin 256)) e fun q => by
      fin_cases q
      · show r.val = 128 * n + (r.val - 128 * n); omega
      · show o.val = 256 * k + (o.val - 256 * k); omega]
    exact hw _ _ (by show r.val = 128 * n + (r.val - 128 * n); omega) (by show o.val = 256 * k + (o.val - 256 * k); omega)
  · have h' := hrest h
    by_cases h1 : 128 * n ≤ r.val ∧ r.val < 128 * n + 128
    · rw [View.read_writes_cons_unit_of_not_mem v f inb w rest (ix2 r o) e 1 (by
        show o.val < 256 * k ∨ 256 * k + 256 ≤ o.val; omega)]
      exact h'
    · rw [View.read_writes_cons_unit_of_not_mem v f inb w rest (ix2 r o) e 0 (by
        show r.val < 128 * n ∨ 128 * n + 128 ≤ r.val; omega)]
      exact h'

/-- Reading back past one trip. -/
theorem read_trip {S : Ins} (k : Fin k0_t1_loop.trips) (x5 : Vec Ideal S2304x384 .i8) (x6 x7 : Vec Ideal S6x2304 .f32)
    (g5 : ∀ o b, x5 (ix2 o b) = S.pc (ix2 o b)) (g6 : ∀ g o, x6 (ix2 g o) = S.ps (ix2 g o)) (g7 : ∀ g o, x7 (ix2 g o) = S.pz (ix2 g o))
    (h1 : ∀ a, k0_off1 k a + (![256, 128] : Fin 2 → Nat) a ≤ S2304x384.size a) (h2 : ∀ a, k0_off2 k a + (![1, 256] : Fin 2 → Nat) a ≤ S6x2304.size a) (h3 : ∀ a, k0_off3 k a + (![128, 256] : Fin 2 → Nat) a ≤ S768x2304.size a) (h4 : ∀ a, k0_off4 k a + (![1, 256] : Fin 2 → Nat) a ≤ S6x2304.size a) (h5 : ∀ a, k0_off5 k a + (![128, 256] : Fin 2 → Nat) a ≤ S768x2304.size a) (h6 : ∀ a, k0_off6 k a + (![256, 128] : Fin 2 → Nat) a ≤ S2304x384.size a) (h7 : ∀ a, k0_off7 k a + (![1, 256] : Fin 2 → Nat) a ≤ S6x2304.size a) (h8 : ∀ a, k0_off8 k a + (![128, 256] : Fin 2 → Nat) a ≤ S768x2304.size a) (h9 : ∀ a, k0_off9 k a + (![1, 256] : Fin 2 → Nat) a ≤ S6x2304.size a) (h10 : ∀ a, k0_off10 k a + (![128, 256] : Fin 2 → Nat) a ≤ S768x2304.size a) (h11 : ∀ a, k0_off11 k a + (![256, 128] : Fin 2 → Nat) a ≤ S2304x384.size a) (h12 : ∀ a, k0_off12 k a + (![1, 256] : Fin 2 → Nat) a ≤ S6x2304.size a) (h13 : ∀ a, k0_off13 k a + (![128, 256] : Fin 2 → Nat) a ≤ S768x2304.size a) (h14 : ∀ a, k0_off14 k a + (![1, 256] : Fin 2 → Nat) a ≤ S6x2304.size a) (h15 : ∀ a, k0_off15 k a + (![128, 256] : Fin 2 → Nat) a ≤ S768x2304.size a)
    (v : View sig κ sp S768x2304 .bf16) (f : v.ty.Contents (Elt Ideal)) (rest : List (Σ r : Rect S768x2304, r.shape.Idx → Elt Ideal .bf16))
    (hrest : ∀ r o, o.val < 256 * k.val → v.read (Elt Ideal) (v.writes (Elt Ideal) f rest) (ix2 r o) = P S o r) (r : Fin 768) (o : Fin 2304) (ho : o.val < 256 * (k.val + 1)) :
    v.read (Elt Ideal) (v.writes (Elt Ideal) f (⟨Rect.unit (k0_off15 k) ![128, 256] h15, k0_pay2 (k0_pay23 (View.ld x5 (Rect.unit (k0_off11 k) ![256, 128] h11))) (View.ld x7 (Rect.unit (k0_off14 k) ![1, 256] h14)) (View.ld x6 (Rect.unit (k0_off14 k) ![1, 256] h14))⟩ ::
      ⟨Rect.unit (k0_off13 k) ![128, 256] h13, k0_pay1 (k0_pay24 (View.ld x5 (Rect.unit (k0_off11 k) ![256, 128] h11)) (View.ld x7 (Rect.unit (k0_off12 k) ![1, 256] h12)) (View.ld x6 (Rect.unit (k0_off12 k) ![1, 256] h12)))⟩ ::
      ⟨Rect.unit (k0_off10 k) ![128, 256] h10, k0_pay21 (k0_pay18 (View.ld x5 (Rect.unit (k0_off6 k) ![256, 128] h6))) 4#32 (View.ld x7 (Rect.unit (k0_off9 k) ![1, 256] h9)) (View.ld x6 (Rect.unit (k0_off9 k) ![1, 256] h9))⟩ ::
      ⟨Rect.unit (k0_off8 k) ![128, 256] h8, k0_pay20 (k0_pay19 (View.ld x5 (Rect.unit (k0_off6 k) ![256, 128] h6))) (View.ld x7 (Rect.unit (k0_off7 k) ![1, 256] h7)) (View.ld x6 (Rect.unit (k0_off7 k) ![1, 256] h7))⟩ ::
      ⟨Rect.unit (k0_off5 k) ![128, 256] h5, k0_pay17 (View.ld x5 (Rect.unit (k0_off1 k) ![256, 128] h1)) (View.ld x7 (Rect.unit (k0_off4 k) ![1, 256] h4)) (View.ld x6 (Rect.unit (k0_off4 k) ![1, 256] h4))⟩ ::
      ⟨Rect.unit (k0_off3 k) ![128, 256] h3, k0_pay16 (View.ld x5 (Rect.unit (k0_off1 k) ![256, 128] h1)) (View.ld x7 (Rect.unit (k0_off2 k) ![1, 256] h2)) (View.ld x6 (Rect.unit (k0_off2 k) ![1, 256] h2))⟩ :: rest)) (ix2 r o) = P S o r := by
  refine read_chunk v f 5 k.val (off15_eq k) h15 _ _ r o _ (fun a b ha hb => (dec5_apply _ _ _ a b).trans
    (dec_P 5 k x5 x6 x7 g5 g6 g7 (off11_eq k) (off14_eq k) h11 h14 a b r o ha hb (fun w => IntOp.shrsi .vector (BitVec.setWidth 32 w) 4#32) fun w => if_neg (by omega))) fun n5 => ?_
  refine read_chunk v f 2 k.val (off13_eq k) h13 _ _ r o _ (fun a b ha hb => (dec2_apply _ _ _ a b).trans
    (dec_P 2 k x5 x6 x7 g5 g6 g7 (off11_eq k) (off12_eq k) h11 h12 a b r o ha hb (fun w => IntOp.andi (BitVec.setWidth 32 w) 15#32) fun w => if_pos (by omega))) fun n2 => ?_
  refine read_chunk v f 4 k.val (off10_eq k) h10 _ _ r o _ (fun a b ha hb => (dec4_apply _ _ _ a b).trans
    (dec_P 4 k x5 x6 x7 g5 g6 g7 (off6_eq k) (off9_eq k) h6 h9 a b r o ha hb (fun w => IntOp.shrsi .vector (BitVec.setWidth 32 w) 4#32) fun w => if_neg (by omega))) fun n4 => ?_
  refine read_chunk v f 1 k.val (off8_eq k) h8 _ _ r o _ (fun a b ha hb => (dec1_apply _ _ _ a b).trans
    (dec_P 1 k x5 x6 x7 g5 g6 g7 (off6_eq k) (off7_eq k) h6 h7 a b r o ha hb (fun w => IntOp.andi (BitVec.setWidth 32 w) 15#32) fun w => if_pos (by omega))) fun n1 => ?_
  refine read_chunk v f 3 k.val (off5_eq k) h5 _ _ r o _ (fun a b ha hb => (dec3_apply _ _ _ a b).trans
    (dec_P 3 k x5 x6 x7 g5 g6 g7 (off1_eq k) (off4_eq k) h1 h4 a b r o ha hb (fun w => IntOp.shrsi .vector (BitVec.setWidth 32 w) 4#32) fun w => if_neg (by omega))) fun n3 => ?_
  refine read_chunk v f 0 k.val (off3_eq k) h3 _ _ r o _ (fun a b ha hb => (dec0_apply _ _ _ a b).trans
    (dec_P 0 k x5 x6 x7 g5 g6 g7 (off1_eq k) (off2_eq k) h1 h2 a b r o ha hb (fun w => IntOp.andi (BitVec.setWidth 32 w) 15#32) fun w => if_pos (by omega))) fun n0 => ?_
  exact hrest r o (by omega)

/-! ## The run's lists -/

section
variable {F : FTy → Type} [FloatOps F]

local notation "𝕄" => MT nD τ sig Unit (Elt F) ℕ (UR sig nD τ) ℕ

variable (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S2304x384 .i8) (harg5 : arg5.IsWhole) (arg6 : Memref sig .tc .vmem S6x2304 .f32) (harg6 : arg6.IsWhole) (arg7 : Memref sig .tc .vmem S6x2304 .f32) (harg7 : arg7.IsWhole) (arg8 : Memref sig .tc .vmem S1024x2304 .fp8e5m2) (harg8 : arg8.IsWhole) (arg9 : Memref sig .tc .vmem S12288x512 .fp8e4m3) (harg9 : arg9.IsWhole) (arg10 : Memref sig .tc .vmem S768x512 .i8) (harg10 : arg10.IsWhole) (arg11 : Memref sig .tc .vmem S28x768 .f32) (harg11 : arg11.IsWhole) (arg12 : Memref sig .tc .vmem S768x512 .i8) (harg12 : arg12.IsWhole) (arg13 : Memref sig .tc .vmem S28x768 .f32) (harg13 : arg13.IsWhole) (arg14 : Memref sig .tc .vmem S768x512 .f32) (harg14 : arg14.IsWhole) (arg15 : Memref sig .tc .vmem S768x512 .f32) (harg15 : arg15.IsWhole) (arg16 : Memref sig .tc .vmem S768x512 .i8) (harg16 : arg16.IsWhole) (arg17 : Memref sig .tc .vmem S28x768 .f32) (harg17 : arg17.IsWhole) (arg18 : Memref sig .tc .vmem S768x512 .i8) (harg18 : arg18.IsWhole) (arg19 : Memref sig .tc .vmem S28x768 .f32) (harg19 : arg19.IsWhole) (arg20 : Memref sig .tc .vmem S256x768 .bf16) (harg20 : arg20.IsWhole) (arg21 : Memref sig .tc .vmem S768x2304 .bf16) (harg21 : arg21.IsWhole) (arg22 : Memref sig .tc .vmem S768x12288 .bf16) (harg22 : arg22.IsWhole) (arg23 : Memref sig .tc .vmem S768x512 .f32) (harg23 : arg23.IsWhole) (arg24 : Memref sig .tc .vmem S768x512 .f32) (harg24 : arg24.IsWhole) (arg25 : Memref sig .tc .vmem S768x28 .f32) (harg25 : arg25.IsWhole) (arg26 : Memref sig .tc .vmem S768x28 .f32) (harg26 : arg26.IsWhole) (arg27 : Memref sig .tc .vmem S768x28 .f32) (harg27 : arg27.IsWhole) (arg28 : Memref sig .tc .vmem S768x28 .f32) (harg28 : arg28.IsWhole)

theorem trip_list (hc : k0_cond1 i = 1#1) (x5 : Vec F S2304x384 .i8) (x6 x7 : Vec F S6x2304 .f32) (k : Fin k0_t1_loop.trips) (h1 : ∀ a, k0_off1 k a + (![256, 128] : Fin 2 → Nat) a ≤ S2304x384.size a) (h2 : ∀ a, k0_off2 k a + (![1, 256] : Fin 2 → Nat) a ≤ S6x2304.size a) (h3 : ∀ a, k0_off3 k a + (![128, 256] : Fin 2 → Nat) a ≤ S768x2304.size a) (h4 : ∀ a, k0_off4 k a + (![1, 256] : Fin 2 → Nat) a ≤ S6x2304.size a) (h5 : ∀ a, k0_off5 k a + (![128, 256] : Fin 2 → Nat) a ≤ S768x2304.size a) (h6 : ∀ a, k0_off6 k a + (![256, 128] : Fin 2 → Nat) a ≤ S2304x384.size a) (h7 : ∀ a, k0_off7 k a + (![1, 256] : Fin 2 → Nat) a ≤ S6x2304.size a) (h8 : ∀ a, k0_off8 k a + (![128, 256] : Fin 2 → Nat) a ≤ S768x2304.size a) (h9 : ∀ a, k0_off9 k a + (![1, 256] : Fin 2 → Nat) a ≤ S6x2304.size a) (h10 : ∀ a, k0_off10 k a + (![128, 256] : Fin 2 → Nat) a ≤ S768x2304.size a) (h11 : ∀ a, k0_off11 k a + (![256, 128] : Fin 2 → Nat) a ≤ S2304x384.size a) (h12 : ∀ a, k0_off12 k a + (![1, 256] : Fin 2 → Nat) a ≤ S6x2304.size a) (h13 : ∀ a, k0_off13 k a + (![128, 256] : Fin 2 → Nat) a ≤ S768x2304.size a) (h14 : ∀ a, k0_off14 k a + (![1, 256] : Fin 2 → Nat) a ≤ S6x2304.size a) (h15 : ∀ a, k0_off15 k a + (![128, 256] : Fin 2 → Nat) a ≤ S768x2304.size a) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc (harg5.unread x5) (harg6.unread x6) (harg7.unread x7) k =
      [⟨Rect.unit (k0_off15 k) ![128, 256] h15, k0_pay2 (k0_pay23 (View.ld (arg5.view.read (Elt F) (harg5.unread x5)) (Rect.unit (k0_off11 k) ![256, 128] h11))) (View.ld (arg7.view.read (Elt F) (harg7.unread x7)) (Rect.unit (k0_off14 k) ![1, 256] h14)) (View.ld (arg6.view.read (Elt F) (harg6.unread x6)) (Rect.unit (k0_off14 k) ![1, 256] h14))⟩,
        ⟨Rect.unit (k0_off13 k) ![128, 256] h13, k0_pay1 (k0_pay24 (View.ld (arg5.view.read (Elt F) (harg5.unread x5)) (Rect.unit (k0_off11 k) ![256, 128] h11)) (View.ld (arg7.view.read (Elt F) (harg7.unread x7)) (Rect.unit (k0_off12 k) ![1, 256] h12)) (View.ld (arg6.view.read (Elt F) (harg6.unread x6)) (Rect.unit (k0_off12 k) ![1, 256] h12)))⟩,
        ⟨Rect.unit (k0_off10 k) ![128, 256] h10, k0_pay21 (k0_pay18 (View.ld (arg5.view.read (Elt F) (harg5.unread x5)) (Rect.unit (k0_off6 k) ![256, 128] h6))) 4#32 (View.ld (arg7.view.read (Elt F) (harg7.unread x7)) (Rect.unit (k0_off9 k) ![1, 256] h9)) (View.ld (arg6.view.read (Elt F) (harg6.unread x6)) (Rect.unit (k0_off9 k) ![1, 256] h9))⟩,
        ⟨Rect.unit (k0_off8 k) ![128, 256] h8, k0_pay20 (k0_pay19 (View.ld (arg5.view.read (Elt F) (harg5.unread x5)) (Rect.unit (k0_off6 k) ![256, 128] h6))) (View.ld (arg7.view.read (Elt F) (harg7.unread x7)) (Rect.unit (k0_off7 k) ![1, 256] h7)) (View.ld (arg6.view.read (Elt F) (harg6.unread x6)) (Rect.unit (k0_off7 k) ![1, 256] h7))⟩,
        ⟨Rect.unit (k0_off5 k) ![128, 256] h5, k0_pay17 (View.ld (arg5.view.read (Elt F) (harg5.unread x5)) (Rect.unit (k0_off1 k) ![256, 128] h1)) (View.ld (arg7.view.read (Elt F) (harg7.unread x7)) (Rect.unit (k0_off4 k) ![1, 256] h4)) (View.ld (arg6.view.read (Elt F) (harg6.unread x6)) (Rect.unit (k0_off4 k) ![1, 256] h4))⟩,
        ⟨Rect.unit (k0_off3 k) ![128, 256] h3, k0_pay16 (View.ld (arg5.view.read (Elt F) (harg5.unread x5)) (Rect.unit (k0_off1 k) ![256, 128] h1)) (View.ld (arg7.view.read (Elt F) (harg7.unread x7)) (Rect.unit (k0_off2 k) ![1, 256] h2)) (View.ld (arg6.view.read (Elt F) (harg6.unread x6)) (Rect.unit (k0_off2 k) ![1, 256] h2))⟩] := by
  unfold tripL_k0_t1 trip_k0_t1
  rfl

variable (h1 : cond0_0 i) (h2 : cond0_1 i) (h3 : ¬cond0_2 i) (h4 : ¬cond0_3 i) (h5 : ¬cond0_4 i) (x2 : Vec F S1 .f32) (x5 : Vec F S2304x384 .i8) (x6 x7 : Vec F S6x2304 .f32) (x8 : Vec F S1024x2304 .fp8e5m2) (x11 x13 : Vec F S28x768 .f32) (x21 : Vec F S768x2304 .bf16) (x22 : Vec F S768x12288 .bf16)
theorem runA_21 : (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 x2 x5 x6 x7 x8 x11 x13 x21 x22).1 = pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 (harg5.unread x5) (harg6.unread x6) (harg7.unread x7) 9 := rfl
theorem runA_22 (h : ∀ a, k0_off16 i a + S768x1024.size a ≤ S768x12288.size a) :
    (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 x2 x5 x6 x7 x8 x11 x13 x21 x22).2.1 = [pcA i (arg2.view.read (Elt F) (harg2.unread x2)) (arg21.view.read (Elt F) (arg21.view.writes (Elt F) (harg21.unread x21) (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 x2 x5 x6 x7 x8 x11 x13 x21 x22).1)) (arg8.view.read (Elt F) (harg8.unread x8)) h] := rfl
theorem runA_25 : (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 x2 x5 x6 x7 x8 x11 x13 x21 x22).2.2.1 = [⟨R28, k0_pay3 (View.ld (arg11.view.read (Elt F) (harg11.unread x11)) RT)⟩] := rfl
theorem runA_26 : (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 x2 x5 x6 x7 x8 x11 x13 x21 x22).2.2.2.1 = [⟨R28, k0_pay4 (View.ld (arg13.view.read (Elt F) (harg13.unread x13)) RT)⟩] := rfl
end

theorem ib1 (k : Fin k0_t1_loop.trips) : ∀ a, k0_off1 k a + (![256, 128] : Fin 2 → Nat) a ≤ S2304x384.size a := by
  have hk := lt_of_lt_of_eq k.isLt trips_eq
  rw [off1_eq]; intro a; fin_cases a <;> simp <;> omega
theorem ib2 (k : Fin k0_t1_loop.trips) : ∀ a, k0_off2 k a + (![1, 256] : Fin 2 → Nat) a ≤ S6x2304.size a := by
  have hk := lt_of_lt_of_eq k.isLt trips_eq
  rw [off2_eq]; intro a; fin_cases a <;> simp <;> omega
theorem ib3 (k : Fin k0_t1_loop.trips) : ∀ a, k0_off3 k a + (![128, 256] : Fin 2 → Nat) a ≤ S768x2304.size a := by
  have hk := lt_of_lt_of_eq k.isLt trips_eq
  rw [off3_eq]; intro a; fin_cases a <;> simp <;> omega
theorem ib4 (k : Fin k0_t1_loop.trips) : ∀ a, k0_off4 k a + (![1, 256] : Fin 2 → Nat) a ≤ S6x2304.size a := by
  have hk := lt_of_lt_of_eq k.isLt trips_eq
  rw [off4_eq]; intro a; fin_cases a <;> simp <;> omega
theorem ib5 (k : Fin k0_t1_loop.trips) : ∀ a, k0_off5 k a + (![128, 256] : Fin 2 → Nat) a ≤ S768x2304.size a := by
  have hk := lt_of_lt_of_eq k.isLt trips_eq
  rw [off5_eq]; intro a; fin_cases a <;> simp <;> omega
theorem ib6 (k : Fin k0_t1_loop.trips) : ∀ a, k0_off6 k a + (![256, 128] : Fin 2 → Nat) a ≤ S2304x384.size a := by
  have hk := lt_of_lt_of_eq k.isLt trips_eq
  rw [off6_eq]; intro a; fin_cases a <;> simp <;> omega
theorem ib7 (k : Fin k0_t1_loop.trips) : ∀ a, k0_off7 k a + (![1, 256] : Fin 2 → Nat) a ≤ S6x2304.size a := by
  have hk := lt_of_lt_of_eq k.isLt trips_eq
  rw [off7_eq]; intro a; fin_cases a <;> simp <;> omega
theorem ib8 (k : Fin k0_t1_loop.trips) : ∀ a, k0_off8 k a + (![128, 256] : Fin 2 → Nat) a ≤ S768x2304.size a := by
  have hk := lt_of_lt_of_eq k.isLt trips_eq
  rw [off8_eq]; intro a; fin_cases a <;> simp <;> omega
theorem ib9 (k : Fin k0_t1_loop.trips) : ∀ a, k0_off9 k a + (![1, 256] : Fin 2 → Nat) a ≤ S6x2304.size a := by
  have hk := lt_of_lt_of_eq k.isLt trips_eq
  rw [off9_eq]; intro a; fin_cases a <;> simp <;> omega
theorem ib10 (k : Fin k0_t1_loop.trips) : ∀ a, k0_off10 k a + (![128, 256] : Fin 2 → Nat) a ≤ S768x2304.size a := by
  have hk := lt_of_lt_of_eq k.isLt trips_eq
  rw [off10_eq]; intro a; fin_cases a <;> simp <;> omega
theorem ib11 (k : Fin k0_t1_loop.trips) : ∀ a, k0_off11 k a + (![256, 128] : Fin 2 → Nat) a ≤ S2304x384.size a := by
  have hk := lt_of_lt_of_eq k.isLt trips_eq
  rw [off11_eq]; intro a; fin_cases a <;> simp <;> omega
theorem ib12 (k : Fin k0_t1_loop.trips) : ∀ a, k0_off12 k a + (![1, 256] : Fin 2 → Nat) a ≤ S6x2304.size a := by
  have hk := lt_of_lt_of_eq k.isLt trips_eq
  rw [off12_eq]; intro a; fin_cases a <;> simp <;> omega
theorem ib13 (k : Fin k0_t1_loop.trips) : ∀ a, k0_off13 k a + (![128, 256] : Fin 2 → Nat) a ≤ S768x2304.size a := by
  have hk := lt_of_lt_of_eq k.isLt trips_eq
  rw [off13_eq]; intro a; fin_cases a <;> simp <;> omega
theorem ib14 (k : Fin k0_t1_loop.trips) : ∀ a, k0_off14 k a + (![1, 256] : Fin 2 → Nat) a ≤ S6x2304.size a := by
  have hk := lt_of_lt_of_eq k.isLt trips_eq
  rw [off14_eq]; intro a; fin_cases a <;> simp <;> omega
theorem ib15 (k : Fin k0_t1_loop.trips) : ∀ a, k0_off15 k a + (![128, 256] : Fin 2 → Nat) a ≤ S768x2304.size a := by
  have hk := lt_of_lt_of_eq k.isLt trips_eq
  rw [off15_eq]; intro a; fin_cases a <;> simp <;> omega

section
variable (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S2304x384 .i8) (harg5 : arg5.IsWhole) (arg6 : Memref sig .tc .vmem S6x2304 .f32) (harg6 : arg6.IsWhole) (arg7 : Memref sig .tc .vmem S6x2304 .f32) (harg7 : arg7.IsWhole) (arg8 : Memref sig .tc .vmem S1024x2304 .fp8e5m2) (harg8 : arg8.IsWhole) (arg9 : Memref sig .tc .vmem S12288x512 .fp8e4m3) (harg9 : arg9.IsWhole) (arg10 : Memref sig .tc .vmem S768x512 .i8) (harg10 : arg10.IsWhole) (arg11 : Memref sig .tc .vmem S28x768 .f32) (harg11 : arg11.IsWhole) (arg12 : Memref sig .tc .vmem S768x512 .i8) (harg12 : arg12.IsWhole) (arg13 : Memref sig .tc .vmem S28x768 .f32) (harg13 : arg13.IsWhole) (arg14 : Memref sig .tc .vmem S768x512 .f32) (harg14 : arg14.IsWhole) (arg15 : Memref sig .tc .vmem S768x512 .f32) (harg15 : arg15.IsWhole) (arg16 : Memref sig .tc .vmem S768x512 .i8) (harg16 : arg16.IsWhole) (arg17 : Memref sig .tc .vmem S28x768 .f32) (harg17 : arg17.IsWhole) (arg18 : Memref sig .tc .vmem S768x512 .i8) (harg18 : arg18.IsWhole) (arg19 : Memref sig .tc .vmem S28x768 .f32) (harg19 : arg19.IsWhole) (arg20 : Memref sig .tc .vmem S256x768 .bf16) (harg20 : arg20.IsWhole) (arg21 : Memref sig .tc .vmem S768x2304 .bf16) (harg21 : arg21.IsWhole) (arg22 : Memref sig .tc .vmem S768x12288 .bf16) (harg22 : arg22.IsWhole) (arg23 : Memref sig .tc .vmem S768x512 .f32) (harg23 : arg23.IsWhole) (arg24 : Memref sig .tc .vmem S768x512 .f32) (harg24 : arg24.IsWhole) (arg25 : Memref sig .tc .vmem S768x28 .f32) (harg25 : arg25.IsWhole) (arg26 : Memref sig .tc .vmem S768x28 .f32) (harg26 : arg26.IsWhole) (arg27 : Memref sig .tc .vmem S768x28 .f32) (harg27 : arg27.IsWhole) (arg28 : Memref sig .tc .vmem S768x28 .f32) (harg28 : arg28.IsWhole)

/-- The trips so far have stored the projection's columns so far. -/
theorem read_pb {S : Ins} (hc : k0_cond1 i = 1#1) (x5 : Vec Ideal S2304x384 .i8) (x6 x7 : Vec Ideal S6x2304 .f32)
    (g5 : ∀ o b, x5 (ix2 o b) = S.pc (ix2 o b)) (g6 : ∀ g o, x6 (ix2 g o) = S.ps (ix2 g o)) (g7 : ∀ g o, x7 (ix2 g o) = S.pz (ix2 g o))
    (v : View sig κ sp S768x2304 .bf16) (f : v.ty.Contents (Elt Ideal)) : ∀ n ≤ 9, ∀ (r : Fin 768) (o : Fin 2304), o.val < 256 * n →
    v.read (Elt Ideal) (v.writes (Elt Ideal) f (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc (harg5.unread x5) (harg6.unread x6) (harg7.unread x7) n)) (ix2 r o) = P S o r := by
  intro n
  induction n with
  | zero => intro _ r o ho; omega
  | succ n ih =>
    intro hn r o ho
    have hk : n < k0_t1_loop.trips := by rw [trips_eq]; omega
    rw [show n + 1 = (⟨n, hk⟩ : Fin k0_t1_loop.trips).val + 1 from rfl, pb_k0_t1_succ, trip_list (k := ⟨n, hk⟩) (h1 := ib1 _) (h2 := ib2 _) (h3 := ib3 _) (h4 := ib4 _) (h5 := ib5 _) (h6 := ib6 _) (h7 := ib7 _) (h8 := ib8 _) (h9 := ib9 _) (h10 := ib10 _) (h11 := ib11 _) (h12 := ib12 _) (h13 := ib13 _) (h14 := ib14 _) (h15 := ib15 _)]
    simp only [Memref.IsWhole.read_unread, List.cons_append, List.nil_append]
    exact read_trip (⟨n, hk⟩ : Fin k0_t1_loop.trips) x5 x6 x7 g5 g6 g7 (ib1 _) (ib2 _) (ib3 _) (ib4 _) (ib5 _) (ib6 _) (ib7 _) (ib8 _) (ib9 _) (ib10 _) (ib11 _) (ib12 _) (ib13 _) (ib14 _) (ib15 _) v f _ (ih (by omega)) r o ho
end

/-- A turned table. -/
theorem read_tab3 (v : View sig κ sp S768x28 .f32) (f : v.ty.Contents (Elt Ideal)) (x : Vec Ideal S28x768 .f32) (r : Fin 768) (K : Fin 28) :
    v.read (Elt Ideal) (v.writes (Elt Ideal) f [⟨R28, k0_pay3 (View.ld x RT)⟩]) (ix2 r K) = x (ix2 K r) := by
  rw [View.read_writes_full v f inb_S768x28_S768x28_0_0, pay3_apply, View.ld_unit_apply_of x _ _ _ _ (ix2 K r) fun q => by fin_cases q <;> simp]
theorem read_tab4 (v : View sig κ sp S768x28 .f32) (f : v.ty.Contents (Elt Ideal)) (x : Vec Ideal S28x768 .f32) (r : Fin 768) (K : Fin 28) :
    v.read (Elt Ideal) (v.writes (Elt Ideal) f [⟨R28, k0_pay4 (View.ld x RT)⟩]) (ix2 r K) = x (ix2 K r) := by
  rw [View.read_writes_full v f inb_S768x28_S768x28_0_0, pay4_apply, View.ld_unit_apply_of x _ _ _ _ (ix2 K r) fun q => by fin_cases q <;> simp]

end Cert.LowrankIdeal.Hand

end
-- ==== Proof.LI.Data.lean ====
/- The pipeline's proof data: what each input's buffer holds at each point, what the kept buffers hold between points, and what
   each output's buffer is held to. -/
module

public import proofs.«01_k».proof.Proof.LI.Base
public import proofs.«01_k».proof.Proof.LI.PiecesA
public import Idealize.ShloMosaic.Lib.Pipeline.DatRel
public import Idealize.ShloMosaic.Lib.Pipeline.ArrRel

@[expose] public section

set_option maxRecDepth 16384

noncomputable section

namespace Cert.LowrankIdeal.Hand

open Cert.LowrankIdeal.Gen Cert.LSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The arguments in memory. -/
def ins (c : Dev nD) : Ins where
  xs := (m ((c : Thread nD τ).loc main_arg0) : Vec Ideal S1 .f32) (ix1 0)
  dyS := (m ((c : Thread nD τ).loc main_arg1) : Vec Ideal S1 .f32) (ix1 0)
  b1 := (m ((c : Thread nD τ).loc main_arg2) : Vec Ideal S1 .f32) (ix1 0)
  b2 := (m ((c : Thread nD τ).loc main_arg3) : Vec Ideal S1 .f32) (ix1 0)
  pc := m ((c : Thread nD τ).loc main_arg4)
  ps := m ((c : Thread nD τ).loc main_arg5)
  pz := m ((c : Thread nD τ).loc main_arg6)
  dy := m ((c : Thread nD τ).loc main_arg7)
  x := m ((c : Thread nD τ).loc main_arg8)
  mc := m ((c : Thread nD τ).loc main_arg9)
  ms := m ((c : Thread nD τ).loc main_arg10)
  vc := m ((c : Thread nD τ).loc main_arg11)
  vs := m ((c : Thread nD τ).loc main_arg12)

/-! ## The blocks -/

theorem idx0 : ∀ t : Fin cfg0.N, win0_0.index t = ![0] := (by decide +kernel : ∀ t : Fin grid0.N, win0_0.index t = ![0])
theorem idx1 : ∀ t : Fin cfg0.N, win0_1.index t = ![0] := (by decide +kernel : ∀ t : Fin grid0.N, win0_1.index t = ![0])
theorem idx2 : ∀ t : Fin cfg0.N, win0_2.index t = ![0] := (by decide +kernel : ∀ t : Fin grid0.N, win0_2.index t = ![0])
theorem idx3 : ∀ t : Fin cfg0.N, win0_3.index t = ![0] := (by decide +kernel : ∀ t : Fin grid0.N, win0_3.index t = ![0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![min (grid0.coords t 0).val 11, 0] := (by decide +kernel : ∀ t : Fin grid0.N, win0_7.index t = ![min (grid0.coords t 0).val 11, 0])
theorem idx8 : ∀ t : Fin cfg0.N, win0_8.index t = ![0, min ((grid0.coords t 0).val - 12) 13] := (by decide +kernel : ∀ t : Fin grid0.N, win0_8.index t = ![0, min ((grid0.coords t 0).val - 12) 13])
theorem idx9 : ∀ t : Fin cfg0.N, win0_9.index t = ![0, min ((grid0.coords t 0).val - 13) 13] := (by decide +kernel : ∀ t : Fin grid0.N, win0_9.index t = ![0, min ((grid0.coords t 0).val - 13) 13])
theorem idx10 : ∀ t : Fin cfg0.N, win0_10.index t = ![0, 0] := (by decide +kernel : ∀ t : Fin grid0.N, win0_10.index t = ![0, 0])
theorem idx11 : ∀ t : Fin cfg0.N, win0_11.index t = ![0, min ((grid0.coords t 0).val - 13) 13] := (by decide +kernel : ∀ t : Fin grid0.N, win0_11.index t = ![0, min ((grid0.coords t 0).val - 13) 13])
theorem idx12 : ∀ t : Fin cfg0.N, win0_12.index t = ![0, 0] := (by decide +kernel : ∀ t : Fin grid0.N, win0_12.index t = ![0, 0])
theorem blk0 (c : Dev nD) (t : Fin cfg0.N) : (iblk m c 0 t : Vec Ideal S1 .f32) (ix1 0) = (ins m c).xs := by blk_ext [iblk, V, idx0 t, ins]
theorem blk1 (c : Dev nD) (t : Fin cfg0.N) : (iblk m c 1 t : Vec Ideal S1 .f32) (ix1 0) = (ins m c).dyS := by blk_ext [iblk, V, idx1 t, ins]
theorem blk2 (c : Dev nD) (t : Fin cfg0.N) : (iblk m c 2 t : Vec Ideal S1 .f32) (ix1 0) = (ins m c).b1 := by blk_ext [iblk, V, idx2 t, ins]
theorem blk3 (c : Dev nD) (t : Fin cfg0.N) : (iblk m c 3 t : Vec Ideal S1 .f32) (ix1 0) = (ins m c).b2 := by blk_ext [iblk, V, idx3 t, ins]
theorem blk4 (c : Dev nD) (t : Fin cfg0.N) (a : Fin 2304) (b : Fin 384) : (iblk m c 4 t : Vec Ideal S2304x384 .i8) (ix2 a b) = (ins m c).pc (ix2 a b) := by blk_ext [iblk, V, idx4 t, ins]
theorem blk5 (c : Dev nD) (t : Fin cfg0.N) (a : Fin 6) (b : Fin 2304) : (iblk m c 5 t : Vec Ideal S6x2304 .f32) (ix2 a b) = (ins m c).ps (ix2 a b) := by blk_ext [iblk, V, idx5 t, ins]
theorem blk6 (c : Dev nD) (t : Fin cfg0.N) (a : Fin 6) (b : Fin 2304) : (iblk m c 6 t : Vec Ideal S6x2304 .f32) (ix2 a b) = (ins m c).pz (ix2 a b) := by blk_ext [iblk, V, idx6 t, ins]
theorem blk10 (c : Dev nD) (t : Fin cfg0.N) (a : Fin 28) (b : Fin 768) : (iblk m c 10 t : Vec Ideal S28x768 .f32) (ix2 a b) = (ins m c).ms (ix2 a b) := by blk_ext [iblk, V, idx10 t, ins]
theorem blk12 (c : Dev nD) (t : Fin cfg0.N) (a : Fin 28) (b : Fin 768) : (iblk m c 12 t : Vec Ideal S28x768 .f32) (ix2 a b) = (ins m c).vs (ix2 a b) := by blk_ext [iblk, V, idx12 t, ins]
theorem blk7 (c : Dev nD) (t : Fin cfg0.N) (a : Fin 1024) (o : Fin 2304) :
    (iblk m c 7 t : Vec Ideal S1024x2304 .fp8e5m2) (ix2 a o) = (ins m c).dy (ix2 (⟨1024 * min (grid0.coords t 0).val 11 + a.val, by omega⟩ : Fin 12288) o) := by blk_ext [iblk, V, idx7 t, ins]
theorem blk8 (c : Dev nD) (t : Fin cfg0.N) (a : Fin 12288) (k : Fin 512) :
    (iblk m c 8 t : Vec Ideal S12288x512 .fp8e4m3) (ix2 a k) = (ins m c).x (ix2 a (⟨512 * min ((grid0.coords t 0).val - 12) 13 + k.val, by omega⟩ : Fin 7168)) := by blk_ext [iblk, V, idx8 t, ins]
theorem blk9 (c : Dev nD) (t : Fin cfg0.N) (r : Fin 768) (k : Fin 512) :
    (iblk m c 9 t : Vec Ideal S768x512 .i8) (ix2 r k) = (ins m c).mc (ix2 r (⟨512 * min ((grid0.coords t 0).val - 13) 13 + k.val, by omega⟩ : Fin 7168)) := by blk_ext [iblk, V, idx9 t, ins]
theorem blk11 (c : Dev nD) (t : Fin cfg0.N) (r : Fin 768) (k : Fin 512) :
    (iblk m c 11 t : Vec Ideal S768x512 .i8) (ix2 r k) = (ins m c).vc (ix2 r (⟨512 * min ((grid0.coords t 0).val - 13) 13 + k.val, by omega⟩ : Fin 7168)) := by blk_ext [iblk, V, idx11 t, ins]

/-! ## What is kept between points -/

/-- What the kept buffers hold before point `n`. -/
structure Inv (S : Ins) (n : Nat) (d21 : Vec Ideal S768x2304 .bf16) (d22 : Vec Ideal S768x12288 .bf16) (d24 : Vec Ideal S768x512 .f32)
    (d25 d26 d27 d28 : Vec Ideal S768x28 .f32) : Prop where
  p : n ≠ 0 → ∀ r o, d21 (ix2 r o) = P S o r
  a : Grads S (min n 12) d22
  g : ∀ j : Fin 14, n = 13 + j.val → ∀ r k, d24 (ix2 r k) = Gr S r (gk j k)
  tm : n ≠ 0 → ∀ r K, d25 (ix2 r K) = S.ms (ix2 K r)
  tv : n ≠ 0 → ∀ r K, d26 (ix2 r K) = S.vs (ix2 K r)
  nm : Tab (Ms S) (n - 13) d27
  nv : Tab (Vs S) (n - 13) d28

theorem tab_zero (s : Fin 768 → Fin 28 → EReal) (n : Nat) (h : n ≤ 13) (x : Vec Ideal S768x28 .f32) : Tab s (n - 13) x := fun r K hK => by omega
theorem grads_le {S : Ins} {n k : Nat} {x : Vec Ideal S768x12288 .bf16} (hx : Grads S n x) (h : k ≤ n) : Grads S k x := fun r a ha => hx r a (by omega)

section
variable {S : Ins} {n : Nat} {d21 : Vec Ideal S768x2304 .bf16} {d22 e22 : Vec Ideal S768x12288 .bf16} {d24 e24 : Vec Ideal S768x512 .f32}
  {d25 d26 d27 d28 e27 e28 : Vec Ideal S768x28 .f32}

theorem inv_zero : Inv S 0 d21 d22 d24 d25 d26 d27 d28 :=
  ⟨fun h => absurd rfl h, fun r a ha => by omega, fun j hj => by omega, fun h => absurd rfl h, fun h => absurd rfl h, tab_zero _ _ (by omega) _, tab_zero _ _ (by omega) _⟩
theorem inv_A (hn : n = 0) (hp : ∀ r o, d21 (ix2 r o) = P S o r) (ha : Grads S (n + 1) d22) (hm : ∀ r K, d25 (ix2 r K) = S.ms (ix2 K r))
    (hv : ∀ r K, d26 (ix2 r K) = S.vs (ix2 K r)) : Inv S (n + 1) d21 d22 d24 d25 d26 d27 d28 :=
  ⟨fun _ => hp, grads_le ha (by omega), fun j hj => by omega, fun _ => hm, fun _ => hv, tab_zero _ _ (by omega) _, tab_zero _ _ (by omega) _⟩
theorem inv_B (hn : n ≠ 0) (h : n < 12) (I : Inv S n d21 d22 d24 d25 d26 d27 d28) (ha : Grads S (n + 1) e22) : Inv S (n + 1) d21 e22 d24 d25 d26 d27 d28 :=
  ⟨fun _ => I.p hn, grads_le ha (by omega), fun j hj => by omega, fun _ => I.tm hn, fun _ => I.tv hn, tab_zero _ _ (by omega) _, tab_zero _ _ (by omega) _⟩
theorem inv_C (h : n = 12) (I : Inv S n d21 d22 d24 d25 d26 d27 d28) (hg : ∀ r k, e24 (ix2 r k) = Gr S r (gk 0 k)) : Inv S (n + 1) d21 d22 e24 d25 d26 d27 d28 :=
  ⟨fun _ => I.p (by omega), grads_le I.a (by omega), fun j hj => by
      have : j = 0 := Fin.ext (by show j.val = 0; omega)
      rw [this]; exact hg, fun _ => I.tm (by omega), fun _ => I.tv (by omega), tab_zero _ _ (by omega) _, tab_zero _ _ (by omega) _⟩
theorem inv_D (j : Fin 14) (h : n = 13 + j.val) (h' : n < 26) (I : Inv S n d21 d22 d24 d25 d26 d27 d28)
    (hg : ∀ r k, e24 (ix2 r k) = Gr S r (gk ⟨j.val + 1, by omega⟩ k)) (hm : e27 = newTab (Ms S) j d27) (hv : e28 = newTab (Vs S) j d28) :
    Inv S (n + 1) d21 d22 e24 d25 d26 e27 e28 :=
  ⟨fun _ => I.p (by omega), grads_le I.a (by omega), fun i hi => by
      have : i = ⟨j.val + 1, by omega⟩ := Fin.ext (by show i.val = j.val + 1; omega)
      rw [this]; exact hg, fun _ => I.tm (by omega), fun _ => I.tv (by omega),
    by rw [hm, show n + 1 - 13 = j.val + 1 by omega]; exact Tab.step (by have := I.nm; rwa [show n - 13 = j.val by omega] at this),
    by rw [hv, show n + 1 - 13 = j.val + 1 by omega]; exact Tab.step (by have := I.nv; rwa [show n - 13 = j.val by omega] at this)⟩
theorem inv_E (h : n = 26) (I : Inv S n d21 d22 d24 d25 d26 d27 d28) (hm : e27 = newTab (Ms S) 13 d27) (hv : e28 = newTab (Vs S) 13 d28) :
    Inv S (n + 1) d21 d22 d24 d25 d26 e27 e28 :=
  ⟨fun _ => I.p (by omega), grads_le I.a (by omega), fun j hj => by omega, fun _ => I.tm (by omega), fun _ => I.tv (by omega),
    by rw [hm, show n + 1 - 13 = (13 : Fin 14).val + 1 by rw [h]; rfl]; exact Tab.step (by have := I.nm; rwa [show n - 13 = (13 : Fin 14).val by rw [h]; rfl] at this),
    by rw [hv, show n + 1 - 13 = (13 : Fin 14).val + 1 by rw [h]; rfl]; exact Tab.step (by have := I.nv; rwa [show n - 13 = (13 : Fin 14).val by rw [h]; rfl] at this)⟩
end

/-- The kept buffers between points, and the generator register. -/
def Kept (S : Ins) (c : Dev nD) (n : Nat) : sProp 𝕄 :=
  iprop((∃ d21 d22 d23 d24 d25 d26 d27 d28, owns (c : Thread nD τ) scM0_0 fullShare d21 ∗ owns (c : Thread nD τ) scM0_1 fullShare d22 ∗ owns (c : Thread nD τ) scM0_2 fullShare d23 ∗ owns (c : Thread nD τ) scM0_3 fullShare d24 ∗ owns (c : Thread nD τ) scM0_4 fullShare d25 ∗ owns (c : Thread nD τ) scM0_5 fullShare d26 ∗ owns (c : Thread nD τ) scM0_6 fullShare d27 ∗ owns (c : Thread nD τ) scM0_7 fullShare d28 ∗ ⌜Inv S n d21 d22 d24 d25 d26 d27 d28⌝) ∗ (∃ r, prngReg c r))

/-! ## The proof data -/

/-- The output windows, -/
def marked : Fin 20 → Bool := fun w => decide (13 ≤ w.val)

/-- what each is held to at a point, -/
def Rl (S : Ins) (w : Fin cfg0.W) (t : Fin cfg0.N) (X : (cfg0.win w).block.Idx → Elt Ideal (cfg0.win w).elt) : Prop :=
  match w, X with
  | ⟨13, _⟩, X => ∀ j : Fin 14, t.val = 13 + j.val → (X : Vec Ideal S768x512 .f32) = gBlk S j
  | ⟨14, _⟩, X => ∀ j : Fin 14, t.val = 13 + j.val → (X : Vec Ideal S768x512 .f32) = dBlk S j
  | ⟨15, _⟩, X => ∀ j : Fin 14, t.val = 13 + j.val → (X : Vec Ideal S768x512 .i8) = mcBlk S j
  | ⟨16, _⟩, X => t.val = 26 → (X : Vec Ideal S28x768 .f32) = outMs S
  | ⟨17, _⟩, X => ∀ j : Fin 14, t.val = 13 + j.val → (X : Vec Ideal S768x512 .i8) = vcBlk S j
  | ⟨18, _⟩, X => t.val = 26 → (X : Vec Ideal S28x768 .f32) = outVs S
  | ⟨19, _⟩, X => ∀ j : Fin 14, t.val = 13 + j.val → (X : Vec Ideal S256x768 .bf16) = pBlk S j.val
  | _, _ => True

/-- and the proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | w => Pipeline.Dat.unnamed (cfg := cfg0) w t
  Φ t := Kept (ins m c) c t.val
  q w := Pipeline.shareOf spec0 w
  owed _ := 0

/-- The arrays are as the region finds them. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = iblk m c 2 t := rfl
theorem after0_3 (c : Dev nD) (t : Fin cfg0.N) : (dats m 0 c).after 3 t = iblk m c 3 t := rfl
theorem after0_4 (c : Dev nD) (t : Fin cfg0.N) : (dats m 0 c).after 4 t = iblk m c 4 t := rfl
theorem after0_5 (c : Dev nD) (t : Fin cfg0.N) : (dats m 0 c).after 5 t = iblk m c 5 t := rfl
theorem after0_6 (c : Dev nD) (t : Fin cfg0.N) : (dats m 0 c).after 6 t = iblk m c 6 t := rfl
theorem after0_7 (c : Dev nD) (t : Fin cfg0.N) : (dats m 0 c).after 7 t = iblk m c 7 t := rfl
theorem after0_8 (c : Dev nD) (t : Fin cfg0.N) : (dats m 0 c).after 8 t = iblk m c 8 t := rfl
theorem after0_9 (c : Dev nD) (t : Fin cfg0.N) : (dats m 0 c).after 9 t = iblk m c 9 t := rfl
theorem after0_10 (c : Dev nD) (t : Fin cfg0.N) : (dats m 0 c).after 10 t = iblk m c 10 t := rfl
theorem after0_11 (c : Dev nD) (t : Fin cfg0.N) : (dats m 0 c).after 11 t = iblk m c 11 t := rfl
theorem after0_12 (c : Dev nD) (t : Fin cfg0.N) : (dats m 0 c).after 12 t = iblk m c 12 t := rfl

/-- Each input's current buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- What an update's point finds of the arguments. -/
theorem upd (c : Dev nD) (t : Fin cfg0.N) (j : Fin 14) (hj : t.val = 13 + j.val) {d21 d22 d24 d25 d26 d27 d28} (I : Inv (ins m c) t.val d21 d22 d24 d25 d26 d27 d28) :
    Upd (ins m c) (grid0.coords t) j (iblk m c 0 t) (iblk m c 2 t) (iblk m c 3 t) (iblk m c 9 t) (iblk m c 11 t) d24 d25 d26 where
  hj := (coord0 t).trans hj
  h1 := blk0 m c t
  h3 := blk2 m c t
  h4 := blk3 m c t
  h10 r k := (blk9 m c t r k).trans (congrArg (fun z => (ins m c).mc (ix2 r z)) (Fin.ext (by
    show 512 * min ((grid0.coords t 0).val - 13) 13 + k.val = 512 * j.val + k.val
    rw [coord0]; omega)))
  h12 r k := (blk11 m c t r k).trans (congrArg (fun z => (ins m c).vc (ix2 r z)) (Fin.ext (by
    show 512 * min ((grid0.coords t 0).val - 13) 13 + k.val = 512 * j.val + k.val
    rw [coord0]; omega)))
  h24 := I.g j hj
  h25 := I.tm (by omega)
  h26 := I.tv (by omega)

/-- The projected weight gradient's columns, from the projected output gradient. -/
theorem dot_Gr (c : Dev nD) (t : Fin cfg0.N) (j : Fin 14) (hj : t.val = 12 + j.val) {d22 : Vec Ideal S768x12288 .bf16} (ha : Grads (ins m c) 12 d22)
    {κ : Kind} {sp : Space} (v w : View sig κ sp S768x512 .f32) (f : w.ty.Contents (Elt Ideal)) (r : Fin 768) (k : Fin 512) :
    w.read (Elt Ideal) (w.writes (Elt Ideal) f [pcDot v d22 (iblk m c 8 t)]) (ix2 r k) = Gr (ins m c) r (gk j k) := by
  rw [read_dot, Gr]
  refine Finset.sum_congr rfl fun a _ => ?_
  rw [ha r a (by omega), blk8 m c t a k]
  refine congrArg (fun z => _ * (ins m c).x (ix2 a z)) (Fin.ext ?_)
  show 512 * min ((grid0.coords t 0).val - 12) 13 + k.val = 512 * j.val + k.val
  rw [coord0]; omega

/-- The projected output gradient's columns. -/
theorem dot_A (c : Dev nD) (t : Fin cfg0.N) (ht : t.val < 12) (x21 : Vec Ideal S768x2304 .bf16) (h21 : ∀ r o, x21 (ix2 r o) = P (ins m c) o r)
    {κ : Kind} {sp : Space} (v : View sig κ sp S768x12288 .bf16) (f : v.ty.Contents (Elt Ideal)) (hf : Grads (ins m c) t.val (v.read (Elt Ideal) f)) :
    Grads (ins m c) (t.val + 1) (v.read (Elt Ideal) (v.writes (Elt Ideal) f [pcA (grid0.coords t) (iblk m c 1 t) x21 (iblk m c 7 t) (inb_a (grid0.coords t) ((coord0 t).trans_lt ht))])) := by
  have hi := (coord0 t).trans_lt ht
  have := read_a (S := ins m c) (grid0.coords t) hi (iblk m c 1 t) x21 (iblk m c 7 t) (blk1 m c t) h21 (fun a o => (blk7 m c t a o).trans
    (congrArg (fun z => (ins m c).dy (ix2 z o)) (Fin.ext (by
      show 1024 * min (grid0.coords t 0).val 11 + a.val = 1024 * (grid0.coords t 0).val + a.val
      omega)))) v f (by rw [coord0]; exact hf)
  rw [coord0] at this
  exact this

/-- The projection's output buffer at the last point, which the body leaves alone, holds the block of the point before, and
    that is the same block. -/
theorem found_p (c : Dev nD) (t : Fin cfg0.N) (ht : t.val = 26) (Y) (h : ((dats m 0 c).toRRel marked (Rl (ins m c))).Finds 19 t Y) : Rl (ins m c) 19 t Y := by
  have hfe : ∀ t : Fin cfg0.N, (cfg0.win 19).fetch t = false := (by decide +kernel : ∀ t : Fin grid0.N, win0_19.fetch t = false)
  have hfl : ∀ t : Fin cfg0.N, t.val = 25 → (cfg0.win 19).flush t = false := (by decide +kernel : ∀ t : Fin grid0.N, t.val = 25 → win0_19.flush t = false)
  rcases (RDat.finds_of_pos _ (hfe t) (by omega) Y).mp h with h | h
  · rw [hfl _ (by show t.val - 1 = 25; omega)] at h
    exact absurd h Bool.false_ne_true
  · have e := (dats m 0 c).toRRel_leaves rfl h (12 : Fin 14) (by show t.val - 1 = 13 + 12; omega)
    intro j hj
    have hj : j.val = 13 := by omega
    rw [hj]
    exact e

end Cert.LowrankIdeal.Hand

end
-- ==== Proof.LI.Vals.lean ====
/- What one point leaves in each buffer it writes, by the specification. -/
module

public import proofs.«01_k».proof.Proof.LI.Data
public import proofs.«01_k».proof.Proof.LI.PiecesA
public import proofs.«01_k».proof.Proof.LI.RunA
public import proofs.«01_k».proof.Proof.LI.RunB
public import proofs.«01_k».proof.Proof.LI.RunC
public import proofs.«01_k».proof.Proof.LI.RunD
public import proofs.«01_k».proof.Proof.LI.RunE

@[expose] public section

set_option maxRecDepth 16384

noncomputable section

namespace Cert.LowrankIdeal.Hand

open Cert.LowrankIdeal.Gen Cert.LSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel Cfg Window BodyObligation cellOf)

local notation "𝕄" => MT nD τ sig Unit (Elt Ideal) ℕ (UR sig nD τ) ℕ

variable (m : (ℓ : Loc nD τ sig) → Buf (Elt Ideal) ℓ) (ρ : Dev nD → PrngReg)

variable {κ : Kind} {sp : Space}

/-- A filled table turned. -/
theorem tab_full {s : Fin 768 → Fin 28 → EReal} {n : Nat} {x : Vec Ideal S768x28 .f32} (h : Tab s (n - 13) x) (hn : n = 26) :
    (fun y : S28x768.Idx => newTab s 13 x (ix2 (y 1) (y 0))) = fun y => s (y 1) (y 0) := by
  rw [show n - 13 = (13 : Fin 14).val by rw [hn]; rfl] at h
  exact funext fun y => Tab.step h (y 1) (y 0) (y 0).isLt

section
variable (m : (ℓ : Loc nD τ sig) → Buf (Elt Ideal) ℓ) (c : Dev nD) (t : Fin cfg0.N) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .vmem S2304x384 .i8) (harg5 : arg5.IsWhole) (arg6 : Memref sig .tc .vmem S6x2304 .f32) (harg6 : arg6.IsWhole) (arg7 : Memref sig .tc .vmem S6x2304 .f32) (harg7 : arg7.IsWhole) (arg8 : Memref sig .tc .vmem S1024x2304 .fp8e5m2) (harg8 : arg8.IsWhole) (arg9 : Memref sig .tc .vmem S12288x512 .fp8e4m3) (harg9 : arg9.IsWhole) (arg10 : Memref sig .tc .vmem S768x512 .i8) (harg10 : arg10.IsWhole) (arg11 : Memref sig .tc .vmem S28x768 .f32) (harg11 : arg11.IsWhole) (arg12 : Memref sig .tc .vmem S768x512 .i8) (harg12 : arg12.IsWhole) (arg13 : Memref sig .tc .vmem S28x768 .f32) (harg13 : arg13.IsWhole) (arg14 : Memref sig .tc .vmem S768x512 .f32) (harg14 : arg14.IsWhole) (arg15 : Memref sig .tc .vmem S768x512 .f32) (harg15 : arg15.IsWhole) (arg16 : Memref sig .tc .vmem S768x512 .i8) (harg16 : arg16.IsWhole) (arg17 : Memref sig .tc .vmem S28x768 .f32) (harg17 : arg17.IsWhole) (arg18 : Memref sig .tc .vmem S768x512 .i8) (harg18 : arg18.IsWhole) (arg19 : Memref sig .tc .vmem S28x768 .f32) (harg19 : arg19.IsWhole) (arg20 : Memref sig .tc .vmem S256x768 .bf16) (harg20 : arg20.IsWhole) (arg21 : Memref sig .tc .vmem S768x2304 .bf16) (harg21 : arg21.IsWhole) (arg22 : Memref sig .tc .vmem S768x12288 .bf16) (harg22 : arg22.IsWhole) (arg23 : Memref sig .tc .vmem S768x512 .f32) (harg23 : arg23.IsWhole) (arg24 : Memref sig .tc .vmem S768x512 .f32) (harg24 : arg24.IsWhole) (arg25 : Memref sig .tc .vmem S768x28 .f32) (harg25 : arg25.IsWhole) (arg26 : Memref sig .tc .vmem S768x28 .f32) (harg26 : arg26.IsWhole) (arg27 : Memref sig .tc .vmem S768x28 .f32) (harg27 : arg27.IsWhole) (arg28 : Memref sig .tc .vmem S768x28 .f32) (harg28 : arg28.IsWhole)

theorem valA_21 (h1 : cond0_0 (grid0.coords t)) (h2 : cond0_1 (grid0.coords t)) (h3 : ¬cond0_2 (grid0.coords t)) (h4 : ¬cond0_3 (grid0.coords t)) (h5 : ¬cond0_4 (grid0.coords t)) (x21 : Vec Ideal S768x2304 .bf16) (x22 : Vec Ideal S768x12288 .bf16)  (v : View sig κ sp S768x2304 .bf16) (f : v.ty.Contents (Elt Ideal)) :
    ∀ r o, v.read (Elt Ideal) (v.writes (Elt Ideal) f (runA (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 (iblk m c 1 t) (iblk m c 4 t) (iblk m c 5 t) (iblk m c 6 t) (iblk m c 7 t) (iblk m c 10 t) (iblk m c 12 t) x21 x22).1) (ix2 r o) = P (ins m c) o r := by
  intro r o
  rw [runA_21]
  exact read_pb (S := ins m c) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 _ (iblk m c 4 t) (iblk m c 5 t) (iblk m c 6 t) (blk4 m c t) (blk5 m c t) (blk6 m c t) v _ 9 le_rfl r o (by omega)
theorem valA_22 (h1 : cond0_0 (grid0.coords t)) (h2 : cond0_1 (grid0.coords t)) (h3 : ¬cond0_2 (grid0.coords t)) (h4 : ¬cond0_3 (grid0.coords t)) (h5 : ¬cond0_4 (grid0.coords t)) (x21 : Vec Ideal S768x2304 .bf16) (x22 : Vec Ideal S768x12288 .bf16) (ht : t.val = 0) (v : View sig κ sp S768x12288 .bf16) (f : v.ty.Contents (Elt Ideal)) :
    Grads (ins m c) (t.val + 1) (v.read (Elt Ideal) (v.writes (Elt Ideal) f (runA (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 (iblk m c 1 t) (iblk m c 4 t) (iblk m c 5 t) (iblk m c 6 t) (iblk m c 7 t) (iblk m c 10 t) (iblk m c 12 t) x21 x22).2.1)) := by
  rw [runA_22 (h := inb_a _ ((coord0 t).trans_lt (by omega)))]
  simp only [Memref.IsWhole.read_unread]
  refine dot_A m c t (by omega) _ (fun r o => ?_) _ _ (fun r a ha => by omega)
  exact valA_21 m c t arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 x21 x22 arg21.view _ r o
theorem valA_25 (h1 : cond0_0 (grid0.coords t)) (h2 : cond0_1 (grid0.coords t)) (h3 : ¬cond0_2 (grid0.coords t)) (h4 : ¬cond0_3 (grid0.coords t)) (h5 : ¬cond0_4 (grid0.coords t)) (x21 : Vec Ideal S768x2304 .bf16) (x22 : Vec Ideal S768x12288 .bf16)  (v : View sig κ sp S768x28 .f32) (f : v.ty.Contents (Elt Ideal)) :
    ∀ r K, v.read (Elt Ideal) (v.writes (Elt Ideal) f (runA (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 (iblk m c 1 t) (iblk m c 4 t) (iblk m c 5 t) (iblk m c 6 t) (iblk m c 7 t) (iblk m c 10 t) (iblk m c 12 t) x21 x22).2.2.1) (ix2 r K) = (ins m c).ms (ix2 K r) := by
  intro r K
  rw [runA_25]
  simp only [Memref.IsWhole.read_unread]
  exact (read_tab3 _ _ _ r K).trans (blk10 m c t K r)
theorem valA_26 (h1 : cond0_0 (grid0.coords t)) (h2 : cond0_1 (grid0.coords t)) (h3 : ¬cond0_2 (grid0.coords t)) (h4 : ¬cond0_3 (grid0.coords t)) (h5 : ¬cond0_4 (grid0.coords t)) (x21 : Vec Ideal S768x2304 .bf16) (x22 : Vec Ideal S768x12288 .bf16)  (v : View sig κ sp S768x28 .f32) (f : v.ty.Contents (Elt Ideal)) :
    ∀ r K, v.read (Elt Ideal) (v.writes (Elt Ideal) f (runA (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 (iblk m c 1 t) (iblk m c 4 t) (iblk m c 5 t) (iblk m c 6 t) (iblk m c 7 t) (iblk m c 10 t) (iblk m c 12 t) x21 x22).2.2.2.1) (ix2 r K) = (ins m c).vs (ix2 K r) := by
  intro r K
  rw [runA_26]
  simp only [Memref.IsWhole.read_unread]
  exact (read_tab4 _ _ _ r K).trans (blk12 m c t K r)
theorem valB_22 (h1 : ¬cond0_0 (grid0.coords t)) (h2 : cond0_1 (grid0.coords t)) (h3 : ¬cond0_2 (grid0.coords t)) (h4 : ¬cond0_3 (grid0.coords t)) (h5 : ¬cond0_4 (grid0.coords t)) (x21 : Vec Ideal S768x2304 .bf16) (x22 : Vec Ideal S768x12288 .bf16) (ht : t.val < 12) (hp : ∀ r o, x21 (ix2 r o) = P (ins m c) o r)  (v : View sig κ sp S768x12288 .bf16) (f : v.ty.Contents (Elt Ideal)) (hf : Grads (ins m c) t.val (v.read (Elt Ideal) f)) :
    Grads (ins m c) (t.val + 1) (v.read (Elt Ideal) (v.writes (Elt Ideal) f (runB (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 (iblk m c 1 t) (iblk m c 7 t) x21 x22).1)) := by
  rw [runB_22 (h := inb_a _ ((coord0 t).trans_lt ht))]
  simp only [Memref.IsWhole.read_unread]
  exact dot_A m c t ht _ hp _ _ hf
theorem valC_24 (h1 : ¬cond0_0 (grid0.coords t)) (h2 : ¬cond0_1 (grid0.coords t)) (h3 : cond0_2 (grid0.coords t)) (h4 : ¬cond0_3 (grid0.coords t)) (h5 : ¬cond0_4 (grid0.coords t)) (x22 : Vec Ideal S768x12288 .bf16) (j : Fin 14) (ht : t.val = 12 + j.val) (ha : Grads (ins m c) 12 x22) (v : View sig .tc .vmem S768x512 .f32) (f : v.ty.Contents (Elt Ideal)) :
    ∀ r k, v.read (Elt Ideal) (v.writes (Elt Ideal) f (runC (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 (iblk m c 8 t) x22).2.1) (ix2 r k) = Gr (ins m c) r (gk j k) := by
  intro r k
  rw [runC_24]
  simp only [Memref.IsWhole.read_unread]
  exact dot_Gr m c t j ht ha arg23.view v f r k
theorem valD_24 (h1 : ¬cond0_0 (grid0.coords t)) (h2 : ¬cond0_1 (grid0.coords t)) (h3 : ¬cond0_2 (grid0.coords t)) (h4 : cond0_3 (grid0.coords t)) (h5 : ¬cond0_4 (grid0.coords t)) (x21 : Vec Ideal S768x2304 .bf16) (x22 : Vec Ideal S768x12288 .bf16) (x24 : Vec Ideal S768x512 .f32) (x25 : Vec Ideal S768x28 .f32) (x26 : Vec Ideal S768x28 .f32) (x27 : Vec Ideal S768x28 .f32) (x28 : Vec Ideal S768x28 .f32) (j : Fin 14) (ht : t.val = 12 + j.val) (ha : Grads (ins m c) 12 x22) (v : View sig .tc .vmem S768x512 .f32) (f : v.ty.Contents (Elt Ideal)) :
    ∀ r k, v.read (Elt Ideal) (v.writes (Elt Ideal) f (runD (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 (iblk m c 0 t) (iblk m c 2 t) (iblk m c 3 t) (iblk m c 8 t) (iblk m c 9 t) (iblk m c 11 t) x21 x22 x24 x25 x26 x27 x28).2.2.2.2.2.2.1) (ix2 r k) = Gr (ins m c) r (gk j k) := by
  intro r k
  rw [runD_24]
  simp only [Memref.IsWhole.read_unread]
  exact dot_Gr m c t j ht ha arg23.view v f r k
theorem valD_14 (h1 : ¬cond0_0 (grid0.coords t)) (h2 : ¬cond0_1 (grid0.coords t)) (h3 : ¬cond0_2 (grid0.coords t)) (h4 : cond0_3 (grid0.coords t)) (h5 : ¬cond0_4 (grid0.coords t)) (x21 : Vec Ideal S768x2304 .bf16) (x22 : Vec Ideal S768x12288 .bf16) (x24 : Vec Ideal S768x512 .f32) (x25 : Vec Ideal S768x28 .f32) (x26 : Vec Ideal S768x28 .f32) (x27 : Vec Ideal S768x28 .f32) (x28 : Vec Ideal S768x28 .f32) {j : Fin 14} (U : Upd (ins m c) (grid0.coords t) j (iblk m c 0 t) (iblk m c 2 t) (iblk m c 3 t) (iblk m c 9 t) (iblk m c 11 t) x24 x25 x26) (v : View sig κ sp S768x512 .f32) (f : v.ty.Contents (Elt Ideal)) :
    v.read (Elt Ideal) (v.writes (Elt Ideal) f (runD (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 (iblk m c 0 t) (iblk m c 2 t) (iblk m c 3 t) (iblk m c 8 t) (iblk m c 9 t) (iblk m c 11 t) x21 x22 x24 x25 x26 x27 x28).1) = gBlk (ins m c) j := by
  rw [runD_14]
  simp only [Memref.IsWhole.read_unread]
  exact read_g U _ _
theorem valD_15 (h1 : ¬cond0_0 (grid0.coords t)) (h2 : ¬cond0_1 (grid0.coords t)) (h3 : ¬cond0_2 (grid0.coords t)) (h4 : cond0_3 (grid0.coords t)) (h5 : ¬cond0_4 (grid0.coords t)) (x21 : Vec Ideal S768x2304 .bf16) (x22 : Vec Ideal S768x12288 .bf16) (x24 : Vec Ideal S768x512 .f32) (x25 : Vec Ideal S768x28 .f32) (x26 : Vec Ideal S768x28 .f32) (x27 : Vec Ideal S768x28 .f32) (x28 : Vec Ideal S768x28 .f32) {j : Fin 14} (U : Upd (ins m c) (grid0.coords t) j (iblk m c 0 t) (iblk m c 2 t) (iblk m c 3 t) (iblk m c 9 t) (iblk m c 11 t) x24 x25 x26) (v : View sig κ sp S768x512 .f32) (f : v.ty.Contents (Elt Ideal)) :
    v.read (Elt Ideal) (v.writes (Elt Ideal) f (runD (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 (iblk m c 0 t) (iblk m c 2 t) (iblk m c 3 t) (iblk m c 8 t) (iblk m c 9 t) (iblk m c 11 t) x21 x22 x24 x25 x26 x27 x28).2.1) = dBlk (ins m c) j := by
  rw [runD_15]
  simp only [Memref.IsWhole.read_unread]
  exact read_d U _ _
theorem valD_16 (h1 : ¬cond0_0 (grid0.coords t)) (h2 : ¬cond0_1 (grid0.coords t)) (h3 : ¬cond0_2 (grid0.coords t)) (h4 : cond0_3 (grid0.coords t)) (h5 : ¬cond0_4 (grid0.coords t)) (x21 : Vec Ideal S768x2304 .bf16) (x22 : Vec Ideal S768x12288 .bf16) (x24 : Vec Ideal S768x512 .f32) (x25 : Vec Ideal S768x28 .f32) (x26 : Vec Ideal S768x28 .f32) (x27 : Vec Ideal S768x28 .f32) (x28 : Vec Ideal S768x28 .f32) {j : Fin 14} (U : Upd (ins m c) (grid0.coords t) j (iblk m c 0 t) (iblk m c 2 t) (iblk m c 3 t) (iblk m c 9 t) (iblk m c 11 t) x24 x25 x26) (v : View sig κ sp S768x512 .i8) (f : v.ty.Contents (Elt Ideal)) :
    v.read (Elt Ideal) (v.writes (Elt Ideal) f (runD (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 (iblk m c 0 t) (iblk m c 2 t) (iblk m c 3 t) (iblk m c 8 t) (iblk m c 9 t) (iblk m c 11 t) x21 x22 x24 x25 x26 x27 x28).2.2.1) = mcBlk (ins m c) j := by
  rw [runD_16]
  simp only [Memref.IsWhole.read_unread]
  exact read_mc U _ _
theorem valD_18 (h1 : ¬cond0_0 (grid0.coords t)) (h2 : ¬cond0_1 (grid0.coords t)) (h3 : ¬cond0_2 (grid0.coords t)) (h4 : cond0_3 (grid0.coords t)) (h5 : ¬cond0_4 (grid0.coords t)) (x21 : Vec Ideal S768x2304 .bf16) (x22 : Vec Ideal S768x12288 .bf16) (x24 : Vec Ideal S768x512 .f32) (x25 : Vec Ideal S768x28 .f32) (x26 : Vec Ideal S768x28 .f32) (x27 : Vec Ideal S768x28 .f32) (x28 : Vec Ideal S768x28 .f32) {j : Fin 14} (U : Upd (ins m c) (grid0.coords t) j (iblk m c 0 t) (iblk m c 2 t) (iblk m c 3 t) (iblk m c 9 t) (iblk m c 11 t) x24 x25 x26) (v : View sig κ sp S768x512 .i8) (f : v.ty.Contents (Elt Ideal)) :
    v.read (Elt Ideal) (v.writes (Elt Ideal) f (runD (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 (iblk m c 0 t) (iblk m c 2 t) (iblk m c 3 t) (iblk m c 8 t) (iblk m c 9 t) (iblk m c 11 t) x21 x22 x24 x25 x26 x27 x28).2.2.2.1) = vcBlk (ins m c) j := by
  rw [runD_18]
  simp only [Memref.IsWhole.read_unread]
  exact read_vc U _ _
theorem valD_27 (h1 : ¬cond0_0 (grid0.coords t)) (h2 : ¬cond0_1 (grid0.coords t)) (h3 : ¬cond0_2 (grid0.coords t)) (h4 : cond0_3 (grid0.coords t)) (h5 : ¬cond0_4 (grid0.coords t)) (x21 : Vec Ideal S768x2304 .bf16) (x22 : Vec Ideal S768x12288 .bf16) (x24 : Vec Ideal S768x512 .f32) (x25 : Vec Ideal S768x28 .f32) (x26 : Vec Ideal S768x28 .f32) (x27 : Vec Ideal S768x28 .f32) (x28 : Vec Ideal S768x28 .f32) {j : Fin 14} (U : Upd (ins m c) (grid0.coords t) j (iblk m c 0 t) (iblk m c 2 t) (iblk m c 3 t) (iblk m c 9 t) (iblk m c 11 t) x24 x25 x26) (v : View sig κ sp S768x28 .f32) (f : v.ty.Contents (Elt Ideal)) :
    v.read (Elt Ideal) (v.writes (Elt Ideal) f (runD (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 (iblk m c 0 t) (iblk m c 2 t) (iblk m c 3 t) (iblk m c 8 t) (iblk m c 9 t) (iblk m c 11 t) x21 x22 x24 x25 x26 x27 x28).2.2.2.2.2.2.2.1) = newTab (Ms (ins m c)) j x27 := by
  rw [runD_27]
  simp only [Memref.IsWhole.read_unread]
  exact read_ms U _ _ _
theorem valD_28 (h1 : ¬cond0_0 (grid0.coords t)) (h2 : ¬cond0_1 (grid0.coords t)) (h3 : ¬cond0_2 (grid0.coords t)) (h4 : cond0_3 (grid0.coords t)) (h5 : ¬cond0_4 (grid0.coords t)) (x21 : Vec Ideal S768x2304 .bf16) (x22 : Vec Ideal S768x12288 .bf16) (x24 : Vec Ideal S768x512 .f32) (x25 : Vec Ideal S768x28 .f32) (x26 : Vec Ideal S768x28 .f32) (x27 : Vec Ideal S768x28 .f32) (x28 : Vec Ideal S768x28 .f32) {j : Fin 14} (U : Upd (ins m c) (grid0.coords t) j (iblk m c 0 t) (iblk m c 2 t) (iblk m c 3 t) (iblk m c 9 t) (iblk m c 11 t) x24 x25 x26) (v : View sig κ sp S768x28 .f32) (f : v.ty.Contents (Elt Ideal)) :
    v.read (Elt Ideal) (v.writes (Elt Ideal) f (runD (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 (iblk m c 0 t) (iblk m c 2 t) (iblk m c 3 t) (iblk m c 8 t) (iblk m c 9 t) (iblk m c 11 t) x21 x22 x24 x25 x26 x27 x28).2.2.2.2.2.2.2.2.1) = newTab (Vs (ins m c)) j x28 := by
  rw [runD_28]
  simp only [Memref.IsWhole.read_unread]
  exact read_vs U _ _ _
theorem valE_14 (h1 : ¬cond0_0 (grid0.coords t)) (h2 : ¬cond0_1 (grid0.coords t)) (h3 : ¬cond0_2 (grid0.coords t)) (h4 : ¬cond0_3 (grid0.coords t)) (h5 : cond0_4 (grid0.coords t)) (x24 : Vec Ideal S768x512 .f32) (x25 : Vec Ideal S768x28 .f32) (x26 : Vec Ideal S768x28 .f32) (x27 : Vec Ideal S768x28 .f32) (x28 : Vec Ideal S768x28 .f32) {j : Fin 14} (U : Upd (ins m c) (grid0.coords t) j (iblk m c 0 t) (iblk m c 2 t) (iblk m c 3 t) (iblk m c 9 t) (iblk m c 11 t) x24 x25 x26) (v : View sig κ sp S768x512 .f32) (f : v.ty.Contents (Elt Ideal)) :
    v.read (Elt Ideal) (v.writes (Elt Ideal) f (runE (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 (iblk m c 0 t) (iblk m c 2 t) (iblk m c 3 t) (iblk m c 9 t) (iblk m c 11 t) x24 x25 x26 x27 x28).1) = gBlk (ins m c) j := by
  rw [runE_14]
  simp only [Memref.IsWhole.read_unread]
  exact read_g U _ _
theorem valE_15 (h1 : ¬cond0_0 (grid0.coords t)) (h2 : ¬cond0_1 (grid0.coords t)) (h3 : ¬cond0_2 (grid0.coords t)) (h4 : ¬cond0_3 (grid0.coords t)) (h5 : cond0_4 (grid0.coords t)) (x24 : Vec Ideal S768x512 .f32) (x25 : Vec Ideal S768x28 .f32) (x26 : Vec Ideal S768x28 .f32) (x27 : Vec Ideal S768x28 .f32) (x28 : Vec Ideal S768x28 .f32) {j : Fin 14} (U : Upd (ins m c) (grid0.coords t) j (iblk m c 0 t) (iblk m c 2 t) (iblk m c 3 t) (iblk m c 9 t) (iblk m c 11 t) x24 x25 x26) (v : View sig κ sp S768x512 .f32) (f : v.ty.Contents (Elt Ideal)) :
    v.read (Elt Ideal) (v.writes (Elt Ideal) f (runE (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 (iblk m c 0 t) (iblk m c 2 t) (iblk m c 3 t) (iblk m c 9 t) (iblk m c 11 t) x24 x25 x26 x27 x28).2.1) = dBlk (ins m c) j := by
  rw [runE_15]
  simp only [Memref.IsWhole.read_unread]
  exact read_d U _ _
theorem valE_16 (h1 : ¬cond0_0 (grid0.coords t)) (h2 : ¬cond0_1 (grid0.coords t)) (h3 : ¬cond0_2 (grid0.coords t)) (h4 : ¬cond0_3 (grid0.coords t)) (h5 : cond0_4 (grid0.coords t)) (x24 : Vec Ideal S768x512 .f32) (x25 : Vec Ideal S768x28 .f32) (x26 : Vec Ideal S768x28 .f32) (x27 : Vec Ideal S768x28 .f32) (x28 : Vec Ideal S768x28 .f32) {j : Fin 14} (U : Upd (ins m c) (grid0.coords t) j (iblk m c 0 t) (iblk m c 2 t) (iblk m c 3 t) (iblk m c 9 t) (iblk m c 11 t) x24 x25 x26) (v : View sig κ sp S768x512 .i8) (f : v.ty.Contents (Elt Ideal)) :
    v.read (Elt Ideal) (v.writes (Elt Ideal) f (runE (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 (iblk m c 0 t) (iblk m c 2 t) (iblk m c 3 t) (iblk m c 9 t) (iblk m c 11 t) x24 x25 x26 x27 x28).2.2.1) = mcBlk (ins m c) j := by
  rw [runE_16]
  simp only [Memref.IsWhole.read_unread]
  exact read_mc U _ _
theorem valE_18 (h1 : ¬cond0_0 (grid0.coords t)) (h2 : ¬cond0_1 (grid0.coords t)) (h3 : ¬cond0_2 (grid0.coords t)) (h4 : ¬cond0_3 (grid0.coords t)) (h5 : cond0_4 (grid0.coords t)) (x24 : Vec Ideal S768x512 .f32) (x25 : Vec Ideal S768x28 .f32) (x26 : Vec Ideal S768x28 .f32) (x27 : Vec Ideal S768x28 .f32) (x28 : Vec Ideal S768x28 .f32) {j : Fin 14} (U : Upd (ins m c) (grid0.coords t) j (iblk m c 0 t) (iblk m c 2 t) (iblk m c 3 t) (iblk m c 9 t) (iblk m c 11 t) x24 x25 x26) (v : View sig κ sp S768x512 .i8) (f : v.ty.Contents (Elt Ideal)) :
    v.read (Elt Ideal) (v.writes (Elt Ideal) f (runE (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 (iblk m c 0 t) (iblk m c 2 t) (iblk m c 3 t) (iblk m c 9 t) (iblk m c 11 t) x24 x25 x26 x27 x28).2.2.2.2.1) = vcBlk (ins m c) j := by
  rw [runE_18]
  simp only [Memref.IsWhole.read_unread]
  exact read_vc U _ _
theorem valE_27 (h1 : ¬cond0_0 (grid0.coords t)) (h2 : ¬cond0_1 (grid0.coords t)) (h3 : ¬cond0_2 (grid0.coords t)) (h4 : ¬cond0_3 (grid0.coords t)) (h5 : cond0_4 (grid0.coords t)) (x24 : Vec Ideal S768x512 .f32) (x25 : Vec Ideal S768x28 .f32) (x26 : Vec Ideal S768x28 .f32) (x27 : Vec Ideal S768x28 .f32) (x28 : Vec Ideal S768x28 .f32) {j : Fin 14} (U : Upd (ins m c) (grid0.coords t) j (iblk m c 0 t) (iblk m c 2 t) (iblk m c 3 t) (iblk m c 9 t) (iblk m c 11 t) x24 x25 x26) (v : View sig κ sp S768x28 .f32) (f : v.ty.Contents (Elt Ideal)) :
    v.read (Elt Ideal) (v.writes (Elt Ideal) f (runE (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 (iblk m c 0 t) (iblk m c 2 t) (iblk m c 3 t) (iblk m c 9 t) (iblk m c 11 t) x24 x25 x26 x27 x28).2.2.2.2.2.2.1) = newTab (Ms (ins m c)) j x27 := by
  rw [runE_27]
  simp only [Memref.IsWhole.read_unread]
  exact read_ms U _ _ _
theorem valE_28 (h1 : ¬cond0_0 (grid0.coords t)) (h2 : ¬cond0_1 (grid0.coords t)) (h3 : ¬cond0_2 (grid0.coords t)) (h4 : ¬cond0_3 (grid0.coords t)) (h5 : cond0_4 (grid0.coords t)) (x24 : Vec Ideal S768x512 .f32) (x25 : Vec Ideal S768x28 .f32) (x26 : Vec Ideal S768x28 .f32) (x27 : Vec Ideal S768x28 .f32) (x28 : Vec Ideal S768x28 .f32) {j : Fin 14} (U : Upd (ins m c) (grid0.coords t) j (iblk m c 0 t) (iblk m c 2 t) (iblk m c 3 t) (iblk m c 9 t) (iblk m c 11 t) x24 x25 x26) (v : View sig κ sp S768x28 .f32) (f : v.ty.Contents (Elt Ideal)) :
    v.read (Elt Ideal) (v.writes (Elt Ideal) f (runE (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 (iblk m c 0 t) (iblk m c 2 t) (iblk m c 3 t) (iblk m c 9 t) (iblk m c 11 t) x24 x25 x26 x27 x28).2.2.2.2.2.2.2.1) = newTab (Vs (ins m c)) j x28 := by
  rw [runE_28]
  simp only [Memref.IsWhole.read_unread]
  exact read_vs U _ _ _
theorem valD_20 (h1 : ¬cond0_0 (grid0.coords t)) (h2 : ¬cond0_1 (grid0.coords t)) (h3 : ¬cond0_2 (grid0.coords t)) (h4 : cond0_3 (grid0.coords t)) (h5 : ¬cond0_4 (grid0.coords t)) (x21 : Vec Ideal S768x2304 .bf16) (x22 : Vec Ideal S768x12288 .bf16) (x24 : Vec Ideal S768x512 .f32) (x25 : Vec Ideal S768x28 .f32) (x26 : Vec Ideal S768x28 .f32) (x27 : Vec Ideal S768x28 .f32) (x28 : Vec Ideal S768x28 .f32) {j : Fin 14} (hj : t.val = 13 + j.val) (hp : ∀ r o, x21 (ix2 r o) = P (ins m c) o r) (v : View sig κ sp S256x768 .bf16) (f : v.ty.Contents (Elt Ideal)) :
    v.read (Elt Ideal) (v.writes (Elt Ideal) f (runD (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 (iblk m c 0 t) (iblk m c 2 t) (iblk m c 3 t) (iblk m c 8 t) (iblk m c 9 t) (iblk m c 11 t) x21 x22 x24 x25 x26 x27 x28).2.2.2.2.1) = pBlk (ins m c) j.val := by
  rw [runD_20 (h := inb_p (grid0.coords t) j ((coord0 t).trans hj))]
  simp only [Memref.IsWhole.read_unread]
  exact read_p (grid0.coords t) j ((coord0 t).trans hj) x21 hp v f
theorem valE_17 (h1 : ¬cond0_0 (grid0.coords t)) (h2 : ¬cond0_1 (grid0.coords t)) (h3 : ¬cond0_2 (grid0.coords t)) (h4 : ¬cond0_3 (grid0.coords t)) (h5 : cond0_4 (grid0.coords t)) (x24 : Vec Ideal S768x512 .f32) (x25 : Vec Ideal S768x28 .f32) (x26 : Vec Ideal S768x28 .f32) (x27 : Vec Ideal S768x28 .f32) (x28 : Vec Ideal S768x28 .f32) (U : Upd (ins m c) (grid0.coords t) 13 (iblk m c 0 t) (iblk m c 2 t) (iblk m c 3 t) (iblk m c 9 t) (iblk m c 11 t) x24 x25 x26) (hn : t.val = 26) (hx : Tab (Ms (ins m c)) (t.val - 13) x27) (v : View sig κ sp S28x768 .f32) (f : v.ty.Contents (Elt Ideal)) :
    v.read (Elt Ideal) (v.writes (Elt Ideal) f (runE (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 (iblk m c 0 t) (iblk m c 2 t) (iblk m c 3 t) (iblk m c 9 t) (iblk m c 11 t) x24 x25 x26 x27 x28).2.2.2.1) = outMs (ins m c) := by
  rw [runE_17, read_turn, cov_tab]
  simp only [Memref.IsWhole.read_unread]
  rw [read_ms U]
  exact tab_full hx hn
theorem valE_19 (h1 : ¬cond0_0 (grid0.coords t)) (h2 : ¬cond0_1 (grid0.coords t)) (h3 : ¬cond0_2 (grid0.coords t)) (h4 : ¬cond0_3 (grid0.coords t)) (h5 : cond0_4 (grid0.coords t)) (x24 : Vec Ideal S768x512 .f32) (x25 : Vec Ideal S768x28 .f32) (x26 : Vec Ideal S768x28 .f32) (x27 : Vec Ideal S768x28 .f32) (x28 : Vec Ideal S768x28 .f32) (U : Upd (ins m c) (grid0.coords t) 13 (iblk m c 0 t) (iblk m c 2 t) (iblk m c 3 t) (iblk m c 9 t) (iblk m c 11 t) x24 x25 x26) (hn : t.val = 26) (hx : Tab (Vs (ins m c)) (t.val - 13) x28) (v : View sig κ sp S28x768 .f32) (f : v.ty.Contents (Elt Ideal)) :
    v.read (Elt Ideal) (v.writes (Elt Ideal) f (runE (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 h1 h2 h3 h4 h5 (iblk m c 0 t) (iblk m c 2 t) (iblk m c 3 t) (iblk m c 9 t) (iblk m c 11 t) x24 x25 x26 x27 x28).2.2.2.2.2.1) = outVs (ins m c) := by
  rw [runE_19, read_turn, cov_tab]
  simp only [Memref.IsWhole.read_unread]
  rw [read_vs U]
  exact tab_full hx hn
end

end Cert.LowrankIdeal.Hand

end
-- ==== Proof.LI.Body.lean ====
/- The body obligation: at every point the body takes what is kept from one point to the next, and leaves in each output's
   buffer what it is held to. -/
module

public import proofs.«01_k».proof.Proof.LI.Vals

@[expose] public section

set_option maxRecDepth 16384

noncomputable section

namespace Cert.LowrankIdeal.Hand

open Cert.LowrankIdeal.Gen Cert.LSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ Y, ⌜((dats m 0 c).toRRel marked (Rl (ins m c))).Finds 13 t Y⌝ ∗ owns (c : Thread nD τ) (ms0_13 t) fullShare Y)
    ∗ (∃ Y, ⌜((dats m 0 c).toRRel marked (Rl (ins m c))).Finds 14 t Y⌝ ∗ owns (c : Thread nD τ) (ms0_14 t) fullShare Y)
    ∗ (∃ Y, ⌜((dats m 0 c).toRRel marked (Rl (ins m c))).Finds 15 t Y⌝ ∗ owns (c : Thread nD τ) (ms0_15 t) fullShare Y)
    ∗ (∃ Y, ⌜((dats m 0 c).toRRel marked (Rl (ins m c))).Finds 16 t Y⌝ ∗ owns (c : Thread nD τ) (ms0_16 t) fullShare Y)
    ∗ (∃ Y, ⌜((dats m 0 c).toRRel marked (Rl (ins m c))).Finds 17 t Y⌝ ∗ owns (c : Thread nD τ) (ms0_17 t) fullShare Y)
    ∗ (∃ Y, ⌜((dats m 0 c).toRRel marked (Rl (ins m c))).Finds 18 t Y⌝ ∗ owns (c : Thread nD τ) (ms0_18 t) fullShare Y)
    ∗ (∃ Y, ⌜((dats m 0 c).toRRel marked (Rl (ins m c))).Finds 19 t Y⌝ ∗ owns (c : Thread nD τ) (ms0_19 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ X, ⌜Rl (ins m c) 13 t X⌝ ∗ owns (c : Thread nD τ) (ms0_13 t) fullShare X)
    ∗ (∃ X, ⌜Rl (ins m c) 14 t X⌝ ∗ owns (c : Thread nD τ) (ms0_14 t) fullShare X)
    ∗ (∃ X, ⌜Rl (ins m c) 15 t X⌝ ∗ owns (c : Thread nD τ) (ms0_15 t) fullShare X)
    ∗ (∃ X, ⌜Rl (ins m c) 16 t X⌝ ∗ owns (c : Thread nD τ) (ms0_16 t) fullShare X)
    ∗ (∃ X, ⌜Rl (ins m c) 17 t X⌝ ∗ owns (c : Thread nD τ) (ms0_17 t) fullShare X)
    ∗ (∃ X, ⌜Rl (ins m c) 18 t X⌝ ∗ owns (c : Thread nD τ) (ms0_18 t) fullShare X)
    ∗ (∃ X, ⌜Rl (ins m c) 19 t X⌝ ∗ owns (c : Thread nD τ) (ms0_19 t) fullShare X))

set_option maxHeartbeats 6400000 in
/-- The body at any point: one of the five runs applies. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Kept (ins m c) c t.val from rfl, show (dats m 0 c).Φ t.succ = Kept (ins m c) c (t.val + 1) from rfl]
  unfold Kept
  have hN : t.val < 27 := lt_of_lt_of_eq t.isLt N_0
  iintro ⟨⟨⟨%d21, %d22, %d23, %d24, %d25, %d26, %d27, %d28, S0, S1, S2, S3, S4, S5, S6, S7, %I⟩, Hg⟩, Ho, ⟨%y0, H0⟩, ⟨%y1, H1⟩, ⟨%y2, H2⟩, ⟨%y3, H3⟩, ⟨%y4, H4⟩, ⟨%y5, H5⟩, ⟨%y6, H6⟩, ⟨%y7, H7⟩, ⟨%y8, H8⟩, ⟨%y9, H9⟩, ⟨%y10, H10⟩, ⟨%y11, H11⟩, ⟨%y12, H12⟩, ⟨%y13, %F13, H13⟩, ⟨%y14, %F14, H14⟩, ⟨%y15, %F15, H15⟩, ⟨%y16, %F16, H16⟩, ⟨%y17, %F17, H17⟩, ⟨%y18, %F18, H18⟩, ⟨%y19, %F19, H19⟩⟩
  by_cases h0 : t.val = 0
  · iapply ((runA c (grid0.coords t) _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr (by omega)) ((hcond0_1 t).mpr (by omega)) (fun h => absurd ((hcond0_2 t).mp h) (by omega)) (fun h => absurd ((hcond0_3 t).mp h) (by omega)) (fun h => absurd ((hcond0_4 t).mp h) (by omega)) (iblk m c 1 t) (iblk m c 4 t) (iblk m c 5 t) (iblk m c 6 t) (iblk m c 7 t) (iblk m c 10 t) (iblk m c 12 t) d21 d22).2.2.2.2.2.2 Set.univ _)
    isplitl [H1]; · iexact H1
    isplitl [H4]; · iexact H4
    isplitl [H5]; · iexact H5
    isplitl [H6]; · iexact H6
    isplitl [H7]; · iexact H7
    isplitl [H10]; · iexact H10
    isplitl [H12]; · iexact H12
    isplitl [S0]; · iexact S0
    isplitl [S1]; · iexact S1
    isplitl [S4]; · iexists _; iexact S4
    isplitl [S5]; · iexists _; iexact S5
    isplitl [S6]; · iexists _; iexact S6
    isplitl [S7]; · iexists _; iexact S7
    iintro ⟨H1, H4, H5, H6, H7, H10, H12, S0, S1, ⟨%e25, S4⟩, ⟨%e26, S5⟩, ⟨%e27, S6⟩, ⟨%e28, S7⟩⟩
    isplitl [S0 S1 S2 S3 S4 S5 S6 S7 Hg]
    · isplitl [S0 S1 S2 S3 S4 S5 S6 S7]
      · iexists _, _, _, _, _, _, _, _
        isplitl [S0]
        · unfold owns; iexists _; isplitr
          swap; · iexact S0
          ipureintro; rfl
        isplitl [S1]
        · unfold owns; iexists _; isplitr
          swap; · iexact S1
          ipureintro; rfl
        isplitl [S2]
        · iexact S2
        isplitl [S3]
        · iexact S3
        isplitl [S4]
        · unfold owns; iexists _; isplitr
          swap; · iexact S4
          ipureintro; rfl
        isplitl [S5]
        · unfold owns; iexists _; isplitr
          swap; · iexact S5
          ipureintro; rfl
        isplitl [S6]
        · unfold owns; iexists _; isplitr
          swap; · iexact S6
          ipureintro; rfl
        isplitl [S7]
        · unfold owns; iexists _; isplitr
          swap; · iexact S7
          ipureintro; rfl
        ipureintro
        exact inv_A h0
          (valA_21 m c t _ _ _ _ _ _ _ _ _ _ _ _ _ _ _ _ _ _ _ _ _ _ _ _ _ _ _ _ _ _ _ _ _ _ _ _ _ _ _ _ _ _ _ _ _ _ _ _ _ _ _ _ _ _ _ _ _ _ _ _ _ d21 d22 _ _)
          (valA_22 m c t _ _ _ _ _ _ _ _ _ _ _ _ _ _ _ _ _ _ _ _ _ _ _ _ _ _ _ _ _ _ _ _ _ _ _ _ _ _ _ _ _ _ _ _ _ _ _ _ _ _ _ _ _ _ _ _ _ _ _ _ _ d21 d22 h0 _ _)
          (valA_25 m c t _ _ _ _ _ _ _ _ _ _ _ _ _ _ _ _ _ _ _ _ _ _ _ _ _ _ _ _ _ _ _ _ _ _ _ _ _ _ _ _ _ _ _ _ _ _ _ _ _ _ _ _ _ _ _ _ _ _ _ _ _ d21 d22 _ _)
          (valA_26 m c t _ _ _ _ _ _ _ _ _ _ _ _ _ _ _ _ _ _ _ _ _ _ _ _ _ _ _ _ _ _ _ _ _ _ _ _ _ _ _ _ _ _ _ _ _ _ _ _ _ _ _ _ _ _ _ _ _ _ _ _ _ d21 d22 _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexists _; isplitr; swap; · iexact H13
      ipureintro
      show ∀ j : Fin 14, t.val = 13 + j.val → _
      intro j hj; omega
    isplitl [H14]
    · iexists _; isplitr; swap; · iexact H14
      ipureintro
      show ∀ j : Fin 14, t.val = 13 + j.val → _
      intro j hj; omega
    isplitl [H15]
    · iexists _; isplitr; swap; · iexact H15
      ipureintro
      show ∀ j : Fin 14, t.val = 13 + j.val → _
      intro j hj; omega
    isplitl [H16]
    · iexists _; isplitr; swap; · iexact H16
      ipureintro
      show t.val = 26 → _
      intro h; omega
    isplitl [H17]
    · iexists _; isplitr; swap; · iexact H17
      ipureintro
      show ∀ j : Fin 14, t.val = 13 + j.val → _
      intro j hj; omega
    isplitl [H18]
    · iexists _; isplitr; swap; · iexact H18
      ipureintro
      show t.val = 26 → _
      intro h; omega
    iexists _; isplitr; swap; · iexact H19
    ipureintro
    show ∀ j : Fin 14, t.val = 13 + j.val → _
    intro j hj; omega
  by_cases h1 : t.val < 12
  · iapply ((runB c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => absurd ((hcond0_0 t).mp h) (by omega)) ((hcond0_1 t).mpr (by omega)) (fun h => absurd ((hcond0_2 t).mp h) (by omega)) (fun h => absurd ((hcond0_3 t).mp h) (by omega)) (fun h => absurd ((hcond0_4 t).mp h) (by omega)) (iblk m c 1 t) (iblk m c 7 t) d21 d22).2 Set.univ _)
    isplitl [H1]; · iexact H1
    isplitl [H7]; · iexact H7
    isplitl [S0]; · iexact S0
    isplitl [S1]; · iexact S1
    iintro ⟨H1, H7, S0, S1⟩
    isplitl [S0 S1 S2 S3 S4 S5 S6 S7 Hg]
    · isplitl [S0 S1 S2 S3 S4 S5 S6 S7]
      · iexists _, _, _, _, _, _, _, _
        isplitl [S0]
        · iexact S0
        isplitl [S1]
        · unfold owns; iexists _; isplitr
          swap; · iexact S1
          ipureintro; rfl
        isplitl [S2]
        · iexact S2
        isplitl [S3]
        · iexact S3
        isplitl [S4]
        · iexact S4
        isplitl [S5]
        · iexact S5
        isplitl [S6]
        · iexact S6
        isplitl [S7]
        · iexact S7
        ipureintro
        exact inv_B h0 h1 I
          (valB_22 m c t _ _ _ _ _ _ _ _ _ _ _ _ _ _ _ _ _ _ _ _ _ _ _ _ _ _ _ _ _ _ _ _ _ _ _ _ _ _ _ _ _ _ _ _ _ _ _ _ _ _ _ _ _ _ _ _ _ _ _ _ _ d21 d22 h1 (I.p h0) _ _ (by rw [Memref.IsWhole.read_unread]; exact grads_le I.a (by omega)))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexists _; isplitr; swap; · iexact H13
      ipureintro
      show ∀ j : Fin 14, t.val = 13 + j.val → _
      intro j hj; omega
    isplitl [H14]
    · iexists _; isplitr; swap; · iexact H14
      ipureintro
      show ∀ j : Fin 14, t.val = 13 + j.val → _
      intro j hj; omega
    isplitl [H15]
    · iexists _; isplitr; swap; · iexact H15
      ipureintro
      show ∀ j : Fin 14, t.val = 13 + j.val → _
      intro j hj; omega
    isplitl [H16]
    · iexists _; isplitr; swap; · iexact H16
      ipureintro
      show t.val = 26 → _
      intro h; omega
    isplitl [H17]
    · iexists _; isplitr; swap; · iexact H17
      ipureintro
      show ∀ j : Fin 14, t.val = 13 + j.val → _
      intro j hj; omega
    isplitl [H18]
    · iexists _; isplitr; swap; · iexact H18
      ipureintro
      show t.val = 26 → _
      intro h; omega
    iexists _; isplitr; swap; · iexact H19
    ipureintro
    show ∀ j : Fin 14, t.val = 13 + j.val → _
    intro j hj; omega
  by_cases h2 : t.val = 12
  · iapply ((runC c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => absurd ((hcond0_0 t).mp h) (by omega)) (fun h => absurd ((hcond0_1 t).mp h) (by omega)) ((hcond0_2 t).mpr (by omega)) (fun h => absurd ((hcond0_3 t).mp h) (by omega)) (fun h => absurd ((hcond0_4 t).mp h) (by omega)) (iblk m c 8 t) d22).2.2 Set.univ _)
    isplitl [H8]; · iexact H8
    isplitl [S1]; · iexact S1
    isplitl [S2]; · iexists _; iexact S2
    isplitl [S3]; · iexists _; iexact S3
    iintro ⟨H8, S1, ⟨%e23, S2⟩, ⟨%e24, S3⟩⟩
    isplitl [S0 S1 S2 S3 S4 S5 S6 S7 Hg]
    · isplitl [S0 S1 S2 S3 S4 S5 S6 S7]
      · iexists _, _, _, _, _, _, _, _
        isplitl [S0]
        · iexact S0
        isplitl [S1]
        · iexact S1
        isplitl [S2]
        · unfold owns; iexists _; isplitr
          swap; · iexact S2
          ipureintro; rfl
        isplitl [S3]
        · unfold owns; iexists _; isplitr
          swap; · iexact S3
          ipureintro; rfl
        isplitl [S4]
        · iexact S4
        isplitl [S5]
        · iexact S5
        isplitl [S6]
        · iexact S6
        isplitl [S7]
        · iexact S7
        ipureintro
        exact inv_C h2 I
          (valC_24 m c t _ _ _ _ _ _ _ _ _ _ _ _ _ _ _ _ _ _ _ _ _ _ _ _ _ _ _ _ _ _ _ _ _ _ _ _ _ _ _ _ _ _ _ _ _ _ _ _ _ _ _ _ _ _ _ _ _ _ _ _ _ d22 0 (by show t.val = 12 + 0; omega) (by have := I.a; rwa [show min t.val 12 = 12 by omega] at this) _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexists _; isplitr; swap; · iexact H13
      ipureintro
      show ∀ j : Fin 14, t.val = 13 + j.val → _
      intro j hj; omega
    isplitl [H14]
    · iexists _; isplitr; swap; · iexact H14
      ipureintro
      show ∀ j : Fin 14, t.val = 13 + j.val → _
      intro j hj; omega
    isplitl [H15]
    · iexists _; isplitr; swap; · iexact H15
      ipureintro
      show ∀ j : Fin 14, t.val = 13 + j.val → _
      intro j hj; omega
    isplitl [H16]
    · iexists _; isplitr; swap; · iexact H16
      ipureintro
      show t.val = 26 → _
      intro h; omega
    isplitl [H17]
    · iexists _; isplitr; swap; · iexact H17
      ipureintro
      show ∀ j : Fin 14, t.val = 13 + j.val → _
      intro j hj; omega
    isplitl [H18]
    · iexists _; isplitr; swap; · iexact H18
      ipureintro
      show t.val = 26 → _
      intro h; omega
    iexists _; isplitr; swap; · iexact H19
    ipureintro
    show ∀ j : Fin 14, t.val = 13 + j.val → _
    intro j hj; omega
  by_cases h3 : t.val < 26
  · obtain ⟨j, hj⟩ : ∃ j : Fin 14, t.val = 13 + j.val := ⟨⟨t.val - 13, by omega⟩, by show t.val = 13 + (t.val - 13); omega⟩
    have U := upd m c t j hj I
    iapply ((runD c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => absurd ((hcond0_0 t).mp h) (by omega)) (fun h => absurd ((hcond0_1 t).mp h) (by omega)) (fun h => absurd ((hcond0_2 t).mp h) (by omega)) ((hcond0_3 t).mpr (by omega)) (fun h => absurd ((hcond0_4 t).mp h) (by omega)) (iblk m c 0 t) (iblk m c 2 t) (iblk m c 3 t) (iblk m c 8 t) (iblk m c 9 t) (iblk m c 11 t) d21 d22 d24 d25 d26 d27 d28).2.2.2.2.2.2.2.2.2 Set.univ _)
    isplitl [H0]; · iexact H0
    isplitl [H2]; · iexact H2
    isplitl [H3]; · iexact H3
    isplitl [H8]; · iexact H8
    isplitl [H9]; · iexact H9
    isplitl [H11]; · iexact H11
    isplitl [H13]; · iexists _; iexact H13
    isplitl [H14]; · iexists _; iexact H14
    isplitl [H15]; · iexists _; iexact H15
    isplitl [H17]; · iexists _; iexact H17
    isplitl [H19]; · iexists _; iexact H19
    isplitl [S0]; · iexact S0
    isplitl [S1]; · iexact S1
    isplitl [S2]; · iexists _; iexact S2
    isplitl [S3]; · iexact S3
    isplitl [S4]; · iexact S4
    isplitl [S5]; · iexact S5
    isplitl [S6]; · iexact S6
    isplitl [S7]; · iexact S7
    iintro ⟨H0, H2, H3, H8, H9, H11, ⟨%e14, H13⟩, ⟨%e15, H14⟩, ⟨%e16, H15⟩, ⟨%e18, H17⟩, ⟨%e20, H19⟩, S0, S1, ⟨%e23, S2⟩, S3, S4, S5, S6, S7⟩
    isplitl [S0 S1 S2 S3 S4 S5 S6 S7 Hg]
    · isplitl [S0 S1 S2 S3 S4 S5 S6 S7]
      · iexists _, _, _, _, _, _, _, _
        isplitl [S0]
        · iexact S0
        isplitl [S1]
        · iexact S1
        isplitl [S2]
        · unfold owns; iexists _; isplitr
          swap; · iexact S2
          ipureintro; rfl
        isplitl [S3]
        · unfold owns; iexists _; isplitr
          swap; · iexact S3
          ipureintro; rfl
        isplitl [S4]
        · iexact S4
        isplitl [S5]
        · iexact S5
        isplitl [S6]
        · unfold owns; iexists _; isplitr
          swap; · iexact S6
          ipureintro; rfl
        isplitl [S7]
        · unfold owns; iexists _; isplitr
          swap; · iexact S7
          ipureintro; rfl
        ipureintro
        exact inv_D j hj h3 I
          (valD_24 m c t _ _ _ _ _ _ _ _ _ _ _ _ _ _ _ _ _ _ _ _ _ _ _ _ _ _ _ _ _ _ _ _ _ _ _ _ _ _ _ _ _ _ _ _ _ _ _ _ _ _ _ _ _ _ _ _ _ _ _ _ _ d21 d22 d24 d25 d26 d27 d28 ⟨j.val + 1, by omega⟩ (by show t.val = 12 + (j.val + 1); omega) (by have := I.a; rwa [show min t.val 12 = 12 by omega] at this) _ _)
          (valD_27 m c t _ _ _ _ _ _ _ _ _ _ _ _ _ _ _ _ _ _ _ _ _ _ _ _ _ _ _ _ _ _ _ _ _ _ _ _ _ _ _ _ _ _ _ _ _ _ _ _ _ _ _ _ _ _ _ _ _ _ _ _ _ d21 d22 d24 d25 d26 d27 d28 U _ _)
          (valD_28 m c t _ _ _ _ _ _ _ _ _ _ _ _ _ _ _ _ _ _ _ _ _ _ _ _ _ _ _ _ _ _ _ _ _ _ _ _ _ _ _ _ _ _ _ _ _ _ _ _ _ _ _ _ _ _ _ _ _ _ _ _ _ d21 d22 d24 d25 d26 d27 d28 U _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · iexists _; isplitr; swap
      · unfold owns; iexists _; isplitr
        swap; · iexact H13
        ipureintro; rfl
      ipureintro
      show ∀ j : Fin 14, t.val = 13 + j.val → _ = gBlk _ j
      intro j' hj'
      obtain rfl : j' = j := Fin.ext (by omega)
      exact valD_14 m c t _ _ _ _ _ _ _ _ _ _ _ _ _ _ _ _ _ _ _ _ _ _ _ _ _ _ _ _ _ _ _ _ _ _ _ _ _ _ _ _ _ _ _ _ _ _ _ _ _ _ _ _ _ _ _ _ _ _ _ _ _ d21 d22 d24 d25 d26 d27 d28 U _ _
    isplitl [H14]
    · iexists _; isplitr; swap
      · unfold owns; iexists _; isplitr
        swap; · iexact H14
        ipureintro; rfl
      ipureintro
      show ∀ j : Fin 14, t.val = 13 + j.val → _ = dBlk _ j
      intro j' hj'
      obtain rfl : j' = j := Fin.ext (by omega)
      exact valD_15 m c t _ _ _ _ _ _ _ _ _ _ _ _ _ _ _ _ _ _ _ _ _ _ _ _ _ _ _ _ _ _ _ _ _ _ _ _ _ _ _ _ _ _ _ _ _ _ _ _ _ _ _ _ _ _ _ _ _ _ _ _ _ d21 d22 d24 d25 d26 d27 d28 U _ _
    isplitl [H15]
    · iexists _; isplitr; swap
      · unfold owns; iexists _; isplitr
        swap; · iexact H15
        ipureintro; rfl
      ipureintro
      show ∀ j : Fin 14, t.val = 13 + j.val → _ = mcBlk _ j
      intro j' hj'
      obtain rfl : j' = j := Fin.ext (by omega)
      exact valD_16 m c t _ _ _ _ _ _ _ _ _ _ _ _ _ _ _ _ _ _ _ _ _ _ _ _ _ _ _ _ _ _ _ _ _ _ _ _ _ _ _ _ _ _ _ _ _ _ _ _ _ _ _ _ _ _ _ _ _ _ _ _ _ d21 d22 d24 d25 d26 d27 d28 U _ _
    isplitl [H16]
    · iexists _; isplitr; swap; · iexact H16
      ipureintro
      show t.val = 26 → _
      intro h; omega
    isplitl [H17]
    · iexists _; isplitr; swap
      · unfold owns; iexists _; isplitr
        swap; · iexact H17
        ipureintro; rfl
      ipureintro
      show ∀ j : Fin 14, t.val = 13 + j.val → _ = vcBlk _ j
      intro j' hj'
      obtain rfl : j' = j := Fin.ext (by omega)
      exact valD_18 m c t _ _ _ _ _ _ _ _ _ _ _ _ _ _ _ _ _ _ _ _ _ _ _ _ _ _ _ _ _ _ _ _ _ _ _ _ _ _ _ _ _ _ _ _ _ _ _ _ _ _ _ _ _ _ _ _ _ _ _ _ _ d21 d22 d24 d25 d26 d27 d28 U _ _
    isplitl [H18]
    · iexists _; isplitr; swap; · iexact H18
      ipureintro
      show t.val = 26 → _
      intro h; omega
    iexists _; isplitr; swap
    · unfold owns; iexists _; isplitr
      swap; · iexact H19
      ipureintro; rfl
    ipureintro
    show ∀ j : Fin 14, t.val = 13 + j.val → _ = pBlk _ j.val
    intro j' hj'
    obtain rfl : j' = j := Fin.ext (by omega)
    exact valD_20 m c t _ _ _ _ _ _ _ _ _ _ _ _ _ _ _ _ _ _ _ _ _ _ _ _ _ _ _ _ _ _ _ _ _ _ _ _ _ _ _ _ _ _ _ _ _ _ _ _ _ _ _ _ _ _ _ _ _ _ _ _ _ d21 d22 d24 d25 d26 d27 d28 hj' (I.p h0) _ _
  have h4 : t.val = 26 := by omega
  have U := upd m c t 13 (by show t.val = 13 + 13; omega) I
  iapply ((runE c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => absurd ((hcond0_0 t).mp h) (by omega)) (fun h => absurd ((hcond0_1 t).mp h) (by omega)) (fun h => absurd ((hcond0_2 t).mp h) (by omega)) (fun h => absurd ((hcond0_3 t).mp h) (by omega)) ((hcond0_4 t).mpr (by omega)) (iblk m c 0 t) (iblk m c 2 t) (iblk m c 3 t) (iblk m c 9 t) (iblk m c 11 t) d24 d25 d26 d27 d28).2.2.2.2.2.2.2.2 Set.univ _)
  isplitl [H0]; · iexact H0
  isplitl [H2]; · iexact H2
  isplitl [H3]; · iexact H3
  isplitl [H9]; · iexact H9
  isplitl [H11]; · iexact H11
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [S3]; · iexact S3
  isplitl [S4]; · iexact S4
  isplitl [S5]; · iexact S5
  isplitl [S6]; · iexact S6
  isplitl [S7]; · iexact S7
  iintro ⟨H0, H2, H3, H9, H11, ⟨%e14, H13⟩, ⟨%e15, H14⟩, ⟨%e16, H15⟩, ⟨%e17, H16⟩, ⟨%e18, H17⟩, ⟨%e19, H18⟩, S3, S4, S5, S6, S7⟩
  isplitl [S0 S1 S2 S3 S4 S5 S6 S7 Hg]
  · isplitl [S0 S1 S2 S3 S4 S5 S6 S7]
    · iexists _, _, _, _, _, _, _, _
      isplitl [S0]
      · iexact S0
      isplitl [S1]
      · iexact S1
      isplitl [S2]
      · iexact S2
      isplitl [S3]
      · iexact S3
      isplitl [S4]
      · iexact S4
      isplitl [S5]
      · iexact S5
      isplitl [S6]
      · unfold owns; iexists _; isplitr
        swap; · iexact S6
        ipureintro; rfl
      isplitl [S7]
      · unfold owns; iexists _; isplitr
        swap; · iexact S7
        ipureintro; rfl
      ipureintro
      exact inv_E h4 I
        (valE_27 m c t _ _ _ _ _ _ _ _ _ _ _ _ _ _ _ _ _ _ _ _ _ _ _ _ _ _ _ _ _ _ _ _ _ _ _ _ _ _ _ _ _ _ _ _ _ _ _ _ _ _ _ _ _ _ _ _ _ _ _ _ _ d24 d25 d26 d27 d28 U _ _)
        (valE_28 m c t _ _ _ _ _ _ _ _ _ _ _ _ _ _ _ _ _ _ _ _ _ _ _ _ _ _ _ _ _ _ _ _ _ _ _ _ _ _ _ _ _ _ _ _ _ _ _ _ _ _ _ _ _ _ _ _ _ _ _ _ _ d24 d25 d26 d27 d28 U _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _; isplitr; swap
    · unfold owns; iexists _; isplitr
      swap; · iexact H13
      ipureintro; rfl
    ipureintro
    show ∀ j : Fin 14, t.val = 13 + j.val → _ = gBlk _ j
    intro j' hj'
    obtain rfl : j' = 13 := Fin.ext (by show j'.val = 13; omega)
    exact valE_14 m c t _ _ _ _ _ _ _ _ _ _ _ _ _ _ _ _ _ _ _ _ _ _ _ _ _ _ _ _ _ _ _ _ _ _ _ _ _ _ _ _ _ _ _ _ _ _ _ _ _ _ _ _ _ _ _ _ _ _ _ _ _ d24 d25 d26 d27 d28 U _ _
  isplitl [H14]
  · iexists _; isplitr; swap
    · unfold owns; iexists _; isplitr
      swap; · iexact H14
      ipureintro; rfl
    ipureintro
    show ∀ j : Fin 14, t.val = 13 + j.val → _ = dBlk _ j
    intro j' hj'
    obtain rfl : j' = 13 := Fin.ext (by show j'.val = 13; omega)
    exact valE_15 m c t _ _ _ _ _ _ _ _ _ _ _ _ _ _ _ _ _ _ _ _ _ _ _ _ _ _ _ _ _ _ _ _ _ _ _ _ _ _ _ _ _ _ _ _ _ _ _ _ _ _ _ _ _ _ _ _ _ _ _ _ _ d24 d25 d26 d27 d28 U _ _
  isplitl [H15]
  · iexists _; isplitr; swap
    · unfold owns; iexists _; isplitr
      swap; · iexact H15
      ipureintro; rfl
    ipureintro
    show ∀ j : Fin 14, t.val = 13 + j.val → _ = mcBlk _ j
    intro j' hj'
    obtain rfl : j' = 13 := Fin.ext (by show j'.val = 13; omega)
    exact valE_16 m c t _ _ _ _ _ _ _ _ _ _ _ _ _ _ _ _ _ _ _ _ _ _ _ _ _ _ _ _ _ _ _ _ _ _ _ _ _ _ _ _ _ _ _ _ _ _ _ _ _ _ _ _ _ _ _ _ _ _ _ _ _ d24 d25 d26 d27 d28 U _ _
  isplitl [H16]
  · iexists _; isplitr; swap
    · unfold owns; iexists _; isplitr
      swap; · iexact H16
      ipureintro; rfl
    ipureintro
    show t.val = 26 → _ = _
    intro _
    exact valE_17 m c t _ _ _ _ _ _ _ _ _ _ _ _ _ _ _ _ _ _ _ _ _ _ _ _ _ _ _ _ _ _ _ _ _ _ _ _ _ _ _ _ _ _ _ _ _ _ _ _ _ _ _ _ _ _ _ _ _ _ _ _ _ d24 d25 d26 d27 d28 U h4 I.nm _ _
  isplitl [H17]
  · iexists _; isplitr; swap
    · unfold owns; iexists _; isplitr
      swap; · iexact H17
      ipureintro; rfl
    ipureintro
    show ∀ j : Fin 14, t.val = 13 + j.val → _ = vcBlk _ j
    intro j' hj'
    obtain rfl : j' = 13 := Fin.ext (by show j'.val = 13; omega)
    exact valE_18 m c t _ _ _ _ _ _ _ _ _ _ _ _ _ _ _ _ _ _ _ _ _ _ _ _ _ _ _ _ _ _ _ _ _ _ _ _ _ _ _ _ _ _ _ _ _ _ _ _ _ _ _ _ _ _ _ _ _ _ _ _ _ d24 d25 d26 d27 d28 U _ _
  isplitl [H18]
  · iexists _; isplitr; swap
    · unfold owns; iexists _; isplitr
      swap; · iexact H18
      ipureintro; rfl
    ipureintro
    show t.val = 26 → _ = _
    intro _
    exact valE_19 m c t _ _ _ _ _ _ _ _ _ _ _ _ _ _ _ _ _ _ _ _ _ _ _ _ _ _ _ _ _ _ _ _ _ _ _ _ _ _ _ _ _ _ _ _ _ _ _ _ _ _ _ _ _ _ _ _ _ _ _ _ _ d24 d25 d26 d27 d28 U h4 I.nv _ _
  iexists _; isplitr; swap; · iexact H19
  ipureintro
  exact found_p m c t h4 _ F19

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

/-- The body obligation of the launch, at every point. -/
theorem body_obligation (c : Dev nD) : BodyObligationRel (dats m 0 c) (defs₀ (F := Ideal)) Variants.none () Set.univ marked (Rl (ins m c)) := fun t => by
  rw [bigSep_W0, bigSep_W0, defs₀_row]
  exact triple_restated (sound_body m c t) rfl .rfl fun _ => .rfl

end Cert.LowrankIdeal.Hand

end
-- ==== Proof.LI.Arrays.lean ====
/- What the seven result arrays hold at the end, from what is left in the staging buffers where they are written back. -/
module

public import proofs.«01_k».proof.Proof.LI.Data
public import Idealize.ShloMosaic.Lib.Pipeline.ArrRel

@[expose] public section

set_option maxRecDepth 16384

noncomputable section

namespace Cert.LowrankIdeal.Hand

open Cert.LowrankIdeal.Gen Cert.LSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable {S : Ins} {c : Dev nD} (D : Dat τ (Elt Ideal) Unit ℕ (UR sig nD τ) ℕ cfg0 c)

theorem oidx13 : ∀ t : Fin cfg0.N, win0_13.index t = ![0, min (t.val - 13) 13] := (by decide +kernel : ∀ t : Fin grid0.N, win0_13.index t = ![0, min (t.val - 13) 13])
theorem late13 : ∀ t : Fin cfg0.N, (cfg0.win 13).flush t = true → 13 ≤ t.val := by decide +kernel
theorem arr13 (h : ∀ u, (cfg0.win 13).flush u = true → Rl S 13 u (D.after 13 u)) : D.arrAt 13 cfg0.N = outG S := by
  refine D.arrAt_eq_of_covers 13 _ (by decide +kernel) fun t hf y => ?_
  have hl := late13 t hf
  have ht : t.val < 27 := t.isLt
  have e : D.after 13 t = gBlk S ⟨t.val - 13, by omega⟩ := h t hf ⟨t.val - 13, by omega⟩ (by show t.val = 13 + (t.val - 13); omega)
  blk_simp
  rw [e]
  unfold gBlk
  refine congrArg (outG S) (funext fun a => Fin.ext ?_)
  fin_cases a
  · blk_simp [oidx13 t]
    rfl
  · blk_simp [oidx13 t]
    show 512 * (t.val - 13) + (y 1).val = min (t.val - 13) 13 * 512 + (y 1).val
    omega
theorem oidx14 : ∀ t : Fin cfg0.N, win0_14.index t = ![0, min (t.val - 13) 13] := (by decide +kernel : ∀ t : Fin grid0.N, win0_14.index t = ![0, min (t.val - 13) 13])
theorem late14 : ∀ t : Fin cfg0.N, (cfg0.win 14).flush t = true → 13 ≤ t.val := by decide +kernel
theorem arr14 (h : ∀ u, (cfg0.win 14).flush u = true → Rl S 14 u (D.after 14 u)) : D.arrAt 14 cfg0.N = outD S := by
  refine D.arrAt_eq_of_covers 14 _ (by decide +kernel) fun t hf y => ?_
  have hl := late14 t hf
  have ht : t.val < 27 := t.isLt
  have e : D.after 14 t = dBlk S ⟨t.val - 13, by omega⟩ := h t hf ⟨t.val - 13, by omega⟩ (by show t.val = 13 + (t.val - 13); omega)
  blk_simp
  rw [e]
  unfold dBlk
  refine congrArg (outD S) (funext fun a => Fin.ext ?_)
  fin_cases a
  · blk_simp [oidx14 t]
    rfl
  · blk_simp [oidx14 t]
    show 512 * (t.val - 13) + (y 1).val = min (t.val - 13) 13 * 512 + (y 1).val
    omega
theorem oidx15 : ∀ t : Fin cfg0.N, win0_15.index t = ![0, min (t.val - 13) 13] := (by decide +kernel : ∀ t : Fin grid0.N, win0_15.index t = ![0, min (t.val - 13) 13])
theorem late15 : ∀ t : Fin cfg0.N, (cfg0.win 15).flush t = true → 13 ≤ t.val := by decide +kernel
theorem arr15 (h : ∀ u, (cfg0.win 15).flush u = true → Rl S 15 u (D.after 15 u)) : D.arrAt 15 cfg0.N = outMc S := by
  refine D.arrAt_eq_of_covers 15 _ (by decide +kernel) fun t hf y => ?_
  have hl := late15 t hf
  have ht : t.val < 27 := t.isLt
  have e : D.after 15 t = mcBlk S ⟨t.val - 13, by omega⟩ := h t hf ⟨t.val - 13, by omega⟩ (by show t.val = 13 + (t.val - 13); omega)
  blk_simp
  rw [e]
  unfold mcBlk
  refine congrArg (outMc S) (funext fun a => Fin.ext ?_)
  fin_cases a
  · blk_simp [oidx15 t]
    rfl
  · blk_simp [oidx15 t]
    show 512 * (t.val - 13) + (y 1).val = min (t.val - 13) 13 * 512 + (y 1).val
    omega
theorem oidx17 : ∀ t : Fin cfg0.N, win0_17.index t = ![0, min (t.val - 13) 13] := (by decide +kernel : ∀ t : Fin grid0.N, win0_17.index t = ![0, min (t.val - 13) 13])
theorem late17 : ∀ t : Fin cfg0.N, (cfg0.win 17).flush t = true → 13 ≤ t.val := by decide +kernel
theorem arr17 (h : ∀ u, (cfg0.win 17).flush u = true → Rl S 17 u (D.after 17 u)) : D.arrAt 17 cfg0.N = outVc S := by
  refine D.arrAt_eq_of_covers 17 _ (by decide +kernel) fun t hf y => ?_
  have hl := late17 t hf
  have ht : t.val < 27 := t.isLt
  have e : D.after 17 t = vcBlk S ⟨t.val - 13, by omega⟩ := h t hf ⟨t.val - 13, by omega⟩ (by show t.val = 13 + (t.val - 13); omega)
  blk_simp
  rw [e]
  unfold vcBlk
  refine congrArg (outVc S) (funext fun a => Fin.ext ?_)
  fin_cases a
  · blk_simp [oidx17 t]
    rfl
  · blk_simp [oidx17 t]
    show 512 * (t.val - 13) + (y 1).val = min (t.val - 13) 13 * 512 + (y 1).val
    omega
theorem oidx19 : ∀ t : Fin cfg0.N, win0_19.index t = ![min (t.val - 13) 8, 0] := (by decide +kernel : ∀ t : Fin grid0.N, win0_19.index t = ![min (t.val - 13) 8, 0])
theorem late19 : ∀ t : Fin cfg0.N, (cfg0.win 19).flush t = true → 13 ≤ t.val := by decide +kernel
theorem arr19 (h : ∀ u, (cfg0.win 19).flush u = true → Rl S 19 u (D.after 19 u)) : D.arrAt 19 cfg0.N = outP S := by
  refine D.arrAt_eq_of_covers 19 _ (by decide +kernel) fun t hf y => ?_
  have hl := late19 t hf
  have ht : t.val < 27 := t.isLt
  have e : D.after 19 t = pBlk S (t.val - 13) := h t hf ⟨t.val - 13, by omega⟩ (by show t.val = 13 + (t.val - 13); omega)
  blk_simp
  rw [e]
  unfold pBlk
  refine congrArg (outP S) (funext fun a => Fin.ext ?_)
  fin_cases a
  · blk_simp [oidx19 t]
    show 256 * min (t.val - 13) 8 + (y 0).val = min (t.val - 13) 8 * 256 + (y 0).val
    omega
  · blk_simp [oidx19 t]
    rfl
theorem arr16 (h : ∀ u, (cfg0.win 16).flush u = true → Rl S 16 u (D.after 16 u)) : D.arrAt 16 cfg0.N = outMs S := by
  have e : D.after 16 ⟨26, by decide +kernel⟩ = outMs S := h ⟨26, by decide +kernel⟩ (by decide +kernel) rfl
  refine D.arrAt_eq_of_after_last 16 ⟨26, by decide +kernel⟩ (by decide +kernel) _ fun j => ?_
  blk_simp
  exact congrFun e j
theorem arr18 (h : ∀ u, (cfg0.win 18).flush u = true → Rl S 18 u (D.after 18 u)) : D.arrAt 18 cfg0.N = outVs S := by
  have e : D.after 18 ⟨26, by decide +kernel⟩ = outVs S := h ⟨26, by decide +kernel⟩ (by decide +kernel) rfl
  refine D.arrAt_eq_of_after_last 18 ⟨26, by decide +kernel⟩ (by decide +kernel) _ fun j => ?_
  blk_simp
  exact congrFun e j

end Cert.LowrankIdeal.Hand

end
-- ==== Proof.LI.Run.lean ====
/- The run of the whole program with its frame, and what the seven result arrays hold at the end: the results of the specification. -/
module

public import proofs.«01_k».proof.Proof.LI.Body
public import proofs.«01_k».proof.Proof.LI.Arrays
public import Idealize.ShloMosaic.Lib.Claim

@[expose] public section

set_option maxRecDepth 16384

noncomputable section

namespace Cert.LowrankIdeal.Hand

open Cert.LowrankIdeal.Gen Cert.LSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem hin (c : Dev nD) : Pipeline.ΦA spec0 c ⊢ (dats m 0 c).Φ 0 := by
  rw [show (dats m 0 c).Φ 0 = Kept (ins m c) c 0 from rfl, PhiA0_eq]
  unfold Kept
  iintro ⟨⟨⟨%d1, H1⟩, ⟨%d2, H2⟩, ⟨%d3, H3⟩, ⟨%d4, H4⟩, ⟨%d5, H5⟩, ⟨%d6, H6⟩, ⟨%d7, H7⟩, ⟨%d8, H8⟩⟩, Hg⟩
  isplitr [Hg]
  · iexists d1, d2, d3, d4, d5, d6, d7, d8
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    ipureintro; exact inv_zero
  iexact Hg
theorem hout (c : Dev nD) : (dats m 0 c).Φ (Fin.last cfg0.N) ⊢ Pipeline.ΦA spec0 c := by
  rw [show (dats m 0 c).Φ (Fin.last cfg0.N) = Kept (ins m c) c (Fin.last cfg0.N).val from rfl, PhiA0_eq]
  unfold Kept
  iintro ⟨⟨%d1, %d2, %d3, %d4, %d5, %d6, %d7, %d8, H1, H2, H3, H4, H5, H6, H7, H8, %h⟩, Hg⟩
  isplitr [Hg]
  · isplitl [H1]; · iexists d1; iexact H1
    isplitl [H2]; · iexists d2; iexact H2
    isplitl [H3]; · iexists d3; iexact H3
    isplitl [H4]; · iexists d4; iexact H4
    isplitl [H5]; · iexists d5; iexact H5
    isplitl [H6]; · iexists d6; iexact H6
    isplitl [H7]; · iexists d7; iexact H7
    iexists d8; iexact H8
  iexact Hg

-- the launch lemma's implicit arguments are found by unifying its conclusion with this one, which takes unfolding plain
-- definitions in a metavariable's type
set_option backward.isDefEq.respectTransparency.types false in
/-- The launch: every array at the end is what the proof data allows, and every semaphore counter of the machine is zero. -/
theorem run_main_quiescent : θ_run defs (onTc (τ := τ) (main (F := Ideal))) (s₀ m ρ) (fun r => (Pipeline.RDat.FramePost (cfgs 0) (fun c => (dats m 0 c).toRRel marked (Rl (ins m c))) (V m)) r ∧ r.2.sem = fun _ => 0) :=
  Pipeline.RDat.θ_run_frame_track_shared (Q' := _) cfgs (0 : Fin 1) launch0.to₀ defs₀ Variants.none (fun c => (dats m 0 c).toRRel marked (Rl (ins m c))) m ρ main
    (hbody := fun c => (body_obligation m c).toRRel) (hq := fun _ _ _ => rfl)
    (howed := fun _ _ => rfl) (V := V m) (hmain := hmain m Variants.none) (hA := A_eq m) (hin := hin m) (hout := hout m)

theorem run_main : θ_run defs (onTc (τ := τ) (main (F := Ideal))) (s₀ m ρ) (Pipeline.RDat.FramePost (cfgs 0) (fun c => (dats m 0 c).toRRel marked (Rl (ins m c))) (V m)) :=
  (θ_run defs _ _).mono (fun _ h => h.1) (run_main_quiescent m ρ)

/-- Every argument ends as it was. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      (Pipeline.RDat.FramePost.arr_in h c 4 rfl).trans ((A_eq m c 4).trans (V_main_arg4 m c)),
      (Pipeline.RDat.FramePost.arr_in h c 5 rfl).trans ((A_eq m c 5).trans (V_main_arg5 m c)),
      (Pipeline.RDat.FramePost.arr_in h c 6 rfl).trans ((A_eq m c 6).trans (V_main_arg6 m c)),
      (Pipeline.RDat.FramePost.arr_in h c 7 rfl).trans ((A_eq m c 7).trans (V_main_arg7 m c)),
      (Pipeline.RDat.FramePost.arr_in h c 8 rfl).trans ((A_eq m c 8).trans (V_main_arg8 m c)),
      (Pipeline.RDat.FramePost.arr_in h c 9 rfl).trans ((A_eq m c 9).trans (V_main_arg9 m c)),
      (Pipeline.RDat.FramePost.arr_in h c 10 rfl).trans ((A_eq m c 10).trans (V_main_arg10 m c)),
      (Pipeline.RDat.FramePost.arr_in h c 11 rfl).trans ((A_eq m c 11).trans (V_main_arg11 m c)),
      (Pipeline.RDat.FramePost.arr_in h c 12 rfl).trans ((A_eq m c 12).trans (V_main_arg12 m c))⟩) (run_main m ρ)
/-- The frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

/-- What the launch allows says of every result array. -/
theorem results {r : PUnit × MemSt nD τ sig (Elt Ideal)} (h : Pipeline.RDat.FramePost (cfgs 0) (fun c => (dats m 0 c).toRRel marked (Rl (ins m c))) (V m) r) (c : Dev nD) :
      r.2.mem ((c.tc : Thread nD τ).loc main_v0_0) = outG (ins m c)
      ∧ r.2.mem ((c.tc : Thread nD τ).loc main_v0_1) = outD (ins m c)
      ∧ r.2.mem ((c.tc : Thread nD τ).loc main_v0_2) = outMc (ins m c)
      ∧ r.2.mem ((c.tc : Thread nD τ).loc main_v0_3) = outMs (ins m c)
      ∧ r.2.mem ((c.tc : Thread nD τ).loc main_v0_4) = outVc (ins m c)
      ∧ r.2.mem ((c.tc : Thread nD τ).loc main_v0_5) = outVs (ins m c)
      ∧ r.2.mem ((c.tc : Thread nD τ).loc main_v0_6) = outP (ins m c) := by
  obtain ⟨after, hL, hA⟩ := Pipeline.RDat.FramePost.exists_exact h c
  have hR (w : Fin cfg0.W) (hw : marked w = true) (u : Fin cfg0.N) (hf : (cfg0.win w).flush u = true) : Rl (ins m c) w u (after w u) :=
    Pipeline.Dat.toRRel_leaves (dats m 0 c) hw (hL w u hf)
  exact ⟨(hA 13).trans (arr13 _ (hR 13 rfl)),
    (hA 14).trans (arr14 _ (hR 14 rfl)),
    (hA 15).trans (arr15 _ (hR 15 rfl)),
    (hA 16).trans (arr16 _ (hR 16 rfl)),
    (hA 17).trans (arr17 _ (hR 17 rfl)),
    (hA 18).trans (arr18 _ (hR 18 rfl)),
    (hA 19).trans (arr19 _ (hR 19 rfl))⟩

/-- The results, and the arguments with them. -/
theorem run_values : θ_run defs (onTc (τ := τ) (main (F := Ideal))) ⟨m, fun _ => 0, ρ⟩ (fun r => ∀ c : Dev nD,
      r.2.mem ((c.tc : Thread nD τ).loc main_v0_0) = outG (ins m c)
      ∧ r.2.mem ((c.tc : Thread nD τ).loc main_v0_1) = outD (ins m c)
      ∧ r.2.mem ((c.tc : Thread nD τ).loc main_v0_2) = outMc (ins m c)
      ∧ r.2.mem ((c.tc : Thread nD τ).loc main_v0_3) = outMs (ins m c)
      ∧ r.2.mem ((c.tc : Thread nD τ).loc main_v0_4) = outVc (ins m c)
      ∧ r.2.mem ((c.tc : Thread nD τ).loc main_v0_5) = outVs (ins m c)
      ∧ r.2.mem ((c.tc : Thread nD τ).loc main_v0_6) = outP (ins m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => by
      obtain ⟨r0, r1, r2, r3, r4, r5, r6⟩ := results m h.1 c
      exact ⟨r0, r1, r2, r3, r4, r5, r6, h.2 c⟩)
    (θ_run_and (run_main m ρ) (unchanged m ρ))

end Cert.LowrankIdeal.Hand

end
-- ==== Proof.SI.Pay.lean ====
/- The first reference's values at an index: the results of the specification. -/
module

public import proofs.«01_k».proof.Proof.Gen.LowrankReferenceIdeal.Value
public import proofs.«01_k».proof.Proof.LSpec
public import Idealize.ShloMosaic.Lib.Pointwise
public import Idealize.ShloMosaic.Lib.Pipeline.ValueKit

@[expose] public section

set_option maxRecDepth 16384

noncomputable section

open Idealize.ShloMosaic Cert.LowrankReferenceIdeal Cert.LowrankReferenceIdeal.Gen Cert.LSpec

namespace Cert.LowrankReferenceIdeal.Hand

variable (S : Ins)

theorem sitofp_ext (b : BitVec 8) : (FloatOps.sitofp .f32 b : Ideal .f32) = FloatOps.sitofp .f32 (BitVec.signExtend 32 b) := by
  show (((b.toInt : ℤ) : ℝ) : EReal) = (((BitVec.signExtend 32 b).toInt : ℝ) : EReal)
  rw [BitVec.toInt_signExtend_of_le (by decide)]

theorem byt_lo (r : Fin 768) (h : r.val < 384) (p : r.val / 128 * 128 + r.val % 128 < 384) : (⟨r.val / 128 * 128 + r.val % 128, p⟩ : Fin 384) = byt r :=
  Fin.ext (by show r.val / 128 * 128 + r.val % 128 = 128 * (r.val / 128 % 3) + r.val % 128; omega)
theorem byt_hi (r : Fin 768) (h : ¬ r.val < 384) (p : (r.val - 384) / 128 * 128 + (r.val - 384) % 128 < 384) :
    (⟨(r.val - 384) / 128 * 128 + (r.val - 384) % 128, p⟩ : Fin 384) = byt r :=
  Fin.ext (by show (r.val - 384) / 128 * 128 + (r.val - 384) % 128 = 128 * (r.val / 128 % 3) + r.val % 128; omega)
theorem grp_hi (r : Fin 768) (h : ¬ r.val < 384) (p : 3 + (r.val - 384) / 128 < 6) : (⟨3 + (r.val - 384) / 128, p⟩ : Fin 6) = grp r :=
  Fin.ext (by show 3 + (r.val - 384) / 128 = r.val / 128; omega)
theorem ki_div (K : Fin 28) (b : Fin 256) (p : (256 * K.val + b.val) / 256 < 28) : (⟨(256 * K.val + b.val) / 256, p⟩ : Fin 28) = K := kq_ki K b
theorem ki_all (K : Fin 28) (b : Fin 256) (p : (256 * K.val + b.val) / 256 * 256 + (256 * K.val + b.val) % 256 < 7168) :
    (⟨(256 * K.val + b.val) / 256 * 256 + (256 * K.val + b.val) % 256, p⟩ : Fin 7168) = ki K b :=
  Fin.ext (by show (256 * K.val + b.val) / 256 * 256 + (256 * K.val + b.val) % 256 = 256 * K.val + b.val; omega)
theorem ki_of (K : Fin 28) (b : Fin 256) (p : K.val * 256 + b.val < 7168) : (⟨K.val * 256 + b.val, p⟩ : Fin 7168) = ki K b :=
  Fin.ext (by show K.val * 256 + b.val = 256 * K.val + b.val; omega)

theorem pay4_apply (o : Fin 2304) (r : Fin 768) : k0_pay4 (F := Ideal) S.ps S.pz S.pc (ix2 o r) = P S o r := by
  pointwise [k0_pay4]
  unfold P fld
  by_cases h : r.val < 384
  · rw [dif_pos h, if_pos h, byt_lo r h]
  · rw [dif_neg h, if_neg h, byt_hi r h, grp_hi r h]
theorem pay6_apply (a : Fin 12288) (r : Fin 768) : k0_pay6 (F := Ideal) S.ps S.pz S.pc S.dy (ix2 a r) = ∑ o : Fin 2304, S.dy (ix2 a o) * P S o r := by
  pointwise [k0_pay6]
  simp only [pay4_apply]
/-- The reference's values over the arguments: the tokens, the projected gradient and its scale, -/
abbrev n37 : FVec Ideal S12288x7168 .bf16 := k0_pay5 S.x
abbrev n41 : FVec Ideal S12288x768 .f32 := k0_pay6 S.ps S.pz S.pc S.dy
abbrev n42 : FVec Ideal S12288x768 .f32 := k0_pay7 S.dyS
/-- the new moments, -/
abbrev n74 : FVec Ideal S768x7168 .f32 := k0_pay9 (n37 S) (n41 S) (n42 S) S.xs S.ms S.mc
abbrev n81 : FVec Ideal S768x7168 .f32 := k0_pay10 (n37 S) (n41 S) (n42 S) S.xs S.vs S.vc
/-- and the first over its correction. -/
abbrev n84 : FVec Ideal S768x7168 .f32 := k0_pay11 (n37 S) (n41 S) (n42 S) S.xs S.ms S.mc S.b1

theorem pay8_apply (r : Fin 768) (k : Fin 7168) : k0_pay8 (n37 S) (n41 S) (n42 S) S.xs (ix2 r k) = G S r k := by
  pointwise [k0_pay8, k0_pay7, k0_pay5]
  simp only [n41, pay6_apply]
  rfl
theorem pay9_apply (r : Fin 768) (K : Fin 28) (b : Fin 256) : n74 S (ix2 r (ki K b)) = Mn S r K b := by
  pointwise [k0_pay9]
  unfold Mn
  rw [ki_all, ki_div, sitofp_ext, pay8_apply]
theorem pay10_apply (r : Fin 768) (K : Fin 28) (b : Fin 256) : n81 S (ix2 r (ki K b)) = Vn S r K b := by
  pointwise [k0_pay10]
  unfold Vn So
  rw [ki_all, ki_div, pay8_apply]
theorem pay12_of (v81 v84 : FVec Ideal S768x7168 .f32) (b : Elt Ideal .f32) (y : S768x7168.Idx) :
    k0_pay12 v81 v84 b y = Ideal.div (v84 y) (Ideal.sqrt (Ideal.div (v81 y) b) + Ideal.ofBits .f32 841731191#32) := by
  pointwise [k0_pay12]
theorem pay11_apply (y : S768x7168.Idx) : n84 S y = Ideal.div (n74 S y) S.b1 := by
  pointwise [k0_pay11]
theorem pay13_of (v : FVec Ideal S768x7168 .f32) (r : Fin 768) (K : Fin 28) (b : Fin 256) : k0_pay13 v (ix3 r K b) = v (ix2 r (ki K b)) := by
  pointwise [k0_pay13]
  rw [ki_of]
theorem pay17_of (v : FVec Ideal S768x7168 .f32) (r : Fin 768) (K : Fin 28) (b : Fin 256) : k0_pay17 v (ix3 r K b) = Ideal.sqrt (v (ix2 r (ki K b))) := by
  pointwise [k0_pay17]
  rw [ki_of]
theorem pay3_of (a : IVec S768x28 1) (b : FVec Ideal S768x28 .f32) (c : Ideal .f32) (r : Fin 768) (K : Fin 28) : k0_pay3 a b c (ix2 K r) = k0_pay1 a b c (ix2 r K) := by
  pointwise [k0_pay3]
theorem pay2_of (v : FVec Ideal S768x28x256 .f32) (a : IVec S768x28 1) (b : FVec Ideal S768x28 .f32) (c : Ideal .f32) (r : Fin 768) (k : Fin 7168) : k0_pay2 v a b c (ix2 r k) =
   BitVec.setWidth 8 (FloatOps.fptosi (F := Ideal) (φ := .f32) 32 (min (((255#32).toInt : ℝ) : EReal) (max (((0#32).toInt : ℝ) : EReal)
    (Ideal.liftRound Ideal.roundHalfEven (Ideal.div (v (ix3 r (kq k) (kr k))) (k0_pay1 a b c (ix2 r (kq k)))))))) := by
  pointwise [k0_pay2]

/-- Any table turned, -/
theorem turn_of (w : FVec Ideal S768x28 .f32) (r : Fin 768) (K : Fin 28) : transpose S28x768 [1, 0] w transposes_S768x28_p1_0_S28x768 (ix2 K r) = w (ix2 r K) := by
  pointwise
/-- the largest of a block, -/
theorem max_of (n : FVec Ideal S768x28x256 .f32) (r : Fin 768) (K : Fin 28) :
    multiReduction .maximumf [2] S768x28 n 0xFF800000#32 reduces_S768x28x256_S768x28 (.inl rfl) rfl (ix2 r K) =
      Finset.fold max (Ideal.ofBits .f32 4286578688#32) (fun b : Fin 256 => n (ix3 r K b)) Finset.univ := by
  pointwise
/-- the scale of a block by its largest magnitude, -/
theorem scale_of (A : FVec Ideal S768x28 .f32) (q : Ideal .f32) (r : Fin 768) (K : Fin 28) :
    select (cmpf .ogt A (broadcast S768x28 (Scalar.ofBits .f32 0x00000000#32))) (divf A (broadcast S768x28 q)) (broadcast S768x28 (Scalar.ofBits .f32 0x3F800000#32)) (ix2 r K) =
      if 0 < A (ix2 r K) then Ideal.div (A (ix2 r K)) q else Ideal.ofBits .f32 1065353216#32 := by
  pointwise
/-- and the codes by the scales. -/
theorem code_of (w : FVec Ideal S768x28x256 .f32) (s : FVec Ideal S768x28 .f32) (r : Fin 768) (k : Fin 7168) :
    shapeCast S768x7168 (fptosi 8 (minimumf (broadcast S768x28x256 (Scalar.sitofp .f32 127#32)) (maximumf (broadcast S768x28x256 (Scalar.sitofp .f32 4294967169#32))
      (roundeven (divf w (broadcastTo S768x28x256 (shapeCast S768x28x1 s shapeCasts_S768x28_S768x28x1) broadcasts_S768x28x1_S768x28x256))))))
      shapeCasts_S768x28x256_S768x7168 (ix2 r k) =
    FloatOps.fptosi (F := Ideal) (φ := .f32) 8 (min (((127#32).toInt : ℝ) : EReal) (max (((4294967169#32).toInt : ℝ) : EReal)
        (Ideal.liftRound Ideal.roundHalfEven (Ideal.div (w (ix3 r (kq k) (kr k))) (s (ix2 r (kq k))))))) := by
  pointwise

theorem abs_of (n : FVec Ideal S768x28x256 .f32) (y : S768x28x256.Idx) : absf n y = FloatOps.absf (F := Ideal) (φ := .f32) (n y) := rfl

theorem pay14_apply (r : Fin 768) (K : Fin 28) : k0_pay14 (n74 S) (ix2 r K) = Ms S r K := by
  unfold k0_pay14
  refine (scale_of _ _ r K).trans ?_
  rw [max_of]
  simp only [abs_of, pay13_of, pay9_apply]
  rfl
theorem pay15_apply (r : Fin 768) (k : Fin 7168) : k0_pay15 (n74 S) (ix2 r k) = Mc S r (kq k) (kr k) := by
  unfold k0_pay15
  refine (code_of _ _ r k).trans ?_
  rw [pay14_apply, pay13_of, pay9_apply]
  rfl
theorem pay18_apply (r : Fin 768) (K : Fin 28) : k0_pay18 (n81 S) (ix2 r K) = Va S r K := by
  unfold k0_pay18
  refine (max_of _ r K).trans ?_
  simp only [pay17_of, pay10_apply]
  rfl
/-- The last constant. -/
abbrev n44 : Ideal .f32 := Scalar.ofBits .f32 0x3F800000#32
theorem pay1_apply (r : Fin 768) (K : Fin 28) : k0_pay1 (k0_pay19 (n81 S)) (k0_pay20 (n81 S)) n44 (ix2 r K) = Vs S r K := by
  unfold k0_pay1 k0_pay19 k0_pay20
  refine (scale_of _ _ r K).trans ?_
  rw [pay18_apply]
  rfl

/-! ## The seven results -/

theorem g_eq : k0_pay8 (n37 S) (n41 S) (n42 S) S.xs = outG S := by
  funext y
  rw [eq_ix2 (y : S768x7168.Idx)]
  exact pay8_apply S _ _
theorem d_eq : k0_pay12 (n81 S) (n84 S) S.b2 = outD S := by
  funext y
  obtain ⟨r, k, rfl⟩ : ∃ (r : Fin 768) (k : Fin 7168), y = (ix2 r k : S768x7168.Idx) := ⟨y 0, y 1, eq_ix2 (y : S768x7168.Idx)⟩
  rw [pay12_of, pay11_apply]
  show _ = D S r (kq k) (kr k)
  rw [show (ix2 r k : S768x7168.Idx) = ix2 r (ki (kq k) (kr k)) by rw [ki_kq], pay9_apply, pay10_apply]
  rfl
theorem mc_eq : k0_pay15 (n74 S) = outMc S := by
  funext y
  rw [eq_ix2 (y : S768x7168.Idx)]
  exact pay15_apply S _ _
theorem ms_eq : k0_pay16 (n74 S) = outMs S := by
  funext y
  obtain ⟨K, r, rfl⟩ : ∃ (K : Fin 28) (r : Fin 768), y = (ix2 K r : S28x768.Idx) := ⟨y 0, y 1, eq_ix2 (y : S28x768.Idx)⟩
  unfold k0_pay16
  exact (turn_of _ r K).trans (pay14_apply S r K)
theorem vc_eq : k0_pay2 (k0_pay17 (n81 S)) (k0_pay19 (n81 S)) (k0_pay20 (n81 S)) n44 = outVc S := by
  funext y
  obtain ⟨r, k, rfl⟩ : ∃ (r : Fin 768) (k : Fin 7168), y = (ix2 r k : S768x7168.Idx) := ⟨y 0, y 1, eq_ix2 (y : S768x7168.Idx)⟩
  rw [pay2_of, pay1_apply, pay17_of, pay10_apply]
  rfl
theorem vs_eq : k0_pay3 (k0_pay19 (n81 S)) (k0_pay20 (n81 S)) n44 = outVs S := by
  funext y
  obtain ⟨K, r, rfl⟩ : ∃ (K : Fin 28) (r : Fin 768), y = (ix2 K r : S28x768.Idx) := ⟨y 0, y 1, eq_ix2 (y : S28x768.Idx)⟩
  exact (pay3_of _ _ _ r K).trans (pay1_apply S r K)
theorem p_eq : k0_pay4 (F := Ideal) S.ps S.pz S.pc = outP S := by
  funext y
  rw [eq_ix2 (y : S2304x768.Idx)]
  exact pay4_apply S _ _

end Cert.LowrankReferenceIdeal.Hand

end
-- ==== Proof.SI.Arrays.lean ====
/- What the first reference's seven result arrays hold at the end. -/
module

public import proofs.«01_k».proof.Proof.SI.Pay

@[expose] public section

set_option maxRecDepth 16384

noncomputable section

open Idealize.SL.Sem Idealize.ShloMosaic Idealize.ShloMosaic.TcCoe Idealize.ShloMosaic.Pipeline Cert.LowrankReferenceIdeal Cert.LowrankReferenceIdeal.Gen Cert.LSpec

namespace Cert.LowrankReferenceIdeal.Hand

variable (m : (ℓ : Loc nD τ sig) → Buf (Elt Ideal) ℓ)

/-- The arguments in memory. -/
def ins (c : Dev nD) : Ins where
  xs := (m ((c : Thread nD τ).loc main_arg0) : Vec Ideal S1 .f32) (ix1 0)
  dyS := (m ((c : Thread nD τ).loc main_arg1) : Vec Ideal S1 .f32) (ix1 0)
  b1 := (m ((c : Thread nD τ).loc main_arg2) : Vec Ideal S1 .f32) (ix1 0)
  b2 := (m ((c : Thread nD τ).loc main_arg3) : Vec Ideal S1 .f32) (ix1 0)
  pc := m ((c : Thread nD τ).loc main_arg4)
  ps := m ((c : Thread nD τ).loc main_arg5)
  pz := m ((c : Thread nD τ).loc main_arg6)
  dy := m ((c : Thread nD τ).loc main_arg7)
  x := m ((c : Thread nD τ).loc main_arg8)
  mc := m ((c : Thread nD τ).loc main_arg9)
  ms := m ((c : Thread nD τ).loc main_arg10)
  vc := m ((c : Thread nD τ).loc main_arg11)
  vs := m ((c : Thread nD τ).loc main_arg12)

theorem idx0 : win0_0.index t0_0 = ![0] := by decide +kernel
theorem iblk0 (c : Dev nD) : (iblk m c 0 t0_0 : Vec Ideal S1 .f32) = m ((c : Thread nD τ).loc main_arg0) := by
  funext y
  blk_ext [iblk, V, idx0]
theorem rd0 (c : Dev nD) (h : (Memref.whole cc0_stg0_0).IsWhole) (y : S1.Idx) : View.read (Elt Ideal) (View.whole cc0_stg0_0) (h.unread (iblk m c 0 t0_0)) y = (ins m c).xs := by
  have hy : y = ix1 0 := (eq_ix1 (y : S1.Idx)).trans (congrArg ix1 (Subsingleton.elim (α := Fin 1) _ _))
  rw [h.read_unread, iblk0, hy]
  rfl
theorem idx1 : win0_1.index t0_0 = ![0] := by decide +kernel
theorem iblk1 (c : Dev nD) : (iblk m c 1 t0_0 : Vec Ideal S1 .f32) = m ((c : Thread nD τ).loc main_arg1) := by
  funext y
  blk_ext [iblk, V, idx1]
theorem rd1 (c : Dev nD) (h : (Memref.whole cc0_stg1_0).IsWhole) (y : S1.Idx) : View.read (Elt Ideal) (View.whole cc0_stg1_0) (h.unread (iblk m c 1 t0_0)) y = (ins m c).dyS := by
  have hy : y = ix1 0 := (eq_ix1 (y : S1.Idx)).trans (congrArg ix1 (Subsingleton.elim (α := Fin 1) _ _))
  rw [h.read_unread, iblk1, hy]
  rfl
theorem idx2 : win0_2.index t0_0 = ![0] := by decide +kernel
theorem iblk2 (c : Dev nD) : (iblk m c 2 t0_0 : Vec Ideal S1 .f32) = m ((c : Thread nD τ).loc main_arg2) := by
  funext y
  blk_ext [iblk, V, idx2]
theorem rd2 (c : Dev nD) (h : (Memref.whole cc0_stg2_0).IsWhole) (y : S1.Idx) : View.read (Elt Ideal) (View.whole cc0_stg2_0) (h.unread (iblk m c 2 t0_0)) y = (ins m c).b1 := by
  have hy : y = ix1 0 := (eq_ix1 (y : S1.Idx)).trans (congrArg ix1 (Subsingleton.elim (α := Fin 1) _ _))
  rw [h.read_unread, iblk2, hy]
  rfl
theorem idx3 : win0_3.index t0_0 = ![0] := by decide +kernel
theorem iblk3 (c : Dev nD) : (iblk m c 3 t0_0 : Vec Ideal S1 .f32) = m ((c : Thread nD τ).loc main_arg3) := by
  funext y
  blk_ext [iblk, V, idx3]
theorem rd3 (c : Dev nD) (h : (Memref.whole cc0_stg3_0).IsWhole) (y : S1.Idx) : View.read (Elt Ideal) (View.whole cc0_stg3_0) (h.unread (iblk m c 3 t0_0)) y = (ins m c).b2 := by
  have hy : y = ix1 0 := (eq_ix1 (y : S1.Idx)).trans (congrArg ix1 (Subsingleton.elim (α := Fin 1) _ _))
  rw [h.read_unread, iblk3, hy]
  rfl
theorem idx4 : win0_4.index t0_0 = ![0, 0] := by decide +kernel
theorem iblk4 (c : Dev nD) : (iblk m c 4 t0_0 : Vec Ideal S2304x384 .i8) = m ((c : Thread nD τ).loc main_arg4) := by
  funext y
  blk_ext [iblk, V, idx4]
theorem rd4 (c : Dev nD) (h : (Memref.whole cc0_stg4_0).IsWhole) : View.read (Elt Ideal) (View.whole cc0_stg4_0) (h.unread (iblk m c 4 t0_0)) = (ins m c).pc :=
  (h.read_unread _).trans (iblk4 m c)
theorem idx5 : win0_5.index t0_0 = ![0, 0] := by decide +kernel
theorem iblk5 (c : Dev nD) : (iblk m c 5 t0_0 : Vec Ideal S6x2304 .f32) = m ((c : Thread nD τ).loc main_arg5) := by
  funext y
  blk_ext [iblk, V, idx5]
theorem rd5 (c : Dev nD) (h : (Memref.whole cc0_stg5_0).IsWhole) : View.read (Elt Ideal) (View.whole cc0_stg5_0) (h.unread (iblk m c 5 t0_0)) = (ins m c).ps :=
  (h.read_unread _).trans (iblk5 m c)
theorem idx6 : win0_6.index t0_0 = ![0, 0] := by decide +kernel
theorem iblk6 (c : Dev nD) : (iblk m c 6 t0_0 : Vec Ideal S6x2304 .f32) = m ((c : Thread nD τ).loc main_arg6) := by
  funext y
  blk_ext [iblk, V, idx6]
theorem rd6 (c : Dev nD) (h : (Memref.whole cc0_stg6_0).IsWhole) : View.read (Elt Ideal) (View.whole cc0_stg6_0) (h.unread (iblk m c 6 t0_0)) = (ins m c).pz :=
  (h.read_unread _).trans (iblk6 m c)
theorem idx7 : win0_7.index t0_0 = ![0, 0] := by decide +kernel
theorem iblk7 (c : Dev nD) : (iblk m c 7 t0_0 : Vec Ideal S12288x2304 .fp8e5m2) = m ((c : Thread nD τ).loc main_arg7) := by
  funext y
  blk_ext [iblk, V, idx7]
theorem rd7 (c : Dev nD) (h : (Memref.whole cc0_stg7_0).IsWhole) : View.read (Elt Ideal) (View.whole cc0_stg7_0) (h.unread (iblk m c 7 t0_0)) = (ins m c).dy :=
  (h.read_unread _).trans (iblk7 m c)
theorem idx8 : win0_8.index t0_0 = ![0, 0] := by decide +kernel
theorem iblk8 (c : Dev nD) : (iblk m c 8 t0_0 : Vec Ideal S12288x7168 .fp8e4m3) = m ((c : Thread nD τ).loc main_arg8) := by
  funext y
  blk_ext [iblk, V, idx8]
theorem rd8 (c : Dev nD) (h : (Memref.whole cc0_stg8_0).IsWhole) : View.read (Elt Ideal) (View.whole cc0_stg8_0) (h.unread (iblk m c 8 t0_0)) = (ins m c).x :=
  (h.read_unread _).trans (iblk8 m c)
theorem idx9 : win0_9.index t0_0 = ![0, 0] := by decide +kernel
theorem iblk9 (c : Dev nD) : (iblk m c 9 t0_0 : Vec Ideal S768x7168 .i8) = m ((c : Thread nD τ).loc main_arg9) := by
  funext y
  blk_ext [iblk, V, idx9]
theorem rd9 (c : Dev nD) (h : (Memref.whole cc0_stg9_0).IsWhole) : View.read (Elt Ideal) (View.whole cc0_stg9_0) (h.unread (iblk m c 9 t0_0)) = (ins m c).mc :=
  (h.read_unread _).trans (iblk9 m c)
theorem idx10 : win0_10.index t0_0 = ![0, 0] := by decide +kernel
theorem iblk10 (c : Dev nD) : (iblk m c 10 t0_0 : Vec Ideal S28x768 .f32) = m ((c : Thread nD τ).loc main_arg10) := by
  funext y
  blk_ext [iblk, V, idx10]
theorem rd10 (c : Dev nD) (h : (Memref.whole cc0_stg10_0).IsWhole) : View.read (Elt Ideal) (View.whole cc0_stg10_0) (h.unread (iblk m c 10 t0_0)) = (ins m c).ms :=
  (h.read_unread _).trans (iblk10 m c)
theorem idx11 : win0_11.index t0_0 = ![0, 0] := by decide +kernel
theorem iblk11 (c : Dev nD) : (iblk m c 11 t0_0 : Vec Ideal S768x7168 .i8) = m ((c : Thread nD τ).loc main_arg11) := by
  funext y
  blk_ext [iblk, V, idx11]
theorem rd11 (c : Dev nD) (h : (Memref.whole cc0_stg11_0).IsWhole) : View.read (Elt Ideal) (View.whole cc0_stg11_0) (h.unread (iblk m c 11 t0_0)) = (ins m c).vc :=
  (h.read_unread _).trans (iblk11 m c)
theorem idx12 : win0_12.index t0_0 = ![0, 0] := by decide +kernel
theorem iblk12 (c : Dev nD) : (iblk m c 12 t0_0 : Vec Ideal S28x768 .f32) = m ((c : Thread nD τ).loc main_arg12) := by
  funext y
  blk_ext [iblk, V, idx12]
theorem rd12 (c : Dev nD) (h : (Memref.whole cc0_stg12_0).IsWhole) : View.read (Elt Ideal) (View.whole cc0_stg12_0) (h.unread (iblk m c 12 t0_0)) = (ins m c).vs :=
  (h.read_unread _).trans (iblk12 m c)
theorem arr13 (c : Dev nD) : (dats m 0 c).arrAt 13 cfg0.N = outG (ins m c) := by
  rw [← g_eq]
  refine (dats m 0 c).arrAt_eq_of_after_last 13 t0_0 (by decide +kernel) _ fun j => ?_
  blk_simp
  rw [after0_13]
  dsimp only [outsAt0]
  frame_out
  simp only [rd0 m c, rd1 m c, rd2 m c, rd3 m c, rd4 m c, rd5 m c, rd6 m c, rd7 m c, rd8 m c, rd9 m c, rd10 m c, rd11 m c, rd12 m c]
theorem arr14 (c : Dev nD) : (dats m 0 c).arrAt 14 cfg0.N = outD (ins m c) := by
  rw [← d_eq]
  refine (dats m 0 c).arrAt_eq_of_after_last 14 t0_0 (by decide +kernel) _ fun j => ?_
  blk_simp
  rw [after0_14]
  frame_out
  simp only [rd0 m c, rd1 m c, rd2 m c, rd3 m c, rd4 m c, rd5 m c, rd6 m c, rd7 m c, rd8 m c, rd9 m c, rd10 m c, rd11 m c, rd12 m c]
theorem arr15 (c : Dev nD) : (dats m 0 c).arrAt 15 cfg0.N = outMc (ins m c) := by
  rw [← mc_eq]
  refine (dats m 0 c).arrAt_eq_of_after_last 15 t0_0 (by decide +kernel) _ fun j => ?_
  blk_simp
  rw [after0_15]
  frame_out
  simp only [rd0 m c, rd1 m c, rd2 m c, rd3 m c, rd4 m c, rd5 m c, rd6 m c, rd7 m c, rd8 m c, rd9 m c, rd10 m c, rd11 m c, rd12 m c]
theorem arr16 (c : Dev nD) : (dats m 0 c).arrAt 16 cfg0.N = outMs (ins m c) := by
  rw [← ms_eq]
  refine (dats m 0 c).arrAt_eq_of_after_last 16 t0_0 (by decide +kernel) _ fun j => ?_
  blk_simp
  rw [after0_16]
  frame_out
  simp only [rd0 m c, rd1 m c, rd2 m c, rd3 m c, rd4 m c, rd5 m c, rd6 m c, rd7 m c, rd8 m c, rd9 m c, rd10 m c, rd11 m c, rd12 m c]
theorem arr17 (c : Dev nD) : (dats m 0 c).arrAt 17 cfg0.N = outVc (ins m c) := by
  rw [← vc_eq]
  refine (dats m 0 c).arrAt_eq_of_after_last 17 t0_0 (by decide +kernel) _ fun j => ?_
  blk_simp
  rw [after0_17]
  frame_out
  simp only [rd0 m c, rd1 m c, rd2 m c, rd3 m c, rd4 m c, rd5 m c, rd6 m c, rd7 m c, rd8 m c, rd9 m c, rd10 m c, rd11 m c, rd12 m c]
theorem arr18 (c : Dev nD) : (dats m 0 c).arrAt 18 cfg0.N = outVs (ins m c) := by
  rw [← vs_eq]
  refine (dats m 0 c).arrAt_eq_of_after_last 18 t0_0 (by decide +kernel) _ fun j => ?_
  blk_simp
  rw [after0_18]
  frame_out
  simp only [rd0 m c, rd1 m c, rd2 m c, rd3 m c, rd4 m c, rd5 m c, rd6 m c, rd7 m c, rd8 m c, rd9 m c, rd10 m c, rd11 m c, rd12 m c]
theorem arr19 (c : Dev nD) : (dats m 0 c).arrAt 19 cfg0.N = outP (ins m c) := by
  rw [← p_eq]
  refine (dats m 0 c).arrAt_eq_of_after_last 19 t0_0 (by decide +kernel) _ fun j => ?_
  blk_simp
  rw [after0_19]
  frame_out
  simp only [rd0 m c, rd1 m c, rd2 m c, rd3 m c, rd4 m c, rd5 m c, rd6 m c, rd7 m c, rd8 m c, rd9 m c, rd10 m c, rd11 m c, rd12 m c]

variable (ρ : Dev nD → PrngReg)

/-- The results, and the arguments with them. -/
theorem run_values : θ_run defs (onTc (τ := τ) (main (F := Ideal))) ⟨m, fun _ => 0, ρ⟩ (fun r => ∀ c : Dev nD,
      r.2.mem ((c.tc : Thread nD τ).loc main_v0_0) = outG (ins m c)
      ∧ r.2.mem ((c.tc : Thread nD τ).loc main_v0_1) = outD (ins m c)
      ∧ r.2.mem ((c.tc : Thread nD τ).loc main_v0_2) = outMc (ins m c)
      ∧ r.2.mem ((c.tc : Thread nD τ).loc main_v0_3) = outMs (ins m c)
      ∧ r.2.mem ((c.tc : Thread nD τ).loc main_v0_4) = outVc (ins m c)
      ∧ r.2.mem ((c.tc : Thread nD τ).loc main_v0_5) = outVs (ins m c)
      ∧ r.2.mem ((c.tc : Thread nD τ).loc main_v0_6) = outP (ins m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).1.trans (arr13 m c), (h c).2.1.trans (arr14 m c), (h c).2.2.1.trans (arr15 m c), (h c).2.2.2.1.trans (arr16 m c), (h c).2.2.2.2.1.trans (arr17 m c), (h c).2.2.2.2.2.1.trans (arr18 m c), (h c).2.2.2.2.2.2.1.trans (arr19 m c), (h c).2.2.2.2.2.2.2⟩)
    (Cert.LowrankReferenceIdeal.Value.run_blocks m ρ)

end Cert.LowrankReferenceIdeal.Hand

end
-- ==== Proof.lean ====
/- The proof of the certificate's claim: the frames of the six programs, and the equal results of each pair of ideal programs. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Lowrank
public import proofs.«01_k».proof.Proof.Gen.Lowrank.Skeleton
public import proofs.«01_k».proof.Proof.Gen.Lowrank.Loops
public import proofs.«01_k».proof.Proof.Gen.Lowrank.Launch
public import proofs.«01_k».proof.Proof.Gen.Lowrank.Points
public import proofs.«01_k».proof.Proof.Gen.Lowrank.Frame
public import proofs.«01_k».proof.Proof.Gen.LowrankIdeal
public import proofs.«01_k».proof.Proof.Gen.LowrankIdeal.Skeleton
public import proofs.«01_k».proof.Proof.Gen.LowrankIdeal.Loops
public import proofs.«01_k».proof.Proof.Gen.LowrankIdeal.Launch
public import proofs.«01_k».proof.Proof.Gen.LowrankIdeal.Points
public import proofs.«01_k».proof.Proof.Gen.LowrankIdeal.Frame
public import proofs.«01_k».proof.Proof.Gen.LowrankReferenceIdeal
public import proofs.«01_k».proof.Proof.Gen.LowrankReferenceIdeal.Skeleton
public import proofs.«01_k».proof.Proof.Gen.LowrankReferenceIdeal.Launch
public import proofs.«01_k».proof.Proof.Gen.LowrankReferenceIdeal.Points
public import proofs.«01_k».proof.Proof.Gen.LowrankReferenceIdeal.Frame
public import proofs.«01_k».proof.Proof.Gen.LowrankReferenceIdeal.Value
public import proofs.«01_k».proof.Proof.KI.Run
public import proofs.«01_k».proof.Proof.K.Frame
public import proofs.«01_k».proof.Proof.RI.Arrays
public import proofs.«01_k».proof.Proof.L.Frame
public import proofs.«01_k».proof.Proof.LI.Run
public import proofs.«01_k».proof.Proof.SI.Arrays
public import Idealize.ShloMosaic.Adequacy
public import Idealize.ShloMosaic.Init

@[expose] public section

noncomputable section

namespace Cert.Proof

open Idealize.ShloMosaic Idealize.SL.Sem Cert.Kernel

/-- Memories that agree on the arguments give the two programs the same inputs. -/
theorem ins_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Hand.ins m' c = Cert.KernelIdeal.Hand.ins m c := by
  unfold Cert.ReferenceIdeal.Hand.ins Cert.KernelIdeal.Hand.ins
  rw [h0, h1, h2, h3, h4, h5, h6, h7, h8]

theorem algebraic : Cert.algebraic_KernelIdeal_ReferenceIdeal (hKernelIdeal := Cert.KernelIdeal.Gen.facts) (hReferenceIdeal := Cert.ReferenceIdeal.Gen.facts) := by
  intro m g m' g' _ hag
  refine ⟨fun c => Cert.Spec.outDx (Cert.KernelIdeal.Hand.ins m c), fun c => Cert.Spec.outStep (Cert.KernelIdeal.Hand.ins m c),
    fun c => Cert.Spec.outCode (Cert.KernelIdeal.Hand.ins m c), fun c => Cert.Spec.outSc (Cert.KernelIdeal.Hand.ins m c),
    Cert.KernelIdeal.Hand.run_values m g, ?_⟩
  refine (θ_run _ _ _).mono (fun _ h c => ?_) (Cert.ReferenceIdeal.Hand.run_values m' g')
  obtain ⟨h0, h1, h2, h3, h4, h5, h6, h7, h8⟩ := hag c
  have e := ins_eq m m' c h0 h1 h2 h3 h4 h5 h6 h7 h8
  obtain ⟨r0, r1, r2, r3, rest⟩ := h c
  exact ⟨r0.trans (congrArg Cert.Spec.outDx e), r1.trans (congrArg Cert.Spec.outStep e), r2.trans (congrArg Cert.Spec.outCode e),
    r3.trans (congrArg Cert.Spec.outSc e), rest⟩

/-- Memories that agree on the arguments give the two programs of the first call the same inputs. -/
theorem lowrank_ins_eq (m : (ℓ : Loc Cert.LowrankIdeal.nD Cert.LowrankIdeal.τ Cert.LowrankIdeal.sig) → Buf (Elt Ideal) ℓ)
    (m' : (ℓ : Loc Cert.LowrankReferenceIdeal.nD Cert.LowrankReferenceIdeal.τ Cert.LowrankReferenceIdeal.sig) → Buf (Elt Ideal) ℓ) (c : Dev Cert.LowrankIdeal.nD)
    (h0 : m' ((c.tc : Thread Cert.LowrankReferenceIdeal.nD Cert.LowrankReferenceIdeal.τ).loc Cert.LowrankReferenceIdeal.main_arg0) = m ((c.tc : Thread Cert.LowrankIdeal.nD Cert.LowrankIdeal.τ).loc Cert.LowrankIdeal.main_arg0))
    (h1 : m' ((c.tc : Thread Cert.LowrankReferenceIdeal.nD Cert.LowrankReferenceIdeal.τ).loc Cert.LowrankReferenceIdeal.main_arg1) = m ((c.tc : Thread Cert.LowrankIdeal.nD Cert.LowrankIdeal.τ).loc Cert.LowrankIdeal.main_arg1))
    (h2 : m' ((c.tc : Thread Cert.LowrankReferenceIdeal.nD Cert.LowrankReferenceIdeal.τ).loc Cert.LowrankReferenceIdeal.main_arg2) = m ((c.tc : Thread Cert.LowrankIdeal.nD Cert.LowrankIdeal.τ).loc Cert.LowrankIdeal.main_arg2))
    (h3 : m' ((c.tc : Thread Cert.LowrankReferenceIdeal.nD Cert.LowrankReferenceIdeal.τ).loc Cert.LowrankReferenceIdeal.main_arg3) = m ((c.tc : Thread Cert.LowrankIdeal.nD Cert.LowrankIdeal.τ).loc Cert.LowrankIdeal.main_arg3))
    (h4 : m' ((c.tc : Thread Cert.LowrankReferenceIdeal.nD Cert.LowrankReferenceIdeal.τ).loc Cert.LowrankReferenceIdeal.main_arg4) = m ((c.tc : Thread Cert.LowrankIdeal.nD Cert.LowrankIdeal.τ).loc Cert.LowrankIdeal.main_arg4))
    (h5 : m' ((c.tc : Thread Cert.LowrankReferenceIdeal.nD Cert.LowrankReferenceIdeal.τ).loc Cert.LowrankReferenceIdeal.main_arg5) = m ((c.tc : Thread Cert.LowrankIdeal.nD Cert.LowrankIdeal.τ).loc Cert.LowrankIdeal.main_arg5))
    (h6 : m' ((c.tc : Thread Cert.LowrankReferenceIdeal.nD Cert.LowrankReferenceIdeal.τ).loc Cert.LowrankReferenceIdeal.main_arg6) = m ((c.tc : Thread Cert.LowrankIdeal.nD Cert.LowrankIdeal.τ).loc Cert.LowrankIdeal.main_arg6))
    (h7 : m' ((c.tc : Thread Cert.LowrankReferenceIdeal.nD Cert.LowrankReferenceIdeal.τ).loc Cert.LowrankReferenceIdeal.main_arg7) = m ((c.tc : Thread Cert.LowrankIdeal.nD Cert.LowrankIdeal.τ).loc Cert.LowrankIdeal.main_arg7))
    (h8 : m' ((c.tc : Thread Cert.LowrankReferenceIdeal.nD Cert.LowrankReferenceIdeal.τ).loc Cert.LowrankReferenceIdeal.main_arg8) = m ((c.tc : Thread Cert.LowrankIdeal.nD Cert.LowrankIdeal.τ).loc Cert.LowrankIdeal.main_arg8))
    (h9 : m' ((c.tc : Thread Cert.LowrankReferenceIdeal.nD Cert.LowrankReferenceIdeal.τ).loc Cert.LowrankReferenceIdeal.main_arg9) = m ((c.tc : Thread Cert.LowrankIdeal.nD Cert.LowrankIdeal.τ).loc Cert.LowrankIdeal.main_arg9))
    (h10 : m' ((c.tc : Thread Cert.LowrankReferenceIdeal.nD Cert.LowrankReferenceIdeal.τ).loc Cert.LowrankReferenceIdeal.main_arg10) = m ((c.tc : Thread Cert.LowrankIdeal.nD Cert.LowrankIdeal.τ).loc Cert.LowrankIdeal.main_arg10))
    (h11 : m' ((c.tc : Thread Cert.LowrankReferenceIdeal.nD Cert.LowrankReferenceIdeal.τ).loc Cert.LowrankReferenceIdeal.main_arg11) = m ((c.tc : Thread Cert.LowrankIdeal.nD Cert.LowrankIdeal.τ).loc Cert.LowrankIdeal.main_arg11))
    (h12 : m' ((c.tc : Thread Cert.LowrankReferenceIdeal.nD Cert.LowrankReferenceIdeal.τ).loc Cert.LowrankReferenceIdeal.main_arg12) = m ((c.tc : Thread Cert.LowrankIdeal.nD Cert.LowrankIdeal.τ).loc Cert.LowrankIdeal.main_arg12)) :
    Cert.LowrankReferenceIdeal.Hand.ins m' c = Cert.LowrankIdeal.Hand.ins m c := by
  unfold Cert.LowrankReferenceIdeal.Hand.ins Cert.LowrankIdeal.Hand.ins
  rw [h0, h1, h2, h3, h4, h5, h6, h7, h8, h9, h10, h11, h12]

theorem lowrank_algebraic : Cert.algebraic_LowrankIdeal_LowrankReferenceIdeal (hLowrankIdeal := Cert.LowrankIdeal.Gen.facts) (hLowrankReferenceIdeal := Cert.LowrankReferenceIdeal.Gen.facts) := by
  intro m g m' g' _ hag
  refine ⟨fun c => Cert.LSpec.outG (Cert.LowrankIdeal.Hand.ins m c),
    fun c => Cert.LSpec.outD (Cert.LowrankIdeal.Hand.ins m c),
    fun c => Cert.LSpec.outMc (Cert.LowrankIdeal.Hand.ins m c),
    fun c => Cert.LSpec.outMs (Cert.LowrankIdeal.Hand.ins m c),
    fun c => Cert.LSpec.outVc (Cert.LowrankIdeal.Hand.ins m c),
    fun c => Cert.LSpec.outVs (Cert.LowrankIdeal.Hand.ins m c),
    fun c => Cert.LSpec.outP (Cert.LowrankIdeal.Hand.ins m c),
    Cert.LowrankIdeal.Hand.run_values m g, ?_⟩
  refine (θ_run _ _ _).mono (fun _ h c => ?_) (Cert.LowrankReferenceIdeal.Hand.run_values m' g')
  obtain ⟨h0, h1, h2, h3, h4, h5, h6, h7, h8, h9, h10, h11, h12⟩ := hag c
  have e := lowrank_ins_eq m m' c h0 h1 h2 h3 h4 h5 h6 h7 h8 h9 h10 h11 h12
  obtain ⟨r0, r1, r2, r3, r4, r5, r6, rest⟩ := h c
  exact ⟨r0.trans (congrArg Cert.LSpec.outG e), r1.trans (congrArg Cert.LSpec.outD e), r2.trans (congrArg Cert.LSpec.outMc e), r3.trans (congrArg Cert.LSpec.outMs e), r4.trans (congrArg Cert.LSpec.outVc e), r5.trans (congrArg Cert.LSpec.outVs e), r6.trans (congrArg Cert.LSpec.outP e), rest⟩

theorem claim : Cert.Claim :=
  ⟨Cert.Kernel.Gen.facts, Cert.KernelIdeal.Gen.facts, Cert.ReferenceIdeal.Gen.facts,
    Cert.Lowrank.Gen.facts, Cert.LowrankIdeal.Gen.facts, Cert.LowrankReferenceIdeal.Gen.facts,
    fun m g _ => Cert.Kernel.Hand.frame m g, fun m g _ => Cert.KernelIdeal.Hand.frame m g, fun m g _ => Cert.ReferenceIdeal.Gen.frame m g,
    fun m g _ => Cert.Lowrank.Hand.frame m g, fun m g _ => Cert.LowrankIdeal.Hand.frame m g, fun m g _ => Cert.LowrankReferenceIdeal.Gen.frame m g,
    trivial, algebraic, trivial, lowrank_algebraic⟩

end Cert.Proof

end
